-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
-- ==== Pre_logits_finite.lean ====
abbrev S1x2048x768 : Shape := ⟨3, ![1, 2048, 768]⟩
abbrev S768x8 : Shape := ⟨2, ![768, 8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_

variable [Facts]

def fn {F : FTy → Type} [FloatOps F] (main_arg0 : FVec F S1x2048x768 .f32) (main_arg1 : FVec F S768x8 .f32) (main_arg2 : FVec F S8x768x3072 .f32) (main_arg3 : FVec F S8x3072 .f32) (main_arg4 : FVec F S8x3072x768 .f32) (main_arg5 : FVec F S8x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  main_v8
-- ==== Kernel.lean ====
abbrev S1x2048x768 : Shape := ⟨3, ![1, 2048, 768]⟩
abbrev S768x8 : Shape := ⟨2, ![768, 8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S2048 : Shape := ⟨1, ![2048]⟩
abbrev S2048x1 : Shape := ⟨2, ![2048, 1]⟩
abbrev S2048x8 : Shape := ⟨2, ![2048, 8]⟩
abbrev S3072 : Shape := ⟨1, ![3072]⟩
abbrev S16 : Shape := ⟨1, ![16]⟩
abbrev S2304 : Shape := ⟨1, ![2304]⟩
abbrev S128 : Shape := ⟨1, ![128]⟩
abbrev S_ : Shape := ⟨0, ![]⟩
abbrev S3072x1 : Shape := ⟨2, ![3072, 1]⟩
abbrev S3072x768 : Shape := ⟨2, ![3072, 768]⟩
abbrev S2x768x3072 : Shape := ⟨3, ![2, 768, 3072]⟩
abbrev S2x3072x768 : Shape := ⟨3, ![2, 3072, 768]⟩
abbrev S2x2 : Shape := ⟨2, ![2, 2]⟩
abbrev S1x1 : Shape := ⟨2, ![1, 1]⟩
abbrev S1x768x3072 : Shape := ⟨3, ![1, 768, 3072]⟩
abbrev S768x3072 : Shape := ⟨2, ![768, 3072]⟩
abbrev S1x3072x768 : Shape := ⟨3, ![1, 3072, 768]⟩
abbrev S1 : Shape := ⟨1, ![1]⟩
abbrev S128x1 : Shape := ⟨2, ![128, 1]⟩
abbrev S128x2048 : Shape := ⟨2, ![128, 2048]⟩
abbrev S128x768 : Shape := ⟨2, ![128, 768]⟩
abbrev S128x3072 : Shape := ⟨2, ![128, 3072]⟩
abbrev S1x3072 : Shape := ⟨2, ![1, 3072]⟩
abbrev S1x768 : Shape := ⟨2, ![1, 768]⟩

abbrev nBuf : Table → Nat
  | .hbm => 16
  | .local .tc .vmem => 17
  | .local .tc .smem => 1
  | .local .scVector .vmem => 4
  | _ => 0

abbrev bufTy : (tb : Table) → Fin (nBuf tb) → BufTy
  | .hbm, ⟨0, _⟩ => ⟨S1x2048x768, .f32⟩
  | .hbm, ⟨1, _⟩ => ⟨S768x8, .f32⟩
  | .hbm, ⟨2, _⟩ => ⟨S8x768x3072, .f32⟩
  | .hbm, ⟨3, _⟩ => ⟨S8x3072, .f32⟩
  | .hbm, ⟨4, _⟩ => ⟨S8x3072x768, .f32⟩
  | .hbm, ⟨5, _⟩ => ⟨S8x768, .f32⟩
  | .hbm, ⟨6, _⟩ => ⟨S2048x768, .f32⟩
  | .hbm, ⟨7, _⟩ => ⟨S2048, .i32⟩
  | .hbm, ⟨8, _⟩ => ⟨S2048x1, .f32⟩
  | .hbm, ⟨9, _⟩ => ⟨S3072, .i32⟩
  | .hbm, ⟨10, _⟩ => ⟨S16, .i32⟩
  | .hbm, ⟨11, _⟩ => ⟨S3072x1, .i32⟩
  | .hbm, ⟨12, _⟩ => ⟨S3072x768, .f32⟩
  | .hbm, ⟨13, _⟩ => ⟨S1x3072, .i32⟩
  | .hbm, ⟨14, _⟩ => ⟨S2048x768, .f32⟩
  | .hbm, ⟨15, _⟩ => ⟨S1x2048x768, .f32⟩
  | .local .tc .vmem, ⟨0, _⟩ => ⟨S2048x768, .f32⟩
  | .local .tc .vmem, ⟨1, _⟩ => ⟨S768x8, .f32⟩
  | .local .tc .vmem, ⟨2, _⟩ => ⟨S2048, .i32⟩
  | .local .tc .vmem, ⟨3, _⟩ => ⟨S2048x1, .f32⟩
  | .local .tc .vmem, ⟨4, _⟩ => ⟨S3072x1, .i32⟩
  | .local .tc .vmem, ⟨5, _⟩ => ⟨S2048x768, .f32⟩
  | .local .tc .vmem, ⟨6, _⟩ => ⟨S8x3072, .f32⟩
  | .local .tc .vmem, ⟨7, _⟩ => ⟨S8x768, .f32⟩
  | .local .tc .vmem, ⟨8, _⟩ => ⟨S3072x768, .f32⟩
  | .local .tc .vmem, ⟨9, _⟩ => ⟨S2x768x3072, .f32⟩
  | .local .tc .vmem, ⟨10, _⟩ => ⟨S2x3072x768, .f32⟩
  | .local .tc .vmem, ⟨11, _⟩ => ⟨S1x3072, .i32⟩
  | .local .tc .vmem, ⟨12, _⟩ => ⟨S3072x768, .f32⟩
  | .local .tc .vmem, ⟨13, _⟩ => ⟨S128x1, .f32⟩
  | .local .tc .vmem, ⟨14, _⟩ => ⟨S128x1, .f32⟩
  | .local .tc .vmem, ⟨15, _⟩ => ⟨S128x768, .f32⟩
  | .local .tc .vmem, ⟨16, _⟩ => ⟨S128x768, .f32⟩
  | .local .tc .smem, ⟨0, _⟩ => ⟨S16, .i32⟩
  | .local .scVector .vmem, ⟨0, _⟩ => ⟨S2048, .i32⟩
  | .local .scVector .vmem, ⟨1, _⟩ => ⟨S2304, .i32⟩
  | .local .scVector .vmem, ⟨2, _⟩ => ⟨S128, .i32⟩
  | .local .scVector .vmem, ⟨3, _⟩ => ⟨S16, .i32⟩
  | _, _ => ⟨S1x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v1_0_scv : Ref sig .scVector := ⟨.hbm, 7, rfl⟩
abbrev main_v2_0_scv : Ref sig .scVector := ⟨.hbm, 9, rfl⟩
abbrev main_v2_1_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg1_0 : Ref sig .tc := ⟨.vmem, 4, rfl⟩
abbrev cc2_stg2_0 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg5_0 : Ref sig .tc := ⟨.vmem, 8, rfl⟩
abbrev cc2_scratch0 : Ref sig .tc := ⟨.vmem, 9, rfl⟩
abbrev cc2_scratch1 : Ref sig .tc := ⟨.vmem, 10, rfl⟩
abbrev cc3_stg0_0 : Ref sig .tc := ⟨.vmem, 11, rfl⟩
abbrev cc3_stg1_0 : Ref sig .tc := ⟨.vmem, 12, rfl⟩
abbrev cc3_stg2_0 : Ref sig .tc := ⟨.vmem, 13, rfl⟩
abbrev cc3_stg2_1 : Ref sig .tc := ⟨.vmem, 14, rfl⟩
abbrev cc3_stg3_0 : Ref sig .tc := ⟨.vmem, 15, rfl⟩
abbrev cc3_stg3_1 : Ref sig .tc := ⟨.vmem, 16, rfl⟩
abbrev cc2_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc3_sem0_0 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

@[reducible] def k1_t1_loop : Scf.Loop 32 :=
  let c0_i32_2 : BitVec 32 := 0#32
  let c128_i32 : BitVec 32 := 128#32
  let v9 : BitVec 32 := Scalar.addi c0_i32_2 c128_i32
  let c1_i32 : BitVec 32 := 1#32
  ⟨c0_i32_2, v9, c1_i32⟩
def k1_off1 (k1_t1 : Fin k1_t1_loop.trips) : Fin 1 → Nat :=
  let c0_i32_2 : BitVec 32 := 0#32
  let c1_i32 : BitVec 32 := 1#32
  let arg9 : BitVec 32 := Scf.iv c0_i32_2 c1_i32 k1_t1
  let c16_i32_131 : BitVec 32 := 16#32
  let v302 : BitVec 32 := Scalar.muli arg9 c16_i32_131
  let v303 : Index := Scalar.indexCast v302
  ![v303.toNat]

def k1_chk1 (i : grid1.Coords) (v322 : IVec S16 32) : Prop :=
  (∀ (k1_h1 : k1_cond1 i = 1#1), ∀ a x, ((![v322] : Fin 1 → IVec S16 32) a x).toNat < S2304.size a)
theorem k1_idx1_inb : ∀ (i : grid1.Coords) (v322 : IVec S16 32) (k1_hw1 : k1_chk1 i v322), ∀ (k1_h1 : k1_cond1 i = 1#1), ∀ a x, ((![v322] : Fin 1 → IVec S16 32) a x).toNat < S2304.size a := fun i v322 k1_hw1 k1_h1 => k1_hw1 k1_h1
def k1_off2 (v10_0 : BitVec 32) (c0_i32_103 : BitVec 32) : Fin 1 → Nat :=
  let v220 : BitVec 32 := Scalar.addi v10_0 c0_i32_103
  let v221 : Index := Scalar.indexCast v220
  ![v221.toNat]

@[reducible] def k1_t2_loop (v10_0 : BitVec 32) : Scf.Loop 32 :=
  let c0_i32_121 : BitVec 32 := 0#32
  let c128_i32_104 : BitVec 32 := 128#32
  let v244 : BitVec 32 := Scalar.addi v10_0 c128_i32_104
  let c1_i32_105 : BitVec 32 := 1#32
  let v245 : BitVec 32 := Scalar.subi v244 c1_i32_105
  let c0_i32_107 : BitVec 32 := 0#32
  let v247 : BitVec 1 := Scalar.cmpi .sgt v245 c0_i32_107
  let v248 : BitVec 32 := Scalar.extui v247
  let c0_i32_108 : BitVec 32 := 0#32
  let v249 : BitVec 1 := Scalar.cmpi .slt v245 c0_i32_108
  let v250 : BitVec 32 := Scalar.extui v249
  let v251 : BitVec 32 := Scalar.subi v248 v250
  let c128_i32_106 : BitVec 32 := 128#32
  let c0_i32_109 : BitVec 32 := 0#32
  let v252 : BitVec 1 := Scalar.cmpi .sgt c128_i32_106 c0_i32_109
  let v253 : BitVec 32 := Scalar.extui v252
  let c0_i32_110 : BitVec 32 := 0#32
  let v254 : BitVec 1 := Scalar.cmpi .slt c128_i32_106 c0_i32_110
  let v255 : BitVec 32 := Scalar.extui v254
  let v256 : BitVec 32 := Scalar.subi v253 v255
  let v257 : BitVec 1 := Scalar.cmpi .ne v251 v256
  let v258 : BitVec 32 := Scalar.remsi v245 c128_i32_106
  let c0_i32_111 : BitVec 32 := 0#32
  let v259 : BitVec 1 := Scalar.cmpi .ne v258 c0_i32_111
  let v260 : BitVec 1 := Scalar.andi v257 v259
  let v246 : BitVec 32 := Scalar.divsi v245 c128_i32_106
  let c1_i32_112 : BitVec 32 := 1#32
  let v261 : BitVec 32 := Scalar.subi v246 c1_i32_112
  let v262 : BitVec 32 := Scalar.select v260 v261 v246
  let c128_i32_113 : BitVec 32 := 128#32
  let v263 : BitVec 32 := Scalar.muli v262 c128_i32_113
  let c0_i32_115 : BitVec 32 := 0#32
  let v265 : BitVec 1 := Scalar.cmpi .sgt v263 c0_i32_115
  let v266 : BitVec 32 := Scalar.extui v265
  let c0_i32_116 : BitVec 32 := 0#32
  let v267 : BitVec 1 := Scalar.cmpi .slt v263 c0_i32_116
  let v268 : BitVec 32 := Scalar.extui v267
  let v269 : BitVec 32 := Scalar.subi v266 v268
  let c128_i32_114 : BitVec 32 := 128#32
  let c0_i32_117 : BitVec 32 := 0#32
  let v270 : BitVec 1 := Scalar.cmpi .sgt c128_i32_114 c0_i32_117
  let v271 : BitVec 32 := Scalar.extui v270
  let c0_i32_118 : BitVec 32 := 0#32
  let v272 : BitVec 1 := Scalar.cmpi .slt c128_i32_114 c0_i32_118
  let v273 : BitVec 32 := Scalar.extui v272
  let v274 : BitVec 32 := Scalar.subi v271 v273
  let v275 : BitVec 1 := Scalar.cmpi .ne v269 v274
  let v276 : BitVec 32 := Scalar.remsi v263 c128_i32_114
  let c0_i32_119 : BitVec 32 := 0#32
  let v277 : BitVec 1 := Scalar.cmpi .ne v276 c0_i32_119
  let v278 : BitVec 1 := Scalar.andi v275 v277
  let v264 : BitVec 32 := Scalar.divsi v263 c128_i32_114
  let c1_i32_120 : BitVec 32 := 1#32
  let v279 : BitVec 32 := Scalar.subi v264 c1_i32_120
  let v280 : BitVec 32 := Scalar.select v278 v279 v264
  let v281 : BitVec 32 := Scalar.subi v280 c0_i32_121
  let c1_i32_123 : BitVec 32 := 1#32
  let v283 : BitVec 32 := Scalar.divsi v281 c1_i32_123
  let v284 : BitVec 32 := Scalar.muli v283 c1_i32_123
  let v285 : BitVec 32 := Scalar.addi c0_i32_121 v284
  let c1_i32_124 : BitVec 32 := 1#32
  ⟨c0_i32_121, v285, c1_i32_124⟩
def k1_mult1 (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_t2 : Fin (k1_t2_loop v10_0).trips) : BitVec 32 :=
  let c0_i32_93 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_91 : BitVec 32 := 0#32
  let v195 : BitVec 1 := Scalar.cmpi .sgt v1 c0_i32_91
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let c0_i32_92 : BitVec 32 := 0#32
  let v196 : BitVec 32 := Scalar.select v195 v54 c0_i32_92
  let v197 : BitVec 32 := Scalar.addi c0_i32_93 v196
  let c1_i32_94 : BitVec 32 := 1#32
  let v198 : BitVec 1 := Scalar.cmpi .sgt v1 c1_i32_94
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let c0_i32_95 : BitVec 32 := 0#32
  let v199 : BitVec 32 := Scalar.select v198 v74 c0_i32_95
  let v200 : BitVec 32 := Scalar.addi v197 v199
  let c2_i32_96 : BitVec 32 := 2#32
  let v201 : BitVec 1 := Scalar.cmpi .sgt v1 c2_i32_96
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let c0_i32_97 : BitVec 32 := 0#32
  let v202 : BitVec 32 := Scalar.select v201 v94 c0_i32_97
  let v203 : BitVec 32 := Scalar.addi v200 v202
  let c3_i32 : BitVec 32 := 3#32
  let v204 : BitVec 1 := Scalar.cmpi .sgt v1 c3_i32
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let c0_i32_98 : BitVec 32 := 0#32
  let v205 : BitVec 32 := Scalar.select v204 v114 c0_i32_98
  let v206 : BitVec 32 := Scalar.addi v203 v205
  let c4_i32 : BitVec 32 := 4#32
  let v207 : BitVec 1 := Scalar.cmpi .sgt v1 c4_i32
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let c0_i32_99 : BitVec 32 := 0#32
  let v208 : BitVec 32 := Scalar.select v207 v134 c0_i32_99
  let v209 : BitVec 32 := Scalar.addi v206 v208
  let c5_i32 : BitVec 32 := 5#32
  let v210 : BitVec 1 := Scalar.cmpi .sgt v1 c5_i32
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let c0_i32_100 : BitVec 32 := 0#32
  let v211 : BitVec 32 := Scalar.select v210 v154 c0_i32_100
  let v212 : BitVec 32 := Scalar.addi v209 v211
  let c6_i32 : BitVec 32 := 6#32
  let v213 : BitVec 1 := Scalar.cmpi .sgt v1 c6_i32
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let c0_i32_101 : BitVec 32 := 0#32
  let v214 : BitVec 32 := Scalar.select v213 v174 c0_i32_101
  let v215 : BitVec 32 := Scalar.addi v212 v214
  let c7_i32 : BitVec 32 := 7#32
  let v216 : BitVec 1 := Scalar.cmpi .sgt v1 c7_i32
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let c0_i32_102 : BitVec 32 := 0#32
  let v217 : BitVec 32 := Scalar.select v216 v194 c0_i32_102
  let v218 : BitVec 32 := Scalar.addi v215 v217
  let c0_i32_121 : BitVec 32 := 0#32
  let c1_i32_124 : BitVec 32 := 1#32
  let arg9 : BitVec 32 := Scf.iv c0_i32_121 c1_i32_124 k1_t2
  let c128_i32_132 : BitVec 32 := 128#32
  let v303 : BitVec 32 := Scalar.muli arg9 c128_i32_132
  let v304 : BitVec 32 := Scalar.addi v218 v303
  v304

def k1_off3 (v10_0 : BitVec 32) (k1_t2 : Fin (k1_t2_loop v10_0).trips) : Fin 1 → Nat :=
  let c0_i32_121 : BitVec 32 := 0#32
  let c1_i32_124 : BitVec 32 := 1#32
  let arg9 : BitVec 32 := Scf.iv c0_i32_121 c1_i32_124 k1_t2
  let c128_i32_131 : BitVec 32 := 128#32
  let v302 : BitVec 32 := Scalar.muli arg9 c128_i32_131
  ![v302.toNat]
def k1_off4 (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_t2 : Fin (k1_t2_loop v10_0).trips) : Fin 1 → Nat :=
  let c0_i32_93 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_91 : BitVec 32 := 0#32
  let v195 : BitVec 1 := Scalar.cmpi .sgt v1 c0_i32_91
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let c0_i32_92 : BitVec 32 := 0#32
  let v196 : BitVec 32 := Scalar.select v195 v54 c0_i32_92
  let v197 : BitVec 32 := Scalar.addi c0_i32_93 v196
  let c1_i32_94 : BitVec 32 := 1#32
  let v198 : BitVec 1 := Scalar.cmpi .sgt v1 c1_i32_94
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let c0_i32_95 : BitVec 32 := 0#32
  let v199 : BitVec 32 := Scalar.select v198 v74 c0_i32_95
  let v200 : BitVec 32 := Scalar.addi v197 v199
  let c2_i32_96 : BitVec 32 := 2#32
  let v201 : BitVec 1 := Scalar.cmpi .sgt v1 c2_i32_96
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let c0_i32_97 : BitVec 32 := 0#32
  let v202 : BitVec 32 := Scalar.select v201 v94 c0_i32_97
  let v203 : BitVec 32 := Scalar.addi v200 v202
  let c3_i32 : BitVec 32 := 3#32
  let v204 : BitVec 1 := Scalar.cmpi .sgt v1 c3_i32
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let c0_i32_98 : BitVec 32 := 0#32
  let v205 : BitVec 32 := Scalar.select v204 v114 c0_i32_98
  let v206 : BitVec 32 := Scalar.addi v203 v205
  let c4_i32 : BitVec 32 := 4#32
  let v207 : BitVec 1 := Scalar.cmpi .sgt v1 c4_i32
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let c0_i32_99 : BitVec 32 := 0#32
  let v208 : BitVec 32 := Scalar.select v207 v134 c0_i32_99
  let v209 : BitVec 32 := Scalar.addi v206 v208
  let c5_i32 : BitVec 32 := 5#32
  let v210 : BitVec 1 := Scalar.cmpi .sgt v1 c5_i32
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let c0_i32_100 : BitVec 32 := 0#32
  let v211 : BitVec 32 := Scalar.select v210 v154 c0_i32_100
  let v212 : BitVec 32 := Scalar.addi v209 v211
  let c6_i32 : BitVec 32 := 6#32
  let v213 : BitVec 1 := Scalar.cmpi .sgt v1 c6_i32
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let c0_i32_101 : BitVec 32 := 0#32
  let v214 : BitVec 32 := Scalar.select v213 v174 c0_i32_101
  let v215 : BitVec 32 := Scalar.addi v212 v214
  let c7_i32 : BitVec 32 := 7#32
  let v216 : BitVec 1 := Scalar.cmpi .sgt v1 c7_i32
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let c0_i32_102 : BitVec 32 := 0#32
  let v217 : BitVec 32 := Scalar.select v216 v194 c0_i32_102
  let v218 : BitVec 32 := Scalar.addi v215 v217
  let c0_i32_121 : BitVec 32 := 0#32
  let c1_i32_124 : BitVec 32 := 1#32
  let arg9 : BitVec 32 := Scf.iv c0_i32_121 c1_i32_124 k1_t2
  let c128_i32_132 : BitVec 32 := 128#32
  let v303 : BitVec 32 := Scalar.muli arg9 c128_i32_132
  let v304 : BitVec 32 := Scalar.addi v218 v303
  let v305 : BitVec 32 := v304
  ![v305.toNat]
@[reducible] def k1_t3_loop (v10_0 : BitVec 32) : Scf.Loop 32 :=
  let c0_i32_121 : BitVec 32 := 0#32
  let c128_i32_104 : BitVec 32 := 128#32
  let v244 : BitVec 32 := Scalar.addi v10_0 c128_i32_104
  let c1_i32_105 : BitVec 32 := 1#32
  let v245 : BitVec 32 := Scalar.subi v244 c1_i32_105
  let c0_i32_107 : BitVec 32 := 0#32
  let v247 : BitVec 1 := Scalar.cmpi .sgt v245 c0_i32_107
  let v248 : BitVec 32 := Scalar.extui v247
  let c0_i32_108 : BitVec 32 := 0#32
  let v249 : BitVec 1 := Scalar.cmpi .slt v245 c0_i32_108
  let v250 : BitVec 32 := Scalar.extui v249
  let v251 : BitVec 32 := Scalar.subi v248 v250
  let c128_i32_106 : BitVec 32 := 128#32
  let c0_i32_109 : BitVec 32 := 0#32
  let v252 : BitVec 1 := Scalar.cmpi .sgt c128_i32_106 c0_i32_109
  let v253 : BitVec 32 := Scalar.extui v252
  let c0_i32_110 : BitVec 32 := 0#32
  let v254 : BitVec 1 := Scalar.cmpi .slt c128_i32_106 c0_i32_110
  let v255 : BitVec 32 := Scalar.extui v254
  let v256 : BitVec 32 := Scalar.subi v253 v255
  let v257 : BitVec 1 := Scalar.cmpi .ne v251 v256
  let v258 : BitVec 32 := Scalar.remsi v245 c128_i32_106
  let c0_i32_111 : BitVec 32 := 0#32
  let v259 : BitVec 1 := Scalar.cmpi .ne v258 c0_i32_111
  let v260 : BitVec 1 := Scalar.andi v257 v259
  let v246 : BitVec 32 := Scalar.divsi v245 c128_i32_106
  let c1_i32_112 : BitVec 32 := 1#32
  let v261 : BitVec 32 := Scalar.subi v246 c1_i32_112
  let v262 : BitVec 32 := Scalar.select v260 v261 v246
  let c128_i32_113 : BitVec 32 := 128#32
  let v263 : BitVec 32 := Scalar.muli v262 c128_i32_113
  let c0_i32_115 : BitVec 32 := 0#32
  let v265 : BitVec 1 := Scalar.cmpi .sgt v263 c0_i32_115
  let v266 : BitVec 32 := Scalar.extui v265
  let c0_i32_116 : BitVec 32 := 0#32
  let v267 : BitVec 1 := Scalar.cmpi .slt v263 c0_i32_116
  let v268 : BitVec 32 := Scalar.extui v267
  let v269 : BitVec 32 := Scalar.subi v266 v268
  let c128_i32_114 : BitVec 32 := 128#32
  let c0_i32_117 : BitVec 32 := 0#32
  let v270 : BitVec 1 := Scalar.cmpi .sgt c128_i32_114 c0_i32_117
  let v271 : BitVec 32 := Scalar.extui v270
  let c0_i32_118 : BitVec 32 := 0#32
  let v272 : BitVec 1 := Scalar.cmpi .slt c128_i32_114 c0_i32_118
  let v273 : BitVec 32 := Scalar.extui v272
  let v274 : BitVec 32 := Scalar.subi v271 v273
  let v275 : BitVec 1 := Scalar.cmpi .ne v269 v274
  let v276 : BitVec 32 := Scalar.remsi v263 c128_i32_114
  let c0_i32_119 : BitVec 32 := 0#32
  let v277 : BitVec 1 := Scalar.cmpi .ne v276 c0_i32_119
  let v278 : BitVec 1 := Scalar.andi v275 v277
  let v264 : BitVec 32 := Scalar.divsi v263 c128_i32_114
  let c1_i32_120 : BitVec 32 := 1#32
  let v279 : BitVec 32 := Scalar.subi v264 c1_i32_120
  let v280 : BitVec 32 := Scalar.select v278 v279 v264
  let v281 : BitVec 32 := Scalar.subi v280 c0_i32_121
  let c1_i32_123 : BitVec 32 := 1#32
  let v283 : BitVec 32 := Scalar.divsi v281 c1_i32_123
  let v284 : BitVec 32 := Scalar.muli v283 c1_i32_123
  let v285 : BitVec 32 := Scalar.addi c0_i32_121 v284
  let v282 : BitVec 32 := Scalar.addi c0_i32_121 v281
  let c1_i32_125 : BitVec 32 := 1#32
  ⟨v285, v282, c1_i32_125⟩
def k1_mult2 (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_t3 : Fin (k1_t3_loop v10_0).trips) : BitVec 32 :=
  let c0_i32_93 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_91 : BitVec 32 := 0#32
  let v195 : BitVec 1 := Scalar.cmpi .sgt v1 c0_i32_91
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let c0_i32_92 : BitVec 32 := 0#32
  let v196 : BitVec 32 := Scalar.select v195 v54 c0_i32_92
  let v197 : BitVec 32 := Scalar.addi c0_i32_93 v196
  let c1_i32_94 : BitVec 32 := 1#32
  let v198 : BitVec 1 := Scalar.cmpi .sgt v1 c1_i32_94
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let c0_i32_95 : BitVec 32 := 0#32
  let v199 : BitVec 32 := Scalar.select v198 v74 c0_i32_95
  let v200 : BitVec 32 := Scalar.addi v197 v199
  let c2_i32_96 : BitVec 32 := 2#32
  let v201 : BitVec 1 := Scalar.cmpi .sgt v1 c2_i32_96
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let c0_i32_97 : BitVec 32 := 0#32
  let v202 : BitVec 32 := Scalar.select v201 v94 c0_i32_97
  let v203 : BitVec 32 := Scalar.addi v200 v202
  let c3_i32 : BitVec 32 := 3#32
  let v204 : BitVec 1 := Scalar.cmpi .sgt v1 c3_i32
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let c0_i32_98 : BitVec 32 := 0#32
  let v205 : BitVec 32 := Scalar.select v204 v114 c0_i32_98
  let v206 : BitVec 32 := Scalar.addi v203 v205
  let c4_i32 : BitVec 32 := 4#32
  let v207 : BitVec 1 := Scalar.cmpi .sgt v1 c4_i32
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let c0_i32_99 : BitVec 32 := 0#32
  let v208 : BitVec 32 := Scalar.select v207 v134 c0_i32_99
  let v209 : BitVec 32 := Scalar.addi v206 v208
  let c5_i32 : BitVec 32 := 5#32
  let v210 : BitVec 1 := Scalar.cmpi .sgt v1 c5_i32
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let c0_i32_100 : BitVec 32 := 0#32
  let v211 : BitVec 32 := Scalar.select v210 v154 c0_i32_100
  let v212 : BitVec 32 := Scalar.addi v209 v211
  let c6_i32 : BitVec 32 := 6#32
  let v213 : BitVec 1 := Scalar.cmpi .sgt v1 c6_i32
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let c0_i32_101 : BitVec 32 := 0#32
  let v214 : BitVec 32 := Scalar.select v213 v174 c0_i32_101
  let v215 : BitVec 32 := Scalar.addi v212 v214
  let c7_i32 : BitVec 32 := 7#32
  let v216 : BitVec 1 := Scalar.cmpi .sgt v1 c7_i32
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let c0_i32_102 : BitVec 32 := 0#32
  let v217 : BitVec 32 := Scalar.select v216 v194 c0_i32_102
  let v218 : BitVec 32 := Scalar.addi v215 v217
  let c0_i32_121 : BitVec 32 := 0#32
  let c128_i32_104 : BitVec 32 := 128#32
  let v244 : BitVec 32 := Scalar.addi v10_0 c128_i32_104
  let c1_i32_105 : BitVec 32 := 1#32
  let v245 : BitVec 32 := Scalar.subi v244 c1_i32_105
  let c0_i32_107 : BitVec 32 := 0#32
  let v247 : BitVec 1 := Scalar.cmpi .sgt v245 c0_i32_107
  let v248 : BitVec 32 := Scalar.extui v247
  let c0_i32_108 : BitVec 32 := 0#32
  let v249 : BitVec 1 := Scalar.cmpi .slt v245 c0_i32_108
  let v250 : BitVec 32 := Scalar.extui v249
  let v251 : BitVec 32 := Scalar.subi v248 v250
  let c128_i32_106 : BitVec 32 := 128#32
  let c0_i32_109 : BitVec 32 := 0#32
  let v252 : BitVec 1 := Scalar.cmpi .sgt c128_i32_106 c0_i32_109
  let v253 : BitVec 32 := Scalar.extui v252
  let c0_i32_110 : BitVec 32 := 0#32
  let v254 : BitVec 1 := Scalar.cmpi .slt c128_i32_106 c0_i32_110
  let v255 : BitVec 32 := Scalar.extui v254
  let v256 : BitVec 32 := Scalar.subi v253 v255
  let v257 : BitVec 1 := Scalar.cmpi .ne v251 v256
  let v258 : BitVec 32 := Scalar.remsi v245 c128_i32_106
  let c0_i32_111 : BitVec 32 := 0#32
  let v259 : BitVec 1 := Scalar.cmpi .ne v258 c0_i32_111
  let v260 : BitVec 1 := Scalar.andi v257 v259
  let v246 : BitVec 32 := Scalar.divsi v245 c128_i32_106
  let c1_i32_112 : BitVec 32 := 1#32
  let v261 : BitVec 32 := Scalar.subi v246 c1_i32_112
  let v262 : BitVec 32 := Scalar.select v260 v261 v246
  let c128_i32_113 : BitVec 32 := 128#32
  let v263 : BitVec 32 := Scalar.muli v262 c128_i32_113
  let c0_i32_115 : BitVec 32 := 0#32
  let v265 : BitVec 1 := Scalar.cmpi .sgt v263 c0_i32_115
  let v266 : BitVec 32 := Scalar.extui v265
  let c0_i32_116 : BitVec 32 := 0#32
  let v267 : BitVec 1 := Scalar.cmpi .slt v263 c0_i32_116
  let v268 : BitVec 32 := Scalar.extui v267
  let v269 : BitVec 32 := Scalar.subi v266 v268
  let c128_i32_114 : BitVec 32 := 128#32
  let c0_i32_117 : BitVec 32 := 0#32
  let v270 : BitVec 1 := Scalar.cmpi .sgt c128_i32_114 c0_i32_117
  let v271 : BitVec 32 := Scalar.extui v270
  let c0_i32_118 : BitVec 32 := 0#32
  let v272 : BitVec 1 := Scalar.cmpi .slt c128_i32_114 c0_i32_118
  let v273 : BitVec 32 := Scalar.extui v272
  let v274 : BitVec 32 := Scalar.subi v271 v273
  let v275 : BitVec 1 := Scalar.cmpi .ne v269 v274
  let v276 : BitVec 32 := Scalar.remsi v263 c128_i32_114
  let c0_i32_119 : BitVec 32 := 0#32
  let v277 : BitVec 1 := Scalar.cmpi .ne v276 c0_i32_119
  let v278 : BitVec 1 := Scalar.andi v275 v277
  let v264 : BitVec 32 := Scalar.divsi v263 c128_i32_114
  let c1_i32_120 : BitVec 32 := 1#32
  let v279 : BitVec 32 := Scalar.subi v264 c1_i32_120
  let v280 : BitVec 32 := Scalar.select v278 v279 v264
  let v281 : BitVec 32 := Scalar.subi v280 c0_i32_121
  let c1_i32_123 : BitVec 32 := 1#32
  let v283 : BitVec 32 := Scalar.divsi v281 c1_i32_123
  let v284 : BitVec 32 := Scalar.muli v283 c1_i32_123
  let v285 : BitVec 32 := Scalar.addi c0_i32_121 v284
  let c1_i32_125 : BitVec 32 := 1#32
  let arg9 : BitVec 32 := Scf.iv v285 c1_i32_125 k1_t3
  let c128_i32_132 : BitVec 32 := 128#32
  let v303 : BitVec 32 := Scalar.muli arg9 c128_i32_132
  let v304 : BitVec 32 := Scalar.addi v218 v303
  v304
def k1_off5 (v10_0 : BitVec 32) (k1_t3 : Fin (k1_t3_loop v10_0).trips) : Fin 1 → Nat :=
  let c0_i32_121 : BitVec 32 := 0#32
  let c128_i32_104 : BitVec 32 := 128#32
  let v244 : BitVec 32 := Scalar.addi v10_0 c128_i32_104
  let c1_i32_105 : BitVec 32 := 1#32
  let v245 : BitVec 32 := Scalar.subi v244 c1_i32_105
  let c0_i32_107 : BitVec 32 := 0#32
  let v247 : BitVec 1 := Scalar.cmpi .sgt v245 c0_i32_107
  let v248 : BitVec 32 := Scalar.extui v247
  let c0_i32_108 : BitVec 32 := 0#32
  let v249 : BitVec 1 := Scalar.cmpi .slt v245 c0_i32_108
  let v250 : BitVec 32 := Scalar.extui v249
  let v251 : BitVec 32 := Scalar.subi v248 v250
  let c128_i32_106 : BitVec 32 := 128#32
  let c0_i32_109 : BitVec 32 := 0#32
  let v252 : BitVec 1 := Scalar.cmpi .sgt c128_i32_106 c0_i32_109
  let v253 : BitVec 32 := Scalar.extui v252
  let c0_i32_110 : BitVec 32 := 0#32
  let v254 : BitVec 1 := Scalar.cmpi .slt c128_i32_106 c0_i32_110
  let v255 : BitVec 32 := Scalar.extui v254
  let v256 : BitVec 32 := Scalar.subi v253 v255
  let v257 : BitVec 1 := Scalar.cmpi .ne v251 v256
  let v258 : BitVec 32 := Scalar.remsi v245 c128_i32_106
  let c0_i32_111 : BitVec 32 := 0#32
  let v259 : BitVec 1 := Scalar.cmpi .ne v258 c0_i32_111
  let v260 : BitVec 1 := Scalar.andi v257 v259
  let v246 : BitVec 32 := Scalar.divsi v245 c128_i32_106
  let c1_i32_112 : BitVec 32 := 1#32
  let v261 : BitVec 32 := Scalar.subi v246 c1_i32_112
  let v262 : BitVec 32 := Scalar.select v260 v261 v246
  let c128_i32_113 : BitVec 32 := 128#32
  let v263 : BitVec 32 := Scalar.muli v262 c128_i32_113
  let c0_i32_115 : BitVec 32 := 0#32
  let v265 : BitVec 1 := Scalar.cmpi .sgt v263 c0_i32_115
  let v266 : BitVec 32 := Scalar.extui v265
  let c0_i32_116 : BitVec 32 := 0#32
  let v267 : BitVec 1 := Scalar.cmpi .slt v263 c0_i32_116
  let v268 : BitVec 32 := Scalar.extui v267
  let v269 : BitVec 32 := Scalar.subi v266 v268
  let c128_i32_114 : BitVec 32 := 128#32
  let c0_i32_117 : BitVec 32 := 0#32
  let v270 : BitVec 1 := Scalar.cmpi .sgt c128_i32_114 c0_i32_117
  let v271 : BitVec 32 := Scalar.extui v270
  let c0_i32_118 : BitVec 32 := 0#32
  let v272 : BitVec 1 := Scalar.cmpi .slt c128_i32_114 c0_i32_118
  let v273 : BitVec 32 := Scalar.extui v272
  let v274 : BitVec 32 := Scalar.subi v271 v273
  let v275 : BitVec 1 := Scalar.cmpi .ne v269 v274
  let v276 : BitVec 32 := Scalar.remsi v263 c128_i32_114
  let c0_i32_119 : BitVec 32 := 0#32
  let v277 : BitVec 1 := Scalar.cmpi .ne v276 c0_i32_119
  let v278 : BitVec 1 := Scalar.andi v275 v277
  let v264 : BitVec 32 := Scalar.divsi v263 c128_i32_114
  let c1_i32_120 : BitVec 32 := 1#32
  let v279 : BitVec 32 := Scalar.subi v264 c1_i32_120
  let v280 : BitVec 32 := Scalar.select v278 v279 v264
  let v281 : BitVec 32 := Scalar.subi v280 c0_i32_121
  let c1_i32_123 : BitVec 32 := 1#32
  let v283 : BitVec 32 := Scalar.divsi v281 c1_i32_123
  let v284 : BitVec 32 := Scalar.muli v283 c1_i32_123
  let v285 : BitVec 32 := Scalar.addi c0_i32_121 v284
  let c1_i32_125 : BitVec 32 := 1#32
  let arg9 : BitVec 32 := Scf.iv v285 c1_i32_125 k1_t3
  let c128_i32_131 : BitVec 32 := 128#32
  let v302 : BitVec 32 := Scalar.muli arg9 c128_i32_131
  ![v302.toNat]

def k1_chk2 (i : grid1.Coords) (v10_0 : BitVec 32) : Prop :=
  (∀ (k1_h1 : k1_cond1 i = 1#1), ∀ (r : Fin 8), ∀ a, (k1_off2 v10_0 (BitVec.ofNat 32 (16 * r.val))) a + S16.size a ≤ S2304.size a) ∧
  (∀ (k1_h1 : k1_cond1 i = 1#1), (k1_t2_loop v10_0).OK) ∧
  (∀ k1_t2 : Fin (k1_t2_loop v10_0).trips, ∀ (k1_h1 : k1_cond1 i = 1#1), ∀ a, (k1_off3 v10_0 k1_t2) a + S128.size a ≤ S2304.size a) ∧
  (∀ (k1_h1 : k1_cond1 i = 1#1), (k1_t3_loop v10_0).OK) ∧
  (∀ k1_t3 : Fin (k1_t3_loop v10_0).trips, ∀ (k1_h1 : k1_cond1 i = 1#1), ∀ a, (k1_off5 v10_0 k1_t3) a + S128.size a ≤ S2304.size a)
theorem k1_off2_inb : ∀ (i : grid1.Coords) (v10_0 : BitVec 32) (k1_hw2 : k1_chk2 i v10_0), ∀ (k1_h1 : k1_cond1 i = 1#1), ∀ (r : Fin 8), ∀ a, (k1_off2 v10_0 (BitVec.ofNat 32 (16 * r.val))) a + S16.size a ≤ S2304.size a := fun i v10_0 k1_hw2 k1_h1 r => k1_hw2.1 k1_h1 r
theorem k1_t2_ok : ∀ (i : grid1.Coords) (v10_0 : BitVec 32) (k1_hw2 : k1_chk2 i v10_0), ∀ (k1_h1 : k1_cond1 i = 1#1), (k1_t2_loop v10_0).OK := fun i v10_0 k1_hw2 k1_h1 => k1_hw2.2.1 k1_h1
theorem k1_off3_inb : ∀ (i : grid1.Coords) (v10_0 : BitVec 32) (k1_hw2 : k1_chk2 i v10_0) (k1_t2 : Fin (k1_t2_loop v10_0).trips), ∀ (k1_h1 : k1_cond1 i = 1#1), ∀ a, (k1_off3 v10_0 k1_t2) a + S128.size a ≤ S2304.size a := fun i v10_0 k1_hw2 k1_t2 k1_h1 => k1_hw2.2.2.1 k1_t2 k1_h1
theorem k1_t3_ok : ∀ (i : grid1.Coords) (v10_0 : BitVec 32) (k1_hw2 : k1_chk2 i v10_0), ∀ (k1_h1 : k1_cond1 i = 1#1), (k1_t3_loop v10_0).OK := fun i v10_0 k1_hw2 k1_h1 => k1_hw2.2.2.2.1 k1_h1
theorem k1_off5_inb : ∀ (i : grid1.Coords) (v10_0 : BitVec 32) (k1_hw2 : k1_chk2 i v10_0) (k1_t3 : Fin (k1_t3_loop v10_0).trips), ∀ (k1_h1 : k1_cond1 i = 1#1), ∀ a, (k1_off5 v10_0 k1_t3) a + S128.size a ≤ S2304.size a := fun i v10_0 k1_hw2 k1_t3 k1_h1 => k1_hw2.2.2.2.2 k1_t3 k1_h1

def k1_off6 (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_t3 : Fin (k1_t3_loop v10_0).trips) : Fin 1 → Nat :=
  let c0_i32_93 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_91 : BitVec 32 := 0#32
  let v195 : BitVec 1 := Scalar.cmpi .sgt v1 c0_i32_91
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let c0_i32_92 : BitVec 32 := 0#32
  let v196 : BitVec 32 := Scalar.select v195 v54 c0_i32_92
  let v197 : BitVec 32 := Scalar.addi c0_i32_93 v196
  let c1_i32_94 : BitVec 32 := 1#32
  let v198 : BitVec 1 := Scalar.cmpi .sgt v1 c1_i32_94
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let c0_i32_95 : BitVec 32 := 0#32
  let v199 : BitVec 32 := Scalar.select v198 v74 c0_i32_95
  let v200 : BitVec 32 := Scalar.addi v197 v199
  let c2_i32_96 : BitVec 32 := 2#32
  let v201 : BitVec 1 := Scalar.cmpi .sgt v1 c2_i32_96
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let c0_i32_97 : BitVec 32 := 0#32
  let v202 : BitVec 32 := Scalar.select v201 v94 c0_i32_97
  let v203 : BitVec 32 := Scalar.addi v200 v202
  let c3_i32 : BitVec 32 := 3#32
  let v204 : BitVec 1 := Scalar.cmpi .sgt v1 c3_i32
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let c0_i32_98 : BitVec 32 := 0#32
  let v205 : BitVec 32 := Scalar.select v204 v114 c0_i32_98
  let v206 : BitVec 32 := Scalar.addi v203 v205
  let c4_i32 : BitVec 32 := 4#32
  let v207 : BitVec 1 := Scalar.cmpi .sgt v1 c4_i32
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let c0_i32_99 : BitVec 32 := 0#32
  let v208 : BitVec 32 := Scalar.select v207 v134 c0_i32_99
  let v209 : BitVec 32 := Scalar.addi v206 v208
  let c5_i32 : BitVec 32 := 5#32
  let v210 : BitVec 1 := Scalar.cmpi .sgt v1 c5_i32
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let c0_i32_100 : BitVec 32 := 0#32
  let v211 : BitVec 32 := Scalar.select v210 v154 c0_i32_100
  let v212 : BitVec 32 := Scalar.addi v209 v211
  let c6_i32 : BitVec 32 := 6#32
  let v213 : BitVec 1 := Scalar.cmpi .sgt v1 c6_i32
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let c0_i32_101 : BitVec 32 := 0#32
  let v214 : BitVec 32 := Scalar.select v213 v174 c0_i32_101
  let v215 : BitVec 32 := Scalar.addi v212 v214
  let c7_i32 : BitVec 32 := 7#32
  let v216 : BitVec 1 := Scalar.cmpi .sgt v1 c7_i32
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let c0_i32_102 : BitVec 32 := 0#32
  let v217 : BitVec 32 := Scalar.select v216 v194 c0_i32_102
  let v218 : BitVec 32 := Scalar.addi v215 v217
  let c0_i32_121 : BitVec 32 := 0#32
  let c128_i32_104 : BitVec 32 := 128#32
  let v244 : BitVec 32 := Scalar.addi v10_0 c128_i32_104
  let c1_i32_105 : BitVec 32 := 1#32
  let v245 : BitVec 32 := Scalar.subi v244 c1_i32_105
  let c0_i32_107 : BitVec 32 := 0#32
  let v247 : BitVec 1 := Scalar.cmpi .sgt v245 c0_i32_107
  let v248 : BitVec 32 := Scalar.extui v247
  let c0_i32_108 : BitVec 32 := 0#32
  let v249 : BitVec 1 := Scalar.cmpi .slt v245 c0_i32_108
  let v250 : BitVec 32 := Scalar.extui v249
  let v251 : BitVec 32 := Scalar.subi v248 v250
  let c128_i32_106 : BitVec 32 := 128#32
  let c0_i32_109 : BitVec 32 := 0#32
  let v252 : BitVec 1 := Scalar.cmpi .sgt c128_i32_106 c0_i32_109
  let v253 : BitVec 32 := Scalar.extui v252
  let c0_i32_110 : BitVec 32 := 0#32
  let v254 : BitVec 1 := Scalar.cmpi .slt c128_i32_106 c0_i32_110
  let v255 : BitVec 32 := Scalar.extui v254
  let v256 : BitVec 32 := Scalar.subi v253 v255
  let v257 : BitVec 1 := Scalar.cmpi .ne v251 v256
  let v258 : BitVec 32 := Scalar.remsi v245 c128_i32_106
  let c0_i32_111 : BitVec 32 := 0#32
  let v259 : BitVec 1 := Scalar.cmpi .ne v258 c0_i32_111
  let v260 : BitVec 1 := Scalar.andi v257 v259
  let v246 : BitVec 32 := Scalar.divsi v245 c128_i32_106
  let c1_i32_112 : BitVec 32 := 1#32
  let v261 : BitVec 32 := Scalar.subi v246 c1_i32_112
  let v262 : BitVec 32 := Scalar.select v260 v261 v246
  let c128_i32_113 : BitVec 32 := 128#32
  let v263 : BitVec 32 := Scalar.muli v262 c128_i32_113
  let c0_i32_115 : BitVec 32 := 0#32
  let v265 : BitVec 1 := Scalar.cmpi .sgt v263 c0_i32_115
  let v266 : BitVec 32 := Scalar.extui v265
  let c0_i32_116 : BitVec 32 := 0#32
  let v267 : BitVec 1 := Scalar.cmpi .slt v263 c0_i32_116
  let v268 : BitVec 32 := Scalar.extui v267
  let v269 : BitVec 32 := Scalar.subi v266 v268
  let c128_i32_114 : BitVec 32 := 128#32
  let c0_i32_117 : BitVec 32 := 0#32
  let v270 : BitVec 1 := Scalar.cmpi .sgt c128_i32_114 c0_i32_117
  let v271 : BitVec 32 := Scalar.extui v270
  let c0_i32_118 : BitVec 32 := 0#32
  let v272 : BitVec 1 := Scalar.cmpi .slt c128_i32_114 c0_i32_118
  let v273 : BitVec 32 := Scalar.extui v272
  let v274 : BitVec 32 := Scalar.subi v271 v273
  let v275 : BitVec 1 := Scalar.cmpi .ne v269 v274
  let v276 : BitVec 32 := Scalar.remsi v263 c128_i32_114
  let c0_i32_119 : BitVec 32 := 0#32
  let v277 : BitVec 1 := Scalar.cmpi .ne v276 c0_i32_119
  let v278 : BitVec 1 := Scalar.andi v275 v277
  let v264 : BitVec 32 := Scalar.divsi v263 c128_i32_114
  let c1_i32_120 : BitVec 32 := 1#32
  let v279 : BitVec 32 := Scalar.subi v264 c1_i32_120
  let v280 : BitVec 32 := Scalar.select v278 v279 v264
  let v281 : BitVec 32 := Scalar.subi v280 c0_i32_121
  let c1_i32_123 : BitVec 32 := 1#32
  let v283 : BitVec 32 := Scalar.divsi v281 c1_i32_123
  let v284 : BitVec 32 := Scalar.muli v283 c1_i32_123
  let v285 : BitVec 32 := Scalar.addi c0_i32_121 v284
  let c1_i32_125 : BitVec 32 := 1#32
  let arg9 : BitVec 32 := Scf.iv v285 c1_i32_125 k1_t3
  let c128_i32_132 : BitVec 32 := 128#32
  let v303 : BitVec 32 := Scalar.muli arg9 c128_i32_132
  let v304 : BitVec 32 := Scalar.addi v218 v303
  let v305 : BitVec 32 := v304
  ![v305.toNat]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_127 : BitVec 32 := 7#32
  let v296 : BitVec 1 := Scalar.cmpi .eq v1 c7_i32_127
  let v297 : BitVec 32 := Scalar.extui v296
  let c0_i32_128 : BitVec 32 := 0#32
  let v298 : BitVec 1 := Scalar.cmpi .ne v297 c0_i32_128
  v298

@[reducible] def k1_t4_loop (v13 : BitVec 32) (v16 : BitVec 32) (v19 : BitVec 32) (v22 : BitVec 32) (v25 : BitVec 32) (v28 : BitVec 32) (v31 : BitVec 32) (v34 : BitVec 32) : Scf.Loop 32 :=
  let c0_i32_126 : BitVec 32 := 0#32
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let v288 : BitVec 32 := Scalar.addi c0_i32_126 v54
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let v289 : BitVec 32 := Scalar.addi v288 v74
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let v290 : BitVec 32 := Scalar.addi v289 v94
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let v291 : BitVec 32 := Scalar.addi v290 v114
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let v292 : BitVec 32 := Scalar.addi v291 v134
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let v293 : BitVec 32 := Scalar.addi v292 v154
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let v294 : BitVec 32 := Scalar.addi v293 v174
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let v295 : BitVec 32 := Scalar.addi v294 v194
  let c0_i32_132 : BitVec 32 := 0#32
  let v311 : BitVec 1 := Scalar.cmpi .sgt v295 c0_i32_132
  let v312 : BitVec 32 := Scalar.extui v311
  let c0_i32_133 : BitVec 32 := 0#32
  let v313 : BitVec 1 := Scalar.cmpi .slt v295 c0_i32_133
  let v314 : BitVec 32 := Scalar.extui v313
  let v315 : BitVec 32 := Scalar.subi v312 v314
  let c128_i32_131 : BitVec 32 := 128#32
  let c0_i32_134 : BitVec 32 := 0#32
  let v316 : BitVec 1 := Scalar.cmpi .sgt c128_i32_131 c0_i32_134
  let v317 : BitVec 32 := Scalar.extui v316
  let c0_i32_135 : BitVec 32 := 0#32
  let v318 : BitVec 1 := Scalar.cmpi .slt c128_i32_131 c0_i32_135
  let v319 : BitVec 32 := Scalar.extui v318
  let v320 : BitVec 32 := Scalar.subi v317 v319
  let v321 : BitVec 1 := Scalar.cmpi .ne v315 v320
  let v322 : BitVec 32 := Scalar.remsi v295 c128_i32_131
  let c0_i32_136 : BitVec 32 := 0#32
  let v323 : BitVec 1 := Scalar.cmpi .ne v322 c0_i32_136
  let v324 : BitVec 1 := Scalar.andi v321 v323
  let v310 : BitVec 32 := Scalar.divsi v295 c128_i32_131
  let c1_i32_137 : BitVec 32 := 1#32
  let v325 : BitVec 32 := Scalar.subi v310 c1_i32_137
  let v326 : BitVec 32 := Scalar.select v324 v325 v310
  let c24_i32 : BitVec 32 := 24#32
  let v327 : BitVec 32 := Scalar.subi c24_i32 v326
  let c1_i32_139 : BitVec 32 := 1#32
  let v329 : BitVec 32 := Scalar.divsi v327 c1_i32_139
  let v330 : BitVec 32 := Scalar.muli v329 c1_i32_139
  let v331 : BitVec 32 := Scalar.addi v326 v330
  let c1_i32_140 : BitVec 32 := 1#32
  ⟨v326, v331, c1_i32_140⟩
def k1_mult3 (v13 : BitVec 32) (v16 : BitVec 32) (v19 : BitVec 32) (v22 : BitVec 32) (v25 : BitVec 32) (v28 : BitVec 32) (v31 : BitVec 32) (v34 : BitVec 32) (k1_t4 : Fin (k1_t4_loop v13 v16 v19 v22 v25 v28 v31 v34).trips) : BitVec 32 :=
  let c0_i32_126 : BitVec 32 := 0#32
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let v288 : BitVec 32 := Scalar.addi c0_i32_126 v54
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let v289 : BitVec 32 := Scalar.addi v288 v74
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let v290 : BitVec 32 := Scalar.addi v289 v94
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let v291 : BitVec 32 := Scalar.addi v290 v114
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let v292 : BitVec 32 := Scalar.addi v291 v134
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let v293 : BitVec 32 := Scalar.addi v292 v154
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let v294 : BitVec 32 := Scalar.addi v293 v174
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let v295 : BitVec 32 := Scalar.addi v294 v194
  let c0_i32_132 : BitVec 32 := 0#32
  let v311 : BitVec 1 := Scalar.cmpi .sgt v295 c0_i32_132
  let v312 : BitVec 32 := Scalar.extui v311
  let c0_i32_133 : BitVec 32 := 0#32
  let v313 : BitVec 1 := Scalar.cmpi .slt v295 c0_i32_133
  let v314 : BitVec 32 := Scalar.extui v313
  let v315 : BitVec 32 := Scalar.subi v312 v314
  let c128_i32_131 : BitVec 32 := 128#32
  let c0_i32_134 : BitVec 32 := 0#32
  let v316 : BitVec 1 := Scalar.cmpi .sgt c128_i32_131 c0_i32_134
  let v317 : BitVec 32 := Scalar.extui v316
  let c0_i32_135 : BitVec 32 := 0#32
  let v318 : BitVec 1 := Scalar.cmpi .slt c128_i32_131 c0_i32_135
  let v319 : BitVec 32 := Scalar.extui v318
  let v320 : BitVec 32 := Scalar.subi v317 v319
  let v321 : BitVec 1 := Scalar.cmpi .ne v315 v320
  let v322 : BitVec 32 := Scalar.remsi v295 c128_i32_131
  let c0_i32_136 : BitVec 32 := 0#32
  let v323 : BitVec 1 := Scalar.cmpi .ne v322 c0_i32_136
  let v324 : BitVec 1 := Scalar.andi v321 v323
  let v310 : BitVec 32 := Scalar.divsi v295 c128_i32_131
  let c1_i32_137 : BitVec 32 := 1#32
  let v325 : BitVec 32 := Scalar.subi v310 c1_i32_137
  let v326 : BitVec 32 := Scalar.select v324 v325 v310
  let c1_i32_140 : BitVec 32 := 1#32
  let arg9 : BitVec 32 := Scf.iv v326 c1_i32_140 k1_t4
  let c128_i32_142 : BitVec 32 := 128#32
  let v334 : BitVec 32 := Scalar.muli arg9 c128_i32_142
  v334
def k1_off7 (v13 : BitVec 32) (v16 : BitVec 32) (v19 : BitVec 32) (v22 : BitVec 32) (v25 : BitVec 32) (v28 : BitVec 32) (v31 : BitVec 32) (v34 : BitVec 32) (k1_t4 : Fin (k1_t4_loop v13 v16 v19 v22 v25 v28 v31 v34).trips) : Fin 1 → Nat :=
  let c0_i32_126 : BitVec 32 := 0#32
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let v288 : BitVec 32 := Scalar.addi c0_i32_126 v54
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let v289 : BitVec 32 := Scalar.addi v288 v74
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let v290 : BitVec 32 := Scalar.addi v289 v94
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let v291 : BitVec 32 := Scalar.addi v290 v114
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let v292 : BitVec 32 := Scalar.addi v291 v134
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let v293 : BitVec 32 := Scalar.addi v292 v154
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let v294 : BitVec 32 := Scalar.addi v293 v174
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let v295 : BitVec 32 := Scalar.addi v294 v194
  let c0_i32_132 : BitVec 32 := 0#32
  let v311 : BitVec 1 := Scalar.cmpi .sgt v295 c0_i32_132
  let v312 : BitVec 32 := Scalar.extui v311
  let c0_i32_133 : BitVec 32 := 0#32
  let v313 : BitVec 1 := Scalar.cmpi .slt v295 c0_i32_133
  let v314 : BitVec 32 := Scalar.extui v313
  let v315 : BitVec 32 := Scalar.subi v312 v314
  let c128_i32_131 : BitVec 32 := 128#32
  let c0_i32_134 : BitVec 32 := 0#32
  let v316 : BitVec 1 := Scalar.cmpi .sgt c128_i32_131 c0_i32_134
  let v317 : BitVec 32 := Scalar.extui v316
  let c0_i32_135 : BitVec 32 := 0#32
  let v318 : BitVec 1 := Scalar.cmpi .slt c128_i32_131 c0_i32_135
  let v319 : BitVec 32 := Scalar.extui v318
  let v320 : BitVec 32 := Scalar.subi v317 v319
  let v321 : BitVec 1 := Scalar.cmpi .ne v315 v320
  let v322 : BitVec 32 := Scalar.remsi v295 c128_i32_131
  let c0_i32_136 : BitVec 32 := 0#32
  let v323 : BitVec 1 := Scalar.cmpi .ne v322 c0_i32_136
  let v324 : BitVec 1 := Scalar.andi v321 v323
  let v310 : BitVec 32 := Scalar.divsi v295 c128_i32_131
  let c1_i32_137 : BitVec 32 := 1#32
  let v325 : BitVec 32 := Scalar.subi v310 c1_i32_137
  let v326 : BitVec 32 := Scalar.select v324 v325 v310
  let c1_i32_140 : BitVec 32 := 1#32
  let arg9 : BitVec 32 := Scf.iv v326 c1_i32_140 k1_t4
  let c128_i32_142 : BitVec 32 := 128#32
  let v334 : BitVec 32 := Scalar.muli arg9 c128_i32_142
  let v335 : BitVec 32 := v334
  ![v335.toNat]
@[reducible] def k1_t5_loop (v13 : BitVec 32) (v16 : BitVec 32) (v19 : BitVec 32) (v22 : BitVec 32) (v25 : BitVec 32) (v28 : BitVec 32) (v31 : BitVec 32) (v34 : BitVec 32) : Scf.Loop 32 :=
  let c0_i32_126 : BitVec 32 := 0#32
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let v288 : BitVec 32 := Scalar.addi c0_i32_126 v54
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let v289 : BitVec 32 := Scalar.addi v288 v74
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let v290 : BitVec 32 := Scalar.addi v289 v94
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let v291 : BitVec 32 := Scalar.addi v290 v114
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let v292 : BitVec 32 := Scalar.addi v291 v134
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let v293 : BitVec 32 := Scalar.addi v292 v154
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let v294 : BitVec 32 := Scalar.addi v293 v174
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let v295 : BitVec 32 := Scalar.addi v294 v194
  let c0_i32_132 : BitVec 32 := 0#32
  let v311 : BitVec 1 := Scalar.cmpi .sgt v295 c0_i32_132
  let v312 : BitVec 32 := Scalar.extui v311
  let c0_i32_133 : BitVec 32 := 0#32
  let v313 : BitVec 1 := Scalar.cmpi .slt v295 c0_i32_133
  let v314 : BitVec 32 := Scalar.extui v313
  let v315 : BitVec 32 := Scalar.subi v312 v314
  let c128_i32_131 : BitVec 32 := 128#32
  let c0_i32_134 : BitVec 32 := 0#32
  let v316 : BitVec 1 := Scalar.cmpi .sgt c128_i32_131 c0_i32_134
  let v317 : BitVec 32 := Scalar.extui v316
  let c0_i32_135 : BitVec 32 := 0#32
  let v318 : BitVec 1 := Scalar.cmpi .slt c128_i32_131 c0_i32_135
  let v319 : BitVec 32 := Scalar.extui v318
  let v320 : BitVec 32 := Scalar.subi v317 v319
  let v321 : BitVec 1 := Scalar.cmpi .ne v315 v320
  let v322 : BitVec 32 := Scalar.remsi v295 c128_i32_131
  let c0_i32_136 : BitVec 32 := 0#32
  let v323 : BitVec 1 := Scalar.cmpi .ne v322 c0_i32_136
  let v324 : BitVec 1 := Scalar.andi v321 v323
  let v310 : BitVec 32 := Scalar.divsi v295 c128_i32_131
  let c1_i32_137 : BitVec 32 := 1#32
  let v325 : BitVec 32 := Scalar.subi v310 c1_i32_137
  let v326 : BitVec 32 := Scalar.select v324 v325 v310
  let c24_i32 : BitVec 32 := 24#32
  let v327 : BitVec 32 := Scalar.subi c24_i32 v326
  let c1_i32_139 : BitVec 32 := 1#32
  let v329 : BitVec 32 := Scalar.divsi v327 c1_i32_139
  let v330 : BitVec 32 := Scalar.muli v329 c1_i32_139
  let v331 : BitVec 32 := Scalar.addi v326 v330
  let v328 : BitVec 32 := Scalar.addi v326 v327
  let c1_i32_141 : BitVec 32 := 1#32
  ⟨v331, v328, c1_i32_141⟩
def k1_mult4 (v13 : BitVec 32) (v16 : BitVec 32) (v19 : BitVec 32) (v22 : BitVec 32) (v25 : BitVec 32) (v28 : BitVec 32) (v31 : BitVec 32) (v34 : BitVec 32) (k1_t5 : Fin (k1_t5_loop v13 v16 v19 v22 v25 v28 v31 v34).trips) : BitVec 32 :=
  let c0_i32_126 : BitVec 32 := 0#32
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let v288 : BitVec 32 := Scalar.addi c0_i32_126 v54
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let v289 : BitVec 32 := Scalar.addi v288 v74
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let v290 : BitVec 32 := Scalar.addi v289 v94
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let v291 : BitVec 32 := Scalar.addi v290 v114
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let v292 : BitVec 32 := Scalar.addi v291 v134
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let v293 : BitVec 32 := Scalar.addi v292 v154
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let v294 : BitVec 32 := Scalar.addi v293 v174
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let v295 : BitVec 32 := Scalar.addi v294 v194
  let c0_i32_132 : BitVec 32 := 0#32
  let v311 : BitVec 1 := Scalar.cmpi .sgt v295 c0_i32_132
  let v312 : BitVec 32 := Scalar.extui v311
  let c0_i32_133 : BitVec 32 := 0#32
  let v313 : BitVec 1 := Scalar.cmpi .slt v295 c0_i32_133
  let v314 : BitVec 32 := Scalar.extui v313
  let v315 : BitVec 32 := Scalar.subi v312 v314
  let c128_i32_131 : BitVec 32 := 128#32
  let c0_i32_134 : BitVec 32 := 0#32
  let v316 : BitVec 1 := Scalar.cmpi .sgt c128_i32_131 c0_i32_134
  let v317 : BitVec 32 := Scalar.extui v316
  let c0_i32_135 : BitVec 32 := 0#32
  let v318 : BitVec 1 := Scalar.cmpi .slt c128_i32_131 c0_i32_135
  let v319 : BitVec 32 := Scalar.extui v318
  let v320 : BitVec 32 := Scalar.subi v317 v319
  let v321 : BitVec 1 := Scalar.cmpi .ne v315 v320
  let v322 : BitVec 32 := Scalar.remsi v295 c128_i32_131
  let c0_i32_136 : BitVec 32 := 0#32
  let v323 : BitVec 1 := Scalar.cmpi .ne v322 c0_i32_136
  let v324 : BitVec 1 := Scalar.andi v321 v323
  let v310 : BitVec 32 := Scalar.divsi v295 c128_i32_131
  let c1_i32_137 : BitVec 32 := 1#32
  let v325 : BitVec 32 := Scalar.subi v310 c1_i32_137
  let v326 : BitVec 32 := Scalar.select v324 v325 v310
  let c24_i32 : BitVec 32 := 24#32
  let v327 : BitVec 32 := Scalar.subi c24_i32 v326
  let c1_i32_139 : BitVec 32 := 1#32
  let v329 : BitVec 32 := Scalar.divsi v327 c1_i32_139
  let v330 : BitVec 32 := Scalar.muli v329 c1_i32_139
  let v331 : BitVec 32 := Scalar.addi v326 v330
  let c1_i32_141 : BitVec 32 := 1#32
  let arg9 : BitVec 32 := Scf.iv v331 c1_i32_141 k1_t5
  let c128_i32_142 : BitVec 32 := 128#32
  let v334 : BitVec 32 := Scalar.muli arg9 c128_i32_142
  v334
def k1_off8 (v13 : BitVec 32) (v16 : BitVec 32) (v19 : BitVec 32) (v22 : BitVec 32) (v25 : BitVec 32) (v28 : BitVec 32) (v31 : BitVec 32) (v34 : BitVec 32) (k1_t5 : Fin (k1_t5_loop v13 v16 v19 v22 v25 v28 v31 v34).trips) : Fin 1 → Nat :=
  let c0_i32_126 : BitVec 32 := 0#32
  let c128_i32_11 : BitVec 32 := 128#32
  let v35 : BitVec 32 := Scalar.addi v13 c128_i32_11
  let c1_i32_12 : BitVec 32 := 1#32
  let v36 : BitVec 32 := Scalar.subi v35 c1_i32_12
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c128_i32_13 : BitVec 32 := 128#32
  let c0_i32_16 : BitVec 32 := 0#32
  let v43 : BitVec 1 := Scalar.cmpi .sgt c128_i32_13 c0_i32_16
  let v44 : BitVec 32 := Scalar.extui v43
  let c0_i32_17 : BitVec 32 := 0#32
  let v45 : BitVec 1 := Scalar.cmpi .slt c128_i32_13 c0_i32_17
  let v46 : BitVec 32 := Scalar.extui v45
  let v47 : BitVec 32 := Scalar.subi v44 v46
  let v48 : BitVec 1 := Scalar.cmpi .ne v42 v47
  let v49 : BitVec 32 := Scalar.remsi v36 c128_i32_13
  let c0_i32_18 : BitVec 32 := 0#32
  let v50 : BitVec 1 := Scalar.cmpi .ne v49 c0_i32_18
  let v51 : BitVec 1 := Scalar.andi v48 v50
  let v37 : BitVec 32 := Scalar.divsi v36 c128_i32_13
  let c1_i32_19 : BitVec 32 := 1#32
  let v52 : BitVec 32 := Scalar.subi v37 c1_i32_19
  let v53 : BitVec 32 := Scalar.select v51 v52 v37
  let c128_i32_20 : BitVec 32 := 128#32
  let v54 : BitVec 32 := Scalar.muli v53 c128_i32_20
  let v288 : BitVec 32 := Scalar.addi c0_i32_126 v54
  let c128_i32_21 : BitVec 32 := 128#32
  let v55 : BitVec 32 := Scalar.addi v16 c128_i32_21
  let c1_i32_22 : BitVec 32 := 1#32
  let v56 : BitVec 32 := Scalar.subi v55 c1_i32_22
  let c0_i32_24 : BitVec 32 := 0#32
  let v58 : BitVec 1 := Scalar.cmpi .sgt v56 c0_i32_24
  let v59 : BitVec 32 := Scalar.extui v58
  let c0_i32_25 : BitVec 32 := 0#32
  let v60 : BitVec 1 := Scalar.cmpi .slt v56 c0_i32_25
  let v61 : BitVec 32 := Scalar.extui v60
  let v62 : BitVec 32 := Scalar.subi v59 v61
  let c128_i32_23 : BitVec 32 := 128#32
  let c0_i32_26 : BitVec 32 := 0#32
  let v63 : BitVec 1 := Scalar.cmpi .sgt c128_i32_23 c0_i32_26
  let v64 : BitVec 32 := Scalar.extui v63
  let c0_i32_27 : BitVec 32 := 0#32
  let v65 : BitVec 1 := Scalar.cmpi .slt c128_i32_23 c0_i32_27
  let v66 : BitVec 32 := Scalar.extui v65
  let v67 : BitVec 32 := Scalar.subi v64 v66
  let v68 : BitVec 1 := Scalar.cmpi .ne v62 v67
  let v69 : BitVec 32 := Scalar.remsi v56 c128_i32_23
  let c0_i32_28 : BitVec 32 := 0#32
  let v70 : BitVec 1 := Scalar.cmpi .ne v69 c0_i32_28
  let v71 : BitVec 1 := Scalar.andi v68 v70
  let v57 : BitVec 32 := Scalar.divsi v56 c128_i32_23
  let c1_i32_29 : BitVec 32 := 1#32
  let v72 : BitVec 32 := Scalar.subi v57 c1_i32_29
  let v73 : BitVec 32 := Scalar.select v71 v72 v57
  let c128_i32_30 : BitVec 32 := 128#32
  let v74 : BitVec 32 := Scalar.muli v73 c128_i32_30
  let v289 : BitVec 32 := Scalar.addi v288 v74
  let c128_i32_31 : BitVec 32 := 128#32
  let v75 : BitVec 32 := Scalar.addi v19 c128_i32_31
  let c1_i32_32 : BitVec 32 := 1#32
  let v76 : BitVec 32 := Scalar.subi v75 c1_i32_32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c128_i32_33 : BitVec 32 := 128#32
  let c0_i32_36 : BitVec 32 := 0#32
  let v83 : BitVec 1 := Scalar.cmpi .sgt c128_i32_33 c0_i32_36
  let v84 : BitVec 32 := Scalar.extui v83
  let c0_i32_37 : BitVec 32 := 0#32
  let v85 : BitVec 1 := Scalar.cmpi .slt c128_i32_33 c0_i32_37
  let v86 : BitVec 32 := Scalar.extui v85
  let v87 : BitVec 32 := Scalar.subi v84 v86
  let v88 : BitVec 1 := Scalar.cmpi .ne v82 v87
  let v89 : BitVec 32 := Scalar.remsi v76 c128_i32_33
  let c0_i32_38 : BitVec 32 := 0#32
  let v90 : BitVec 1 := Scalar.cmpi .ne v89 c0_i32_38
  let v91 : BitVec 1 := Scalar.andi v88 v90
  let v77 : BitVec 32 := Scalar.divsi v76 c128_i32_33
  let c1_i32_39 : BitVec 32 := 1#32
  let v92 : BitVec 32 := Scalar.subi v77 c1_i32_39
  let v93 : BitVec 32 := Scalar.select v91 v92 v77
  let c128_i32_40 : BitVec 32 := 128#32
  let v94 : BitVec 32 := Scalar.muli v93 c128_i32_40
  let v290 : BitVec 32 := Scalar.addi v289 v94
  let c128_i32_41 : BitVec 32 := 128#32
  let v95 : BitVec 32 := Scalar.addi v22 c128_i32_41
  let c1_i32_42 : BitVec 32 := 1#32
  let v96 : BitVec 32 := Scalar.subi v95 c1_i32_42
  let c0_i32_44 : BitVec 32 := 0#32
  let v98 : BitVec 1 := Scalar.cmpi .sgt v96 c0_i32_44
  let v99 : BitVec 32 := Scalar.extui v98
  let c0_i32_45 : BitVec 32 := 0#32
  let v100 : BitVec 1 := Scalar.cmpi .slt v96 c0_i32_45
  let v101 : BitVec 32 := Scalar.extui v100
  let v102 : BitVec 32 := Scalar.subi v99 v101
  let c128_i32_43 : BitVec 32 := 128#32
  let c0_i32_46 : BitVec 32 := 0#32
  let v103 : BitVec 1 := Scalar.cmpi .sgt c128_i32_43 c0_i32_46
  let v104 : BitVec 32 := Scalar.extui v103
  let c0_i32_47 : BitVec 32 := 0#32
  let v105 : BitVec 1 := Scalar.cmpi .slt c128_i32_43 c0_i32_47
  let v106 : BitVec 32 := Scalar.extui v105
  let v107 : BitVec 32 := Scalar.subi v104 v106
  let v108 : BitVec 1 := Scalar.cmpi .ne v102 v107
  let v109 : BitVec 32 := Scalar.remsi v96 c128_i32_43
  let c0_i32_48 : BitVec 32 := 0#32
  let v110 : BitVec 1 := Scalar.cmpi .ne v109 c0_i32_48
  let v111 : BitVec 1 := Scalar.andi v108 v110
  let v97 : BitVec 32 := Scalar.divsi v96 c128_i32_43
  let c1_i32_49 : BitVec 32 := 1#32
  let v112 : BitVec 32 := Scalar.subi v97 c1_i32_49
  let v113 : BitVec 32 := Scalar.select v111 v112 v97
  let c128_i32_50 : BitVec 32 := 128#32
  let v114 : BitVec 32 := Scalar.muli v113 c128_i32_50
  let v291 : BitVec 32 := Scalar.addi v290 v114
  let c128_i32_51 : BitVec 32 := 128#32
  let v115 : BitVec 32 := Scalar.addi v25 c128_i32_51
  let c1_i32_52 : BitVec 32 := 1#32
  let v116 : BitVec 32 := Scalar.subi v115 c1_i32_52
  let c0_i32_54 : BitVec 32 := 0#32
  let v118 : BitVec 1 := Scalar.cmpi .sgt v116 c0_i32_54
  let v119 : BitVec 32 := Scalar.extui v118
  let c0_i32_55 : BitVec 32 := 0#32
  let v120 : BitVec 1 := Scalar.cmpi .slt v116 c0_i32_55
  let v121 : BitVec 32 := Scalar.extui v120
  let v122 : BitVec 32 := Scalar.subi v119 v121
  let c128_i32_53 : BitVec 32 := 128#32
  let c0_i32_56 : BitVec 32 := 0#32
  let v123 : BitVec 1 := Scalar.cmpi .sgt c128_i32_53 c0_i32_56
  let v124 : BitVec 32 := Scalar.extui v123
  let c0_i32_57 : BitVec 32 := 0#32
  let v125 : BitVec 1 := Scalar.cmpi .slt c128_i32_53 c0_i32_57
  let v126 : BitVec 32 := Scalar.extui v125
  let v127 : BitVec 32 := Scalar.subi v124 v126
  let v128 : BitVec 1 := Scalar.cmpi .ne v122 v127
  let v129 : BitVec 32 := Scalar.remsi v116 c128_i32_53
  let c0_i32_58 : BitVec 32 := 0#32
  let v130 : BitVec 1 := Scalar.cmpi .ne v129 c0_i32_58
  let v131 : BitVec 1 := Scalar.andi v128 v130
  let v117 : BitVec 32 := Scalar.divsi v116 c128_i32_53
  let c1_i32_59 : BitVec 32 := 1#32
  let v132 : BitVec 32 := Scalar.subi v117 c1_i32_59
  let v133 : BitVec 32 := Scalar.select v131 v132 v117
  let c128_i32_60 : BitVec 32 := 128#32
  let v134 : BitVec 32 := Scalar.muli v133 c128_i32_60
  let v292 : BitVec 32 := Scalar.addi v291 v134
  let c128_i32_61 : BitVec 32 := 128#32
  let v135 : BitVec 32 := Scalar.addi v28 c128_i32_61
  let c1_i32_62 : BitVec 32 := 1#32
  let v136 : BitVec 32 := Scalar.subi v135 c1_i32_62
  let c0_i32_64 : BitVec 32 := 0#32
  let v138 : BitVec 1 := Scalar.cmpi .sgt v136 c0_i32_64
  let v139 : BitVec 32 := Scalar.extui v138
  let c0_i32_65 : BitVec 32 := 0#32
  let v140 : BitVec 1 := Scalar.cmpi .slt v136 c0_i32_65
  let v141 : BitVec 32 := Scalar.extui v140
  let v142 : BitVec 32 := Scalar.subi v139 v141
  let c128_i32_63 : BitVec 32 := 128#32
  let c0_i32_66 : BitVec 32 := 0#32
  let v143 : BitVec 1 := Scalar.cmpi .sgt c128_i32_63 c0_i32_66
  let v144 : BitVec 32 := Scalar.extui v143
  let c0_i32_67 : BitVec 32 := 0#32
  let v145 : BitVec 1 := Scalar.cmpi .slt c128_i32_63 c0_i32_67
  let v146 : BitVec 32 := Scalar.extui v145
  let v147 : BitVec 32 := Scalar.subi v144 v146
  let v148 : BitVec 1 := Scalar.cmpi .ne v142 v147
  let v149 : BitVec 32 := Scalar.remsi v136 c128_i32_63
  let c0_i32_68 : BitVec 32 := 0#32
  let v150 : BitVec 1 := Scalar.cmpi .ne v149 c0_i32_68
  let v151 : BitVec 1 := Scalar.andi v148 v150
  let v137 : BitVec 32 := Scalar.divsi v136 c128_i32_63
  let c1_i32_69 : BitVec 32 := 1#32
  let v152 : BitVec 32 := Scalar.subi v137 c1_i32_69
  let v153 : BitVec 32 := Scalar.select v151 v152 v137
  let c128_i32_70 : BitVec 32 := 128#32
  let v154 : BitVec 32 := Scalar.muli v153 c128_i32_70
  let v293 : BitVec 32 := Scalar.addi v292 v154
  let c128_i32_71 : BitVec 32 := 128#32
  let v155 : BitVec 32 := Scalar.addi v31 c128_i32_71
  let c1_i32_72 : BitVec 32 := 1#32
  let v156 : BitVec 32 := Scalar.subi v155 c1_i32_72
  let c0_i32_74 : BitVec 32 := 0#32
  let v158 : BitVec 1 := Scalar.cmpi .sgt v156 c0_i32_74
  let v159 : BitVec 32 := Scalar.extui v158
  let c0_i32_75 : BitVec 32 := 0#32
  let v160 : BitVec 1 := Scalar.cmpi .slt v156 c0_i32_75
  let v161 : BitVec 32 := Scalar.extui v160
  let v162 : BitVec 32 := Scalar.subi v159 v161
  let c128_i32_73 : BitVec 32 := 128#32
  let c0_i32_76 : BitVec 32 := 0#32
  let v163 : BitVec 1 := Scalar.cmpi .sgt c128_i32_73 c0_i32_76
  let v164 : BitVec 32 := Scalar.extui v163
  let c0_i32_77 : BitVec 32 := 0#32
  let v165 : BitVec 1 := Scalar.cmpi .slt c128_i32_73 c0_i32_77
  let v166 : BitVec 32 := Scalar.extui v165
  let v167 : BitVec 32 := Scalar.subi v164 v166
  let v168 : BitVec 1 := Scalar.cmpi .ne v162 v167
  let v169 : BitVec 32 := Scalar.remsi v156 c128_i32_73
  let c0_i32_78 : BitVec 32 := 0#32
  let v170 : BitVec 1 := Scalar.cmpi .ne v169 c0_i32_78
  let v171 : BitVec 1 := Scalar.andi v168 v170
  let v157 : BitVec 32 := Scalar.divsi v156 c128_i32_73
  let c1_i32_79 : BitVec 32 := 1#32
  let v172 : BitVec 32 := Scalar.subi v157 c1_i32_79
  let v173 : BitVec 32 := Scalar.select v171 v172 v157
  let c128_i32_80 : BitVec 32 := 128#32
  let v174 : BitVec 32 := Scalar.muli v173 c128_i32_80
  let v294 : BitVec 32 := Scalar.addi v293 v174
  let c128_i32_81 : BitVec 32 := 128#32
  let v175 : BitVec 32 := Scalar.addi v34 c128_i32_81
  let c1_i32_82 : BitVec 32 := 1#32
  let v176 : BitVec 32 := Scalar.subi v175 c1_i32_82
  let c0_i32_84 : BitVec 32 := 0#32
  let v178 : BitVec 1 := Scalar.cmpi .sgt v176 c0_i32_84
  let v179 : BitVec 32 := Scalar.extui v178
  let c0_i32_85 : BitVec 32 := 0#32
  let v180 : BitVec 1 := Scalar.cmpi .slt v176 c0_i32_85
  let v181 : BitVec 32 := Scalar.extui v180
  let v182 : BitVec 32 := Scalar.subi v179 v181
  let c128_i32_83 : BitVec 32 := 128#32
  let c0_i32_86 : BitVec 32 := 0#32
  let v183 : BitVec 1 := Scalar.cmpi .sgt c128_i32_83 c0_i32_86
  let v184 : BitVec 32 := Scalar.extui v183
  let c0_i32_87 : BitVec 32 := 0#32
  let v185 : BitVec 1 := Scalar.cmpi .slt c128_i32_83 c0_i32_87
  let v186 : BitVec 32 := Scalar.extui v185
  let v187 : BitVec 32 := Scalar.subi v184 v186
  let v188 : BitVec 1 := Scalar.cmpi .ne v182 v187
  let v189 : BitVec 32 := Scalar.remsi v176 c128_i32_83
  let c0_i32_88 : BitVec 32 := 0#32
  let v190 : BitVec 1 := Scalar.cmpi .ne v189 c0_i32_88
  let v191 : BitVec 1 := Scalar.andi v188 v190
  let v177 : BitVec 32 := Scalar.divsi v176 c128_i32_83
  let c1_i32_89 : BitVec 32 := 1#32
  let v192 : BitVec 32 := Scalar.subi v177 c1_i32_89
  let v193 : BitVec 32 := Scalar.select v191 v192 v177
  let c128_i32_90 : BitVec 32 := 128#32
  let v194 : BitVec 32 := Scalar.muli v193 c128_i32_90
  let v295 : BitVec 32 := Scalar.addi v294 v194
  let c0_i32_132 : BitVec 32 := 0#32
  let v311 : BitVec 1 := Scalar.cmpi .sgt v295 c0_i32_132
  let v312 : BitVec 32 := Scalar.extui v311
  let c0_i32_133 : BitVec 32 := 0#32
  let v313 : BitVec 1 := Scalar.cmpi .slt v295 c0_i32_133
  let v314 : BitVec 32 := Scalar.extui v313
  let v315 : BitVec 32 := Scalar.subi v312 v314
  let c128_i32_131 : BitVec 32 := 128#32
  let c0_i32_134 : BitVec 32 := 0#32
  let v316 : BitVec 1 := Scalar.cmpi .sgt c128_i32_131 c0_i32_134
  let v317 : BitVec 32 := Scalar.extui v316
  let c0_i32_135 : BitVec 32 := 0#32
  let v318 : BitVec 1 := Scalar.cmpi .slt c128_i32_131 c0_i32_135
  let v319 : BitVec 32 := Scalar.extui v318
  let v320 : BitVec 32 := Scalar.subi v317 v319
  let v321 : BitVec 1 := Scalar.cmpi .ne v315 v320
  let v322 : BitVec 32 := Scalar.remsi v295 c128_i32_131
  let c0_i32_136 : BitVec 32 := 0#32
  let v323 : BitVec 1 := Scalar.cmpi .ne v322 c0_i32_136
  let v324 : BitVec 1 := Scalar.andi v321 v323
  let v310 : BitVec 32 := Scalar.divsi v295 c128_i32_131
  let c1_i32_137 : BitVec 32 := 1#32
  let v325 : BitVec 32 := Scalar.subi v310 c1_i32_137
  let v326 : BitVec 32 := Scalar.select v324 v325 v310
  let c24_i32 : BitVec 32 := 24#32
  let v327 : BitVec 32 := Scalar.subi c24_i32 v326
  let c1_i32_139 : BitVec 32 := 1#32
  let v329 : BitVec 32 := Scalar.divsi v327 c1_i32_139
  let v330 : BitVec 32 := Scalar.muli v329 c1_i32_139
  let v331 : BitVec 32 := Scalar.addi v326 v330
  let c1_i32_141 : BitVec 32 := 1#32
  let arg9 : BitVec 32 := Scf.iv v331 c1_i32_141 k1_t5
  let c128_i32_142 : BitVec 32 := 128#32
  let v334 : BitVec 32 := Scalar.muli arg9 c128_i32_142
  let v335 : BitVec 32 := v334
  ![v335.toNat]

def k1_chk3 (i : grid1.Coords) (v10_0 : BitVec 32) (v13 : BitVec 32) (v16 : BitVec 32) (v19 : BitVec 32) (v22 : BitVec 32) (v25 : BitVec 32) (v28 : BitVec 32) (v31 : BitVec 32) (v34 : BitVec 32) : Prop :=
  (∀ k1_t2 : Fin (k1_t2_loop v10_0).trips, ∀ (k1_h1 : k1_cond1 i = 1#1), 128 ∣ (k1_mult1 i v10_0 v13 v16 v19 v22 v25 v28 v31 v34 k1_t2).toNat) ∧
  (∀ k1_t2 : Fin (k1_t2_loop v10_0).trips, ∀ (k1_h1 : k1_cond1 i = 1#1), ∀ a, (k1_off4 i v10_0 v13 v16 v19 v22 v25 v28 v31 v34 k1_t2) a + S128.size a ≤ S3072.size a) ∧
  (∀ k1_t3 : Fin (k1_t3_loop v10_0).trips, ∀ (k1_h1 : k1_cond1 i = 1#1), 128 ∣ (k1_mult2 i v10_0 v13 v16 v19 v22 v25 v28 v31 v34 k1_t3).toNat) ∧
  (∀ k1_t3 : Fin (k1_t3_loop v10_0).trips, ∀ (k1_h1 : k1_cond1 i = 1#1), ∀ a, (k1_off6 i v10_0 v13 v16 v19 v22 v25 v28 v31 v34 k1_t3) a + S128.size a ≤ S3072.size a) ∧
  (∀ (k1_h1 : k1_cond1 i = 1#1), ∀ (k1_h2 : k1_cond2 i = 1#1), (k1_t4_loop v13 v16 v19 v22 v25 v28 v31 v34).OK) ∧
  (∀ k1_t4 : Fin (k1_t4_loop v13 v16 v19 v22 v25 v28 v31 v34).trips, ∀ (k1_h1 : k1_cond1 i = 1#1), ∀ (k1_h2 : k1_cond2 i = 1#1), 128 ∣ (k1_mult3 v13 v16 v19 v22 v25 v28 v31 v34 k1_t4).toNat) ∧
  (∀ k1_t4 : Fin (k1_t4_loop v13 v16 v19 v22 v25 v28 v31 v34).trips, ∀ (k1_h1 : k1_cond1 i = 1#1), ∀ (k1_h2 : k1_cond2 i = 1#1), ∀ a, (k1_off7 v13 v16 v19 v22 v25 v28 v31 v34 k1_t4) a + S128.size a ≤ S3072.size a) ∧
  (∀ (k1_h1 : k1_cond1 i = 1#1), ∀ (k1_h2 : k1_cond2 i = 1#1), (k1_t5_loop v13 v16 v19 v22 v25 v28 v31 v34).OK) ∧
  (∀ k1_t5 : Fin (k1_t5_loop v13 v16 v19 v22 v25 v28 v31 v34).trips, ∀ (k1_h1 : k1_cond1 i = 1#1), ∀ (k1_h2 : k1_cond2 i = 1#1), 128 ∣ (k1_mult4 v13 v16 v19 v22 v25 v28 v31 v34 k1_t5).toNat) ∧
  (∀ k1_t5 : Fin (k1_t5_loop v13 v16 v19 v22 v25 v28 v31 v34).trips, ∀ (k1_h1 : k1_cond1 i = 1#1), ∀ (k1_h2 : k1_cond2 i = 1#1), ∀ a, (k1_off8 v13 v16 v19 v22 v25 v28 v31 v34 k1_t5) a + S128.size a ≤ S3072.size a)
theorem k1_mult1_dvd : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (k1_t2 : Fin (k1_t2_loop v10_0).trips), ∀ (k1_h1 : k1_cond1 i = 1#1), 128 ∣ (k1_mult1 i v10_0 v13 v16 v19 v22 v25 v28 v31 v34 k1_t2).toNat := fun i v10_0 v13 v16 v19 v22 v25 v28 v31 v34 k1_hw3 k1_t2 k1_h1 => k1_hw3.1 k1_t2 k1_h1
theorem k1_off4_inb : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (k1_t2 : Fin (k1_t2_loop v10_0).trips), ∀ (k1_h1 : k1_cond1 i = 1#1), ∀ a, (k1_off4 i v10_0 v13 v16 v19 v22 v25 v28 v31 v34 k1_t2) a + S128.size a ≤ S3072.size a := fun i v10_0 v13 v16 v19 v22 v25 v28 v31 v34 k1_hw3 k1_t2 k1_h1 => k1_hw3.2.1 k1_t2 k1_h1
theorem k1_mult2_dvd : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (k1_t3 : Fin (k1_t3_loop v10_0).trips), ∀ (k1_h1 : k1_cond1 i = 1#1), 128 ∣ (k1_mult2 i v10_0 v13 v16 v19 v22 v25 v28 v31 v34 k1_t3).toNat := fun i v10_0 v13 v16 v19 v22 v25 v28 v31 v34 k1_hw3 k1_t3 k1_h1 => k1_hw3.2.2.1 k1_t3 k1_h1
theorem k1_off6_inb : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (k1_t3 : Fin (k1_t3_loop v10_0).trips), ∀ (k1_h1 : k1_cond1 i = 1#1), ∀ a, (k1_off6 i v10_0 v13 v16 v19 v22 v25 v28 v31 v34 k1_t3) a + S128.size a ≤ S3072.size a := fun i v10_0 v13 v16 v19 v22 v25 v28 v31 v34 k1_hw3 k1_t3 k1_h1 => k1_hw3.2.2.2.1 k1_t3 k1_h1
theorem k1_t4_ok : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34), ∀ (k1_h1 : k1_cond1 i = 1#1), ∀ (k1_h2 : k1_cond2 i = 1#1), (k1_t4_loop v13 v16 v19 v22 v25 v28 v31 v34).OK := fun i v10_0 v13 v16 v19 v22 v25 v28 v31 v34 k1_hw3 k1_h1 k1_h2 => k1_hw3.2.2.2.2.1 k1_h1 k1_h2
theorem k1_mult3_dvd : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (k1_t4 : Fin (k1_t4_loop v13 v16 v19 v22 v25 v28 v31 v34).trips), ∀ (k1_h1 : k1_cond1 i = 1#1), ∀ (k1_h2 : k1_cond2 i = 1#1), 128 ∣ (k1_mult3 v13 v16 v19 v22 v25 v28 v31 v34 k1_t4).toNat := fun i v10_0 v13 v16 v19 v22 v25 v28 v31 v34 k1_hw3 k1_t4 k1_h1 k1_h2 => k1_hw3.2.2.2.2.2.1 k1_t4 k1_h1 k1_h2
theorem k1_off7_inb : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (k1_t4 : Fin (k1_t4_loop v13 v16 v19 v22 v25 v28 v31 v34).trips), ∀ (k1_h1 : k1_cond1 i = 1#1), ∀ (k1_h2 : k1_cond2 i = 1#1), ∀ a, (k1_off7 v13 v16 v19 v22 v25 v28 v31 v34 k1_t4) a + S128.size a ≤ S3072.size a := fun i v10_0 v13 v16 v19 v22 v25 v28 v31 v34 k1_hw3 k1_t4 k1_h1 k1_h2 => k1_hw3.2.2.2.2.2.2.1 k1_t4 k1_h1 k1_h2
theorem k1_t5_ok : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34), ∀ (k1_h1 : k1_cond1 i = 1#1), ∀ (k1_h2 : k1_cond2 i = 1#1), (k1_t5_loop v13 v16 v19 v22 v25 v28 v31 v34).OK := fun i v10_0 v13 v16 v19 v22 v25 v28 v31 v34 k1_hw3 k1_h1 k1_h2 => k1_hw3.2.2.2.2.2.2.2.1 k1_h1 k1_h2
theorem k1_mult4_dvd : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (k1_t5 : Fin (k1_t5_loop v13 v16 v19 v22 v25 v28 v31 v34).trips), ∀ (k1_h1 : k1_cond1 i = 1#1), ∀ (k1_h2 : k1_cond2 i = 1#1), 128 ∣ (k1_mult4 v13 v16 v19 v22 v25 v28 v31 v34 k1_t5).toNat := fun i v10_0 v13 v16 v19 v22 v25 v28 v31 v34 k1_hw3 k1_t5 k1_h1 k1_h2 => k1_hw3.2.2.2.2.2.2.2.2.1 k1_t5 k1_h1 k1_h2
theorem k1_off8_inb : ∀ (i : grid1.Coords) (v10_0 : BitVec 32) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (k1_t5 : Fin (k1_t5_loop v13 v16 v19 v22 v25 v28 v31 v34).trips), ∀ (k1_h1 : k1_cond1 i = 1#1), ∀ (k1_h2 : k1_cond2 i = 1#1), ∀ a, (k1_off8 v13 v16 v19 v22 v25 v28 v31 v34 k1_t5) a + S128.size a ≤ S3072.size a := fun i v10_0 v13 v16 v19 v22 v25 v28 v31 v34 k1_hw3 k1_t5 k1_h1 k1_h2 => k1_hw3.2.2.2.2.2.2.2.2.2 k1_t5 k1_h1 k1_h2

abbrev grid2 : Pipeline.Grid := .none

@[reducible] def k2_t1_loop (v38 : BitVec 32) (v39 : BitVec 32) : Scf.Loop 32 :=
  let v40 : BitVec 32 := Scalar.subi v39 v38
  let c1_i32_49 : BitVec 32 := 1#32
  let v42 : BitVec 32 := Scalar.divsi v40 c1_i32_49
  let v43 : BitVec 32 := Scalar.muli v42 c1_i32_49
  let v44 : BitVec 32 := Scalar.addi v38 v43
  let c1_i32_50 : BitVec 32 := 1#32
  ⟨v38, v44, c1_i32_50⟩

def k2_mult1 (v38 : BitVec 32) (v39 : BitVec 32) (k2_t1 : Fin (k2_t1_loop v38 v39).trips) : BitVec 32 :=
  let c1_i32_50 : BitVec 32 := 1#32
  let arg11 : BitVec 32 := Scf.iv v38 c1_i32_50 k2_t1
  let c128_i32 : BitVec 32 := 128#32
  let v266 : BitVec 32 := Scalar.muli arg11 c128_i32
  v266
def k2_off1 (v38 : BitVec 32) (v39 : BitVec 32) (k2_t1 : Fin (k2_t1_loop v38 v39).trips) : Fin 2 → Nat :=
  let c1_i32_50 : BitVec 32 := 1#32
  let arg11 : BitVec 32 := Scf.iv v38 c1_i32_50 k2_t1
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off2 (v38 : BitVec 32) (v39 : BitVec 32) (k2_t1 : Fin (k2_t1_loop v38 v39).trips) : Fin 2 → Nat :=
  let c1_i32_50 : BitVec 32 := 1#32
  let arg11 : BitVec 32 := Scf.iv v38 c1_i32_50 k2_t1
  let c128_i32 : BitVec 32 := 128#32
  let v266 : BitVec 32 := Scalar.muli arg11 c128_i32
  let v267 : BitVec 32 := v266
  let v293 : Index := Scalar.indexCast v267
  let c0_306 : Index := 0#32
  ![v293.toNat, 0]
@[reducible] def k2_t2_loop (v38 : BitVec 32) (v39 : BitVec 32) : Scf.Loop 32 :=
  let v40 : BitVec 32 := Scalar.subi v39 v38
  let c1_i32_49 : BitVec 32 := 1#32
  let v42 : BitVec 32 := Scalar.divsi v40 c1_i32_49
  let v43 : BitVec 32 := Scalar.muli v42 c1_i32_49
  let v44 : BitVec 32 := Scalar.addi v38 v43
  let v41 : BitVec 32 := Scalar.addi v38 v40
  let c1_i32_51 : BitVec 32 := 1#32
  ⟨v44, v41, c1_i32_51⟩
def k2_mult2 (v38 : BitVec 32) (v39 : BitVec 32) (k2_t2 : Fin (k2_t2_loop v38 v39).trips) : BitVec 32 :=
  let v40 : BitVec 32 := Scalar.subi v39 v38
  let c1_i32_49 : BitVec 32 := 1#32
  let v42 : BitVec 32 := Scalar.divsi v40 c1_i32_49
  let v43 : BitVec 32 := Scalar.muli v42 c1_i32_49
  let v44 : BitVec 32 := Scalar.addi v38 v43
  let c1_i32_51 : BitVec 32 := 1#32
  let arg11 : BitVec 32 := Scf.iv v44 c1_i32_51 k2_t2
  let c128_i32 : BitVec 32 := 128#32
  let v266 : BitVec 32 := Scalar.muli arg11 c128_i32
  v266
def k2_off3 (v38 : BitVec 32) (v39 : BitVec 32) (k2_t2 : Fin (k2_t2_loop v38 v39).trips) : Fin 2 → Nat :=
  let v40 : BitVec 32 := Scalar.subi v39 v38
  let c1_i32_49 : BitVec 32 := 1#32
  let v42 : BitVec 32 := Scalar.divsi v40 c1_i32_49
  let v43 : BitVec 32 := Scalar.muli v42 c1_i32_49
  let v44 : BitVec 32 := Scalar.addi v38 v43
  let c1_i32_51 : BitVec 32 := 1#32
  let arg11 : BitVec 32 := Scf.iv v44 c1_i32_51 k2_t2
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off4 (v38 : BitVec 32) (v39 : BitVec 32) (k2_t2 : Fin (k2_t2_loop v38 v39).trips) : Fin 2 → Nat :=
  let v40 : BitVec 32 := Scalar.subi v39 v38
  let c1_i32_49 : BitVec 32 := 1#32
  let v42 : BitVec 32 := Scalar.divsi v40 c1_i32_49
  let v43 : BitVec 32 := Scalar.muli v42 c1_i32_49
  let v44 : BitVec 32 := Scalar.addi v38 v43
  let c1_i32_51 : BitVec 32 := 1#32
  let arg11 : BitVec 32 := Scf.iv v44 c1_i32_51 k2_t2
  let c128_i32 : BitVec 32 := 128#32
  let v266 : BitVec 32 := Scalar.muli arg11 c128_i32
  let v267 : BitVec 32 := v266
  let v293 : Index := Scalar.indexCast v267
  let c0_306 : Index := 0#32
  ![v293.toNat, 0]

def k2_chk1 (v38 : BitVec 32) (v39 : BitVec 32) : Prop :=
  ((k2_t1_loop v38 v39).OK) ∧
  (∀ k2_t1 : Fin (k2_t1_loop v38 v39).trips, 128 ∣ (k2_mult1 v38 v39 k2_t1).toNat) ∧
  (∀ k2_t1 : Fin (k2_t1_loop v38 v39).trips, ∀ a, (k2_off1 v38 v39 k2_t1) a + S128x1.size a ≤ S3072x1.size a) ∧
  (∀ k2_t1 : Fin (k2_t1_loop v38 v39).trips, ∀ a, (k2_off2 v38 v39 k2_t1) a + S128x768.size a ≤ S3072x768.size a) ∧
  ((k2_t2_loop v38 v39).OK) ∧
  (∀ k2_t2 : Fin (k2_t2_loop v38 v39).trips, 128 ∣ (k2_mult2 v38 v39 k2_t2).toNat) ∧
  (∀ k2_t2 : Fin (k2_t2_loop v38 v39).trips, ∀ a, (k2_off3 v38 v39 k2_t2) a + S128x1.size a ≤ S3072x1.size a) ∧
  (∀ k2_t2 : Fin (k2_t2_loop v38 v39).trips, ∀ a, (k2_off4 v38 v39 k2_t2) a + S128x768.size a ≤ S3072x768.size a)
theorem k2_t1_ok : ∀ (v38 : BitVec 32) (v39 : BitVec 32) (k2_hw1 : k2_chk1 v38 v39), (k2_t1_loop v38 v39).OK := fun v38 v39 k2_hw1 => k2_hw1.1
theorem k2_mult1_dvd : ∀ (v38 : BitVec 32) (v39 : BitVec 32) (k2_hw1 : k2_chk1 v38 v39) (k2_t1 : Fin (k2_t1_loop v38 v39).trips), 128 ∣ (k2_mult1 v38 v39 k2_t1).toNat := fun v38 v39 k2_hw1 k2_t1 => k2_hw1.2.1 k2_t1
theorem k2_off1_inb : ∀ (v38 : BitVec 32) (v39 : BitVec 32) (k2_hw1 : k2_chk1 v38 v39) (k2_t1 : Fin (k2_t1_loop v38 v39).trips), ∀ a, (k2_off1 v38 v39 k2_t1) a + S128x1.size a ≤ S3072x1.size a := fun v38 v39 k2_hw1 k2_t1 => k2_hw1.2.2.1 k2_t1
theorem k2_off2_inb : ∀ (v38 : BitVec 32) (v39 : BitVec 32) (k2_hw1 : k2_chk1 v38 v39) (k2_t1 : Fin (k2_t1_loop v38 v39).trips), ∀ a, (k2_off2 v38 v39 k2_t1) a + S128x768.size a ≤ S3072x768.size a := fun v38 v39 k2_hw1 k2_t1 => k2_hw1.2.2.2.1 k2_t1
theorem k2_t2_ok : ∀ (v38 : BitVec 32) (v39 : BitVec 32) (k2_hw1 : k2_chk1 v38 v39), (k2_t2_loop v38 v39).OK := fun v38 v39 k2_hw1 => k2_hw1.2.2.2.2.1
theorem k2_mult2_dvd : ∀ (v38 : BitVec 32) (v39 : BitVec 32) (k2_hw1 : k2_chk1 v38 v39) (k2_t2 : Fin (k2_t2_loop v38 v39).trips), 128 ∣ (k2_mult2 v38 v39 k2_t2).toNat := fun v38 v39 k2_hw1 k2_t2 => k2_hw1.2.2.2.2.2.1 k2_t2
theorem k2_off3_inb : ∀ (v38 : BitVec 32) (v39 : BitVec 32) (k2_hw1 : k2_chk1 v38 v39) (k2_t2 : Fin (k2_t2_loop v38 v39).trips), ∀ a, (k2_off3 v38 v39 k2_t2) a + S128x1.size a ≤ S3072x1.size a := fun v38 v39 k2_hw1 k2_t2 => k2_hw1.2.2.2.2.2.2.1 k2_t2
theorem k2_off4_inb : ∀ (v38 : BitVec 32) (v39 : BitVec 32) (k2_hw1 : k2_chk1 v38 v39) (k2_t2 : Fin (k2_t2_loop v38 v39).trips), ∀ a, (k2_off4 v38 v39 k2_t2) a + S128x768.size a ≤ S3072x768.size a := fun v38 v39 k2_hw1 k2_t2 => k2_hw1.2.2.2.2.2.2.2 k2_t2

@[reducible] def k2_t3_loop (v71 : BitVec 32) (v72 : BitVec 32) : Scf.Loop 32 :=
  let v73 : BitVec 32 := Scalar.subi v72 v71
  let c1_i32_85 : BitVec 32 := 1#32
  let v75 : BitVec 32 := Scalar.divsi v73 c1_i32_85
  let v76 : BitVec 32 := Scalar.muli v75 c1_i32_85
  let v77 : BitVec 32 := Scalar.addi v71 v76
  let c1_i32_86 : BitVec 32 := 1#32
  ⟨v71, v77, c1_i32_86⟩

def k2_mult3 (v71 : BitVec 32) (v72 : BitVec 32) (k2_t3 : Fin (k2_t3_loop v71 v72).trips) : BitVec 32 :=
  let c1_i32_86 : BitVec 32 := 1#32
  let arg11 : BitVec 32 := Scf.iv v71 c1_i32_86 k2_t3
  let c128_i32 : BitVec 32 := 128#32
  let v266 : BitVec 32 := Scalar.muli arg11 c128_i32
  v266
def k2_off5 (v71 : BitVec 32) (v72 : BitVec 32) (k2_t3 : Fin (k2_t3_loop v71 v72).trips) : Fin 2 → Nat :=
  let c1_i32_86 : BitVec 32 := 1#32
  let arg11 : BitVec 32 := Scf.iv v71 c1_i32_86 k2_t3
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off6 (v71 : BitVec 32) (v72 : BitVec 32) (k2_t3 : Fin (k2_t3_loop v71 v72).trips) : Fin 2 → Nat :=
  let c1_i32_86 : BitVec 32 := 1#32
  let arg11 : BitVec 32 := Scf.iv v71 c1_i32_86 k2_t3
  let c128_i32 : BitVec 32 := 128#32
  let v266 : BitVec 32 := Scalar.muli arg11 c128_i32
  let v267 : BitVec 32 := v266
  let v293 : Index := Scalar.indexCast v267
  let c0_306 : Index := 0#32
  ![v293.toNat, 0]
@[reducible] def k2_t4_loop (v71 : BitVec 32) (v72 : BitVec 32) : Scf.Loop 32 :=
  let v73 : BitVec 32 := Scalar.subi v72 v71
  let c1_i32_85 : BitVec 32 := 1#32
  let v75 : BitVec 32 := Scalar.divsi v73 c1_i32_85
  let v76 : BitVec 32 := Scalar.muli v75 c1_i32_85
  let v77 : BitVec 32 := Scalar.addi v71 v76
  let v74 : BitVec 32 := Scalar.addi v71 v73
  let c1_i32_87 : BitVec 32 := 1#32
  ⟨v77, v74, c1_i32_87⟩
def k2_mult4 (v71 : BitVec 32) (v72 : BitVec 32) (k2_t4 : Fin (k2_t4_loop v71 v72).trips) : BitVec 32 :=
  let v73 : BitVec 32 := Scalar.subi v72 v71
  let c1_i32_85 : BitVec 32 := 1#32
  let v75 : BitVec 32 := Scalar.divsi v73 c1_i32_85
  let v76 : BitVec 32 := Scalar.muli v75 c1_i32_85
  let v77 : BitVec 32 := Scalar.addi v71 v76
  let c1_i32_87 : BitVec 32 := 1#32
  let arg11 : BitVec 32 := Scf.iv v77 c1_i32_87 k2_t4
  let c128_i32 : BitVec 32 := 128#32
  let v266 : BitVec 32 := Scalar.muli arg11 c128_i32
  v266
def k2_off7 (v71 : BitVec 32) (v72 : BitVec 32) (k2_t4 : Fin (k2_t4_loop v71 v72).trips) : Fin 2 → Nat :=
  let v73 : BitVec 32 := Scalar.subi v72 v71
  let c1_i32_85 : BitVec 32 := 1#32
  let v75 : BitVec 32 := Scalar.divsi v73 c1_i32_85
  let v76 : BitVec 32 := Scalar.muli v75 c1_i32_85
  let v77 : BitVec 32 := Scalar.addi v71 v76
  let c1_i32_87 : BitVec 32 := 1#32
  let arg11 : BitVec 32 := Scf.iv v77 c1_i32_87 k2_t4
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off8 (v71 : BitVec 32) (v72 : BitVec 32) (k2_t4 : Fin (k2_t4_loop v71 v72).trips) : Fin 2 → Nat :=
  let v73 : BitVec 32 := Scalar.subi v72 v71
  let c1_i32_85 : BitVec 32 := 1#32
  let v75 : BitVec 32 := Scalar.divsi v73 c1_i32_85
  let v76 : BitVec 32 := Scalar.muli v75 c1_i32_85
  let v77 : BitVec 32 := Scalar.addi v71 v76
  let c1_i32_87 : BitVec 32 := 1#32
  let arg11 : BitVec 32 := Scf.iv v77 c1_i32_87 k2_t4
  let c128_i32 : BitVec 32 := 128#32
  let v266 : BitVec 32 := Scalar.muli arg11 c128_i32
  let v267 : BitVec 32 := v266
  let v293 : Index := Scalar.indexCast v267
  let c0_306 : Index := 0#32
  ![v293.toNat, 0]

def k2_chk2 (v71 : BitVec 32) (v72 : BitVec 32) : Prop :=
  ((k2_t3_loop v71 v72).OK) ∧
  (∀ k2_t3 : Fin (k2_t3_loop v71 v72).trips, 128 ∣ (k2_mult3 v71 v72 k2_t3).toNat) ∧
  (∀ k2_t3 : Fin (k2_t3_loop v71 v72).trips, ∀ a, (k2_off5 v71 v72 k2_t3) a + S128x1.size a ≤ S3072x1.size a) ∧
  (∀ k2_t3 : Fin (k2_t3_loop v71 v72).trips, ∀ a, (k2_off6 v71 v72 k2_t3) a + S128x768.size a ≤ S3072x768.size a) ∧
  ((k2_t4_loop v71 v72).OK) ∧
  (∀ k2_t4 : Fin (k2_t4_loop v71 v72).trips, 128 ∣ (k2_mult4 v71 v72 k2_t4).toNat) ∧
  (∀ k2_t4 : Fin (k2_t4_loop v71 v72).trips, ∀ a, (k2_off7 v71 v72 k2_t4) a + S128x1.size a ≤ S3072x1.size a) ∧
  (∀ k2_t4 : Fin (k2_t4_loop v71 v72).trips, ∀ a, (k2_off8 v71 v72 k2_t4) a + S128x768.size a ≤ S3072x768.size a)
theorem k2_t3_ok : ∀ (v71 : BitVec 32) (v72 : BitVec 32) (k2_hw2 : k2_chk2 v71 v72), (k2_t3_loop v71 v72).OK := fun v71 v72 k2_hw2 => k2_hw2.1
theorem k2_mult3_dvd : ∀ (v71 : BitVec 32) (v72 : BitVec 32) (k2_hw2 : k2_chk2 v71 v72) (k2_t3 : Fin (k2_t3_loop v71 v72).trips), 128 ∣ (k2_mult3 v71 v72 k2_t3).toNat := fun v71 v72 k2_hw2 k2_t3 => k2_hw2.2.1 k2_t3
theorem k2_off5_inb : ∀ (v71 : BitVec 32) (v72 : BitVec 32) (k2_hw2 : k2_chk2 v71 v72) (k2_t3 : Fin (k2_t3_loop v71 v72).trips), ∀ a, (k2_off5 v71 v72 k2_t3) a + S128x1.size a ≤ S3072x1.size a := fun v71 v72 k2_hw2 k2_t3 => k2_hw2.2.2.1 k2_t3
theorem k2_off6_inb : ∀ (v71 : BitVec 32) (v72 : BitVec 32) (k2_hw2 : k2_chk2 v71 v72) (k2_t3 : Fin (k2_t3_loop v71 v72).trips), ∀ a, (k2_off6 v71 v72 k2_t3) a + S128x768.size a ≤ S3072x768.size a := fun v71 v72 k2_hw2 k2_t3 => k2_hw2.2.2.2.1 k2_t3
theorem k2_t4_ok : ∀ (v71 : BitVec 32) (v72 : BitVec 32) (k2_hw2 : k2_chk2 v71 v72), (k2_t4_loop v71 v72).OK := fun v71 v72 k2_hw2 => k2_hw2.2.2.2.2.1
theorem k2_mult4_dvd : ∀ (v71 : BitVec 32) (v72 : BitVec 32) (k2_hw2 : k2_chk2 v71 v72) (k2_t4 : Fin (k2_t4_loop v71 v72).trips), 128 ∣ (k2_mult4 v71 v72 k2_t4).toNat := fun v71 v72 k2_hw2 k2_t4 => k2_hw2.2.2.2.2.2.1 k2_t4
theorem k2_off7_inb : ∀ (v71 : BitVec 32) (v72 : BitVec 32) (k2_hw2 : k2_chk2 v71 v72) (k2_t4 : Fin (k2_t4_loop v71 v72).trips), ∀ a, (k2_off7 v71 v72 k2_t4) a + S128x1.size a ≤ S3072x1.size a := fun v71 v72 k2_hw2 k2_t4 => k2_hw2.2.2.2.2.2.2.1 k2_t4
theorem k2_off8_inb : ∀ (v71 : BitVec 32) (v72 : BitVec 32) (k2_hw2 : k2_chk2 v71 v72) (k2_t4 : Fin (k2_t4_loop v71 v72).trips), ∀ a, (k2_off8 v71 v72 k2_t4) a + S128x768.size a ≤ S3072x768.size a := fun v71 v72 k2_hw2 k2_t4 => k2_hw2.2.2.2.2.2.2.2 k2_t4

@[reducible] def k2_t5_loop (v104 : BitVec 32) (v105 : BitVec 32) : Scf.Loop 32 :=
  let v106 : BitVec 32 := Scalar.subi v105 v104
  let c1_i32_121 : BitVec 32 := 1#32
  let v108 : BitVec 32 := Scalar.divsi v106 c1_i32_121
  let v109 : BitVec 32 := Scalar.muli v108 c1_i32_121
  let v110 : BitVec 32 := Scalar.addi v104 v109
  let c1_i32_122 : BitVec 32 := 1#32
  ⟨v104, v110, c1_i32_122⟩

def k2_mult5 (v104 : BitVec 32) (v105 : BitVec 32) (k2_t5 : Fin (k2_t5_loop v104 v105).trips) : BitVec 32 :=
  let c1_i32_122 : BitVec 32 := 1#32
  let arg11 : BitVec 32 := Scf.iv v104 c1_i32_122 k2_t5
  let c128_i32 : BitVec 32 := 128#32
  let v266 : BitVec 32 := Scalar.muli arg11 c128_i32
  v266
def k2_off9 (v104 : BitVec 32) (v105 : BitVec 32) (k2_t5 : Fin (k2_t5_loop v104 v105).trips) : Fin 2 → Nat :=
  let c1_i32_122 : BitVec 32 := 1#32
  let arg11 : BitVec 32 := Scf.iv v104 c1_i32_122 k2_t5
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off10 (v104 : BitVec 32) (v105 : BitVec 32) (k2_t5 : Fin (k2_t5_loop v104 v105).trips) : Fin 2 → Nat :=
  let c1_i32_122 : BitVec 32 := 1#32
  let arg11 : BitVec 32 := Scf.iv v104 c1_i32_122 k2_t5
  let c128_i32 : BitVec 32 := 128#32
  let v266 : BitVec 32 := Scalar.muli arg11 c128_i32
  let v267 : BitVec 32 := v266
  let v293 : Index := Scalar.indexCast v267
  let c0_306 : Index := 0#32
  ![v293.toNat, 0]
@[reducible] def k2_t6_loop (v104 : BitVec 32) (v105 : BitVec 32) : Scf.Loop 32 :=
  let v106 : BitVec 32 := Scalar.subi v105 v104
  let c1_i32_121 : BitVec 32 := 1#32
  let v108 : BitVec 32 := Scalar.divsi v106 c1_i32_121
  let v109 : BitVec 32 := Scalar.muli v108 c1_i32_121
  let v110 : BitVec 32 := Scalar.addi v104 v109
  let v107 : BitVec 32 := Scalar.addi v104 v106
  let c1_i32_123 : BitVec 32 := 1#32
  ⟨v110, v107, c1_i32_123⟩
def k2_mult6 (v104 : BitVec 32) (v105 : BitVec 32) (k2_t6 : Fin (k2_t6_loop v104 v105).trips) : BitVec 32 :=
  let v106 : BitVec 32 := Scalar.subi v105 v104
  let c1_i32_121 : BitVec 32 := 1#32
  let v108 : BitVec 32 := Scalar.divsi v106 c1_i32_121
  let v109 : BitVec 32 := Scalar.muli v108 c1_i32_121
  let v110 : BitVec 32 := Scalar.addi v104 v109
  let c1_i32_123 : BitVec 32 := 1#32
  let arg11 : BitVec 32 := Scf.iv v110 c1_i32_123 k2_t6
  let c128_i32 : BitVec 32 := 128#32
  let v266 : BitVec 32 := Scalar.muli arg11 c128_i32
  v266
def k2_off11 (v104 : BitVec 32) (v105 : BitVec 32) (k2_t6 : Fin (k2_t6_loop v104 v105).trips) : Fin 2 → Nat :=
  let v106 : BitVec 32 := Scalar.subi v105 v104
  let c1_i32_121 : BitVec 32 := 1#32
  let v108 : BitVec 32 := Scalar.divsi v106 c1_i32_121
  let v109 : BitVec 32 := Scalar.muli v108 c1_i32_121
  let v110 : BitVec 32 := Scalar.addi v104 v109
  let c1_i32_123 : BitVec 32 := 1#32
  let arg11 : BitVec 32 := Scf.iv v110 c1_i32_123 k2_t6
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off12 (v104 : BitVec 32) (v105 : BitVec 32) (k2_t6 : Fin (k2_t6_loop v104 v105).trips) : Fin 2 → Nat :=
  let v106 : BitVec 32 := Scalar.subi v105 v104
  let c1_i32_121 : BitVec 32 := 1#32
  let v108 : BitVec 32 := Scalar.divsi v106 c1_i32_121
  let v109 : BitVec 32 := Scalar.muli v108 c1_i32_121
  let v110 : BitVec 32 := Scalar.addi v104 v109
  let c1_i32_123 : BitVec 32 := 1#32
  let arg11 : BitVec 32 := Scf.iv v110 c1_i32_123 k2_t6
  let c128_i32 : BitVec 32 := 128#32
  let v266 : BitVec 32 := Scalar.muli arg11 c128_i32
  let v267 : BitVec 32 := v266
  let v293 : Index := Scalar.indexCast v267
  let c0_306 : Index := 0#32
  ![v293.toNat, 0]

def k2_chk3 (v104 : BitVec 32) (v105 : BitVec 32) : Prop :=
  ((k2_t5_loop v104 v105).OK) ∧
  (∀ k2_t5 : Fin (k2_t5_loop v104 v105).trips, 128 ∣ (k2_mult5 v104 v105 k2_t5).toNat) ∧
  (∀ k2_t5 : Fin (k2_t5_loop v104 v105).trips, ∀ a, (k2_off9 v104 v105 k2_t5) a + S128x1.size a ≤ S3072x1.size a) ∧
  (∀ k2_t5 : Fin (k2_t5_loop v104 v105).trips, ∀ a, (k2_off10 v104 v105 k2_t5) a + S128x768.size a ≤ S3072x768.size a) ∧
  ((k2_t6_loop v104 v105).OK) ∧
  (∀ k2_t6 : Fin (k2_t6_loop v104 v105).trips, 128 ∣ (k2_mult6 v104 v105 k2_t6).toNat) ∧
  (∀ k2_t6 : Fin (k2_t6_loop v104 v105).trips, ∀ a, (k2_off11 v104 v105 k2_t6) a + S128x1.size a ≤ S3072x1.size a) ∧
  (∀ k2_t6 : Fin (k2_t6_loop v104 v105).trips, ∀ a, (k2_off12 v104 v105 k2_t6) a + S128x768.size a ≤ S3072x768.size a)
theorem k2_t5_ok : ∀ (v104 : BitVec 32) (v105 : BitVec 32) (k2_hw3 : k2_chk3 v104 v105), (k2_t5_loop v104 v105).OK := fun v104 v105 k2_hw3 => k2_hw3.1
theorem k2_mult5_dvd : ∀ (v104 : BitVec 32) (v105 : BitVec 32) (k2_hw3 : k2_chk3 v104 v105) (k2_t5 : Fin (k2_t5_loop v104 v105).trips), 128 ∣ (k2_mult5 v104 v105 k2_t5).toNat := fun v104 v105 k2_hw3 k2_t5 => k2_hw3.2.1 k2_t5
theorem k2_off9_inb : ∀ (v104 : BitVec 32) (v105 : BitVec 32) (k2_hw3 : k2_chk3 v104 v105) (k2_t5 : Fin (k2_t5_loop v104 v105).trips), ∀ a, (k2_off9 v104 v105 k2_t5) a + S128x1.size a ≤ S3072x1.size a := fun v104 v105 k2_hw3 k2_t5 => k2_hw3.2.2.1 k2_t5
theorem k2_off10_inb : ∀ (v104 : BitVec 32) (v105 : BitVec 32) (k2_hw3 : k2_chk3 v104 v105) (k2_t5 : Fin (k2_t5_loop v104 v105).trips), ∀ a, (k2_off10 v104 v105 k2_t5) a + S128x768.size a ≤ S3072x768.size a := fun v104 v105 k2_hw3 k2_t5 => k2_hw3.2.2.2.1 k2_t5
theorem k2_t6_ok : ∀ (v104 : BitVec 32) (v105 : BitVec 32) (k2_hw3 : k2_chk3 v104 v105), (k2_t6_loop v104 v105).OK := fun v104 v105 k2_hw3 => k2_hw3.2.2.2.2.1
theorem k2_mult6_dvd : ∀ (v104 : BitVec 32) (v105 : BitVec 32) (k2_hw3 : k2_chk3 v104 v105) (k2_t6 : Fin (k2_t6_loop v104 v105).trips), 128 ∣ (k2_mult6 v104 v105 k2_t6).toNat := fun v104 v105 k2_hw3 k2_t6 => k2_hw3.2.2.2.2.2.1 k2_t6
theorem k2_off11_inb : ∀ (v104 : BitVec 32) (v105 : BitVec 32) (k2_hw3 : k2_chk3 v104 v105) (k2_t6 : Fin (k2_t6_loop v104 v105).trips), ∀ a, (k2_off11 v104 v105 k2_t6) a + S128x1.size a ≤ S3072x1.size a := fun v104 v105 k2_hw3 k2_t6 => k2_hw3.2.2.2.2.2.2.1 k2_t6
theorem k2_off12_inb : ∀ (v104 : BitVec 32) (v105 : BitVec 32) (k2_hw3 : k2_chk3 v104 v105) (k2_t6 : Fin (k2_t6_loop v104 v105).trips), ∀ a, (k2_off12 v104 v105 k2_t6) a + S128x768.size a ≤ S3072x768.size a := fun v104 v105 k2_hw3 k2_t6 => k2_hw3.2.2.2.2.2.2.2 k2_t6

@[reducible] def k2_t7_loop (v137 : BitVec 32) (v138 : BitVec 32) : Scf.Loop 32 :=
  let v139 : BitVec 32 := Scalar.subi v138 v137
  let c1_i32_157 : BitVec 32 := 1#32
  let v141 : BitVec 32 := Scalar.divsi v139 c1_i32_157
  let v142 : BitVec 32 := Scalar.muli v141 c1_i32_157
  let v143 : BitVec 32 := Scalar.addi v137 v142
  let c1_i32_158 : BitVec 32 := 1#32
  ⟨v137, v143, c1_i32_158⟩

def k2_mult7 (v137 : BitVec 32) (v138 : BitVec 32) (k2_t7 : Fin (k2_t7_loop v137 v138).trips) : BitVec 32 :=
  let c1_i32_158 : BitVec 32 := 1#32
  let arg11 : BitVec 32 := Scf.iv v137 c1_i32_158 k2_t7
  let c128_i32 : BitVec 32 := 128#32
  let v266 : BitVec 32 := Scalar.muli arg11 c128_i32
  v266
def k2_off13 (v137 : BitVec 32) (v138 : BitVec 32) (k2_t7 : Fin (k2_t7_loop v137 v138).trips) : Fin 2 → Nat :=
  let c1_i32_158 : BitVec 32 := 1#32
  let arg11 : BitVec 32 := Scf.iv v137 c1_i32_158 k2_t7
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off14 (v137 : BitVec 32) (v138 : BitVec 32) (k2_t7 : Fin (k2_t7_loop v137 v138).trips) : Fin 2 → Nat :=
  let c1_i32_158 : BitVec 32 := 1#32
  let arg11 : BitVec 32 := Scf.iv v137 c1_i32_158 k2_t7
  let c128_i32 : BitVec 32 := 128#32
  let v266 : BitVec 32 := Scalar.muli arg11 c128_i32
  let v267 : BitVec 32 := v266
  let v293 : Index := Scalar.indexCast v267
  let c0_306 : Index := 0#32
  ![v293.toNat, 0]
@[reducible] def k2_t8_loop (v137 : BitVec 32) (v138 : BitVec 32) : Scf.Loop 32 :=
  let v139 : BitVec 32 := Scalar.subi v138 v137
  let c1_i32_157 : BitVec 32 := 1#32
  let v141 : BitVec 32 := Scalar.divsi v139 c1_i32_157
  let v142 : BitVec 32 := Scalar.muli v141 c1_i32_157
  let v143 : BitVec 32 := Scalar.addi v137 v142
  let v140 : BitVec 32 := Scalar.addi v137 v139
  let c1_i32_159 : BitVec 32 := 1#32
  ⟨v143, v140, c1_i32_159⟩
def k2_mult8 (v137 : BitVec 32) (v138 : BitVec 32) (k2_t8 : Fin (k2_t8_loop v137 v138).trips) : BitVec 32 :=
  let v139 : BitVec 32 := Scalar.subi v138 v137
  let c1_i32_157 : BitVec 32 := 1#32
  let v141 : BitVec 32 := Scalar.divsi v139 c1_i32_157
  let v142 : BitVec 32 := Scalar.muli v141 c1_i32_157
  let v143 : BitVec 32 := Scalar.addi v137 v142
  let c1_i32_159 : BitVec 32 := 1#32
  let arg11 : BitVec 32 := Scf.iv v143 c1_i32_159 k2_t8
  let c128_i32 : BitVec 32 := 128#32
  let v266 : BitVec 32 := Scalar.muli arg11 c128_i32
  v266
def k2_off15 (v137 : BitVec 32) (v138 : BitVec 32) (k2_t8 : Fin (k2_t8_loop v137 v138).trips) : Fin 2 → Nat :=
  let v139 : BitVec 32 := Scalar.subi v138 v137
  let c1_i32_157 : BitVec 32 := 1#32
  let v141 : BitVec 32 := Scalar.divsi v139 c1_i32_157
  let v142 : BitVec 32 := Scalar.muli v141 c1_i32_157
  let v143 : BitVec 32 := Scalar.addi v137 v142
  let c1_i32_159 : BitVec 32 := 1#32
  let arg11 : BitVec 32 := Scf.iv v143 c1_i32_159 k2_t8
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off16 (v137 : BitVec 32) (v138 : BitVec 32) (k2_t8 : Fin (k2_t8_loop v137 v138).trips) : Fin 2 → Nat :=
  let v139 : BitVec 32 := Scalar.subi v138 v137
  let c1_i32_157 : BitVec 32 := 1#32
  let v141 : BitVec 32 := Scalar.divsi v139 c1_i32_157
  let v142 : BitVec 32 := Scalar.muli v141 c1_i32_157
  let v143 : BitVec 32 := Scalar.addi v137 v142
  let c1_i32_159 : BitVec 32 := 1#32
  let arg11 : BitVec 32 := Scf.iv v143 c1_i32_159 k2_t8
  let c128_i32 : BitVec 32 := 128#32
  let v266 : BitVec 32 := Scalar.muli arg11 c128_i32
  let v267 : BitVec 32 := v266
  let v293 : Index := Scalar.indexCast v267
  let c0_306 : Index := 0#32
  ![v293.toNat, 0]

def k2_chk4 (v137 : BitVec 32) (v138 : BitVec 32) : Prop :=
  ((k2_t7_loop v137 v138).OK) ∧
  (∀ k2_t7 : Fin (k2_t7_loop v137 v138).trips, 128 ∣ (k2_mult7 v137 v138 k2_t7).toNat) ∧
  (∀ k2_t7 : Fin (k2_t7_loop v137 v138).trips, ∀ a, (k2_off13 v137 v138 k2_t7) a + S128x1.size a ≤ S3072x1.size a) ∧
  (∀ k2_t7 : Fin (k2_t7_loop v137 v138).trips, ∀ a, (k2_off14 v137 v138 k2_t7) a + S128x768.size a ≤ S3072x768.size a) ∧
  ((k2_t8_loop v137 v138).OK) ∧
  (∀ k2_t8 : Fin (k2_t8_loop v137 v138).trips, 128 ∣ (k2_mult8 v137 v138 k2_t8).toNat) ∧
  (∀ k2_t8 : Fin (k2_t8_loop v137 v138).trips, ∀ a, (k2_off15 v137 v138 k2_t8) a + S128x1.size a ≤ S3072x1.size a) ∧
  (∀ k2_t8 : Fin (k2_t8_loop v137 v138).trips, ∀ a, (k2_off16 v137 v138 k2_t8) a + S128x768.size a ≤ S3072x768.size a)
theorem k2_t7_ok : ∀ (v137 : BitVec 32) (v138 : BitVec 32) (k2_hw4 : k2_chk4 v137 v138), (k2_t7_loop v137 v138).OK := fun v137 v138 k2_hw4 => k2_hw4.1
theorem k2_mult7_dvd : ∀ (v137 : BitVec 32) (v138 : BitVec 32) (k2_hw4 : k2_chk4 v137 v138) (k2_t7 : Fin (k2_t7_loop v137 v138).trips), 128 ∣ (k2_mult7 v137 v138 k2_t7).toNat := fun v137 v138 k2_hw4 k2_t7 => k2_hw4.2.1 k2_t7
theorem k2_off13_inb : ∀ (v137 : BitVec 32) (v138 : BitVec 32) (k2_hw4 : k2_chk4 v137 v138) (k2_t7 : Fin (k2_t7_loop v137 v138).trips), ∀ a, (k2_off13 v137 v138 k2_t7) a + S128x1.size a ≤ S3072x1.size a := fun v137 v138 k2_hw4 k2_t7 => k2_hw4.2.2.1 k2_t7
theorem k2_off14_inb : ∀ (v137 : BitVec 32) (v138 : BitVec 32) (k2_hw4 : k2_chk4 v137 v138) (k2_t7 : Fin (k2_t7_loop v137 v138).trips), ∀ a, (k2_off14 v137 v138 k2_t7) a + S128x768.size a ≤ S3072x768.size a := fun v137 v138 k2_hw4 k2_t7 => k2_hw4.2.2.2.1 k2_t7
theorem k2_t8_ok : ∀ (v137 : BitVec 32) (v138 : BitVec 32) (k2_hw4 : k2_chk4 v137 v138), (k2_t8_loop v137 v138).OK := fun v137 v138 k2_hw4 => k2_hw4.2.2.2.2.1
theorem k2_mult8_dvd : ∀ (v137 : BitVec 32) (v138 : BitVec 32) (k2_hw4 : k2_chk4 v137 v138) (k2_t8 : Fin (k2_t8_loop v137 v138).trips), 128 ∣ (k2_mult8 v137 v138 k2_t8).toNat := fun v137 v138 k2_hw4 k2_t8 => k2_hw4.2.2.2.2.2.1 k2_t8
theorem k2_off15_inb : ∀ (v137 : BitVec 32) (v138 : BitVec 32) (k2_hw4 : k2_chk4 v137 v138) (k2_t8 : Fin (k2_t8_loop v137 v138).trips), ∀ a, (k2_off15 v137 v138 k2_t8) a + S128x1.size a ≤ S3072x1.size a := fun v137 v138 k2_hw4 k2_t8 => k2_hw4.2.2.2.2.2.2.1 k2_t8
theorem k2_off16_inb : ∀ (v137 : BitVec 32) (v138 : BitVec 32) (k2_hw4 : k2_chk4 v137 v138) (k2_t8 : Fin (k2_t8_loop v137 v138).trips), ∀ a, (k2_off16 v137 v138 k2_t8) a + S128x768.size a ≤ S3072x768.size a := fun v137 v138 k2_hw4 k2_t8 => k2_hw4.2.2.2.2.2.2.2 k2_t8

@[reducible] def k2_t9_loop (v170 : BitVec 32) (v171 : BitVec 32) : Scf.Loop 32 :=
  let v172 : BitVec 32 := Scalar.subi v171 v170
  let c1_i32_193 : BitVec 32 := 1#32
  let v174 : BitVec 32 := Scalar.divsi v172 c1_i32_193
  let v175 : BitVec 32 := Scalar.muli v174 c1_i32_193
  let v176 : BitVec 32 := Scalar.addi v170 v175
  let c1_i32_194 : BitVec 32 := 1#32
  ⟨v170, v176, c1_i32_194⟩

def k2_mult9 (v170 : BitVec 32) (v171 : BitVec 32) (k2_t9 : Fin (k2_t9_loop v170 v171).trips) : BitVec 32 :=
  let c1_i32_194 : BitVec 32 := 1#32
  let arg11 : BitVec 32 := Scf.iv v170 c1_i32_194 k2_t9
  let c128_i32 : BitVec 32 := 128#32
  let v266 : BitVec 32 := Scalar.muli arg11 c128_i32
  v266
def k2_off17 (v170 : BitVec 32) (v171 : BitVec 32) (k2_t9 : Fin (k2_t9_loop v170 v171).trips) : Fin 2 → Nat :=
  let c1_i32_194 : BitVec 32 := 1#32
  let arg11 : BitVec 32 := Scf.iv v170 c1_i32_194 k2_t9
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off18 (v170 : BitVec 32) (v171 : BitVec 32) (k2_t9 : Fin (k2_t9_loop v170 v171).trips) : Fin 2 → Nat :=
  let c1_i32_194 : BitVec 32 := 1#32
  let arg11 : BitVec 32 := Scf.iv v170 c1_i32_194 k2_t9
  let c128_i32 : BitVec 32 := 128#32
  let v266 : BitVec 32 := Scalar.muli arg11 c128_i32
  let v267 : BitVec 32 := v266
  let v293 : Index := Scalar.indexCast v267
  let c0_306 : Index := 0#32
  ![v293.toNat, 0]
@[reducible] def k2_t10_loop (v170 : BitVec 32) (v171 : BitVec 32) : Scf.Loop 32 :=
  let v172 : BitVec 32 := Scalar.subi v171 v170
  let c1_i32_193 : BitVec 32 := 1#32
  let v174 : BitVec 32 := Scalar.divsi v172 c1_i32_193
  let v175 : BitVec 32 := Scalar.muli v174 c1_i32_193
  let v176 : BitVec 32 := Scalar.addi v170 v175
  let v173 : BitVec 32 := Scalar.addi v170 v172
  let c1_i32_195 : BitVec 32 := 1#32
  ⟨v176, v173, c1_i32_195⟩
def k2_mult10 (v170 : BitVec 32) (v171 : BitVec 32) (k2_t10 : Fin (k2_t10_loop v170 v171).trips) : BitVec 32 :=
  let v172 : BitVec 32 := Scalar.subi v171 v170
  let c1_i32_193 : BitVec 32 := 1#32
  let v174 : BitVec 32 := Scalar.divsi v172 c1_i32_193
  let v175 : BitVec 32 := Scalar.muli v174 c1_i32_193
  let v176 : BitVec 32 := Scalar.addi v170 v175
  let c1_i32_195 : BitVec 32 := 1#32
  let arg11 : BitVec 32 := Scf.iv v176 c1_i32_195 k2_t10
  let c128_i32 : BitVec 32 := 128#32
  let v266 : BitVec 32 := Scalar.muli arg11 c128_i32
  v266
def k2_off19 (v170 : BitVec 32) (v171 : BitVec 32) (k2_t10 : Fin (k2_t10_loop v170 v171).trips) : Fin 2 → Nat :=
  let v172 : BitVec 32 := Scalar.subi v171 v170
  let c1_i32_193 : BitVec 32 := 1#32
  let v174 : BitVec 32 := Scalar.divsi v172 c1_i32_193
  let v175 : BitVec 32 := Scalar.muli v174 c1_i32_193
  let v176 : BitVec 32 := Scalar.addi v170 v175
  let c1_i32_195 : BitVec 32 := 1#32
  let arg11 : BitVec 32 := Scf.iv v176 c1_i32_195 k2_t10
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off20 (v170 : BitVec 32) (v171 : BitVec 32) (k2_t10 : Fin (k2_t10_loop v170 v171).trips) : Fin 2 → Nat :=
  let v172 : BitVec 32 := Scalar.subi v171 v170
  let c1_i32_193 : BitVec 32 := 1#32
  let v174 : BitVec 32 := Scalar.divsi v172 c1_i32_193
  let v175 : BitVec 32 := Scalar.muli v174 c1_i32_193
  let v176 : BitVec 32 := Scalar.addi v170 v175
  let c1_i32_195 : BitVec 32 := 1#32
  let arg11 : BitVec 32 := Scf.iv v176 c1_i32_195 k2_t10
  let c128_i32 : BitVec 32 := 128#32
  let v266 : BitVec 32 := Scalar.muli arg11 c128_i32
  let v267 : BitVec 32 := v266
  let v293 : Index := Scalar.indexCast v267
  let c0_306 : Index := 0#32
  ![v293.toNat, 0]

def k2_chk5 (v170 : BitVec 32) (v171 : BitVec 32) : Prop :=
  ((k2_t9_loop v170 v171).OK) ∧
  (∀ k2_t9 : Fin (k2_t9_loop v170 v171).trips, 128 ∣ (k2_mult9 v170 v171 k2_t9).toNat) ∧
  (∀ k2_t9 : Fin (k2_t9_loop v170 v171).trips, ∀ a, (k2_off17 v170 v171 k2_t9) a + S128x1.size a ≤ S3072x1.size a) ∧
  (∀ k2_t9 : Fin (k2_t9_loop v170 v171).trips, ∀ a, (k2_off18 v170 v171 k2_t9) a + S128x768.size a ≤ S3072x768.size a) ∧
  ((k2_t10_loop v170 v171).OK) ∧
  (∀ k2_t10 : Fin (k2_t10_loop v170 v171).trips, 128 ∣ (k2_mult10 v170 v171 k2_t10).toNat) ∧
  (∀ k2_t10 : Fin (k2_t10_loop v170 v171).trips, ∀ a, (k2_off19 v170 v171 k2_t10) a + S128x1.size a ≤ S3072x1.size a) ∧
  (∀ k2_t10 : Fin (k2_t10_loop v170 v171).trips, ∀ a, (k2_off20 v170 v171 k2_t10) a + S128x768.size a ≤ S3072x768.size a)
theorem k2_t9_ok : ∀ (v170 : BitVec 32) (v171 : BitVec 32) (k2_hw5 : k2_chk5 v170 v171), (k2_t9_loop v170 v171).OK := fun v170 v171 k2_hw5 => k2_hw5.1
theorem k2_mult9_dvd : ∀ (v170 : BitVec 32) (v171 : BitVec 32) (k2_hw5 : k2_chk5 v170 v171) (k2_t9 : Fin (k2_t9_loop v170 v171).trips), 128 ∣ (k2_mult9 v170 v171 k2_t9).toNat := fun v170 v171 k2_hw5 k2_t9 => k2_hw5.2.1 k2_t9
theorem k2_off17_inb : ∀ (v170 : BitVec 32) (v171 : BitVec 32) (k2_hw5 : k2_chk5 v170 v171) (k2_t9 : Fin (k2_t9_loop v170 v171).trips), ∀ a, (k2_off17 v170 v171 k2_t9) a + S128x1.size a ≤ S3072x1.size a := fun v170 v171 k2_hw5 k2_t9 => k2_hw5.2.2.1 k2_t9
theorem k2_off18_inb : ∀ (v170 : BitVec 32) (v171 : BitVec 32) (k2_hw5 : k2_chk5 v170 v171) (k2_t9 : Fin (k2_t9_loop v170 v171).trips), ∀ a, (k2_off18 v170 v171 k2_t9) a + S128x768.size a ≤ S3072x768.size a := fun v170 v171 k2_hw5 k2_t9 => k2_hw5.2.2.2.1 k2_t9
theorem k2_t10_ok : ∀ (v170 : BitVec 32) (v171 : BitVec 32) (k2_hw5 : k2_chk5 v170 v171), (k2_t10_loop v170 v171).OK := fun v170 v171 k2_hw5 => k2_hw5.2.2.2.2.1
theorem k2_mult10_dvd : ∀ (v170 : BitVec 32) (v171 : BitVec 32) (k2_hw5 : k2_chk5 v170 v171) (k2_t10 : Fin (k2_t10_loop v170 v171).trips), 128 ∣ (k2_mult10 v170 v171 k2_t10).toNat := fun v170 v171 k2_hw5 k2_t10 => k2_hw5.2.2.2.2.2.1 k2_t10
theorem k2_off19_inb : ∀ (v170 : BitVec 32) (v171 : BitVec 32) (k2_hw5 : k2_chk5 v170 v171) (k2_t10 : Fin (k2_t10_loop v170 v171).trips), ∀ a, (k2_off19 v170 v171 k2_t10) a + S128x1.size a ≤ S3072x1.size a := fun v170 v171 k2_hw5 k2_t10 => k2_hw5.2.2.2.2.2.2.1 k2_t10
theorem k2_off20_inb : ∀ (v170 : BitVec 32) (v171 : BitVec 32) (k2_hw5 : k2_chk5 v170 v171) (k2_t10 : Fin (k2_t10_loop v170 v171).trips), ∀ a, (k2_off20 v170 v171 k2_t10) a + S128x768.size a ≤ S3072x768.size a := fun v170 v171 k2_hw5 k2_t10 => k2_hw5.2.2.2.2.2.2.2 k2_t10

@[reducible] def k2_t11_loop (v203 : BitVec 32) (v204 : BitVec 32) : Scf.Loop 32 :=
  let v205 : BitVec 32 := Scalar.subi v204 v203
  let c1_i32_229 : BitVec 32 := 1#32
  let v207 : BitVec 32 := Scalar.divsi v205 c1_i32_229
  let v208 : BitVec 32 := Scalar.muli v207 c1_i32_229
  let v209 : BitVec 32 := Scalar.addi v203 v208
  let c1_i32_230 : BitVec 32 := 1#32
  ⟨v203, v209, c1_i32_230⟩

def k2_mult11 (v203 : BitVec 32) (v204 : BitVec 32) (k2_t11 : Fin (k2_t11_loop v203 v204).trips) : BitVec 32 :=
  let c1_i32_230 : BitVec 32 := 1#32
  let arg11 : BitVec 32 := Scf.iv v203 c1_i32_230 k2_t11
  let c128_i32 : BitVec 32 := 128#32
  let v266 : BitVec 32 := Scalar.muli arg11 c128_i32
  v266
def k2_off21 (v203 : BitVec 32) (v204 : BitVec 32) (k2_t11 : Fin (k2_t11_loop v203 v204).trips) : Fin 2 → Nat :=
  let c1_i32_230 : BitVec 32 := 1#32
  let arg11 : BitVec 32 := Scf.iv v203 c1_i32_230 k2_t11
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off22 (v203 : BitVec 32) (v204 : BitVec 32) (k2_t11 : Fin (k2_t11_loop v203 v204).trips) : Fin 2 → Nat :=
  let c1_i32_230 : BitVec 32 := 1#32
  let arg11 : BitVec 32 := Scf.iv v203 c1_i32_230 k2_t11
  let c128_i32 : BitVec 32 := 128#32
  let v266 : BitVec 32 := Scalar.muli arg11 c128_i32
  let v267 : BitVec 32 := v266
  let v293 : Index := Scalar.indexCast v267
  let c0_306 : Index := 0#32
  ![v293.toNat, 0]
@[reducible] def k2_t12_loop (v203 : BitVec 32) (v204 : BitVec 32) : Scf.Loop 32 :=
  let v205 : BitVec 32 := Scalar.subi v204 v203
  let c1_i32_229 : BitVec 32 := 1#32
  let v207 : BitVec 32 := Scalar.divsi v205 c1_i32_229
  let v208 : BitVec 32 := Scalar.muli v207 c1_i32_229
  let v209 : BitVec 32 := Scalar.addi v203 v208
  let v206 : BitVec 32 := Scalar.addi v203 v205
  let c1_i32_231 : BitVec 32 := 1#32
  ⟨v209, v206, c1_i32_231⟩
def k2_mult12 (v203 : BitVec 32) (v204 : BitVec 32) (k2_t12 : Fin (k2_t12_loop v203 v204).trips) : BitVec 32 :=
  let v205 : BitVec 32 := Scalar.subi v204 v203
  let c1_i32_229 : BitVec 32 := 1#32
  let v207 : BitVec 32 := Scalar.divsi v205 c1_i32_229
  let v208 : BitVec 32 := Scalar.muli v207 c1_i32_229
  let v209 : BitVec 32 := Scalar.addi v203 v208
  let c1_i32_231 : BitVec 32 := 1#32
  let arg11 : BitVec 32 := Scf.iv v209 c1_i32_231 k2_t12
  let c128_i32 : BitVec 32 := 128#32
  let v266 : BitVec 32 := Scalar.muli arg11 c128_i32
  v266
def k2_off23 (v203 : BitVec 32) (v204 : BitVec 32) (k2_t12 : Fin (k2_t12_loop v203 v204).trips) : Fin 2 → Nat :=
  let v205 : BitVec 32 := Scalar.subi v204 v203
  let c1_i32_229 : BitVec 32 := 1#32
  let v207 : BitVec 32 := Scalar.divsi v205 c1_i32_229
  let v208 : BitVec 32 := Scalar.muli v207 c1_i32_229
  let v209 : BitVec 32 := Scalar.addi v203 v208
  let c1_i32_231 : BitVec 32 := 1#32
  let arg11 : BitVec 32 := Scf.iv v209 c1_i32_231 k2_t12
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off24 (v203 : BitVec 32) (v204 : BitVec 32) (k2_t12 : Fin (k2_t12_loop v203 v204).trips) : Fin 2 → Nat :=
  let v205 : BitVec 32 := Scalar.subi v204 v203
  let c1_i32_229 : BitVec 32 := 1#32
  let v207 : BitVec 32 := Scalar.divsi v205 c1_i32_229
  let v208 : BitVec 32 := Scalar.muli v207 c1_i32_229
  let v209 : BitVec 32 := Scalar.addi v203 v208
  let c1_i32_231 : BitVec 32 := 1#32
  let arg11 : BitVec 32 := Scf.iv v209 c1_i32_231 k2_t12
  let c128_i32 : BitVec 32 := 128#32
  let v266 : BitVec 32 := Scalar.muli arg11 c128_i32
  let v267 : BitVec 32 := v266
  let v293 : Index := Scalar.indexCast v267
  let c0_306 : Index := 0#32
  ![v293.toNat, 0]

def k2_chk6 (v203 : BitVec 32) (v204 : BitVec 32) : Prop :=
  ((k2_t11_loop v203 v204).OK) ∧
  (∀ k2_t11 : Fin (k2_t11_loop v203 v204).trips, 128 ∣ (k2_mult11 v203 v204 k2_t11).toNat) ∧
  (∀ k2_t11 : Fin (k2_t11_loop v203 v204).trips, ∀ a, (k2_off21 v203 v204 k2_t11) a + S128x1.size a ≤ S3072x1.size a) ∧
  (∀ k2_t11 : Fin (k2_t11_loop v203 v204).trips, ∀ a, (k2_off22 v203 v204 k2_t11) a + S128x768.size a ≤ S3072x768.size a) ∧
  ((k2_t12_loop v203 v204).OK) ∧
  (∀ k2_t12 : Fin (k2_t12_loop v203 v204).trips, 128 ∣ (k2_mult12 v203 v204 k2_t12).toNat) ∧
  (∀ k2_t12 : Fin (k2_t12_loop v203 v204).trips, ∀ a, (k2_off23 v203 v204 k2_t12) a + S128x1.size a ≤ S3072x1.size a) ∧
  (∀ k2_t12 : Fin (k2_t12_loop v203 v204).trips, ∀ a, (k2_off24 v203 v204 k2_t12) a + S128x768.size a ≤ S3072x768.size a)
theorem k2_t11_ok : ∀ (v203 : BitVec 32) (v204 : BitVec 32) (k2_hw6 : k2_chk6 v203 v204), (k2_t11_loop v203 v204).OK := fun v203 v204 k2_hw6 => k2_hw6.1
theorem k2_mult11_dvd : ∀ (v203 : BitVec 32) (v204 : BitVec 32) (k2_hw6 : k2_chk6 v203 v204) (k2_t11 : Fin (k2_t11_loop v203 v204).trips), 128 ∣ (k2_mult11 v203 v204 k2_t11).toNat := fun v203 v204 k2_hw6 k2_t11 => k2_hw6.2.1 k2_t11
theorem k2_off21_inb : ∀ (v203 : BitVec 32) (v204 : BitVec 32) (k2_hw6 : k2_chk6 v203 v204) (k2_t11 : Fin (k2_t11_loop v203 v204).trips), ∀ a, (k2_off21 v203 v204 k2_t11) a + S128x1.size a ≤ S3072x1.size a := fun v203 v204 k2_hw6 k2_t11 => k2_hw6.2.2.1 k2_t11
theorem k2_off22_inb : ∀ (v203 : BitVec 32) (v204 : BitVec 32) (k2_hw6 : k2_chk6 v203 v204) (k2_t11 : Fin (k2_t11_loop v203 v204).trips), ∀ a, (k2_off22 v203 v204 k2_t11) a + S128x768.size a ≤ S3072x768.size a := fun v203 v204 k2_hw6 k2_t11 => k2_hw6.2.2.2.1 k2_t11
theorem k2_t12_ok : ∀ (v203 : BitVec 32) (v204 : BitVec 32) (k2_hw6 : k2_chk6 v203 v204), (k2_t12_loop v203 v204).OK := fun v203 v204 k2_hw6 => k2_hw6.2.2.2.2.1
theorem k2_mult12_dvd : ∀ (v203 : BitVec 32) (v204 : BitVec 32) (k2_hw6 : k2_chk6 v203 v204) (k2_t12 : Fin (k2_t12_loop v203 v204).trips), 128 ∣ (k2_mult12 v203 v204 k2_t12).toNat := fun v203 v204 k2_hw6 k2_t12 => k2_hw6.2.2.2.2.2.1 k2_t12
theorem k2_off23_inb : ∀ (v203 : BitVec 32) (v204 : BitVec 32) (k2_hw6 : k2_chk6 v203 v204) (k2_t12 : Fin (k2_t12_loop v203 v204).trips), ∀ a, (k2_off23 v203 v204 k2_t12) a + S128x1.size a ≤ S3072x1.size a := fun v203 v204 k2_hw6 k2_t12 => k2_hw6.2.2.2.2.2.2.1 k2_t12
theorem k2_off24_inb : ∀ (v203 : BitVec 32) (v204 : BitVec 32) (k2_hw6 : k2_chk6 v203 v204) (k2_t12 : Fin (k2_t12_loop v203 v204).trips), ∀ a, (k2_off24 v203 v204 k2_t12) a + S128x768.size a ≤ S3072x768.size a := fun v203 v204 k2_hw6 k2_t12 => k2_hw6.2.2.2.2.2.2.2 k2_t12

@[reducible] def k2_t13_loop (v236 : BitVec 32) (v237 : BitVec 32) : Scf.Loop 32 :=
  let v238 : BitVec 32 := Scalar.subi v237 v236
  let c1_i32_265 : BitVec 32 := 1#32
  let v240 : BitVec 32 := Scalar.divsi v238 c1_i32_265
  let v241 : BitVec 32 := Scalar.muli v240 c1_i32_265
  let v242 : BitVec 32 := Scalar.addi v236 v241
  let c1_i32_266 : BitVec 32 := 1#32
  ⟨v236, v242, c1_i32_266⟩

def k2_mult13 (v236 : BitVec 32) (v237 : BitVec 32) (k2_t13 : Fin (k2_t13_loop v236 v237).trips) : BitVec 32 :=
  let c1_i32_266 : BitVec 32 := 1#32
  let arg11 : BitVec 32 := Scf.iv v236 c1_i32_266 k2_t13
  let c128_i32 : BitVec 32 := 128#32
  let v266 : BitVec 32 := Scalar.muli arg11 c128_i32
  v266
def k2_off25 (v236 : BitVec 32) (v237 : BitVec 32) (k2_t13 : Fin (k2_t13_loop v236 v237).trips) : Fin 2 → Nat :=
  let c1_i32_266 : BitVec 32 := 1#32
  let arg11 : BitVec 32 := Scf.iv v236 c1_i32_266 k2_t13
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off26 (v236 : BitVec 32) (v237 : BitVec 32) (k2_t13 : Fin (k2_t13_loop v236 v237).trips) : Fin 2 → Nat :=
  let c1_i32_266 : BitVec 32 := 1#32
  let arg11 : BitVec 32 := Scf.iv v236 c1_i32_266 k2_t13
  let c128_i32 : BitVec 32 := 128#32
  let v266 : BitVec 32 := Scalar.muli arg11 c128_i32
  let v267 : BitVec 32 := v266
  let v293 : Index := Scalar.indexCast v267
  let c0_306 : Index := 0#32
  ![v293.toNat, 0]
@[reducible] def k2_t14_loop (v236 : BitVec 32) (v237 : BitVec 32) : Scf.Loop 32 :=
  let v238 : BitVec 32 := Scalar.subi v237 v236
  let c1_i32_265 : BitVec 32 := 1#32
  let v240 : BitVec 32 := Scalar.divsi v238 c1_i32_265
  let v241 : BitVec 32 := Scalar.muli v240 c1_i32_265
  let v242 : BitVec 32 := Scalar.addi v236 v241
  let v239 : BitVec 32 := Scalar.addi v236 v238
  let c1_i32_267 : BitVec 32 := 1#32
  ⟨v242, v239, c1_i32_267⟩
def k2_mult14 (v236 : BitVec 32) (v237 : BitVec 32) (k2_t14 : Fin (k2_t14_loop v236 v237).trips) : BitVec 32 :=
  let v238 : BitVec 32 := Scalar.subi v237 v236
  let c1_i32_265 : BitVec 32 := 1#32
  let v240 : BitVec 32 := Scalar.divsi v238 c1_i32_265
  let v241 : BitVec 32 := Scalar.muli v240 c1_i32_265
  let v242 : BitVec 32 := Scalar.addi v236 v241
  let c1_i32_267 : BitVec 32 := 1#32
  let arg11 : BitVec 32 := Scf.iv v242 c1_i32_267 k2_t14
  let c128_i32 : BitVec 32 := 128#32
  let v266 : BitVec 32 := Scalar.muli arg11 c128_i32
  v266
def k2_off27 (v236 : BitVec 32) (v237 : BitVec 32) (k2_t14 : Fin (k2_t14_loop v236 v237).trips) : Fin 2 → Nat :=
  let v238 : BitVec 32 := Scalar.subi v237 v236
  let c1_i32_265 : BitVec 32 := 1#32
  let v240 : BitVec 32 := Scalar.divsi v238 c1_i32_265
  let v241 : BitVec 32 := Scalar.muli v240 c1_i32_265
  let v242 : BitVec 32 := Scalar.addi v236 v241
  let c1_i32_267 : BitVec 32 := 1#32
  let arg11 : BitVec 32 := Scf.iv v242 c1_i32_267 k2_t14
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off28 (v236 : BitVec 32) (v237 : BitVec 32) (k2_t14 : Fin (k2_t14_loop v236 v237).trips) : Fin 2 → Nat :=
  let v238 : BitVec 32 := Scalar.subi v237 v236
  let c1_i32_265 : BitVec 32 := 1#32
  let v240 : BitVec 32 := Scalar.divsi v238 c1_i32_265
  let v241 : BitVec 32 := Scalar.muli v240 c1_i32_265
  let v242 : BitVec 32 := Scalar.addi v236 v241
  let c1_i32_267 : BitVec 32 := 1#32
  let arg11 : BitVec 32 := Scf.iv v242 c1_i32_267 k2_t14
  let c128_i32 : BitVec 32 := 128#32
  let v266 : BitVec 32 := Scalar.muli arg11 c128_i32
  let v267 : BitVec 32 := v266
  let v293 : Index := Scalar.indexCast v267
  let c0_306 : Index := 0#32
  ![v293.toNat, 0]

def k2_chk7 (v236 : BitVec 32) (v237 : BitVec 32) : Prop :=
  ((k2_t13_loop v236 v237).OK) ∧
  (∀ k2_t13 : Fin (k2_t13_loop v236 v237).trips, 128 ∣ (k2_mult13 v236 v237 k2_t13).toNat) ∧
  (∀ k2_t13 : Fin (k2_t13_loop v236 v237).trips, ∀ a, (k2_off25 v236 v237 k2_t13) a + S128x1.size a ≤ S3072x1.size a) ∧
  (∀ k2_t13 : Fin (k2_t13_loop v236 v237).trips, ∀ a, (k2_off26 v236 v237 k2_t13) a + S128x768.size a ≤ S3072x768.size a) ∧
  ((k2_t14_loop v236 v237).OK) ∧
  (∀ k2_t14 : Fin (k2_t14_loop v236 v237).trips, 128 ∣ (k2_mult14 v236 v237 k2_t14).toNat) ∧
  (∀ k2_t14 : Fin (k2_t14_loop v236 v237).trips, ∀ a, (k2_off27 v236 v237 k2_t14) a + S128x1.size a ≤ S3072x1.size a) ∧
  (∀ k2_t14 : Fin (k2_t14_loop v236 v237).trips, ∀ a, (k2_off28 v236 v237 k2_t14) a + S128x768.size a ≤ S3072x768.size a)
theorem k2_t13_ok : ∀ (v236 : BitVec 32) (v237 : BitVec 32) (k2_hw7 : k2_chk7 v236 v237), (k2_t13_loop v236 v237).OK := fun v236 v237 k2_hw7 => k2_hw7.1
theorem k2_mult13_dvd : ∀ (v236 : BitVec 32) (v237 : BitVec 32) (k2_hw7 : k2_chk7 v236 v237) (k2_t13 : Fin (k2_t13_loop v236 v237).trips), 128 ∣ (k2_mult13 v236 v237 k2_t13).toNat := fun v236 v237 k2_hw7 k2_t13 => k2_hw7.2.1 k2_t13
theorem k2_off25_inb : ∀ (v236 : BitVec 32) (v237 : BitVec 32) (k2_hw7 : k2_chk7 v236 v237) (k2_t13 : Fin (k2_t13_loop v236 v237).trips), ∀ a, (k2_off25 v236 v237 k2_t13) a + S128x1.size a ≤ S3072x1.size a := fun v236 v237 k2_hw7 k2_t13 => k2_hw7.2.2.1 k2_t13
theorem k2_off26_inb : ∀ (v236 : BitVec 32) (v237 : BitVec 32) (k2_hw7 : k2_chk7 v236 v237) (k2_t13 : Fin (k2_t13_loop v236 v237).trips), ∀ a, (k2_off26 v236 v237 k2_t13) a + S128x768.size a ≤ S3072x768.size a := fun v236 v237 k2_hw7 k2_t13 => k2_hw7.2.2.2.1 k2_t13
theorem k2_t14_ok : ∀ (v236 : BitVec 32) (v237 : BitVec 32) (k2_hw7 : k2_chk7 v236 v237), (k2_t14_loop v236 v237).OK := fun v236 v237 k2_hw7 => k2_hw7.2.2.2.2.1
theorem k2_mult14_dvd : ∀ (v236 : BitVec 32) (v237 : BitVec 32) (k2_hw7 : k2_chk7 v236 v237) (k2_t14 : Fin (k2_t14_loop v236 v237).trips), 128 ∣ (k2_mult14 v236 v237 k2_t14).toNat := fun v236 v237 k2_hw7 k2_t14 => k2_hw7.2.2.2.2.2.1 k2_t14
theorem k2_off27_inb : ∀ (v236 : BitVec 32) (v237 : BitVec 32) (k2_hw7 : k2_chk7 v236 v237) (k2_t14 : Fin (k2_t14_loop v236 v237).trips), ∀ a, (k2_off27 v236 v237 k2_t14) a + S128x1.size a ≤ S3072x1.size a := fun v236 v237 k2_hw7 k2_t14 => k2_hw7.2.2.2.2.2.2.1 k2_t14
theorem k2_off28_inb : ∀ (v236 : BitVec 32) (v237 : BitVec 32) (k2_hw7 : k2_chk7 v236 v237) (k2_t14 : Fin (k2_t14_loop v236 v237).trips), ∀ a, (k2_off28 v236 v237 k2_t14) a + S128x768.size a ≤ S3072x768.size a := fun v236 v237 k2_hw7 k2_t14 => k2_hw7.2.2.2.2.2.2.2 k2_t14

@[reducible] def k2_t15_loop (v257 : BitVec 32) (v258 : BitVec 32) : Scf.Loop 32 :=
  let v259 : BitVec 32 := Scalar.subi v258 v257
  let c1_i32_286 : BitVec 32 := 1#32
  let v261 : BitVec 32 := Scalar.divsi v259 c1_i32_286
  let v262 : BitVec 32 := Scalar.muli v261 c1_i32_286
  let v263 : BitVec 32 := Scalar.addi v257 v262
  let c1_i32_287 : BitVec 32 := 1#32
  ⟨v257, v263, c1_i32_287⟩

def k2_mult15 (v257 : BitVec 32) (v258 : BitVec 32) (k2_t15 : Fin (k2_t15_loop v257 v258).trips) : BitVec 32 :=
  let c1_i32_287 : BitVec 32 := 1#32
  let arg11 : BitVec 32 := Scf.iv v257 c1_i32_287 k2_t15
  let c128_i32 : BitVec 32 := 128#32
  let v266 : BitVec 32 := Scalar.muli arg11 c128_i32
  v266
def k2_off29 (v257 : BitVec 32) (v258 : BitVec 32) (k2_t15 : Fin (k2_t15_loop v257 v258).trips) : Fin 2 → Nat :=
  let c1_i32_287 : BitVec 32 := 1#32
  let arg11 : BitVec 32 := Scf.iv v257 c1_i32_287 k2_t15
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off30 (v257 : BitVec 32) (v258 : BitVec 32) (k2_t15 : Fin (k2_t15_loop v257 v258).trips) : Fin 2 → Nat :=
  let c1_i32_287 : BitVec 32 := 1#32
  let arg11 : BitVec 32 := Scf.iv v257 c1_i32_287 k2_t15
  let c128_i32 : BitVec 32 := 128#32
  let v266 : BitVec 32 := Scalar.muli arg11 c128_i32
  let v267 : BitVec 32 := v266
  let v293 : Index := Scalar.indexCast v267
  let c0_306 : Index := 0#32
  ![v293.toNat, 0]
@[reducible] def k2_t16_loop (v257 : BitVec 32) (v258 : BitVec 32) : Scf.Loop 32 :=
  let v259 : BitVec 32 := Scalar.subi v258 v257
  let c1_i32_286 : BitVec 32 := 1#32
  let v261 : BitVec 32 := Scalar.divsi v259 c1_i32_286
  let v262 : BitVec 32 := Scalar.muli v261 c1_i32_286
  let v263 : BitVec 32 := Scalar.addi v257 v262
  let v260 : BitVec 32 := Scalar.addi v257 v259
  let c1_i32_288 : BitVec 32 := 1#32
  ⟨v263, v260, c1_i32_288⟩
def k2_mult16 (v257 : BitVec 32) (v258 : BitVec 32) (k2_t16 : Fin (k2_t16_loop v257 v258).trips) : BitVec 32 :=
  let v259 : BitVec 32 := Scalar.subi v258 v257
  let c1_i32_286 : BitVec 32 := 1#32
  let v261 : BitVec 32 := Scalar.divsi v259 c1_i32_286
  let v262 : BitVec 32 := Scalar.muli v261 c1_i32_286
  let v263 : BitVec 32 := Scalar.addi v257 v262
  let c1_i32_288 : BitVec 32 := 1#32
  let arg11 : BitVec 32 := Scf.iv v263 c1_i32_288 k2_t16
  let c128_i32 : BitVec 32 := 128#32
  let v266 : BitVec 32 := Scalar.muli arg11 c128_i32
  v266
def k2_off31 (v257 : BitVec 32) (v258 : BitVec 32) (k2_t16 : Fin (k2_t16_loop v257 v258).trips) : Fin 2 → Nat :=
  let v259 : BitVec 32 := Scalar.subi v258 v257
  let c1_i32_286 : BitVec 32 := 1#32
  let v261 : BitVec 32 := Scalar.divsi v259 c1_i32_286
  let v262 : BitVec 32 := Scalar.muli v261 c1_i32_286
  let v263 : BitVec 32 := Scalar.addi v257 v262
  let c1_i32_288 : BitVec 32 := 1#32
  let arg11 : BitVec 32 := Scf.iv v263 c1_i32_288 k2_t16
  let c128_i32 : BitVec 32 := 128#32
  let v266 : BitVec 32 := Scalar.muli arg11 c128_i32
  let v267 : BitVec 32 := v266
  let v268 : Index := Scalar.indexCast v267
  let c0_289 : Index := 0#32
  ![v268.toNat, 0]
def k2_off32 (v257 : BitVec 32) (v258 : BitVec 32) (k2_t16 : Fin (k2_t16_loop v257 v258).trips) : Fin 2 → Nat :=
  let v259 : BitVec 32 := Scalar.subi v258 v257
  let c1_i32_286 : BitVec 32 := 1#32
  let v261 : BitVec 32 := Scalar.divsi v259 c1_i32_286
  let v262 : BitVec 32 := Scalar.muli v261 c1_i32_286
  let v263 : BitVec 32 := Scalar.addi v257 v262
  let c1_i32_288 : BitVec 32 := 1#32
  let arg11 : BitVec 32 := Scf.iv v263 c1_i32_288 k2_t16
  let c128_i32 : BitVec 32 := 128#32
  let v266 : BitVec 32 := Scalar.muli arg11 c128_i32
  let v267 : BitVec 32 := v266
  let v293 : Index := Scalar.indexCast v267
  let c0_306 : Index := 0#32
  ![v293.toNat, 0]

def k2_chk8 (v257 : BitVec 32) (v258 : BitVec 32) : Prop :=
  ((k2_t15_loop v257 v258).OK) ∧
  (∀ k2_t15 : Fin (k2_t15_loop v257 v258).trips, 128 ∣ (k2_mult15 v257 v258 k2_t15).toNat) ∧
  (∀ k2_t15 : Fin (k2_t15_loop v257 v258).trips, ∀ a, (k2_off29 v257 v258 k2_t15) a + S128x1.size a ≤ S3072x1.size a) ∧
  (∀ k2_t15 : Fin (k2_t15_loop v257 v258).trips, ∀ a, (k2_off30 v257 v258 k2_t15) a + S128x768.size a ≤ S3072x768.size a) ∧
  ((k2_t16_loop v257 v258).OK) ∧
  (∀ k2_t16 : Fin (k2_t16_loop v257 v258).trips, 128 ∣ (k2_mult16 v257 v258 k2_t16).toNat) ∧
  (∀ k2_t16 : Fin (k2_t16_loop v257 v258).trips, ∀ a, (k2_off31 v257 v258 k2_t16) a + S128x1.size a ≤ S3072x1.size a) ∧
  (∀ k2_t16 : Fin (k2_t16_loop v257 v258).trips, ∀ a, (k2_off32 v257 v258 k2_t16) a + S128x768.size a ≤ S3072x768.size a)
theorem k2_t15_ok : ∀ (v257 : BitVec 32) (v258 : BitVec 32) (k2_hw8 : k2_chk8 v257 v258), (k2_t15_loop v257 v258).OK := fun v257 v258 k2_hw8 => k2_hw8.1
theorem k2_mult15_dvd : ∀ (v257 : BitVec 32) (v258 : BitVec 32) (k2_hw8 : k2_chk8 v257 v258) (k2_t15 : Fin (k2_t15_loop v257 v258).trips), 128 ∣ (k2_mult15 v257 v258 k2_t15).toNat := fun v257 v258 k2_hw8 k2_t15 => k2_hw8.2.1 k2_t15
theorem k2_off29_inb : ∀ (v257 : BitVec 32) (v258 : BitVec 32) (k2_hw8 : k2_chk8 v257 v258) (k2_t15 : Fin (k2_t15_loop v257 v258).trips), ∀ a, (k2_off29 v257 v258 k2_t15) a + S128x1.size a ≤ S3072x1.size a := fun v257 v258 k2_hw8 k2_t15 => k2_hw8.2.2.1 k2_t15
theorem k2_off30_inb : ∀ (v257 : BitVec 32) (v258 : BitVec 32) (k2_hw8 : k2_chk8 v257 v258) (k2_t15 : Fin (k2_t15_loop v257 v258).trips), ∀ a, (k2_off30 v257 v258 k2_t15) a + S128x768.size a ≤ S3072x768.size a := fun v257 v258 k2_hw8 k2_t15 => k2_hw8.2.2.2.1 k2_t15
theorem k2_t16_ok : ∀ (v257 : BitVec 32) (v258 : BitVec 32) (k2_hw8 : k2_chk8 v257 v258), (k2_t16_loop v257 v258).OK := fun v257 v258 k2_hw8 => k2_hw8.2.2.2.2.1
theorem k2_mult16_dvd : ∀ (v257 : BitVec 32) (v258 : BitVec 32) (k2_hw8 : k2_chk8 v257 v258) (k2_t16 : Fin (k2_t16_loop v257 v258).trips), 128 ∣ (k2_mult16 v257 v258 k2_t16).toNat := fun v257 v258 k2_hw8 k2_t16 => k2_hw8.2.2.2.2.2.1 k2_t16
theorem k2_off31_inb : ∀ (v257 : BitVec 32) (v258 : BitVec 32) (k2_hw8 : k2_chk8 v257 v258) (k2_t16 : Fin (k2_t16_loop v257 v258).trips), ∀ a, (k2_off31 v257 v258 k2_t16) a + S128x1.size a ≤ S3072x1.size a := fun v257 v258 k2_hw8 k2_t16 => k2_hw8.2.2.2.2.2.2.1 k2_t16
theorem k2_off32_inb : ∀ (v257 : BitVec 32) (v258 : BitVec 32) (k2_hw8 : k2_chk8 v257 v258) (k2_t16 : Fin (k2_t16_loop v257 v258).trips), ∀ a, (k2_off32 v257 v258 k2_t16) a + S128x768.size a ≤ S3072x768.size a := fun v257 v258 k2_hw8 k2_t16 => k2_hw8.2.2.2.2.2.2.2 k2_t16

abbrev stage2_0 : Fin 1 → Memref sig .tc .smem S16 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S3072x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x3072 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S8x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S3072x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x3072 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S3072x768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S128x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048x768 : Shape := ⟨3, ![1, 2048, 768]⟩
abbrev S768x8 : Shape := ⟨2, ![768, 8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S8x3072x2048 : Shape := ⟨3, ![8, 3072, 2048]⟩
abbrev S8x2048x3072 : Shape := ⟨3, ![8, 2048, 3072]⟩
abbrev S8x1x3072 : Shape := ⟨3, ![8, 1, 3072]⟩
abbrev S8x2048x768 : Shape := ⟨3, ![8, 2048, 768]⟩
abbrev S8x1x768 : Shape := ⟨3, ![8, 1, 768]⟩
abbrev S2048x2 : Shape := ⟨2, ![2048, 2]⟩

abbrev nBuf : Space → Nat
  | .hbm => 84
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8x768x3072, .f32⟩
  | .hbm, ⟨3, _⟩ => ⟨S8x3072, .f32⟩
  | .hbm, ⟨4, _⟩ => ⟨S8x3072x768, .f32⟩
  | .hbm, ⟨5, _⟩ => ⟨S8x768, .f32⟩
  | .hbm, ⟨6, _⟩ => ⟨S2048x768, .f32⟩
  | .hbm, ⟨7, _⟩ => ⟨S2048x8, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x8, .f32⟩
  | .hbm, ⟨21, _⟩ => ⟨S2048x8, .f32⟩
  | .hbm, ⟨22, _⟩ => ⟨S2048x8, .i32⟩
  | .hbm, ⟨23, _⟩ => ⟨S_, .f32⟩
  | .hbm, ⟨24, _⟩ => ⟨S_, .i32⟩
  | .hbm, ⟨25, _⟩ => ⟨S2048, .f32⟩
  | .hbm, ⟨26, _⟩ => ⟨S2048, .i32⟩
  | .hbm, ⟨27, _⟩ => ⟨S2048x1, .i32⟩
  | .hbm, ⟨28, _⟩ => ⟨S_, .i32⟩
  | .hbm, ⟨29, _⟩ => ⟨S2048x1, .i32⟩
  | .hbm, ⟨30, _⟩ => ⟨S2048x1, .i1⟩
  | .hbm, ⟨31, _⟩ => ⟨S_, .i32⟩
  | .hbm, ⟨32, _⟩ => ⟨S2048x1, .i32⟩
  | .hbm, ⟨33, _⟩ => ⟨S2048x1, .i32⟩
  | .hbm, ⟨34, _⟩ => ⟨S2048x1, .i32⟩
  | .hbm, ⟨35, _⟩ => ⟨S2048x1x1, .i32⟩
  | .hbm, ⟨36, _⟩ => ⟨S1, .i32⟩
  | .hbm, ⟨37, _⟩ => ⟨S_, .i32⟩
  | .hbm, ⟨38, _⟩ => ⟨S2048x1x1, .i32⟩
  | .hbm, ⟨39, _⟩ => ⟨S2048x1x1, .i1⟩
  | .hbm, ⟨40, _⟩ => ⟨S1x1x1, .i32⟩
  | .hbm, ⟨41, _⟩ => ⟨S2048x1x1, .i32⟩
  | .hbm, ⟨42, _⟩ => ⟨S2048x1x1, .i1⟩
  | .hbm, ⟨43, _⟩ => ⟨S2048x1x1, .i1⟩
  | .hbm, ⟨44, _⟩ => ⟨S_, .i1⟩
  | .hbm, ⟨45, _⟩ => ⟨S2048x1, .i1⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S8x3072x2048, .f32⟩
  | .hbm, ⟨51, _⟩ => ⟨S8x2048x3072, .f32⟩
  | .hbm, ⟨52, _⟩ => ⟨S8x1x3072, .f32⟩
  | .hbm, ⟨53, _⟩ => ⟨S8x2048x3072, .f32⟩
  | .hbm, ⟨54, _⟩ => ⟨S8x2048x3072, .f32⟩
  | .hbm, ⟨55, _⟩ => ⟨S_, .f32⟩
  | .hbm, ⟨56, _⟩ => ⟨S8x2048x3072, .f32⟩
  | .hbm, ⟨57, _⟩ => ⟨S8x2048x3072, .f32⟩
  | .hbm, ⟨58, _⟩ => ⟨S8x2048x768, .f32⟩
  | .hbm, ⟨59, _⟩ => ⟨S8x1x768, .f32⟩
  | .hbm, ⟨60, _⟩ => ⟨S8x2048x768, .f32⟩
  | .hbm, ⟨61, _⟩ => ⟨S8x2048x768, .f32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S_, .i32⟩
  | .hbm, ⟨71, _⟩ => ⟨S2048, .i32⟩
  | .hbm, ⟨72, _⟩ => ⟨S2048, .i1⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .i32⟩
  | .hbm, ⟨77, _⟩ => ⟨S2048x1, .i32⟩
  | .hbm, ⟨78, _⟩ => ⟨S2048x1, .i32⟩
  | .hbm, ⟨79, _⟩ => ⟨S2048x2, .i32⟩
  | .hbm, ⟨80, _⟩ => ⟨S2048x768, .f32⟩
  | .hbm, ⟨81, _⟩ => ⟨S2048x768, .f32⟩
  | .hbm, ⟨82, _⟩ => ⟨S2048x768, .f32⟩
  | .hbm, ⟨83, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v13 : Ref sig .tc := ⟨.hbm, 26, rfl⟩
abbrev main_v14 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call2_cst : Ref sig .tc := ⟨.hbm, 55, rfl⟩
abbrev main_call2_v0 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c : Ref sig .tc := ⟨.hbm, 63, rfl⟩
abbrev main_v27 : Ref sig .tc := ⟨.hbm, 64, rfl⟩
abbrev main_v28 : Ref sig .tc := ⟨.hbm, 65, rfl⟩
abbrev main_c_2 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_3 : Ref sig .tc := ⟨.hbm, 70, rfl⟩
abbrev main_v32 : Ref sig .tc := ⟨.hbm, 71, rfl⟩
abbrev main_v33 : Ref sig .tc := ⟨.hbm, 72, rfl⟩
abbrev main_c_4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩

abbrev nD : Nat := 1
abbrev τ : Topo := Topo.v7x

variable {F : FTy → Type} [FloatOps F]
-- ==== Proof.Words.lean ====
/-
  The words the sorting kernel computes, as natural numbers: the padded counts, the starts of the experts' runs, the
  offsets its copies are made at, and the side conditions its loops and slices ask for.
-/
module

public import proofs.«01_k».proof.Proof.Gen.KernelIdeal.Skeleton

@[expose] public section

set_option maxRecDepth 16384

namespace Cert.Sort

open Cert.KernelIdeal Cert.KernelIdeal.Gen
open Idealize.ShloMosaic

/-! ## Division by the tile size, rounded down -/

/-- The kernel's floor division of a word by 128, operation by operation. -/
def fdw (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32) (Scalar.divsi w 128#32)

/-- On a small natural number it is the natural numbers' division. -/
theorem fdw_ofNat : ∀ n < 4096, fdw (BitVec.ofNat 32 n) = BitVec.ofNat 32 (n / 128) := by decide +kernel

/-- A count rounded up to whole tiles, as the kernel computes it, -/
def padw (c : BitVec 32) : BitVec 32 := Scalar.muli (fdw (Scalar.subi (Scalar.addi c 128#32) 1#32)) 128#32
/-- and as a number. -/
def cpad (n : ℕ) : ℕ := (n + 127) / 128 * 128

/-- The word of a count, padded, is the word of the padded count. -/
theorem padw_ofNat : ∀ n < 2049, padw (BitVec.ofNat 32 n) = BitVec.ofNat 32 (cpad n) := by decide +kernel

/-- A padded count's word, divided by 128, is the word of its tiles. -/
theorem fdw_pad : ∀ n < 2049, fdw (BitVec.ofNat 32 (cpad n)) = BitVec.ofNat 32 (cpad n / 128) := fun n hn =>
  fdw_ofNat _ (by unfold cpad; omega)

/-- A padded count is a whole number of tiles. -/
theorem cpad_dvd (n : ℕ) : 128 ∣ cpad n := ⟨(n + 127) / 128, by unfold cpad; omega⟩
/-- Padding does not shrink a count. -/
theorem le_cpad (n : ℕ) : n ≤ cpad n := by unfold cpad; omega
/-- Padding adds less than a tile. -/
theorem cpad_lt (n : ℕ) : cpad n < n + 128 := by unfold cpad; omega

/-! ## The starts of the experts' runs -/

/-- Where expert `e`'s run starts: the padded counts of the experts before it. -/
def startN (ct : ℕ → ℕ) (e : ℕ) : ℕ := ∑ j ∈ Finset.range e, cpad (ct j)

/-- The next expert starts after this one's padded run. -/
theorem startN_succ (ct : ℕ → ℕ) (e : ℕ) : startN ct (e + 1) = startN ct e + cpad (ct e) := Finset.sum_range_succ _ _
/-- The first expert starts at zero. -/
theorem startN_zero (ct : ℕ → ℕ) : startN ct 0 = 0 := rfl

/-- Every expert starts at a tile. -/
theorem startN_dvd (ct : ℕ → ℕ) (e : ℕ) : 128 ∣ startN ct e := Finset.dvd_sum fun _ _ => cpad_dvd _

/-- Later experts start no earlier. -/
theorem startN_mono (ct : ℕ → ℕ) {a b : ℕ} (h : a ≤ b) : startN ct a ≤ startN ct b :=
  Finset.sum_le_sum_of_subset (Finset.range_mono h)

/-- An expert's start is at most the counts before it and 127 for each. -/
theorem startN_le (ct : ℕ → ℕ) (e : ℕ) : startN ct e ≤ (∑ j ∈ Finset.range e, ct j) + 127 * e := by
  induction e with
  | zero => simp [startN]
  | succ e ih => rw [startN_succ, Finset.sum_range_succ]; have := cpad_lt (ct e); omega

/-- Eight runs of at most 2048 tokens in all take at most 23 tiles. -/
theorem startN_eight (ct : ℕ → ℕ) (h : ∑ j ∈ Finset.range 8, ct j ≤ 2048) : startN ct 8 ≤ 2944 := by
  have h1 := startN_le ct 8
  obtain ⟨k, hk⟩ := startN_dvd ct 8
  omega

/-- Each count is at most the number of tokens. -/
theorem ct_le (ct : ℕ → ℕ) (h : ∑ j ∈ Finset.range 8, ct j ≤ 2048) (j : ℕ) (hj : j < 8) : ct j ≤ 2048 :=
  le_trans (Finset.single_le_sum (f := ct) (fun _ _ => Nat.zero_le _) (Finset.mem_range.mpr hj)) h

/-- The start of a tile's run, as the kernel sums it: `v1` the tile's expert. -/
def startw (v1 c0 c1 c2 c3 c4 c5 c6 c7 : BitVec 32) : BitVec 32 :=
  Scalar.addi (Scalar.addi (Scalar.addi (Scalar.addi (Scalar.addi (Scalar.addi (Scalar.addi (Scalar.addi 0#32
    (Scalar.select (Scalar.cmpi .sgt v1 0#32) (padw c0) 0#32)) (Scalar.select (Scalar.cmpi .sgt v1 1#32) (padw c1) 0#32))
    (Scalar.select (Scalar.cmpi .sgt v1 2#32) (padw c2) 0#32)) (Scalar.select (Scalar.cmpi .sgt v1 3#32) (padw c3) 0#32))
    (Scalar.select (Scalar.cmpi .sgt v1 4#32) (padw c4) 0#32)) (Scalar.select (Scalar.cmpi .sgt v1 5#32) (padw c5) 0#32))
    (Scalar.select (Scalar.cmpi .sgt v1 6#32) (padw c6) 0#32)) (Scalar.select (Scalar.cmpi .sgt v1 7#32) (padw c7) 0#32)

/-- The end of the last run, as the kernel sums it. -/
def totw (c0 c1 c2 c3 c4 c5 c6 c7 : BitVec 32) : BitVec 32 :=
  Scalar.addi (Scalar.addi (Scalar.addi (Scalar.addi (Scalar.addi (Scalar.addi (Scalar.addi (Scalar.addi 0#32
    (padw c0)) (padw c1)) (padw c2)) (padw c3)) (padw c4)) (padw c5)) (padw c6)) (padw c7)

/-- The select by a comparison of small words picks by the numbers. -/
theorem sel_sgt (x : BitVec 32) : ∀ e < 8, ∀ k < 8,
    Scalar.select (Scalar.cmpi .sgt (BitVec.ofNat 32 e) (BitVec.ofNat 32 k)) x 0#32 = if k < e then x else 0#32 := by
  intro e he k hk
  have h : ∀ e < 8, ∀ k < 8, Scalar.cmpi .sgt (BitVec.ofNat 32 e) (BitVec.ofNat 32 k) = if k < e then 1#1 else 0#1 := by decide +kernel
  rw [h e he k hk]; split <;> rfl

/-- A choice between a word and zero is the word of the choice. -/
theorem ite_ofNat (p : Prop) [Decidable p] (n : ℕ) : (if p then BitVec.ofNat 32 n else 0#32) = BitVec.ofNat 32 (if p then n else 0) := by
  split <;> rfl

/-- The sum of two words is the word of the sum. -/
theorem addi_ofNat (a b : ℕ) : Scalar.addi (BitVec.ofNat 32 a) (BitVec.ofNat 32 b) = BitVec.ofNat 32 (a + b) :=
  (BitVec.ofNat_add a b).symm

/-- The word of an expert's start, from the counts' words. -/
theorem startw_ofNat (ct : ℕ → ℕ) (h : ∑ j ∈ Finset.range 8, ct j ≤ 2048) (e : ℕ) (he : e < 8) :
    startw (BitVec.ofNat 32 e) (BitVec.ofNat 32 (ct 0)) (BitVec.ofNat 32 (ct 1)) (BitVec.ofNat 32 (ct 2)) (BitVec.ofNat 32 (ct 3))
        (BitVec.ofNat 32 (ct 4)) (BitVec.ofNat 32 (ct 5)) (BitVec.ofNat 32 (ct 6)) (BitVec.ofNat 32 (ct 7))
      = BitVec.ofNat 32 (startN ct e) := by
  unfold startw
  have hp : ∀ j < 8, padw (BitVec.ofNat 32 (ct j)) = BitVec.ofNat 32 (cpad (ct j)) := fun j hj =>
    padw_ofNat _ (by have := ct_le ct h j hj; omega)
  have h0 : (0#32 : BitVec 32) = BitVec.ofNat 32 0 := rfl
  rw [hp 0 (by omega), hp 1 (by omega), hp 2 (by omega), hp 3 (by omega), hp 4 (by omega), hp 5 (by omega), hp 6 (by omega), hp 7 (by omega)]
  rw [sel_sgt _ e he 0 (by omega), sel_sgt _ e he 1 (by omega), sel_sgt _ e he 2 (by omega), sel_sgt _ e he 3 (by omega),
    sel_sgt _ e he 4 (by omega), sel_sgt _ e he 5 (by omega), sel_sgt _ e he 6 (by omega), sel_sgt _ e he 7 (by omega)]
  simp only [ite_ofNat, addi_ofNat]
  congr 1
  unfold startN
  have h8 : e = 0 ∨ e = 1 ∨ e = 2 ∨ e = 3 ∨ e = 4 ∨ e = 5 ∨ e = 6 ∨ e = 7 := by omega
  rcases h8 with rfl | rfl | rfl | rfl | rfl | rfl | rfl | rfl <;> simp [Finset.sum_range_succ]

/-- The word of all the padded counts' sum. -/
theorem totw_ofNat (ct : ℕ → ℕ) (h : ∑ j ∈ Finset.range 8, ct j ≤ 2048) :
    totw (BitVec.ofNat 32 (ct 0)) (BitVec.ofNat 32 (ct 1)) (BitVec.ofNat 32 (ct 2)) (BitVec.ofNat 32 (ct 3))
        (BitVec.ofNat 32 (ct 4)) (BitVec.ofNat 32 (ct 5)) (BitVec.ofNat 32 (ct 6)) (BitVec.ofNat 32 (ct 7))
      = BitVec.ofNat 32 (startN ct 8) := by
  unfold totw
  have hp : ∀ j < 8, padw (BitVec.ofNat 32 (ct j)) = BitVec.ofNat 32 (cpad (ct j)) := fun j hj =>
    padw_ofNat _ (by have := ct_le ct h j hj; omega)
  rw [hp 0 (by omega), hp 1 (by omega), hp 2 (by omega), hp 3 (by omega), hp 4 (by omega), hp 5 (by omega), hp 6 (by omega), hp 7 (by omega)]
  simp only [addi_ofNat]
  congr 1
  unfold startN
  simp [Finset.sum_range_succ]

/-! ## The tile's expert -/

/-- A tile's number: its subcore's number twice, and its SparseCore's. -/
def widN (i : grid1.Coords) : ℕ := (i 1).val * 2 + (i 0).val

/-- The word of a tile's number. -/
theorem widw_eq (i : grid1.Coords) :
    Scalar.addi (Scalar.muli (BitVec.ofNat 32 (i 1).val) 2#32) (BitVec.ofNat 32 (i 0).val) = BitVec.ofNat 32 (widN i) := by
  unfold widN
  rw [BitVec.ofNat_add, BitVec.ofNat_mul]; rfl

/-- A tile's number is below 32. -/
theorem widN_lt (i : grid1.Coords) : widN i < 32 := by
  have h0 : (i 0).val < 2 := (i 0).isLt
  have h1 : (i 1).val < 16 := (i 1).isLt
  unfold widN; omega

/-- The first condition holds at the eight working tiles. -/
theorem cond1_iff (i : grid1.Coords) : k1_cond1 i = 1#1 ↔ widN i < 8 := by
  have h : ∀ n < 32, (Scalar.cmpi .ne (Scalar.extui (Scalar.cmpi .slt (BitVec.ofNat 32 n) 8#32)) 0#32 : BitVec 1) = 1#1 ↔ n < 8 := by
    decide +kernel
  rw [← h _ (widN_lt i), ← widw_eq]; rfl

/-- The second condition holds at the last working tile. -/
theorem cond2_iff (i : grid1.Coords) : k1_cond2 i = 1#1 ↔ widN i = 7 := by
  have h : ∀ n < 32, (Scalar.cmpi .ne (Scalar.extui (Scalar.cmpi .eq (BitVec.ofNat 32 n) 7#32)) 0#32 : BitVec 1) = 1#1 ↔ n = 7 := by
    decide +kernel
  rw [← h _ (widN_lt i), ← widw_eq]; rfl

/-- The third condition holds at the first tile. -/
theorem cond3_iff (i : grid1.Coords) :
    (Scalar.cmpi .ne (Scalar.extui (Scalar.cmpi .eq (Scalar.addi (Scalar.muli (BitVec.ofNat 32 (i 1).val) 2#32) (BitVec.ofNat 32 (i 0).val)) 0#32) : BitVec 32) 0#32 : BitVec 1) = 1#1 ↔ widN i = 0 := by
  have h : ∀ n < 32, (Scalar.cmpi .ne (Scalar.extui (Scalar.cmpi .eq (BitVec.ofNat 32 n) 0#32) : BitVec 32) 0#32 : BitVec 1) = 1#1 ↔ n = 0 := by
    decide +kernel
  rw [widw_eq, ← h _ (widN_lt i)]

/-! ## The loops -/

/-- The counting loop has 128 trips. -/
theorem t1_trips : k1_t1_loop.trips = 128 := by decide +kernel
/-- The copying loop has one trip per tile of the padded count. -/
theorem t2_trips : ∀ n < 2049, (k1_t2_loop (BitVec.ofNat 32 n)).trips = (n + 127) / 128 := by decide +kernel
/-- The copying loop is well formed. -/
theorem t2_ok : ∀ n < 2049, (k1_t2_loop (BitVec.ofNat 32 n)).OK := by unfold Scf.Loop.OK Scf.OK; decide +kernel
/-- The copying loop's remainder never runs. -/
theorem t3_trips : ∀ n < 2049, (k1_t3_loop (BitVec.ofNat 32 n)).trips = 0 := by decide +kernel
/-- The copying loop's remainder is well formed. -/
theorem t3_ok : ∀ n < 2049, (k1_t3_loop (BitVec.ofNat 32 n)).OK := by unfold Scf.Loop.OK Scf.OK; decide +kernel

/-- The filling loop, over the end of the last run. -/
abbrev fill (tot : BitVec 32) : Scf.Loop 32 :=
  ⟨fdw tot, Scalar.addi (fdw tot) (Scalar.muli (Scalar.divsi (Scalar.subi 24#32 (fdw tot)) 1#32) 1#32), 1#32⟩
/-- The filling loop's remainder. -/
abbrev fillR (tot : BitVec 32) : Scf.Loop 32 :=
  ⟨Scalar.addi (fdw tot) (Scalar.muli (Scalar.divsi (Scalar.subi 24#32 (fdw tot)) 1#32) 1#32), Scalar.addi (fdw tot) (Scalar.subi 24#32 (fdw tot)), 1#32⟩

/-- The filling loop is the one that starts at the padded counts' sum. -/
theorem t4_loop_eq (c0 c1 c2 c3 c4 c5 c6 c7 : BitVec 32) : k1_t4_loop c0 c1 c2 c3 c4 c5 c6 c7 = fill (totw c0 c1 c2 c3 c4 c5 c6 c7) := rfl
/-- The filling loop's remainder starts at the padded counts' sum too. -/
theorem t5_loop_eq (c0 c1 c2 c3 c4 c5 c6 c7 : BitVec 32) : k1_t5_loop c0 c1 c2 c3 c4 c5 c6 c7 = fillR (totw c0 c1 c2 c3 c4 c5 c6 c7) := rfl

/-- The filling loop has one trip per tile left. -/
theorem fill_trips : ∀ k < 25, (fill (BitVec.ofNat 32 (128 * k))).trips = 24 - k := by decide +kernel
/-- The filling loop is well formed. -/
theorem fill_ok : ∀ k < 25, (fill (BitVec.ofNat 32 (128 * k))).OK := by unfold Scf.Loop.OK Scf.OK; decide +kernel
/-- The filling loop's remainder never runs. -/
theorem fillR_trips : ∀ k < 25, (fillR (BitVec.ofNat 32 (128 * k))).trips = 0 := by decide +kernel
/-- The filling loop's remainder is well formed. -/
theorem fillR_ok : ∀ k < 25, (fillR (BitVec.ofNat 32 (128 * k))).OK := by unfold Scf.Loop.OK Scf.OK; decide +kernel

/-! ## The offsets -/

/-- A loop's counter with step one. -/
theorem iv_one (b k : ℕ) : Scf.iv (BitVec.ofNat 32 b) 1#32 k = BitVec.ofNat 32 (b + k) := by
  unfold Scf.iv; rw [BitVec.mul_one, BitVec.ofNat_add]

/-- The word of a number below 2 ^ 32 has that number. -/
theorem toNat_ofNat_lt (n : ℕ) (h : n < 2 ^ 32) : (BitVec.ofNat 32 n).toNat = n := by
  rw [BitVec.toNat_ofNat]; exact Nat.mod_eq_of_lt h

/-- The product of two words is the word of the product. -/
theorem muli_ofNat (a b : ℕ) : Scalar.muli (BitVec.ofNat 32 a) (BitVec.ofNat 32 b) = BitVec.ofNat 32 (a * b) :=
  (BitVec.ofNat_mul a b).symm

/-- Where the counting loop reads. -/
theorem off1_eq (t : Fin k1_t1_loop.trips) : k1_off1 t = ![16 * t.val] := by
  have ht : t.val < 128 := lt_of_lt_of_eq t.isLt t1_trips
  show ![(Scalar.muli (Scf.iv (BitVec.ofNat 32 0) 1#32 t.val) (BitVec.ofNat 32 16)).toNat] = _
  rw [iv_one, muli_ofNat, toNat_ofNat_lt _ (by omega), Nat.zero_add, Nat.mul_comm]

/-- Where the padding goes. -/
theorem off2_eq (n r : ℕ) (hn : n ≤ 2048) (hr : r ≤ 128) : k1_off2 (BitVec.ofNat 32 n) (BitVec.ofNat 32 r) = ![n + r] := by
  show ![(Scalar.addi (BitVec.ofNat 32 n) (BitVec.ofNat 32 r)).toNat] = _
  rw [addi_ofNat, toNat_ofNat_lt _ (by omega)]

/-- Where a copy comes from. -/
theorem off3_eq (n : ℕ) (hn : n ≤ 2048) (t : Fin (k1_t2_loop (BitVec.ofNat 32 n)).trips) : k1_off3 (BitVec.ofNat 32 n) t = ![128 * t.val] := by
  have ht : t.val < (n + 127) / 128 := lt_of_lt_of_eq t.isLt (t2_trips n (by omega))
  show ![(Scalar.muli (Scf.iv (BitVec.ofNat 32 0) 1#32 t.val) (BitVec.ofNat 32 128)).toNat] = _
  rw [iv_one, muli_ofNat, toNat_ofNat_lt _ (by omega), Nat.zero_add, Nat.mul_comm]

section Counts
variable (ct : ℕ → ℕ)

/-- Expert `j`'s count as a word. -/
abbrev cw (j : ℕ) : BitVec 32 := BitVec.ofNat 32 (ct j)

variable (h : ∑ j ∈ Finset.range 8, ct j ≤ 2048) (i : grid1.Coords) (hi : widN i < 8)
include h

include hi in
/-- The word of a copy's destination. -/
theorem off4_word (n k : ℕ) :
    Scalar.addi (startw (Scalar.addi (Scalar.muli (BitVec.ofNat 32 (i 1).val) 2#32) (BitVec.ofNat 32 (i 0).val))
        (cw ct 0) (cw ct 1) (cw ct 2) (cw ct 3) (cw ct 4) (cw ct 5) (cw ct 6) (cw ct 7))
      (Scalar.muli (Scf.iv (BitVec.ofNat 32 0) 1#32 k) (BitVec.ofNat 32 128)) = BitVec.ofNat 32 (startN ct (widN i) + 128 * k) := by
  rw [widw_eq, startw_ofNat ct h _ hi, iv_one, muli_ofNat, addi_ofNat, Nat.zero_add, Nat.mul_comm]

include hi in
/-- A working tile's padded run ends by 2944. -/
theorem start_lt : startN ct (widN i) + cpad (ct (widN i)) ≤ 2944 := by
  rw [← startN_succ]; exact (startN_mono ct hi).trans (startN_eight ct h)

include hi in
/-- Where a copy goes. -/
theorem off4_eq (t : Fin (k1_t2_loop (cw ct (widN i))).trips) :
    k1_off4 i (cw ct (widN i)) (cw ct 0) (cw ct 1) (cw ct 2) (cw ct 3) (cw ct 4) (cw ct 5) (cw ct 6) (cw ct 7) t
      = ![startN ct (widN i) + 128 * t.val] := by
  have hn := ct_le ct h _ hi
  have ht : t.val < (ct (widN i) + 127) / 128 := lt_of_lt_of_eq t.isLt (t2_trips _ (by omega))
  have hs := start_lt ct h i hi
  unfold cpad at hs
  refine Eq.trans (b := ![(Scalar.addi (startw (Scalar.addi (Scalar.muli (BitVec.ofNat 32 (i 1).val) 2#32) (BitVec.ofNat 32 (i 0).val))
        (cw ct 0) (cw ct 1) (cw ct 2) (cw ct 3) (cw ct 4) (cw ct 5) (cw ct 6) (cw ct 7))
      (Scalar.muli (Scf.iv (BitVec.ofNat 32 0) 1#32 t.val) (BitVec.ofNat 32 128))).toNat]) rfl ?_
  rw [off4_word ct h i hi 0, toNat_ofNat_lt _ (by omega)]

include hi in
/-- The destination's word that is declared a multiple of 128. -/
theorem mult1_eq (t : Fin (k1_t2_loop (cw ct (widN i))).trips) :
    k1_mult1 i (cw ct (widN i)) (cw ct 0) (cw ct 1) (cw ct 2) (cw ct 3) (cw ct 4) (cw ct 5) (cw ct 6) (cw ct 7) t
      = BitVec.ofNat 32 (startN ct (widN i) + 128 * t.val) := by
  refine Eq.trans (b := Scalar.addi (startw (Scalar.addi (Scalar.muli (BitVec.ofNat 32 (i 1).val) 2#32) (BitVec.ofNat 32 (i 0).val))
        (cw ct 0) (cw ct 1) (cw ct 2) (cw ct 3) (cw ct 4) (cw ct 5) (cw ct 6) (cw ct 7))
      (Scalar.muli (Scf.iv (BitVec.ofNat 32 0) 1#32 t.val) (BitVec.ofNat 32 128))) rfl ?_
  rw [off4_word ct h i hi 0]

/-- The tiles before the filling. -/
theorem tot_eq : totw (cw ct 0) (cw ct 1) (cw ct 2) (cw ct 3) (cw ct 4) (cw ct 5) (cw ct 6) (cw ct 7) = BitVec.ofNat 32 (128 * (startN ct 8 / 128)) := by
  rw [totw_ofNat ct h, Nat.mul_div_cancel' (startN_dvd ct 8)]

/-- The padded counts fill fewer than 24 tiles. -/
theorem tot_lt : startN ct 8 / 128 < 24 := by have := startN_eight ct h; omega

/-- The filling loop's trips are the tiles left over. -/
theorem t4_trips : (k1_t4_loop (cw ct 0) (cw ct 1) (cw ct 2) (cw ct 3) (cw ct 4) (cw ct 5) (cw ct 6) (cw ct 7)).trips = 24 - startN ct 8 / 128 := by
  rw [t4_loop_eq, tot_eq ct h, fill_trips _ (by have := tot_lt ct h; omega)]

/-- The filling loop's remainder never runs, at the counts' words. -/
theorem t5_trips : (k1_t5_loop (cw ct 0) (cw ct 1) (cw ct 2) (cw ct 3) (cw ct 4) (cw ct 5) (cw ct 6) (cw ct 7)).trips = 0 := by
  rw [t5_loop_eq, tot_eq ct h, fillR_trips _ (by have := tot_lt ct h; omega)]

/-- The filling copy's word that is declared a multiple of 128. -/
theorem mult3_eq (t : Fin (k1_t4_loop (cw ct 0) (cw ct 1) (cw ct 2) (cw ct 3) (cw ct 4) (cw ct 5) (cw ct 6) (cw ct 7)).trips) :
    k1_mult3 (cw ct 0) (cw ct 1) (cw ct 2) (cw ct 3) (cw ct 4) (cw ct 5) (cw ct 6) (cw ct 7) t = BitVec.ofNat 32 (startN ct 8 + 128 * t.val) := by
  refine Eq.trans (b := Scalar.muli (Scf.iv (fdw (totw (cw ct 0) (cw ct 1) (cw ct 2) (cw ct 3) (cw ct 4) (cw ct 5) (cw ct 6) (cw ct 7))) 1#32 t.val) (BitVec.ofNat 32 128)) rfl ?_
  have := tot_lt ct h
  have hd := Nat.mul_div_cancel' (startN_dvd ct 8)
  rw [tot_eq ct h, fdw_ofNat _ (by omega), iv_one, muli_ofNat]
  congr 1; omega

/-- Where a filling copy goes. -/
theorem off7_eq (t : Fin (k1_t4_loop (cw ct 0) (cw ct 1) (cw ct 2) (cw ct 3) (cw ct 4) (cw ct 5) (cw ct 6) (cw ct 7)).trips) :
    k1_off7 (cw ct 0) (cw ct 1) (cw ct 2) (cw ct 3) (cw ct 4) (cw ct 5) (cw ct 6) (cw ct 7) t = ![startN ct 8 + 128 * t.val] := by
  have ht : t.val < 24 - startN ct 8 / 128 := lt_of_lt_of_eq t.isLt (t4_trips ct h)
  refine Eq.trans (b := ![(k1_mult3 (cw ct 0) (cw ct 1) (cw ct 2) (cw ct 3) (cw ct 4) (cw ct 5) (cw ct 6) (cw ct 7) t).toNat]) rfl ?_
  have := startN_eight ct h
  rw [mult3_eq ct h, toNat_ofNat_lt _ (by omega)]

/-! ## The side conditions -/

include hi in
/-- The padding and the copying loop stay within the list, and the loop is well formed. -/
theorem chk2_ok : k1_chk2 i (cw ct (widN i)) := by
  have hn := ct_le ct h _ hi
  refine ⟨fun _ r a => ?_, fun _ => t2_ok _ (by omega), fun t _ a => ?_, fun _ => t3_ok _ (by omega), fun t => ?_⟩
  · have hr := r.isLt
    rw [off2_eq _ _ hn (by omega)]
    fin_cases a; show ct (widN i) + 16 * r.val + 16 ≤ 2304; omega
  · have ht : t.val < (ct (widN i) + 127) / 128 := lt_of_lt_of_eq t.isLt (t2_trips _ (by omega))
    rw [off3_eq _ hn]; fin_cases a; show 128 * t.val + 128 ≤ 2304; omega
  · exact absurd (lt_of_lt_of_eq t.isLt (t3_trips _ (by omega))) (Nat.not_lt_zero _)

include hi in
/-- The copies and the filling copies stay within the sorted array, at multiples of 128, and the loops are well formed. -/
theorem chk3_ok : k1_chk3 i (cw ct (widN i)) (cw ct 0) (cw ct 1) (cw ct 2) (cw ct 3) (cw ct 4) (cw ct 5) (cw ct 6) (cw ct 7) := by
  have hn := ct_le ct h _ hi
  have hs := start_lt ct h i hi
  have h8 := startN_eight ct h
  have hd := startN_dvd ct (widN i)
  have hd8 := startN_dvd ct 8
  have hT := tot_lt ct h
  unfold cpad at hs
  refine ⟨fun t _ => ?_, fun t _ a => ?_, fun t => ?_, fun t => ?_, fun _ _ => ?_, fun t _ _ => ?_, fun t _ _ a => ?_, fun _ _ => ?_,
    fun t => ?_, fun t => ?_⟩
  · have ht : t.val < (ct (widN i) + 127) / 128 := lt_of_lt_of_eq t.isLt (t2_trips _ (by omega))
    rw [mult1_eq ct h i hi, toNat_ofNat_lt _ (by omega)]; omega
  · have ht : t.val < (ct (widN i) + 127) / 128 := lt_of_lt_of_eq t.isLt (t2_trips _ (by omega))
    rw [off4_eq ct h i hi]; fin_cases a; show startN ct (widN i) + 128 * t.val + 128 ≤ 3072; omega
  · exact absurd (lt_of_lt_of_eq t.isLt (t3_trips _ (by omega))) (Nat.not_lt_zero _)
  · exact absurd (lt_of_lt_of_eq t.isLt (t3_trips _ (by omega))) (Nat.not_lt_zero _)
  · rw [t4_loop_eq, tot_eq ct h]; exact fill_ok _ (by omega)
  · have ht : t.val < 24 - startN ct 8 / 128 := lt_of_lt_of_eq t.isLt (t4_trips ct h)
    rw [mult3_eq ct h, toNat_ofNat_lt _ (by omega)]; omega
  · have ht : t.val < 24 - startN ct 8 / 128 := lt_of_lt_of_eq t.isLt (t4_trips ct h)
    rw [off7_eq ct h]; fin_cases a; show startN ct 8 + 128 * t.val + 128 ≤ 3072; omega
  · rw [t5_loop_eq, tot_eq ct h]; exact fillR_ok _ (by omega)
  · exact absurd (lt_of_lt_of_eq t.isLt (t5_trips ct h)) (Nat.not_lt_zero _)
  · exact absurd (lt_of_lt_of_eq t.isLt (t5_trips ct h)) (Nat.not_lt_zero _)

end Counts

end Cert.Sort
-- ==== Proof.Count.lean ====
/-
  The counting sort's arithmetic: how many tokens before a given one go to an expert, what the sixteen lanes of one trip
  contribute to that count, where a trip's indexed store puts the tokens, and the array the whole sort leaves.
-/
module

public import Mathlib.Data.BitVec
public import Mathlib.Tactic.Ring
public import Mathlib.Data.Nat.Count
public import proofs.«01_k».proof.Proof.Words

@[expose] public section

set_option maxRecDepth 16384

namespace Cert.Sort

open Cert.KernelIdeal Cert.KernelIdeal.Gen
open Idealize.ShloMosaic

variable {F : FTy → Type} [FloatOps F]

/-! ## Counting -/

/-- Token `t`'s expert (a word no expert has, past the last token). -/
def idsN (ids : Vec F S2048 .i32) (t : ℕ) : BitVec 32 := if h : t < 2048 then ids (Shape.ofLane (d := ![2048]) ⟨t, h⟩) else 8#32

/-- Token `t` goes to expert `j`. -/
def hit (ids : Vec F S2048 .i32) (j t : ℕ) : Prop := idsN ids t = BitVec.ofNat 32 j
/-- Whether a token is one of an expert's is decidable. -/
instance (ids : Vec F S2048 .i32) (j : ℕ) : DecidablePred (hit ids j) := fun t => inferInstanceAs (Decidable (idsN ids t = BitVec.ofNat 32 j))

/-- How many of the first `t` tokens go to expert `j`, -/
def cnt (ids : Vec F S2048 .i32) (j t : ℕ) : ℕ := Nat.count (hit ids j) t
/-- and how many of all. -/
def ctN (ids : Vec F S2048 .i32) (j : ℕ) : ℕ := cnt ids j 2048

/-- Every word is an expert's number, or 8. -/
def IdsOK (ids : Vec F S2048 .i32) : Prop := ∀ i, (ids i).toNat ≤ 8

/-- A token's expert, as a word, is below nine. -/
theorem idsN_le {ids : Vec F S2048 .i32} (h : IdsOK ids) (t : ℕ) : (idsN ids t).toNat < 9 := by
  unfold idsN; split
  · exact Nat.lt_succ_of_le (h _)
  · decide

/-- Numbers below 2 ^ 32 with the same word are equal. -/
theorem ofNat_inj32 {a b : ℕ} (ha : a < 4294967296) (hb : b < 4294967296) (h : BitVec.ofNat 32 a = BitVec.ofNat 32 b) : a = b := by
  have := congrArg BitVec.toNat h
  rw [BitVec.toNat_ofNat, BitVec.toNat_ofNat, Nat.mod_eq_of_lt ha, Nat.mod_eq_of_lt hb] at this
  exact this

/-- A token is one expert's only. -/
theorem hit_uniq {ids : Vec F S2048 .i32} {j j' t : ℕ} (hj : j < 8) (hj' : j' < 8) (h : hit ids j t) (h' : hit ids j' t) : j = j' :=
  ofNat_inj32 (by omega) (by omega) (h.symm.trans h')

/-- Only a token that exists is an expert's. -/
theorem hit_lt {ids : Vec F S2048 .i32} {j t : ℕ} (hj : j < 8) (h : hit ids j t) : t < 2048 := by
  by_contra hn
  unfold hit idsN at h
  rw [dif_neg hn] at h
  have := ofNat_inj32 (a := 8) (by omega) (by omega) h
  omega

/-- The count of an expert's tokens grows by one at a token of its own. -/
theorem cnt_succ (ids : Vec F S2048 .i32) (j t : ℕ) : cnt ids j (t + 1) = cnt ids j t + if hit ids j t then 1 else 0 := Nat.count_succ _ _
/-- No token comes before the first. -/
theorem cnt_zero (ids : Vec F S2048 .i32) (j : ℕ) : cnt ids j 0 = 0 := Nat.count_zero _
/-- The count only grows. -/
theorem cnt_mono (ids : Vec F S2048 .i32) (j : ℕ) {a b : ℕ} (h : a ≤ b) : cnt ids j a ≤ cnt ids j b := Nat.count_monotone _ h
/-- No more of an expert's tokens come before a token than tokens do. -/
theorem cnt_le (ids : Vec F S2048 .i32) (j t : ℕ) : cnt ids j t ≤ t := Nat.count_le _

/-- A token goes to one expert at most, so the counts of the eight add up to no more than the tokens. -/
theorem cnt_sum (ids : Vec F S2048 .i32) (t : ℕ) : ∑ j ∈ Finset.range 8, cnt ids j t ≤ t := by
  induction t with
  | zero => simp [cnt_zero]
  | succ t ih =>
      simp only [cnt_succ, Finset.sum_add_distrib]
      have : ∑ j ∈ Finset.range 8, (if hit ids j t then 1 else 0) ≤ 1 := by
        rw [← Finset.card_filter, Finset.card_le_one]
        intro a ha b hb
        rw [Finset.mem_filter, Finset.mem_range] at ha hb
        exact hit_uniq ha.1 hb.1 ha.2 hb.2
      omega

/-- The experts' counts add up to at most the number of tokens. -/
theorem ct_sum (ids : Vec F S2048 .i32) : ∑ j ∈ Finset.range 8, ctN ids j ≤ 2048 := cnt_sum ids 2048

/-- Before a token of an expert's come fewer of its tokens than it has. -/
theorem cnt_lt_ct {ids : Vec F S2048 .i32} {j t : ℕ} (hj : j < 8) (h : hit ids j t) : cnt ids j t < ctN ids j := by
  have h1 : cnt ids j (t + 1) ≤ ctN ids j := cnt_mono ids j (hit_lt hj h)
  rw [cnt_succ, if_pos h] at h1; omega

/-- The tokens of an expert are numbered in order, each number once, -/
theorem cnt_inj {ids : Vec F S2048 .i32} {j t t' : ℕ} (h : hit ids j t) (h' : hit ids j t') (e : cnt ids j t = cnt ids j t') : t = t' :=
  Nat.count_injective h h' e

/-- and every number below the count is some token's. -/
theorem exists_cnt (ids : Vec F S2048 .i32) (j n : ℕ) {k : ℕ} (hk : k < cnt ids j n) : ∃ t, t < n ∧ hit ids j t ∧ cnt ids j t = k := by
  induction n with
  | zero => rw [cnt_zero] at hk; omega
  | succ n ih =>
      by_cases hlt : k < cnt ids j n
      · obtain ⟨t, ht, h⟩ := ih hlt; exact ⟨t, by omega, h⟩
      · rw [cnt_succ] at hk
        by_cases hh : hit ids j n
        · rw [if_pos hh] at hk; exact ⟨n, by omega, hh, by omega⟩
        · rw [if_neg hh] at hk; omega

/-! ## Lanes -/

/-- A vector of sixteen words, lane by lane. -/
def lane {α : Type} (v : S16.Idx → α) (k : ℕ) : α :=
  if h : k < 16 then v (Shape.ofLane (d := ![16]) ⟨k, h⟩) else v (Shape.ofLane (d := ![16]) ⟨0, by decide⟩)

/-- A vector's entry is the lane of its coordinate. -/
theorem lane_at {α : Type} (v : S16.Idx → α) (i : S16.Idx) : v i = lane v (i 0).val := by
  unfold lane
  rw [dif_pos (show (i 0).val < 16 from (i 0).isLt)]
  congr 1; funext a; rw [Fin.eq_zero a]; rfl

/-- The fold by addition over lanes 1 to n, from lane 0, is the sum. -/
theorem foldl_range' (w : ℕ → BitVec 32) (n : ℕ) : (List.range' 1 n).foldl (fun r k => r + w k) (w 0) = ∑ k ∈ Finset.range (n + 1), w k := by
  induction n with
  | zero => simp
  | succ n ih => rw [List.range'_1_concat, List.foldl_append, ih, Finset.sum_range_succ _ (n + 1)]; simp [Nat.add_comm]

/-- The lanes after the first, up to a given one. -/
theorem filter_lanes : ∀ j : Fin 16, ((List.finRange 16).filter fun k => decide (0 < k.val ∧ k.val ≤ j.val)).map Fin.val = List.range' 1 j.val := by
  decide +kernel

/-- The running sum at a lane is the sum of the lanes up to it. -/
theorem scan_lane (v : IVec S16 32) (i : S16.Idx) : scan .sum v i = ∑ k ∈ Finset.range ((i 0).val + 1), lane v k := by
  rw [← foldl_range', ← filter_lanes (i 0), List.foldl_map]
  unfold scan
  have h : (fun (r : BitVec 32) (k : Fin 16) => ScanKind.step .sum r (v (Shape.ofLane k))) = fun r k => r + lane v k.val := by
    funext r k
    show r + v (Shape.ofLane k) = _
    rw [lane_at v (Shape.ofLane k)]; rfl
  have h0 : v (Shape.ofLane ⟨0, (i 0).pos⟩) = lane v 0 := by rw [lane_at v]; rfl
  show List.foldl (fun (r : BitVec 32) (k : Fin 16) => ScanKind.step .sum r (v (Shape.ofLane k))) _ _ = _
  rw [h, h0]; rfl

/-- The last lane of the running sum is the sum of the lanes. -/
theorem scan_last (v : IVec S16 32) (h : ∀ a, (![15] : Fin 1 → Nat) a < S16.size a) :
    extractAt ![15] (scan .sum v) h = ∑ k ∈ Finset.range 16, lane v k := by
  unfold extractAt; rw [scan_lane]; rfl

/-! ## One trip -/

/-- What a trip adds at a lane: 1 where the word is the expert's, 0 elsewhere. -/
theorem mi_word : ∀ a < 9, ∀ e < 8,
    IntOp.subi (1#32) (IntOp.minsi (IntOp.absi (IntOp.subi (BitVec.ofNat 32 a) (BitVec.ofNat 32 e))) 1#32)
      = if a = e then 1#32 else 0#32 := by decide +kernel

/-- The word that marks an expert's token: one if it is, zero if not. -/
theorem mi_eq {ids : Vec F S2048 .i32} (hok : IdsOK ids) (t e : ℕ) (he : e < 8) :
    IntOp.subi (1#32) (IntOp.minsi (IntOp.absi (IntOp.subi (idsN ids t) (BitVec.ofNat 32 e))) 1#32)
      = if hit ids e t then 1#32 else 0#32 := by
  have h1 : idsN ids t = BitVec.ofNat 32 (idsN ids t).toNat := by rw [BitVec.ofNat_toNat, BitVec.setWidth_eq]
  have h2 := mi_word _ (idsN_le hok t) e he
  rw [← h1] at h2
  rw [h2]
  by_cases h : (idsN ids t).toNat = e
  · rw [if_pos h, if_pos]; unfold hit; rw [h1, h]
  · rw [if_neg h, if_neg]; intro hh; unfold hit at hh; rw [hh, toNat_ofNat_lt _ (by omega)] at h; exact h rfl

/-- Sixteen tokens' contributions, from token `a` on. -/
theorem sum_hits (ids : Vec F S2048 .i32) (e a n : ℕ) :
    BitVec.ofNat 32 (cnt ids e a) + ∑ k ∈ Finset.range n, (if hit ids e (a + k) then 1#32 else 0#32) = BitVec.ofNat 32 (cnt ids e (a + n)) := by
  induction n with
  | zero => simp
  | succ n ih =>
      rw [Finset.sum_range_succ, ← add_assoc, ih, ← Nat.add_assoc, cnt_succ]
      by_cases h : hit ids e (a + n)
      · rw [if_pos h, if_pos h, BitVec.ofNat_add]
      · rw [if_neg h, if_neg h]; simp

/-- The words a trip loads: tokens `a …  a + 15`. -/
def Loaded (ids : Vec F S2048 .i32) (a : ℕ) (v : Vec F S16 .i32) : Prop := ∀ k < 16, lane v k = idsN ids (a + k)

/-- The mask vector has a one at the lanes of the expert's tokens. -/
theorem pay2_lane {ids : Vec F S2048 .i32} (hok : IdsOK ids) {a : ℕ} {v : Vec F S16 .i32} (hv : Loaded ids a v) {e : ℕ} (he : e < 8)
    (v8 : IVec S16 32) (h8 : ∀ i, v8 i = BitVec.ofNat 32 e) (k : ℕ) (hk : k < 16) :
    lane (k1_pay2 (F := F) v8 v) k = if hit ids e (a + k) then 1#32 else 0#32 := by
  rw [← mi_eq hok _ _ he, ← hv k hk]
  unfold lane; rw [dif_pos hk, dif_pos hk]
  show IntOp.subi 1#32 (IntOp.minsi (IntOp.absi (IntOp.subi (v _) (v8 _))) 1#32) = _
  rw [h8]

/-- The trip's positions: a token of the expert's goes to its number, the others to the last place. -/
theorem pay3_lane {ids : Vec F S2048 .i32} (hok : IdsOK ids) {a : ℕ} {v : Vec F S16 .i32} (hv : Loaded ids a v) {e : ℕ} (he : e < 8)
    (v8 : IVec S16 32) (h8 : ∀ i, v8 i = BitVec.ofNat 32 e) (k : ℕ) (hk : k < 16) :
    lane (k1_pay3 (F := F) v8 (BitVec.ofNat 32 (cnt ids e a)) v) k
      = BitVec.ofNat 32 (if hit ids e (a + k) then cnt ids e (a + k) else 2288) := by
  have hs : lane (scan .sum (k1_pay2 (F := F) v8 v)) k = ∑ l ∈ Finset.range (k + 1), (if hit ids e (a + l) then 1#32 else 0#32) := by
    unfold lane; rw [dif_pos hk, scan_lane]
    refine Finset.sum_congr rfl fun l hl => ?_
    have hl' : l < k + 1 := Finset.mem_range.mp hl
    exact pay2_lane hok hv he v8 h8 l (by omega)
  have h3 : lane (k1_pay3 (F := F) v8 (BitVec.ofNat 32 (cnt ids e a)) v) k
      = ((BitVec.ofNat 32 (cnt ids e a) + lane (scan .sum (k1_pay2 (F := F) v8 v)) k) - 1#32) * lane (k1_pay2 (F := F) v8 v) k
        + 2288#32 * (1#32 - lane (k1_pay2 (F := F) v8 v) k) := by
    unfold lane; rw [dif_pos hk, dif_pos hk, dif_pos hk]; rfl
  rw [h3, hs, sum_hits, pay2_lane hok hv he v8 h8 k hk, ← Nat.add_assoc, cnt_succ]
  by_cases h : hit ids e (a + k)
  · rw [if_pos h, if_pos h, if_pos h, BitVec.ofNat_add]
    have : ∀ x : BitVec 32, (x + 1#32 - 1#32) * 1#32 + 2288#32 * (1#32 - 1#32) = x := by intro x; simp
    exact this _
  · rw [if_neg h, if_neg h, if_neg h]; simp

/-- The running count after the trip. -/
theorem off_step {ids : Vec F S2048 .i32} (hok : IdsOK ids) {a : ℕ} {v : Vec F S16 .i32} (hv : Loaded ids a v) {e : ℕ} (he : e < 8)
    (v8 : IVec S16 32) (h8 : ∀ i, v8 i = BitVec.ofNat 32 e) (h : ∀ b, (![15] : Fin 1 → Nat) b < S16.size b) :
    Scalar.addi (BitVec.ofNat 32 (cnt ids e a)) (extractAt ![15] (k1_pay22 (k1_pay2 (F := F) v8 v)) h) = BitVec.ofNat 32 (cnt ids e (a + 16)) := by
  have h1 : extractAt ![15] (k1_pay22 (k1_pay2 (F := F) v8 v)) h = ∑ l ∈ Finset.range 16, (if hit ids e (a + l) then 1#32 else 0#32) := by
    unfold k1_pay22; rw [scan_last]
    exact Finset.sum_congr rfl fun l hl => pay2_lane hok hv he v8 h8 l (Finset.mem_range.mp hl)
  rw [h1]; exact sum_hits ids e a 16

/-- The lane counts of expert `j` add up to the count of its tokens so far. -/
def HOk (ids : Vec F S2048 .i32) (j a : ℕ) (h : IVec S16 32) : Prop := ∑ k ∈ Finset.range 16, lane h k = BitVec.ofNat 32 (cnt ids j a)

/-- A histogram vector stays right across one vector of tokens. -/
theorem hok_step {ids : Vec F S2048 .i32} (hok : IdsOK ids) {a : ℕ} {v : Vec F S16 .i32} (hv : Loaded ids a v) {j : ℕ} (hj : j < 8)
    {h h' : IVec S16 32} (hh : HOk ids j a h)
    (he : ∀ i, h' i = IntOp.subi (IntOp.addi (h i) 1#32) (IntOp.minsi (IntOp.absi (IntOp.subi (v i) (BitVec.ofNat 32 j))) 1#32)) :
    HOk ids j (a + 16) h' := by
  unfold HOk
  rw [← sum_hits ids j a 16, ← hh, ← Finset.sum_add_distrib]
  refine Finset.sum_congr rfl fun k hk => ?_
  have hk' := Finset.mem_range.mp hk
  rw [← mi_eq hok _ _ hj, ← hv k hk']
  unfold lane; rw [dif_pos hk', dif_pos hk', dif_pos hk', he]
  unfold IntOp.subi IntOp.addi
  rw [add_sub_assoc]

/-- The empty histogram is right at the start. -/
theorem hok_zero (ids : Vec F S2048 .i32) (j : ℕ) : HOk ids j 0 k1_pay20 := by
  unfold HOk
  rw [cnt_zero]
  refine Finset.sum_eq_zero fun k hk => ?_
  unfold lane; split <;> rfl

/-- The lanes' token numbers. -/
def ToksOk (a : ℕ) (v : IVec S16 32) : Prop := ∀ k < 16, lane v k = BitVec.ofNat 32 (a + k)

/-- The vector of token numbers moves on by sixteen. -/
theorem toks_step {a : ℕ} {v : IVec S16 32} (hv : ToksOk a v) : ToksOk (a + 16) (k1_pay23 v) := by
  intro k hk
  have h : lane (k1_pay23 v) k = lane v k + 16#32 := by unfold lane; rw [dif_pos hk, dif_pos hk]; rfl
  rw [h, hv k hk, show a + 16 + k = a + k + 16 by omega, BitVec.ofNat_add (a + k)]

/-- The vector of token numbers starts at zero. -/
theorem toks_zero : ToksOk 0 (iota .scVector S16 32 [0] iota_S16_d0_w32_scVector) := by
  intro k hk
  unfold lane; rw [dif_pos hk, Nat.zero_add]
  show BitVec.ofNat 32 (0 * 16 + k) = _
  rw [Nat.zero_mul, Nat.zero_add]

/-! ## The indexed store -/

/-- A place that no store of a list names keeps its contents. -/
theorem foldl_none {ι κ β : Type} (p : ι → κ → Prop) [∀ k j, Decidable (p k j)] (y : ι → β) (L : List ι) (f : κ → β) (j : κ)
    (h : ∀ k ∈ L, ¬ p k j) : (L.foldl (fun g k => fun j => if p k j then y k else g j) f) j = f j := by
  induction L generalizing f with
  | nil => rfl
  | cons a L ih =>
      rw [List.foldl_cons, ih _ fun k hk => h k (List.mem_cons_of_mem _ hk), if_neg (h a List.mem_cons_self)]

/-- A place at which every store that names it writes one value holds that value. -/
theorem foldl_some {ι κ β : Type} (p : ι → κ → Prop) [∀ k j, Decidable (p k j)] (y : ι → β) (L : List ι) (f : κ → β) (j : κ) (b : β)
    (hex : ∃ k ∈ L, p k j) (hall : ∀ k ∈ L, p k j → y k = b) : (L.foldl (fun g k => fun j => if p k j then y k else g j) f) j = b := by
  induction L generalizing f with
  | nil => obtain ⟨k, hk, _⟩ := hex; exact absurd hk List.not_mem_nil
  | cons a L ih =>
      rw [List.foldl_cons]
      by_cases hL : ∃ k ∈ L, p k j
      · exact ih _ hL fun k hk => hall k (List.mem_cons_of_mem _ hk)
      · rw [foldl_none p y L _ j fun k hk hp => hL ⟨k, hk, hp⟩]
        obtain ⟨k, hk, hp⟩ := hex
        rcases List.mem_cons.mp hk with rfl | hk'
        · rw [if_pos hp]; exact hall k List.mem_cons_self hp
        · exact absurd ⟨k, hk', hp⟩ hL

/-- The comp array's word at `k`. -/
def at2304 (f : Vec F S2304 .i32) (k : ℕ) : BitVec 32 := if h : k < 2304 then f (Shape.ofLane (d := ![2304]) ⟨k, h⟩) else 0#32

/-- An indexed store, as a fold of its lanes' single stores. -/
theorem storeIdx_fold (f : Vec F S2304 .i32) (ix v : IVec S16 32)
    (h : ∀ (a : Fin 1) (x : S16.Idx), ((![ix] : Fin 1 → IVec S16 32) a x).toNat < S2304.size a) :
    storeIdx (F := F) (s := S2304) (e := .i32) f ![ix] v (fun _ => 1#1) false h
      = (List.finRange 16).foldl (fun g (l : Fin 16) => fun j : S2304.Idx =>
          if ∀ a, (j a).val = (idxAt (s := S2304) ![ix] h (Shape.ofLane (d := ![16]) l) a).val then v (Shape.ofLane (d := ![16]) l) else g j) f := by
  unfold storeIdx
  congr 1
  funext g l
  refine (if_pos rfl).trans (funext fun j => ?_)
  by_cases hp : ∀ a, (j a).val = (idxAt (s := S2304) ![ix] h (Shape.ofLane (d := ![16]) l) a).val
  · refine Eq.trans (b := v (Shape.ofLane (d := ![16]) l)) ?_ ?_
    · refine Eq.trans (if_pos hp) ?_
      rfl
    · exact (if_pos hp).symm
  · refine Eq.trans (b := g j) ?_ ?_
    · exact if_neg hp
    · exact (if_neg hp).symm

/-- A place that no lane of an indexed store names keeps its contents. -/
theorem storeIdx_at (f : Vec F S2304 .i32) (ix v : IVec S16 32) (h : ∀ (a : Fin 1) (x : S16.Idx), ((![ix] : Fin 1 → IVec S16 32) a x).toNat < S2304.size a)
    (k : ℕ) (hk : k < 2304) :
    (∀ l < 16, (lane ix l).toNat ≠ k) → at2304 (F := F) (storeIdx (F := F) (s := S2304) (e := .i32) f ![ix] v (fun _ => 1#1) false h) k = at2304 (F := F) f k := by
  intro hn
  unfold at2304; rw [dif_pos hk, dif_pos hk]
  rw [storeIdx_fold]
  refine foldl_none (fun (l : Fin 16) (j : S2304.Idx) => ∀ a, (j a).val = (idxAt ![ix] h (Shape.ofLane l) a).val) (fun l => v (Shape.ofLane l)) _ f _ ?_
  intro l _ hp
  have h1 := hp 0
  have h2 : (lane ix l.val).toNat = k := by
    have : ix (Shape.ofLane l) = lane ix l.val := lane_at ix (Shape.ofLane l)
    rw [← this]; exact h1.symm
  exact hn l.val l.isLt h2

/-- A place that lanes of an indexed store name holds the value they all write. -/
theorem storeIdx_hit (f : Vec F S2304 .i32) (ix v : IVec S16 32) (h : ∀ (a : Fin 1) (x : S16.Idx), ((![ix] : Fin 1 → IVec S16 32) a x).toNat < S2304.size a)
    (k : ℕ) (hk : k < 2304) (b : BitVec 32) (hex : ∃ l < 16, (lane ix l).toNat = k) (hall : ∀ l < 16, (lane ix l).toNat = k → lane v l = b) :
    at2304 (F := F) (storeIdx (F := F) (s := S2304) (e := .i32) f ![ix] v (fun _ => 1#1) false h) k = b := by
  unfold at2304; rw [dif_pos hk]
  rw [storeIdx_fold]
  have hl : ∀ l : Fin 16, ix (Shape.ofLane l) = lane ix l.val := fun l => lane_at ix (Shape.ofLane l)
  refine foldl_some (fun (l : Fin 16) (j : S2304.Idx) => ∀ a, (j a).val = (idxAt ![ix] h (Shape.ofLane l) a).val) (fun l => v (Shape.ofLane l)) _ f _ b ?_ ?_
  · obtain ⟨l, hl16, hlk⟩ := hex
    refine ⟨⟨l, hl16⟩, List.mem_finRange _, fun a => ?_⟩
    have ha : a = 0 := Fin.eq_zero a
    subst ha
    have h2 : (ix (Shape.ofLane (d := ![16]) ⟨l, hl16⟩)).toNat = k := (congrArg BitVec.toNat (hl ⟨l, hl16⟩)).trans hlk
    exact h2.symm
  · intro l _ hp
    have h1 : k = (ix (Shape.ofLane l)).toNat := hp 0
    rw [hl] at h1
    have h2 := hall l.val l.isLt h1.symm
    exact (lane_at v (Shape.ofLane l)).trans h2

/-- The comp array after the first `a` tokens: each token of the expert's stands at its number. -/
def CompOk (ids : Vec F S2048 .i32) (e a : ℕ) (f : Vec F S2304 .i32) : Prop := ∀ t < a, hit ids e t → at2304 f (cnt ids e t) = BitVec.ofNat 32 t

/-- The compacted list stays right across one vector of tokens. -/
theorem comp_step {ids : Vec F S2048 .i32} (hok : IdsOK ids) {a : ℕ} (ha : a + 16 ≤ 2048) {v : Vec F S16 .i32} (hv : Loaded ids a v) {e : ℕ} (he : e < 8)
    (v8 : IVec S16 32) (h8 : ∀ i, v8 i = BitVec.ofNat 32 e) {toks : IVec S16 32} (ht : ToksOk a toks) {f : Vec F S2304 .i32} (hf : CompOk ids e a f)
    (h : ∀ (b : Fin 1) (x : S16.Idx), ((![k1_pay3 (F := F) v8 (BitVec.ofNat 32 (cnt ids e a)) v] : Fin 1 → IVec S16 32) b x).toNat < S2304.size b) :
    CompOk ids e (a + 16) (storeIdx (F := F) (s := S2304) (e := .i32) f ![k1_pay3 (F := F) v8 (BitVec.ofNat 32 (cnt ids e a)) v] toks (fun _ => 1#1) false h) := by
  have hpos : ∀ l < 16, (lane (k1_pay3 (F := F) v8 (BitVec.ofNat 32 (cnt ids e a)) v) l).toNat = if hit ids e (a + l) then cnt ids e (a + l) else 2288 := by
    intro l hl
    rw [pay3_lane hok hv he v8 h8 l hl]
    have := cnt_le ids e (a + l)
    split <;> exact toNat_ofNat_lt _ (by omega)
  intro t hta hit_t
  have hct := cnt_le ids e t
  by_cases hlt : t < a
  · rw [storeIdx_at _ _ _ _ _ (by omega)]
    · exact hf t hlt hit_t
    · intro l hl hc
      rw [hpos l hl] at hc
      split at hc
      · rename_i hh
        have := cnt_inj hh hit_t hc
        omega
      · omega
  · refine storeIdx_hit _ _ _ _ _ (by omega) _ ⟨t - a, by omega, ?_⟩ ?_
    · rw [hpos _ (by omega), show a + (t - a) = t by omega, if_pos hit_t]
    · intro l hl hc
      rw [hpos l hl] at hc
      split at hc
      · rename_i hh
        have := cnt_inj hh hit_t hc
        rw [ht l hl, this]
      · omega

/-- The positions lie in the comp array. -/
theorem pay3_lt {ids : Vec F S2048 .i32} (hok : IdsOK ids) {a : ℕ} (ha : a + 16 ≤ 2048) {v : Vec F S16 .i32} (hv : Loaded ids a v) {e : ℕ} (he : e < 8)
    (v8 : IVec S16 32) (h8 : ∀ i, v8 i = BitVec.ofNat 32 e) (x : S16.Idx) :
    (k1_pay3 (F := F) v8 (BitVec.ofNat 32 (cnt ids e a)) v x).toNat < 2304 := by
  have hx : (x 0).val < 16 := (x 0).isLt
  rw [lane_at (k1_pay3 (F := F) v8 (BitVec.ofNat 32 (cnt ids e a)) v) x, pay3_lane hok hv he v8 h8 _ hx]
  have := cnt_le ids e (a + (x 0).val)
  split <;> rw [toNat_ofNat_lt _ (by omega)] <;> omega

/-! ## The sorted array -/

/-- Position `p` of the sorted array is token `t`'s. -/
def Slot (ids : Vec F S2048 .i32) (p t : ℕ) : Prop := ∃ j, j < 8 ∧ hit ids j t ∧ p = startN (ctN ids) j + cnt ids j t

/-- The word at position `p` of the sorted array: the token whose position it is, or 2048 at a padding position. -/
noncomputable def sidxW (ids : Vec F S2048 .i32) (p : ℕ) : BitVec 32 :=
  open Classical in if h : ∃ t, Slot ids p t then BitVec.ofNat 32 h.choose else 2048#32

/-- An expert's padded run ends no later than a later expert's begins. -/
theorem startN_step_le (ct : ℕ → ℕ) {j j' : ℕ} (h : j < j') : startN ct j + cpad (ct j) ≤ startN ct j' := by
  rw [← startN_succ]; exact startN_mono ct h

/-- A position is one token's at most. -/
theorem slot_uniq {ids : Vec F S2048 .i32} {p t t' : ℕ} (h : Slot ids p t) (h' : Slot ids p t') : t = t' := by
  obtain ⟨j, hj, hh, hp⟩ := h
  obtain ⟨j', hj', hh', hp'⟩ := h'
  have h1 := cnt_lt_ct hj hh
  have h1' := cnt_lt_ct hj' hh'
  have h2 := le_cpad (ctN ids j)
  have h2' := le_cpad (ctN ids j')
  have : j = j' := by
    rcases Nat.lt_trichotomy j j' with h | h | h
    · have := startN_step_le (ctN ids) h; omega
    · exact h
    · have := startN_step_le (ctN ids) h; omega
  subst this
  exact cnt_inj hh hh' (by omega)

/-- The sorted array holds, at a token's slot, the token's number. -/
theorem sidxW_slot {ids : Vec F S2048 .i32} {p t : ℕ} (h : Slot ids p t) : sidxW ids p = BitVec.ofNat 32 t := by
  unfold sidxW
  have hex : ∃ t, Slot ids p t := ⟨t, h⟩
  rw [dif_pos hex]
  rw [slot_uniq hex.choose_spec h]

/-- The sorted array holds the number of tokens where no token has its slot. -/
theorem sidxW_none {ids : Vec F S2048 .i32} {p : ℕ} (h : ¬ ∃ t, Slot ids p t) : sidxW ids p = 2048#32 := by
  unfold sidxW; rw [dif_neg h]

/-- In an expert's run, past its tokens, the array pads; -/
theorem sidxW_pad {ids : Vec F S2048 .i32} {e k : ℕ} (he : e < 8) (hk : ctN ids e ≤ k) (hk' : k < cpad (ctN ids e)) :
    sidxW ids (startN (ctN ids) e + k) = 2048#32 := by
  refine sidxW_none ?_
  rintro ⟨t, j, hj, hh, hp⟩
  have h1 := cnt_lt_ct hj hh
  have h2 := le_cpad (ctN ids j)
  rcases Nat.lt_trichotomy e j with h | h | h
  · have := startN_step_le (ctN ids) h; omega
  · subst h; omega
  · have := startN_step_le (ctN ids) h; omega

/-- and past the last run. -/
theorem sidxW_tail {ids : Vec F S2048 .i32} {p : ℕ} (hp : startN (ctN ids) 8 ≤ p) : sidxW ids p = 2048#32 := by
  refine sidxW_none ?_
  rintro ⟨t, j, hj, hh, hpt⟩
  have h1 := cnt_lt_ct hj hh
  have h2 := le_cpad (ctN ids j)
  have := startN_step_le (ctN ids) hj; omega

/-- An expert's run of the array, from its comp array once that is padded. -/
theorem sidxW_run {ids : Vec F S2048 .i32} {e : ℕ} (he : e < 8) {f : Vec F S2304 .i32} (hf : CompOk ids e 2048 f)
    (hp : ∀ k, ctN ids e ≤ k → k < ctN ids e + 128 → at2304 f k = 2048#32) (k : ℕ) (hk : k < cpad (ctN ids e)) :
    at2304 f k = sidxW ids (startN (ctN ids) e + k) := by
  by_cases h : k < ctN ids e
  · obtain ⟨t, ht, hh, hc⟩ := exists_cnt ids e 2048 h
    rw [sidxW_slot (t := t) ⟨e, he, hh, by rw [hc]⟩, ← hc]
    exact hf t ht hh
  · rw [sidxW_pad he (by omega) hk]
    have := cpad_lt (ctN ids e)
    exact hp k (by omega) (by omega)

/-- The word at entry `i` of the runs' table: the tiles of the experts before `i`. -/
noncomputable def stW (ids : Vec F S2048 .i32) (i : ℕ) : BitVec 32 := BitVec.ofNat 32 (startN (ctN ids) (min i 8) / 128)

end Cert.Sort
-- ==== Proof.Base.lean ====
/-
  The sorting kernel's setting: the program as the launch sees it, its buffers and semaphores, and what the handshakes of
  the one SparseCore call carry.
-/
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Count

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch sees it -/

/-- The labels of the program with its three pipelined calls. -/
abbrev ΛP : Labels := Pipeline.Sig Λ₀ (Fin 3) fun p => (pcfgs (F := F) p).Adm
/-- The SparseCore call's configuration. -/
abbrev K : SparseCore.Cfg τ sig (ΛP (F := F)) 1 := sc (F := F)
/-- The definitions of the program with its three pipelined calls. -/
abbrev D : Defs nD τ sig (Elt F) (ΛP (F := F)) := Pipeline.defs pcfgs defs₀
/-- No loop of the bodies needs a variant. -/
abbrev 𝒱₀ : Variants := Variants.none
/-- No loop of the whole program needs a variant. -/
abbrev 𝒱 : Variants := 𝒱₀.lift
/-- The starting variant. -/
abbrev v₀ : 𝒱.V := Sum.inl none

/-- The SparseCore call's side conditions hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds, the pipelines' rounds, the transfers' counters -/

/-- The ghost state of the SparseCore call's handshakes. -/
abbrev UH : Type := URounds (GSem nD τ sig) ℕ
/-- The ghost state of the pipelined calls. -/
abbrev UP : Type := URounds (GSem nD τ sig) Unit
/-- The ghost state of the whole program. -/
abbrev UU : Type := UH × (UP × Counters)

/-- The propositions' model. -/
abbrev MM (F : FTy → Type) : Type := MT nD τ sig (HIx 1) (Elt F) ℕ UU ℕ

/-- Where the handshakes' ghost state sits in the whole. -/
abbrev EH : Emb UH (MM F) := embL

/-! ## The buffers -/

/-- The experts' numbers, the sorted tokens and the runs' table, as locations of device `d`. -/
abbrev eLoc (d : Dev nD) : Loc nD τ sig := (SparseCore.T d).loc main_v1_0
/-- The array of the sorted tokens' numbers. -/
abbrev sLoc (d : Dev nD) : Loc nD τ sig := (SparseCore.T d).loc main_v2_0
/-- The table of the experts' first tiles. -/
abbrev tLoc (d : Dev nD) : Loc nD τ sig := (SparseCore.T d).loc main_v2_1

/-- The tokens' experts, as a tile sees them. -/
abbrev eV : Memref sig .scVector .hbm S2048 .i32 := Memref.whole main_v1_0_scv
/-- The sorted tokens' numbers, as a tile sees them. -/
abbrev sV : Memref sig .scVector .hbm S3072 .i32 := Memref.whole main_v2_0_scv
/-- The table of first tiles, as a tile sees it. -/
abbrev tV : Memref sig .scVector .hbm S16 .i32 := Memref.whole main_v2_1_scv
/-- A tile's own copy of the tokens' experts. -/
abbrev bI : Memref sig .scVector .vmem S2048 .i32 := Memref.whole cc1_scratch0
/-- A tile's compacted list of its expert's tokens. -/
abbrev bC : Memref sig .scVector .vmem S2304 .i32 := Memref.whole cc1_scratch1
/-- A tile's run of the number that stands for no token. -/
abbrev bN : Memref sig .scVector .vmem S128 .i32 := Memref.whole cc1_scratch2
/-- A tile's own copy of the table of first tiles. -/
abbrev bT : Memref sig .scVector .vmem S16 .i32 := Memref.whole cc1_scratch3

/-- The SparseCore of a pair of coordinates. -/
abbrev cV (i : grid1.Coords) : Fin τ.nSC := (i 0).castLE hcore1
/-- The tile of a pair of coordinates. -/
abbrev jV (i : grid1.Coords) : Fin τ.nSub := (i 1).castLE hsub1
/-- The tile at `i`, as a thread. -/
abbrev VT (d : Dev nD) (i : grid1.Coords) : Thread nD τ := V d (cV i) (jV i)

/-- The positions of the sorted array tile `w` writes: its expert's run, the last tile's to the array's end. -/
def runSet (ids : Vec F S2048 .i32) (w : ℕ) : Finset S3072.Idx :=
  Finset.univ.filter fun p => startN (ctN ids) w ≤ (p 0).val ∧ (w = 7 ∨ (p 0).val < startN (ctN ids) (w + 1))

/-- The sorted array. -/
def sidxV (ids : Vec F S2048 .i32) : Vec F S3072 .i32 := fun p => sidxW ids (p 0).val
/-- The runs' table. -/
def stV (ids : Vec F S2048 .i32) : Vec F S16 .i32 := fun p => stW ids (p 0).val

/-- What a tile is given: a share of the experts' numbers, its run of the sorted array, and, the first tile, the table. -/
def goP (ids : Vec F S2048 .i32) (d : Dev nD) (w : ℕ) : sProp (MM F) :=
  if w < 8 then iprop((eLoc d ↦{Transfers.shareTokN fullShare w} ids) ∗ (∃ f, sLoc d ↦[runSet ids w]{fullShare} f)
    ∗ (if w = 0 then iprop(∃ f, tLoc d ↦{fullShare} f) else iprop(emp))) else iprop(emp)
/-- What it gives back: the same, the run sorted and the table made. -/
def tdP (ids : Vec F S2048 .i32) (d : Dev nD) (w : ℕ) : sProp (MM F) :=
  if w < 8 then iprop((eLoc d ↦{Transfers.shareTokN fullShare w} ids) ∗ (sLoc d ↦[runSet ids w]{fullShare} sidxV ids)
    ∗ (if w = 0 then iprop(tLoc d ↦{fullShare} stV ids) else iprop(emp))) else iprop(emp)

/-! ## A tile's own cells and buffers -/

/-- A tile's semaphore of a given name. -/
abbrev cell (s : DmaSems sig S_) (d : Dev nD) (c : Fin τ.nSC) (j : Fin τ.nSub) : GSem nD τ sig := (V d c j, .dma s.sem)

omit [FloatOps F] in
/-- A tile's semaphores, at zero, are its six copies' and the rest. -/
theorem ownSems0_V (d : Dev nD) (c : Fin τ.nSC) (j : Fin τ.nSub) :
    (ownSems0 (V d c j) : sProp (MM F))
      = iprop(semVal (cell cc1_scoped0 d c j) 0 ∗ semVal (cell cc1_scoped1 d c j) 0 ∗ semVal (cell cc1_scoped2 d c j) 0
          ∗ semVal (cell cc1_scoped3 d c j) 0 ∗ semVal (cell cc1_scoped4 d c j) 0 ∗ semVal (cell cc1_scoped5 d c j) 0
          ∗ bigSep ((((((ownCells (V d c j)).erase (cell cc1_scoped0 d c j)).erase (cell cc1_scoped1 d c j)).erase (cell cc1_scoped2 d c j)).erase
              (cell cc1_scoped3 d c j)).erase (cell cc1_scoped4 d c j) |>.erase (cell cc1_scoped5 d c j)) fun g => semVal g 0) := by
  have ne : ∀ s s' : DmaSems sig S_, s.sem ≠ s'.sem → cell s d c j ≠ cell s' d c j := by
    intro s s' h e
    exact h (SemLoc.dma.inj (Prod.mk.inj e).2)
  have mem : ∀ s : DmaSems sig S_, (SemLoc.dma s.sem : SemLoc sig).isScoped .scVector = true → cell s d c j ∈ ownCells (V d c j) := fun s h =>
    (mem_ownCells (g := cell s d c j)).mpr ⟨rfl, h⟩
  unfold SparseCore.Cfg.ownSems0
  rw [SparseCore.bigSep_erase' (mem cc1_scoped0 (by decide)),
    SparseCore.bigSep_erase' (Finset.mem_erase.mpr ⟨ne cc1_scoped1 cc1_scoped0 (by decide), mem cc1_scoped1 (by decide)⟩),
    SparseCore.bigSep_erase' (Finset.mem_erase.mpr ⟨ne cc1_scoped2 cc1_scoped1 (by decide), Finset.mem_erase.mpr ⟨ne cc1_scoped2 cc1_scoped0 (by decide), mem cc1_scoped2 (by decide)⟩⟩),
    SparseCore.bigSep_erase' (Finset.mem_erase.mpr ⟨ne cc1_scoped3 cc1_scoped2 (by decide), Finset.mem_erase.mpr ⟨ne cc1_scoped3 cc1_scoped1 (by decide),
      Finset.mem_erase.mpr ⟨ne cc1_scoped3 cc1_scoped0 (by decide), mem cc1_scoped3 (by decide)⟩⟩⟩),
    SparseCore.bigSep_erase' (Finset.mem_erase.mpr ⟨ne cc1_scoped4 cc1_scoped3 (by decide), Finset.mem_erase.mpr ⟨ne cc1_scoped4 cc1_scoped2 (by decide),
      Finset.mem_erase.mpr ⟨ne cc1_scoped4 cc1_scoped1 (by decide), Finset.mem_erase.mpr ⟨ne cc1_scoped4 cc1_scoped0 (by decide), mem cc1_scoped4 (by decide)⟩⟩⟩⟩),
    SparseCore.bigSep_erase' (Finset.mem_erase.mpr ⟨ne cc1_scoped5 cc1_scoped4 (by decide), Finset.mem_erase.mpr ⟨ne cc1_scoped5 cc1_scoped3 (by decide),
      Finset.mem_erase.mpr ⟨ne cc1_scoped5 cc1_scoped2 (by decide), Finset.mem_erase.mpr ⟨ne cc1_scoped5 cc1_scoped1 (by decide),
        Finset.mem_erase.mpr ⟨ne cc1_scoped5 cc1_scoped0 (by decide), mem cc1_scoped5 (by decide)⟩⟩⟩⟩⟩)]

omit [FloatOps F] in
/-- A tile's buffers are its four scratch buffers and the rest. -/
theorem ownBufs_V (d : Dev nD) (c : Fin τ.nSC) (j : Fin τ.nSub) :
    (ownBufs (V d c j) : sProp (MM F))
      = iprop((∃ f, (V d c j).loc cc1_scratch0 ↦{fullShare} f) ∗ (∃ f, (V d c j).loc cc1_scratch1 ↦{fullShare} f)
          ∗ (∃ f, (V d c j).loc cc1_scratch2 ↦{fullShare} f) ∗ (∃ f, (V d c j).loc cc1_scratch3 ↦{fullShare} f)
          ∗ bigSep (((((ownRefs (τ := τ) (.scVector c j)).erase ((Proc.scVector c j).devRef cc1_scratch0)).erase
              ((Proc.scVector c j).devRef cc1_scratch1)).erase ((Proc.scVector c j).devRef cc1_scratch2)).erase ((Proc.scVector c j).devRef cc1_scratch3))
              fun b => iprop(∃ f, ((d, b) : Loc nD τ sig) ↦{fullShare} f)) := by
  have ne : ∀ r r' : Ref sig .scVector, r ≠ r' → (Proc.scVector c j).devRef r ≠ (Proc.scVector c j).devRef r' := fun r r' h e =>
    h (Proc.devRef_injective _ e)
  have mem : ∀ r : Ref sig .scVector, ((Proc.scVector c j).devRef r).owner = .proc (Proc.scVector c j) → (Proc.scVector c j).devRef r ∈ ownRefs (τ := τ) (.scVector c j) :=
    fun r h => SparseCore.Cfg.mem_ownRefs_of_owner (p := Proc.scVector c j) (b := (Proc.scVector c j).devRef r) h
  unfold SparseCore.Cfg.ownBufs
  refine (SparseCore.bigSep_erase' (mem cc1_scratch0 rfl)).trans ?_
  rw [SparseCore.bigSep_erase' (Finset.mem_erase.mpr ⟨ne cc1_scratch1 cc1_scratch0 (by decide), mem cc1_scratch1 rfl⟩),
    SparseCore.bigSep_erase' (Finset.mem_erase.mpr ⟨ne cc1_scratch2 cc1_scratch1 (by decide), Finset.mem_erase.mpr ⟨ne cc1_scratch2 cc1_scratch0 (by decide), mem cc1_scratch2 rfl⟩⟩),
    SparseCore.bigSep_erase' (Finset.mem_erase.mpr ⟨ne cc1_scratch3 cc1_scratch2 (by decide), Finset.mem_erase.mpr ⟨ne cc1_scratch3 cc1_scratch1 (by decide),
      Finset.mem_erase.mpr ⟨ne cc1_scratch3 cc1_scratch0 (by decide), mem cc1_scratch3 rfl⟩⟩⟩)]

end Cert.Sort

end
-- ==== Proof.Tile1.lean ====
/-
  The tile's scan: 128 trips, each over sixteen tokens, that place a tile's tokens in its scratch and count every expert's.
-/
module

public import Idealize.ShloMosaic.Lib.SparseCore.Ops
public import proofs.«01_k».proof.Proof.Base

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A tile's scratch, read as a load, a store and a scatter of it hold it. -/
theorem pts_access (d : Dev nD) (i : grid1.Coords) (f : Vec F S2304 .i32) :
    ((((bC.access (.whole S2304)).loc (VT d i)) ↦[(bC.access (.whole S2304)).set]{fullShare} f) : sProp (MM F)) = iprop(bC.view.loc (VT d i) ↦{fullShare} f) := by
  rw [show (bC.access (.whole S2304)).set = Finset.univ from Memref.set_access_whole cc1_scratch1]

/-- A load of sixteen of the experts' numbers. -/
theorem loaded_read (ids : Vec F S2048 .i32) (t : Fin k1_t1_loop.trips) (hin : ∀ a, k1_off1 t a + S16.size a ≤ S2048.size a) :
    Loaded ids (16 * t.val) (bI.view.readAt (Elt F) (Rect.unit (s := S2048) (k1_off1 t) S16.size hin).toLoadRect ids) := by
  intro k hk
  have ht : t.val < 128 := lt_of_lt_of_eq t.isLt t1_trips
  unfold lane idsN
  rw [dif_pos hk, dif_pos (show 16 * t.val + k < 2048 by omega)]
  show ids _ = ids _
  congr 1; funext a; fin_cases a
  apply Fin.ext
  show k1_off1 t 0 + 1 * k = 16 * t.val + k
  rw [off1_eq, Nat.one_mul]; rfl

/-- What a scatter of the tokens leaves in the scratch. -/
theorem write_access (f g : Vec F S2304 .i32) :
    (bC.access (.whole S2304)).write (Elt F) f g Finset.univ = g := by
  exact Memref.write_access_whole_univ (Elt F) cc1_scratch1 f g

/-- The first part of a trip: sixteen experts' numbers loaded, and the tile's tokens among them scattered. -/
theorem part1_run (d : Dev nD) (i : grid1.Coords) (ids : Vec F S2048 .i32) (hok : IdsOK ids) (hi : widN i < 8) (k1_h1 : k1_cond1 i = 1#1)
    (v8 : IVec S16 32) (h8 : ∀ x, v8 x = BitVec.ofNat 32 (widN i)) (t : Fin k1_t1_loop.trips) (toks h0 h1 h2 : IVec S16 32) (ht : ToksOk (16 * t.val) toks)
    (f : Vec F S2304 .i32) (hf : CompOk ids (widN i) (16 * t.val) f)
    (Q : (Σ' (v304 : Vec F S16 .i32) (v310 : IVec S16 32) (v330 : IVec S16 32) (v338 : IVec S16 32) (v340 : IVec S16 32), IVec S16 32) → sProp (MM F)) :
    iprop((bI.view.loc (VT d i) ↦{fullShare} ids) ∗ (bC.view.loc (VT d i) ↦{fullShare} f)
      ∗ (∀ (v : Vec F S16 .i32) (g : Vec F S2304 .i32), ⌜Loaded ids (16 * t.val) v ∧ CompOk ids (widN i) (16 * t.val + 16) g⌝ -∗
          (bI.view.loc (VT d i) ↦{fullShare} ids) -∗ (bC.view.loc (VT d i) ↦{fullShare} g) -∗
          Q ⟨v, k1_pay2 v8 v, k1_pay4 h0 v, k1_pay5 h1 v, k1_pay6 h2, k1_pay7 v⟩))
      ⊢ wp frame (wpE (defs₀ (F := F)) 𝒱₀ (VT d i) none) Set.univ
          (k1_part1 (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            k1_h1 v8 0#32 1#32 t (BitVec.ofNat 32 (cnt ids (widN i) (16 * t.val))) toks h0 h1 h2) Q := by
  have htlt : t.val < 128 := lt_of_lt_of_eq t.isLt t1_trips
  have hv := loaded_read ids t (k1_off1_inb i t k1_h1)
  have hlt := pay3_lt hok (by omega) hv hi v8 h8
  have hchk : k1_chk1 i (k1_pay3 v8 (BitVec.ofNat 32 (cnt ids (widN i) (16 * t.val)))
      (bI.view.readAt (Elt F) (Rect.unit (s := S2048) (k1_off1 t) S16.size (k1_off1_inb i t k1_h1)).toLoadRect ids)) := by
    intro _ a x; fin_cases a; exact hlt x
  sl_unfold [k1_part1]
  iintro ⟨HI, HC, HQ⟩
  sl_exec
  unfold part1_run.sl.v322
  ihave HC := (Entails.of_eq (pts_access d i f).symm) $$ HC
  iapply (SparseCore.wp_vectorStoreIdx 𝒱₀ (VT d i) none Set.univ (base := bC)) $$ HC; iintro HC
  rw [write_access, show (bC.access (.whole S2304)).read (Elt F) f = f from Memref.read_access_whole (Elt F) cc1_scratch1 f]
  ihave HC := (Entails.of_eq (pts_access d i _)) $$ HC
  have hg := comp_step hok (a := 16 * t.val) (by omega) hv hi v8 h8 ht hf (fun a x => by fin_cases a; exact hlt x)
  sl_step
  iapply HQ $$ %_ %_ [] [HI] [HC]
  · ipureintro; exact ⟨hv, hg⟩
  · iexact HI
  · iexact HC

/-- What the scan's trips keep: the tile's offset, the token numbers, the eight counts, and the scratch's placed tokens. -/
def inv1 (d : Dev nD) (i : grid1.Coords) (ids : Vec F S2048 .i32) (c : ℕ)
    (acc : BitVec 32 × IVec S16 32 × IVec S16 32 × IVec S16 32 × IVec S16 32 × IVec S16 32 × IVec S16 32 × IVec S16 32 × IVec S16 32 × IVec S16 32) : sProp (MM F) :=
  iprop(∃ f : Vec F S2304 .i32, ⌜CompOk ids (widN i) (16 * c) f ∧ acc.1 = BitVec.ofNat 32 (cnt ids (widN i) (16 * c)) ∧ ToksOk (16 * c) acc.2.1
      ∧ HOk ids 0 (16 * c) acc.2.2.1 ∧ HOk ids 1 (16 * c) acc.2.2.2.1 ∧ HOk ids 2 (16 * c) acc.2.2.2.2.1 ∧ HOk ids 3 (16 * c) acc.2.2.2.2.2.1
      ∧ HOk ids 4 (16 * c) acc.2.2.2.2.2.2.1 ∧ HOk ids 5 (16 * c) acc.2.2.2.2.2.2.2.1 ∧ HOk ids 6 (16 * c) acc.2.2.2.2.2.2.2.2.1 ∧ HOk ids 7 (16 * c) acc.2.2.2.2.2.2.2.2.2⌝
    ∗ (bI.view.loc (VT d i) ↦{fullShare} ids) ∗ (bC.view.loc (VT d i) ↦{fullShare} f))

/-- A trip of the scan keeps it. -/
theorem t1_step (d : Dev nD) (i : grid1.Coords) (ids : Vec F S2048 .i32) (hok : IdsOK ids) (hi : widN i < 8) (k1_h1 : k1_cond1 i = 1#1)
    (v1 : BitVec 32) (h1 : v1 = BitVec.ofNat 32 (widN i)) (t : Fin k1_t1_loop.trips)
    (acc : BitVec 32 × IVec S16 32 × IVec S16 32 × IVec S16 32 × IVec S16 32 × IVec S16 32 × IVec S16 32 × IVec S16 32 × IVec S16 32 × IVec S16 32) :
    inv1 d i ids t.val acc
      ⊢ wp frame (wpE (defs₀ (F := F)) 𝒱₀ (VT d i) none) Set.univ
          (k1_t1_body (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            v1 k1_h1 t acc) fun acc' => inv1 d i ids (t.val + 1) acc' := by
  obtain ⟨a10, a11, a12, a13, a14, a15, a16, a17, a18, a19⟩ := acc
  unfold inv1
  iintro ⟨%f, %hp, HI, HC⟩
  obtain ⟨hf, h10, ht, h12, h13, h14, h15, h16, h17, h18, h19⟩ := hp
  simp only at h10 ht h12 h13 h14 h15 h16 h17 h18 h19
  subst h10
  have h8 : ∀ x, k1_pay21 v1 x = BitVec.ofNat 32 (widN i) := fun x => (show k1_pay21 v1 x = v1 from BitVec.zero_add v1).trans h1
  unfold k1_t1_body
  rw [wp_bind]
  iapply (part1_run d i ids hok hi k1_h1 (k1_pay21 v1) h8 t a11 a12 a13 a14 ht f hf _)
  isplitl [HI]; · iexact HI
  isplitl [HC]; · iexact HC
  iintro %v %g %hvg HI HC
  obtain ⟨hv, hg⟩ := hvg
  sl_exec
  sl_step
  iexists g
  have he : 16 * (t.val + 1) = 16 * t.val + 16 := by omega
  rw [he]
  isplitl []
  · ipureintro
    exact ⟨hg, off_step hok hv hi _ h8 _, toks_step ht, hok_step hok hv (by decide) h12 fun _ => rfl, hok_step hok hv (by decide) h13 fun _ => rfl,
      hok_step hok hv (by decide) h14 fun _ => rfl, hok_step hok hv (by decide) h15 fun _ => rfl, hok_step hok hv (by decide) h16 fun _ => rfl,
      hok_step hok hv (by decide) h17 fun _ => rfl, hok_step hok hv (by decide) h18 fun _ => rfl, hok_step hok hv (by decide) h19 fun _ => rfl⟩
  isplitl [HI]; · iexact HI
  iexact HC

end Cert.Sort

end
-- ==== Proof.Tile2.lean ====
/-
  What follows the scan: the padding stored behind the placed tokens, and the run copied out tile by tile.
-/
module

public import Idealize.ShloMosaic.Lib.SparseCore.Ops
public import proofs.«01_k».proof.Proof.Tile1

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The padding -/

/-- `g` is `f` with `m` words of padding from position `n` on. -/
def Pad (n m : ℕ) (f g : Vec F S2304 .i32) : Prop := ∀ k < 2304, at2304 g k = if n ≤ k ∧ k < n + m then 2048#32 else at2304 f k

/-- No store pads nothing. -/
theorem pad_nil (n : ℕ) (f : Vec F S2304 .i32) : Pad n 0 f (bC.view.writes (Elt F) f []) := by
  intro k _
  rw [if_neg (by omega)]; rfl

/-- One more vector stored pads sixteen more places. -/
theorem pad_cons {n m : ℕ} {f f' : Vec F S2304 .i32} {L : List (View.Piece (Elt F) S2304 .i32)} (h : Pad n m f (bC.view.writes (Elt F) f' L))
    (off : Fin 1 → ℕ) (inb : ∀ a, off a + S16.size a ≤ S2304.size a) (ho : off 0 = n + m) :
    Pad n (m + 16) f (bC.view.writes (Elt F) f' (⟨Rect.unit (s := S2304) off S16.size inb, (k1_pay32 : IVec S16 32)⟩ :: L)) := by
  intro k hk
  have hin : off 0 + 16 ≤ 2304 := inb 0
  have hrd : ∀ g : Vec F S2304 .i32, at2304 g k = bC.view.read (Elt F) g (Shape.ofLane (d := ![2304]) ⟨k, hk⟩) := by
    intro g; unfold at2304; rw [dif_pos hk]; rfl
  by_cases hm : n + m ≤ k ∧ k < n + m + 16
  · rw [if_pos (by omega), hrd]
    refine (View.read_writes_cons_hit_of_coords bC.view _ (Rect.unit (s := S2304) off S16.size inb) _ L
      (Shape.ofLane (d := ![16]) ⟨k - (n + m), by show k - (n + m) < 16; omega⟩) _ ?_).trans rfl
    intro a; fin_cases a
    show k = off 0 + 1 * (k - (n + m))
    omega
  · rw [hrd, View.read_writes_cons_miss_of_axis bC.view _ _ L _ 0 (n + m) 16 ho rfl rfl ?_, ← hrd, h k hk]
    · by_cases h2 : n ≤ k ∧ k < n + m
      · rw [if_pos h2, if_pos (by omega)]
      · rw [if_neg h2, if_neg (by omega)]
    · show k < n + m ∨ n + m + 16 ≤ k
      omega

/-- Where a padding vector goes. -/
theorem off2_at {n : ℕ} (hn : n ≤ 2048) (r : ℕ) (hr : r ≤ 128) : k1_off2 (BitVec.ofNat 32 n) (BitVec.ofNat 32 r) 0 = n + r := by
  rw [off2_eq n r hn hr]; rfl

/-- The first five stores of padding. -/
theorem part13_run (d : Dev nD) (i : grid1.Coords) (k1_h1 : k1_cond1 i = 1#1) (n : ℕ) (hn : n ≤ 2048) (v1 : BitVec 32) (hw2 : k1_chk2 i (BitVec.ofNat 32 n))
    (v94 v114 v134 v154 v174 v194 v200 c2 : BitVec 32) (f : Vec F S2304 .i32)
    (Q : (Σ' (v218 : BitVec 32), IVec S16 32) → sProp (MM F)) :
    iprop((bC.view.loc (VT d i) ↦{fullShare} f)
      ∗ (∀ w (v : IVec S16 32) (g : Vec F S2304 .i32), ⌜Pad n 80 f g ∧ v = k1_pay32⌝ -∗ (bC.view.loc (VT d i) ↦{fullShare} g) -∗ Q ⟨w, v⟩))
      ⊢ wp frame (wpE (defs₀ (F := F)) 𝒱₀ (VT d i) none) Set.univ
          (k1_part13 (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            v1 k1_h1 (BitVec.ofNat 32 n) hw2 v94 v114 v134 v154 v174 v194 v200 c2) Q := by
  sl_unfold [k1_part13]
  iintro ⟨HC, HQ⟩
  sl_exec
  sl_step
  iapply HQ $$ %_ %_ %_ [] [HC]
  rotate_left
  · iexact HC
  · ipureintro
    refine ⟨?_, rfl⟩
    exact pad_cons (pad_cons (pad_cons (pad_cons (pad_cons (pad_nil n f) _ _ (off2_at hn 0 (by decide))) _ _ (off2_at hn 16 (by decide)))
      _ _ (off2_at hn 32 (by decide))) _ _ (off2_at hn 48 (by decide))) _ _ (off2_at hn 64 (by decide))

/-- The last three. -/
theorem part14_run (d : Dev nD) (i : grid1.Coords) (k1_h1 : k1_cond1 i = 1#1) (n : ℕ) (hn : n ≤ 2048) (hw2 : k1_chk2 i (BitVec.ofNat 32 n))
    (f f' : Vec F S2304 .i32) (hf : Pad n 80 f f')
    (Q : (Σ' (v264 : BitVec 32) (v275 : BitVec 1) (v276 : BitVec 32), BitVec 32) → sProp (MM F)) :
    iprop((bC.view.loc (VT d i) ↦{fullShare} f')
      ∗ (∀ w (g : Vec F S2304 .i32), ⌜Pad n 128 f g⌝ -∗ (bC.view.loc (VT d i) ↦{fullShare} g) -∗ Q w))
      ⊢ wp frame (wpE (defs₀ (F := F)) 𝒱₀ (VT d i) none) Set.univ
          (k1_part14 (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            k1_h1 (BitVec.ofNat 32 n) hw2 k1_pay32) Q := by
  sl_unfold [k1_part14]
  iintro ⟨HC, HQ⟩
  sl_exec
  sl_step
  iapply HQ $$ %_ %_ [] [HC]
  rotate_left
  · iexact HC
  · ipureintro
    have h0 : Pad n 80 f (bC.view.writes (Elt F) f' []) := hf
    exact pad_cons (pad_cons (pad_cons h0 _ _ (off2_at hn 80 (by decide))) _ _ (off2_at hn 96 (by decide))) _ _ (off2_at hn 112 (by decide))

end Cert.Sort

end
-- ==== Proof.Tile3.lean ====
/-
  The run copied out, a tile of 128 positions a trip.
-/
module

public import Idealize.ShloMosaic.Lib.SparseCore.Ops
public import proofs.«01_k».proof.Proof.Tile2

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The positions trip `t` of the copying loop writes, as the program slices them. -/
abbrev sSl (i : grid1.Coords) (v10 v13 v16 v19 v22 v25 v28 v31 v34 : BitVec 32) (hw3 : k1_chk3 i v10 v13 v16 v19 v22 v25 v28 v31 v34) (h1 : k1_cond1 i = 1#1)
    (t : Fin (k1_t2_loop v10).trips) : Memref sig .scVector .hbm S128 .i32 :=
  sV.slice (Rect.unit (s := S3072) (k1_off4 i v10 v13 v16 v19 v22 v25 v28 v31 v34 t) S128.size (k1_off4_inb i v10 v13 v16 v19 v22 v25 v28 v31 v34 hw3 t h1)) (fun _ => rfl)

/-- Where a tile's copy goes in the sorted array. -/
theorem sSl_off (i : grid1.Coords) (ids : Vec F S2048 .i32) (hi : widN i < 8)
    (t : Fin (k1_t2_loop (cw (ctN ids) (widN i))).trips) :
    k1_off4 i (cw (ctN ids) (widN i)) (cw (ctN ids) 0) (cw (ctN ids) 1) (cw (ctN ids) 2) (cw (ctN ids) 3) (cw (ctN ids) 4) (cw (ctN ids) 5)
      (cw (ctN ids) 6) (cw (ctN ids) 7) t 0 = startN (ctN ids) (widN i) + 128 * t.val := by
  rw [off4_eq (ctN ids) (ct_sum ids) i hi t]; rfl

/-- A tile's copy stays within its padded run. -/
theorem t2_lt (i : grid1.Coords) (ids : Vec F S2048 .i32) (hi : widN i < 8) (t : Fin (k1_t2_loop (cw (ctN ids) (widN i))).trips) :
    128 * t.val + 128 ≤ cpad (ctN ids (widN i)) := by
  have hn := ct_le (ctN ids) (ct_sum ids) _ hi
  have ht : t.val < (ctN ids (widN i) + 127) / 128 := lt_of_lt_of_eq t.isLt (t2_trips _ (by omega))
  unfold cpad; omega

/-- A position of trip `t`'s slice, by its number. -/
theorem sSl_mem {i : grid1.Coords} {v10 v13 v16 v19 v22 v25 v28 v31 v34 : BitVec 32} {hw3 : k1_chk3 i v10 v13 v16 v19 v22 v25 v28 v31 v34} {h1 : k1_cond1 i = 1#1}
    {t : Fin (k1_t2_loop v10).trips} {p : S3072.Idx} (hp : p ∈ (sSl i v10 v13 v16 v19 v22 v25 v28 v31 v34 hw3 h1 t).view.set) :
    ∃ x : S128.Idx, (sSl i v10 v13 v16 v19 v22 v25 v28 v31 v34 hw3 h1 t).view.emb x = p ∧ (p 0).val = k1_off4 i v10 v13 v16 v19 v22 v25 v28 v31 v34 t 0 + (x 0).val := by
  obtain ⟨x, -, hx⟩ := Finset.mem_map.mp hp
  refine ⟨x, hx, ?_⟩
  subst hx
  show k1_off4 i v10 v13 v16 v19 v22 v25 v28 v31 v34 t 0 + 1 * (x 0).val = _
  rw [Nat.one_mul]

/-- A place between a copy's first and last is in its slice. -/
theorem sSl_of_mem {i : grid1.Coords} {v10 v13 v16 v19 v22 v25 v28 v31 v34 : BitVec 32} {hw3 : k1_chk3 i v10 v13 v16 v19 v22 v25 v28 v31 v34} {h1 : k1_cond1 i = 1#1}
    {t : Fin (k1_t2_loop v10).trips} {p : S3072.Idx} (h : k1_off4 i v10 v13 v16 v19 v22 v25 v28 v31 v34 t 0 ≤ (p 0).val)
    (h' : (p 0).val < k1_off4 i v10 v13 v16 v19 v22 v25 v28 v31 v34 t 0 + 128) : p ∈ (sSl i v10 v13 v16 v19 v22 v25 v28 v31 v34 hw3 h1 t).view.set := by
  refine Finset.mem_map.mpr ⟨Shape.ofLane (d := ![128]) ⟨(p 0).val - k1_off4 i v10 v13 v16 v19 v22 v25 v28 v31 v34 t 0, by show _ < 128; omega⟩, Finset.mem_univ _, ?_⟩
  funext a; fin_cases a
  apply Fin.ext
  show k1_off4 i v10 v13 v16 v19 v22 v25 v28 v31 v34 t 0 + 1 * ((p 0).val - k1_off4 i v10 v13 v16 v19 v22 v25 v28 v31 v34 t 0) = (p 0).val
  omega

/-- A copying trip, its slice of the array held by itself. -/
theorem t2_copy (d : Dev nD) (i : grid1.Coords) (O : CellTallies nD τ sig (HIx 1)) (W : Waits sig (HIx 1)) (k1_h1 : k1_cond1 i = 1#1)
    (v10 v13 v16 v19 v22 v25 v28 v31 v34 : BitVec 32) (hw2 : k1_chk2 i v10) (hw3 : k1_chk3 i v10 v13 v16 v19 v22 v25 v28 v31 v34)
    (t : Fin (k1_t2_loop v10).trips) (acc : BitVec 32) (f : Vec F S2304 .i32) (g : Vec F S3072 .i32) (Q : BitVec 32 → sProp (MM F)) :
    iprop(Transfers.MayWaits (VT d i) (default : HIx 1) O ∗ (bC.view.loc (VT d i) ↦{fullShare} f)
      ∗ ((sSl i v10 v13 v16 v19 v22 v25 v28 v31 v34 hw3 k1_h1 t).view.loc (VT d i) ↦[(sSl i v10 v13 v16 v19 v22 v25 v28 v31 v34 hw3 k1_h1 t).view.set]{fullShare} g)
      ∗ semVal (cell cc1_scoped1 d (cV i) (jV i)) 0 ∗ owes (VT d i) O W
      ∗ (∀ (r : BitVec 32) (g' : Vec F S3072 .i32) (W' : Waits sig (HIx 1)),
          ⌜∀ x : S128.Idx, g' ((sSl i v10 v13 v16 v19 v22 v25 v28 v31 v34 hw3 k1_h1 t).view.emb x) = at2304 f (k1_off3 v10 t 0 + (x 0).val)⌝ -∗
          Transfers.MayWaits (VT d i) (default : HIx 1) O -∗ (bC.view.loc (VT d i) ↦{fullShare} f) -∗
          ((sSl i v10 v13 v16 v19 v22 v25 v28 v31 v34 hw3 k1_h1 t).view.loc (VT d i) ↦[(sSl i v10 v13 v16 v19 v22 v25 v28 v31 v34 hw3 k1_h1 t).view.set]{fullShare} g') -∗
          semVal (cell cc1_scoped1 d (cV i) (jV i)) 0 -∗ owes (VT d i) O W' -∗ Q r))
      ⊢ wp frame (wpE (defs₀ (F := F)) 𝒱₀ (VT d i) none) Set.univ
          (k1_t2_body (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            k1_h1 v10 hw2 v13 v16 v19 v22 v25 v28 v31 v34 hw3 t acc) Q := by
  unfold k1_t2_body
  iintro ⟨Hmw, HC, HS, Hsem, HO, HQ⟩
  sl_exec
  sl_step
  iapply HQ $$ %_ %_ %_ [] [Hmw] [HC] [HS] [Hsem] [HO]
  rotate_left
  · iexact Hmw
  · iexact HC
  · iexact HS
  · iexact Hsem
  · iexact HO
  · ipureintro
    intro x
    have hin := k1_off3_inb i v10 hw2 t k1_h1 0
    have hlt : k1_off3 v10 t 0 + (x 0).val < 2304 := by
      have hx : (x 0).val < 128 := (x 0).isLt
      have : k1_off3 v10 t 0 + 128 ≤ 2304 := hin
      omega
    refine (View.read_writes_cons_hit_of_coords (sSl i v10 v13 v16 v19 v22 v25 v28 v31 v34 hw3 k1_h1 t).view g (Rect.whole S128) _ [] x x ?_).trans ?_
    · intro a; show (x a).val = 0 + 1 * (x a).val; omega
    · unfold at2304; rw [dif_pos hlt]
      show f _ = f _
      congr 1; funext a; fin_cases a
      apply Fin.ext
      show k1_off3 v10 t 0 + 1 * (x 0).val = k1_off3 v10 t 0 + (x 0).val
      rw [Nat.one_mul]

/-- What the copying loop keeps: the run's first `c` tiles sorted. -/
def inv2 (d : Dev nD) (i : grid1.Coords) (ids : Vec F S2048 .i32) (f : Vec F S2304 .i32) (O : CellTallies nD τ sig (HIx 1)) (c : ℕ) (_ : BitVec 32) : sProp (MM F) :=
  iprop(Transfers.MayWaits (VT d i) (default : HIx 1) O ∗ (bC.view.loc (VT d i) ↦{fullShare} f)
    ∗ (∃ g : Vec F S3072 .i32, ⌜∀ p ∈ runSet ids (widN i), (p 0).val < startN (ctN ids) (widN i) + 128 * c → g p = sidxV ids p⌝
        ∗ (sV.view.loc (VT d i) ↦[runSet ids (widN i)]{fullShare} g))
    ∗ semVal (cell cc1_scoped1 d (cV i) (jV i)) 0 ∗ (∃ W', owes (VT d i) O W'))

/-- A copying trip keeps it. -/
theorem t2_step (d : Dev nD) (i : grid1.Coords) (ids : Vec F S2048 .i32) (hi : widN i < 8) (f : Vec F S2304 .i32)
    (hf : ∀ k < cpad (ctN ids (widN i)), at2304 f k = sidxW ids (startN (ctN ids) (widN i) + k))
    (O : CellTallies nD τ sig (HIx 1)) (k1_h1 : k1_cond1 i = 1#1)
    (hw2 : k1_chk2 i (cw (ctN ids) (widN i)))
    (hw3 : k1_chk3 i (cw (ctN ids) (widN i)) (cw (ctN ids) 0) (cw (ctN ids) 1) (cw (ctN ids) 2) (cw (ctN ids) 3) (cw (ctN ids) 4) (cw (ctN ids) 5)
      (cw (ctN ids) 6) (cw (ctN ids) 7))
    (t : Fin (k1_t2_loop (cw (ctN ids) (widN i))).trips) (acc : BitVec 32) :
    inv2 d i ids f O t.val acc
      ⊢ wp frame (wpE (defs₀ (F := F)) 𝒱₀ (VT d i) none) Set.univ
          (k1_t2_body (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            k1_h1 (cw (ctN ids) (widN i)) hw2 (cw (ctN ids) 0) (cw (ctN ids) 1) (cw (ctN ids) 2) (cw (ctN ids) 3) (cw (ctN ids) 4) (cw (ctN ids) 5)
            (cw (ctN ids) 6) (cw (ctN ids) 7) hw3 t acc) fun acc' => inv2 d i ids f O (t.val + 1) acc' := by
  have hoff := sSl_off i ids hi t
  have hlt := t2_lt i ids hi t
  have hoff3 : k1_off3 (cw (ctN ids) (widN i)) t 0 = 128 * t.val := by
    rw [off3_eq _ (ct_le (ctN ids) (ct_sum ids) _ hi)]; rfl
  have hsub : (sSl i _ _ _ _ _ _ _ _ _ hw3 k1_h1 t).view.set ⊆ runSet ids (widN i) := by
    intro p hp
    obtain ⟨x, -, hx⟩ := sSl_mem hp
    have hx' : (x 0).val < 128 := (x 0).isLt
    rw [hoff] at hx
    refine Finset.mem_filter.mpr ⟨Finset.mem_univ _, by omega, .inr ?_⟩
    rw [startN_succ]; omega
  unfold inv2
  iintro ⟨Hmw, HC, ⟨%g, %hg, HS⟩, Hsem, ⟨%W', HO⟩⟩
  ihave HS := (pointsTo_split_subset hsub).1 $$ HS
  icases HS with ⟨HS, HR⟩
  iapply (t2_copy d i O W' k1_h1 _ _ _ _ _ _ _ _ _ hw2 hw3 t acc f g _)
  isplitl [Hmw]; · iexact Hmw
  isplitl [HC]; · iexact HC
  isplitl [HS]; · iexact HS
  isplitl [Hsem]; · iexact Hsem
  isplitl [HO]; · iexact HO
  iintro %r %g' %W'' %hg' Hmw HC HS Hsem HO
  isplitl [Hmw]; · iexact Hmw
  isplitl [HC]; · iexact HC
  isplitl [HS HR]
  · ihave H := (pointsTo_join_subset (ℓ := sV.view.loc (VT d i)) (g := g') (f := g) (q := fullShare) hsub) $$ [HS HR]
    · isplitl [HS]; · iexact HS
      iexact HR
    iexists _
    isplitr; swap; · iexact H
    ipureintro
    intro p hp hpl
    by_cases hmem : p ∈ (sSl i _ _ _ _ _ _ _ _ _ hw3 k1_h1 t).view.set
    · rw [Finset.piecewise_eq_of_mem _ _ _ hmem]
      obtain ⟨x, hx, hx0⟩ := sSl_mem hmem
      have hx' : (x 0).val < 128 := (x 0).isLt
      rw [← hx, hg' x, hoff3, hf _ (by omega), hx]
      unfold sidxV; congr 1; rw [hx0, hoff]; omega
    · rw [Finset.piecewise_eq_of_notMem _ _ _ hmem]
      refine hg p hp ?_
      by_contra hge
      refine hmem (sSl_of_mem ?_ ?_)
      · rw [hoff]; omega
      · rw [hoff]; omega
  isplitl [Hsem]; · iexact Hsem
  iexists _; iexact HO

end Cert.Sort

end
-- ==== Proof.Tile4.lean ====
/-
  The end of the array filled with padding by the last working tile.
-/
module

public import Idealize.ShloMosaic.Lib.SparseCore.Ops
public import proofs.«01_k».proof.Proof.Tile3

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The positions trip `t` of the filling loop writes, as the program slices them. -/
abbrev fSl (i : grid1.Coords) (v10 v13 v16 v19 v22 v25 v28 v31 v34 : BitVec 32) (hw3 : k1_chk3 i v10 v13 v16 v19 v22 v25 v28 v31 v34) (h1 : k1_cond1 i = 1#1)
    (h2 : k1_cond2 i = 1#1) (t : Fin (k1_t4_loop v13 v16 v19 v22 v25 v28 v31 v34).trips) : Memref sig .scVector .hbm S128 .i32 :=
  sV.slice (Rect.unit (s := S3072) (k1_off7 v13 v16 v19 v22 v25 v28 v31 v34 t) S128.size (k1_off7_inb i v10 v13 v16 v19 v22 v25 v28 v31 v34 hw3 t h1 h2)) (fun _ => rfl)

/-- A place in the slice of a filling copy lies between its first and last. -/
theorem fSl_mem {i : grid1.Coords} {v10 v13 v16 v19 v22 v25 v28 v31 v34 : BitVec 32} {hw3 : k1_chk3 i v10 v13 v16 v19 v22 v25 v28 v31 v34} {h1 : k1_cond1 i = 1#1}
    {h2 : k1_cond2 i = 1#1} {t : Fin (k1_t4_loop v13 v16 v19 v22 v25 v28 v31 v34).trips} {p : S3072.Idx} (hp : p ∈ (fSl i v10 v13 v16 v19 v22 v25 v28 v31 v34 hw3 h1 h2 t).view.set) :
    ∃ x : S128.Idx, (fSl i v10 v13 v16 v19 v22 v25 v28 v31 v34 hw3 h1 h2 t).view.emb x = p ∧ (p 0).val = k1_off7 v13 v16 v19 v22 v25 v28 v31 v34 t 0 + (x 0).val := by
  obtain ⟨x, -, hx⟩ := Finset.mem_map.mp hp
  refine ⟨x, hx, ?_⟩
  subst hx
  show k1_off7 v13 v16 v19 v22 v25 v28 v31 v34 t 0 + 1 * (x 0).val = _
  rw [Nat.one_mul]

/-- A place between a filling copy's first and last is in its slice. -/
theorem fSl_of_mem {i : grid1.Coords} {v10 v13 v16 v19 v22 v25 v28 v31 v34 : BitVec 32} {hw3 : k1_chk3 i v10 v13 v16 v19 v22 v25 v28 v31 v34} {h1 : k1_cond1 i = 1#1}
    {h2 : k1_cond2 i = 1#1} {t : Fin (k1_t4_loop v13 v16 v19 v22 v25 v28 v31 v34).trips} {p : S3072.Idx} (h : k1_off7 v13 v16 v19 v22 v25 v28 v31 v34 t 0 ≤ (p 0).val)
    (h' : (p 0).val < k1_off7 v13 v16 v19 v22 v25 v28 v31 v34 t 0 + 128) : p ∈ (fSl i v10 v13 v16 v19 v22 v25 v28 v31 v34 hw3 h1 h2 t).view.set := by
  refine Finset.mem_map.mpr ⟨Shape.ofLane (d := ![128]) ⟨(p 0).val - k1_off7 v13 v16 v19 v22 v25 v28 v31 v34 t 0, by show _ < 128; omega⟩, Finset.mem_univ _, ?_⟩
  funext a; fin_cases a
  apply Fin.ext
  show k1_off7 v13 v16 v19 v22 v25 v28 v31 v34 t 0 + 1 * ((p 0).val - k1_off7 v13 v16 v19 v22 v25 v28 v31 v34 t 0) = (p 0).val
  omega

/-- A filling trip, its slice of the array held by itself. -/
theorem t4_copy (d : Dev nD) (i : grid1.Coords) (O : CellTallies nD τ sig (HIx 1)) (W : Waits sig (HIx 1)) (k1_h1 : k1_cond1 i = 1#1) (k1_h2 : k1_cond2 i = 1#1)
    (v10 v13 v16 v19 v22 v25 v28 v31 v34 v295 : BitVec 32) (v219 : IVec S16 32) (hw3 : k1_chk3 i v10 v13 v16 v19 v22 v25 v28 v31 v34)
    (t : Fin (k1_t4_loop v13 v16 v19 v22 v25 v28 v31 v34).trips) (acc : BitVec 32) (f : Vec F S128 .i32) (g : Vec F S3072 .i32) (Q : BitVec 32 → sProp (MM F)) :
    iprop(Transfers.MayWaits (VT d i) (default : HIx 1) O ∗ (bN.view.loc (VT d i) ↦{fullShare} f)
      ∗ ((fSl i v10 v13 v16 v19 v22 v25 v28 v31 v34 hw3 k1_h1 k1_h2 t).view.loc (VT d i) ↦[(fSl i v10 v13 v16 v19 v22 v25 v28 v31 v34 hw3 k1_h1 k1_h2 t).view.set]{fullShare} g)
      ∗ semVal (cell cc1_scoped3 d (cV i) (jV i)) 0 ∗ owes (VT d i) O W
      ∗ (∀ (r : BitVec 32) (g' : Vec F S3072 .i32) (W' : Waits sig (HIx 1)),
          ⌜∀ x : S128.Idx, g' ((fSl i v10 v13 v16 v19 v22 v25 v28 v31 v34 hw3 k1_h1 k1_h2 t).view.emb x) = f x⌝ -∗
          Transfers.MayWaits (VT d i) (default : HIx 1) O -∗ (bN.view.loc (VT d i) ↦{fullShare} f) -∗
          ((fSl i v10 v13 v16 v19 v22 v25 v28 v31 v34 hw3 k1_h1 k1_h2 t).view.loc (VT d i) ↦[(fSl i v10 v13 v16 v19 v22 v25 v28 v31 v34 hw3 k1_h1 k1_h2 t).view.set]{fullShare} g') -∗
          semVal (cell cc1_scoped3 d (cV i) (jV i)) 0 -∗ owes (VT d i) O W' -∗ Q r))
      ⊢ wp frame (wpE (defs₀ (F := F)) 𝒱₀ (VT d i) none) Set.univ
          (k1_t4_body (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            k1_h1 v10 v13 v16 v19 v22 v25 v28 v31 v34 hw3 v219 v295 k1_h2 t acc) Q := by
  unfold k1_t4_body
  iintro ⟨Hmw, HC, HS, Hsem, HO, HQ⟩
  sl_exec
  sl_step
  iapply HQ $$ %_ %_ %_ [] [Hmw] [HC] [HS] [Hsem] [HO]
  rotate_left
  · iexact Hmw
  · iexact HC
  · iexact HS
  · iexact Hsem
  · iexact HO
  · ipureintro
    intro x
    refine (View.read_writes_cons_hit_of_coords (fSl i v10 v13 v16 v19 v22 v25 v28 v31 v34 hw3 k1_h1 k1_h2 t).view g (Rect.whole S128) _ [] x x ?_).trans ?_
    · intro a; show (x a).val = 0 + 1 * (x a).val; omega
    · rfl

/-- What the filling loop keeps: the array sorted up to `c` tiles past the last run. -/
def inv4 (d : Dev nD) (i : grid1.Coords) (ids : Vec F S2048 .i32) (f : Vec F S128 .i32) (O : CellTallies nD τ sig (HIx 1)) (c : ℕ) (_ : BitVec 32) : sProp (MM F) :=
  iprop(Transfers.MayWaits (VT d i) (default : HIx 1) O ∗ (bN.view.loc (VT d i) ↦{fullShare} f)
    ∗ (∃ g : Vec F S3072 .i32, ⌜∀ p ∈ runSet ids (widN i), (p 0).val < startN (ctN ids) 8 + 128 * c → g p = sidxV ids p⌝
        ∗ (sV.view.loc (VT d i) ↦[runSet ids (widN i)]{fullShare} g))
    ∗ semVal (cell cc1_scoped3 d (cV i) (jV i)) 0 ∗ (∃ W', owes (VT d i) O W'))

/-- A filling trip keeps it. -/
theorem t4_step (d : Dev nD) (i : grid1.Coords) (ids : Vec F S2048 .i32) (h7 : widN i = 7) (f : Vec F S128 .i32)
    (hf : ∀ x, f x = 2048#32)
    (O : CellTallies nD τ sig (HIx 1)) (k1_h1 : k1_cond1 i = 1#1) (k1_h2 : k1_cond2 i = 1#1) (v10 v295 : BitVec 32) (v219 : IVec S16 32)
    (hw3 : k1_chk3 i v10 (cw (ctN ids) 0) (cw (ctN ids) 1) (cw (ctN ids) 2) (cw (ctN ids) 3) (cw (ctN ids) 4) (cw (ctN ids) 5)
      (cw (ctN ids) 6) (cw (ctN ids) 7))
    (t : Fin (k1_t4_loop (cw (ctN ids) 0) (cw (ctN ids) 1) (cw (ctN ids) 2) (cw (ctN ids) 3) (cw (ctN ids) 4) (cw (ctN ids) 5)
            (cw (ctN ids) 6) (cw (ctN ids) 7)).trips) (acc : BitVec 32) :
    inv4 d i ids f O t.val acc
      ⊢ wp frame (wpE (defs₀ (F := F)) 𝒱₀ (VT d i) none) Set.univ
          (k1_t4_body (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            k1_h1 v10 (cw (ctN ids) 0) (cw (ctN ids) 1) (cw (ctN ids) 2) (cw (ctN ids) 3) (cw (ctN ids) 4) (cw (ctN ids) 5)
            (cw (ctN ids) 6) (cw (ctN ids) 7) hw3 v219 v295 k1_h2 t acc) fun acc' => inv4 d i ids f O (t.val + 1) acc' := by
  have hoff : k1_off7 (cw (ctN ids) 0) (cw (ctN ids) 1) (cw (ctN ids) 2) (cw (ctN ids) 3) (cw (ctN ids) 4) (cw (ctN ids) 5)
            (cw (ctN ids) 6) (cw (ctN ids) 7) t 0 = startN (ctN ids) 8 + 128 * t.val := by
    rw [off7_eq (ctN ids) (ct_sum ids) t]; rfl
  have h78 := startN_mono (ctN ids) (show 7 ≤ 8 by decide)
  have hsub : (fSl i v10 _ _ _ _ _ _ _ _ hw3 k1_h1 k1_h2 t).view.set ⊆ runSet ids (widN i) := by
    intro p hp
    obtain ⟨x, -, hx⟩ := fSl_mem hp
    rw [hoff] at hx
    refine Finset.mem_filter.mpr ⟨Finset.mem_univ _, ?_, .inl h7⟩
    rw [h7]; omega
  unfold inv4
  iintro ⟨Hmw, HC, ⟨%g, %hg, HS⟩, Hsem, ⟨%W', HO⟩⟩
  ihave HS := (pointsTo_split_subset hsub).1 $$ HS
  icases HS with ⟨HS, HR⟩
  iapply (t4_copy d i O W' k1_h1 k1_h2 v10 _ _ _ _ _ _ _ _ v295 v219 hw3 t acc f g _)
  isplitl [Hmw]; · iexact Hmw
  isplitl [HC]; · iexact HC
  isplitl [HS]; · iexact HS
  isplitl [Hsem]; · iexact Hsem
  isplitl [HO]; · iexact HO
  iintro %r %g' %W'' %hg' Hmw HC HS Hsem HO
  isplitl [Hmw]; · iexact Hmw
  isplitl [HC]; · iexact HC
  isplitl [HS HR]
  · ihave H := (pointsTo_join_subset (ℓ := sV.view.loc (VT d i)) (g := g') (f := g) (q := fullShare) hsub) $$ [HS HR]
    · isplitl [HS]; · iexact HS
      iexact HR
    iexists _
    isplitr; swap; · iexact H
    ipureintro
    intro p hp hpl
    by_cases hmem : p ∈ (fSl i v10 _ _ _ _ _ _ _ _ hw3 k1_h1 k1_h2 t).view.set
    · rw [Finset.piecewise_eq_of_mem _ _ _ hmem]
      obtain ⟨x, hx, hx0⟩ := fSl_mem hmem
      rw [hoff] at hx0
      rw [← hx, hg' x, hf, hx]
      exact (sidxW_tail (by omega)).symm
    · rw [Finset.piecewise_eq_of_notMem _ _ _ hmem]
      refine hg p hp ?_
      by_contra hge
      refine hmem (fSl_of_mem ?_ ?_)
      · rw [hoff]; omega
      · rw [hoff]; omega
  isplitl [Hsem]; · iexact Hsem
  iexists _; iexact HO

/-- The last working tile's filling: the scratch filled with padding, copied over the array's end. -/
theorem part3_run (d : Dev nD) (i : grid1.Coords) (ids : Vec F S2048 .i32) (h7 : widN i = 7) (f : Vec F S128 .i32)
    (O : CellTallies nD τ sig (HIx 1)) (k1_h1 : k1_cond1 i = 1#1) (k1_h2 : k1_cond2 i = 1#1) (v10 v295 : BitVec 32)
    (hw3 : k1_chk3 i v10 (cw (ctN ids) 0) (cw (ctN ids) 1) (cw (ctN ids) 2) (cw (ctN ids) 3) (cw (ctN ids) 4) (cw (ctN ids) 5)
      (cw (ctN ids) 6) (cw (ctN ids) 7)) (Q : PUnit → sProp (MM F)) :
    iprop(inv4 d i ids f O 0 0#32
      ∗ (∀ f' : Vec F S128 .i32, Transfers.MayWaits (VT d i) (default : HIx 1) O -∗ (bN.view.loc (VT d i) ↦{fullShare} f') -∗
          (sV.view.loc (VT d i) ↦[runSet ids (widN i)]{fullShare} sidxV ids) -∗
          semVal (cell cc1_scoped3 d (cV i) (jV i)) 0 -∗ (∃ W', owes (VT d i) O W') -∗ Q ⟨⟩))
      ⊢ wp frame (wpE (defs₀ (F := F)) 𝒱₀ (VT d i) none) Set.univ
          (k1_part3 (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            k1_h1 v10 (cw (ctN ids) 0) (cw (ctN ids) 1) (cw (ctN ids) 2) (cw (ctN ids) 3) (cw (ctN ids) 4) (cw (ctN ids) 5)
            (cw (ctN ids) 6) (cw (ctN ids) 7) hw3 k1_pay32 v295 k1_h2) Q := by
  sl_unfold [k1_part3]
  unfold inv4
  iintro ⟨⟨Hmw, HC, ⟨%g, %hg, HS⟩, Hsem, ⟨%W', HO⟩⟩, HQ⟩
  sl_exec
  have hf : ∀ x : S128.Idx, (bN.view.writes (Elt F) (bN.view.junk (Val := Elt F)) (part3_run.sl.HC_8 (F := F)) : Vec F S128 .i32) x = 2048#32 := by
    intro x
    refine View.read_writes_apply_of_pieces bN.view (bN.view.junk (Val := Elt F)) (fun _ => 2048#32) (part3_run.sl.HC_8 (F := F)) ?_ x
      (View.cover_of_tiled (part3_run.sl.HC_8 (F := F)) S16.size rfl x)
    intro p hp y
    have hall : ∀ p ∈ (part3_run.sl.HC_8 (F := F) : List (View.Piece (Elt F) S128 .i32)), p.2 = fun _ => 2048#32 := by
      sl_unfold_run_names
      intro p hp
      repeat (rcases List.mem_cons.mp hp with rfl | hp; · rfl)
      exact absurd hp List.not_mem_nil
    rw [hall p hp]
  generalize (bN.view.writes (Elt F) (bN.view.junk (Val := Elt F)) (part3_run.sl.HC_8 (F := F)) : Vec F S128 .i32) = f' at hf
  sl_for (inv4 d i ids f' O) $$ [Hmw HC HS Hsem HO]
  · intro k acc
    exact t4_step d i ids h7 f' hf O k1_h1 k1_h2 v10 v295 k1_pay32 hw3 k acc
  · unfold inv4
    isplitl [Hmw]; · iexact Hmw
    isplitl [HC]; · iexact HC
    isplitl [HS]
    · iexists g; isplitr; swap; · iexact HS
      ipureintro; exact hg
    isplitl [Hsem]; · iexact Hsem
    iexists _; iexact HO
  iintro %r HI
  sl_exec
  sl_for (fun _ _ => inv4 d i ids f' O (24 - startN (ctN ids) 8 / 128) r) $$ [HI]
  · intro k acc
    exact absurd (lt_of_lt_of_eq k.isLt (t5_trips (ctN ids) (ct_sum ids))) (Nat.not_lt_zero _)
  · rw [← t4_trips (ctN ids) (ct_sum ids)]; iexact HI
  iintro %r' HI
  unfold inv4
  icases HI with ⟨Hmw, HC, ⟨%g', %hg', HS⟩, Hsem, HO⟩
  sl_exec
  sl_step
  have hd := startN_dvd (ctN ids) 8
  have h8 := startN_eight (ctN ids) (ct_sum ids)
  ihave HS := (Entails.of_eq (pointsTo_congr (ℓ := sV.view.loc (VT d i)) (q := fullShare) (g := sidxV ids) (fun p hp => hg' p hp (by
    have : (p 0).val < 3072 := (p 0).isLt
    omega)))) $$ HS
  iapply HQ $$ %_ [Hmw] [HC] [HS] [Hsem] [HO]
  · iexact Hmw
  · iexact HC
  · iexact HS
  · iexact Hsem
  · iexact HO

end Cert.Sort

end
-- ==== Proof.Tile5.lean ====
/-
  The first half of the tile: the experts' numbers fetched, scanned, and the eight counts read off.
-/
module

public import Idealize.ShloMosaic.Lib.SparseCore.Ops
public import proofs.«01_k».proof.Proof.Tile4

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A lane of the eight counts' vectors, summed: the count. -/
theorem count_word {ids : Vec F S2048 .i32} {j : ℕ} {h : IVec S16 32} (hh : HOk ids j 2048 h) (hb : ∀ b, (![15] : Fin 1 → Nat) b < S16.size b) :
    extractAt ![15] (scan .sum h) hb = cw (ctN ids) j := by
  rw [scan_last]; exact hh

/-- The tile's words: its expert's count and the eight counts. -/
def WordsOk (ids : Vec F S2048 .i32) (i : grid1.Coords) (v5 : IVec S16 32) (v10 v13 v16 v19 v22 v25 v28 v31 v34 v36 v37 v39 v41 : BitVec 32) : Prop :=
  v10 = cw (ctN ids) (widN i) ∧ v13 = cw (ctN ids) 0 ∧ v16 = cw (ctN ids) 1 ∧ v19 = cw (ctN ids) 2 ∧ v22 = cw (ctN ids) 3 ∧ v25 = cw (ctN ids) 4
    ∧ v28 = cw (ctN ids) 5 ∧ v31 = cw (ctN ids) 6 ∧ v34 = cw (ctN ids) 7 ∧ v5 = iota .scVector S16 32 [0] iota_S16_d0_w32_scVector
    ∧ v36 = Scalar.subi (Scalar.addi v13 128#32) 1#32 ∧ v37 = Scalar.divsi v36 128#32 ∧ v39 = Scalar.extui (Scalar.cmpi .sgt v36 0#32)
    ∧ v41 = Scalar.extui (Scalar.cmpi .slt v36 0#32)

/-- What the counting loop keeps holds before its first trip. -/
theorem inv1_zero (ids : Vec F S2048 .i32) (i : grid1.Coords) (f : Vec F S2304 .i32) :
    CompOk ids (widN i) (16 * 0) f ∧ (0#32 : BitVec 32) = BitVec.ofNat 32 (cnt ids (widN i) (16 * 0))
      ∧ ToksOk (16 * 0) (iota .scVector S16 32 [0] iota_S16_d0_w32_scVector)
      ∧ HOk ids 0 (16 * 0) k1_pay20 ∧ HOk ids 1 (16 * 0) k1_pay20 ∧ HOk ids 2 (16 * 0) k1_pay20 ∧ HOk ids 3 (16 * 0) k1_pay20
      ∧ HOk ids 4 (16 * 0) k1_pay20 ∧ HOk ids 5 (16 * 0) k1_pay20 ∧ HOk ids 6 (16 * 0) k1_pay20 ∧ HOk ids 7 (16 * 0) k1_pay20 := by
  rw [Nat.mul_zero, cnt_zero]
  exact ⟨fun t ht => absurd ht (Nat.not_lt_zero t), rfl, toks_zero, hok_zero ids 0, hok_zero ids 1, hok_zero ids 2, hok_zero ids 3,
    hok_zero ids 4, hok_zero ids 5, hok_zero ids 6, hok_zero ids 7⟩

/-- A fetch of a whole array leaves that array. -/
theorem fetched (fI v : Vec F S2048 .i32) : View.write (Elt F) bI.view fI v Finset.univ = v :=
  View.write_whole_univ cc1_scratch0 fI v

/-- The first stretch of a working tile's program runs: the experts are copied in, and every token is read, which leaves the
counts and the compacted list right. -/
theorem part8_run (d : Dev nD) (i : grid1.Coords) (ids : Vec F S2048 .i32) (hok : IdsOK ids) (hi : widN i < 8) (q : PosShare TreeShare)
    (O : CellTallies nD τ sig (HIx 1)) (W : Waits sig (HIx 1)) (k1_h1 : k1_cond1 i = 1#1) (v1 : BitVec 32) (h1 : v1 = BitVec.ofNat 32 (widN i))
    (fI : Vec F S2048 .i32) (fC : Vec F S2304 .i32)
    (Q : (Σ' (v5 : IVec S16 32) (v10_0 : BitVec 32) (k1_hw2 : k1_chk2 i v10_0) (v13 : BitVec 32) (v16 : BitVec 32) (v19 : BitVec 32) (v22 : BitVec 32) (v25 : BitVec 32) (v28 : BitVec 32) (v31 : BitVec 32) (v34 : BitVec 32) (k1_hw3 : k1_chk3 i v10_0 v13 v16 v19 v22 v25 v28 v31 v34) (v36 : BitVec 32) (c128_i32_13 : BitVec 32) (v37 : BitVec 32) (v39 : BitVec 32), BitVec 32) → sProp (MM F)) :
    iprop(Transfers.MayWaits (VT d i) (default : HIx 1) O ∗ (eV.view.loc (VT d i) ↦{q} ids) ∗ (bI.view.loc (VT d i) ↦{fullShare} fI)
      ∗ (bC.view.loc (VT d i) ↦{fullShare} fC) ∗ semVal (cell cc1_scoped0 d (cV i) (jV i)) 0 ∗ owes (VT d i) O W
      ∗ (∀ (v5 : IVec S16 32) (v10 : BitVec 32) (hw2 : k1_chk2 i v10) (v13 v16 v19 v22 v25 v28 v31 v34 : BitVec 32)
          (hw3 : k1_chk3 i v10 v13 v16 v19 v22 v25 v28 v31 v34) (v36 v37 v39 v41 : BitVec 32) (f : Vec F S2304 .i32),
          ⌜WordsOk ids i v5 v10 v13 v16 v19 v22 v25 v28 v31 v34 v36 v37 v39 v41 ∧ CompOk ids (widN i) 2048 f⌝ -∗
          Transfers.MayWaits (VT d i) (default : HIx 1) O -∗ (eV.view.loc (VT d i) ↦{q} ids) -∗ (bI.view.loc (VT d i) ↦{fullShare} ids) -∗
          (bC.view.loc (VT d i) ↦{fullShare} f) -∗ semVal (cell cc1_scoped0 d (cV i) (jV i)) 0 -∗ (∃ W', owes (VT d i) O W') -∗
          Q ⟨v5, v10, hw2, v13, v16, v19, v22, v25, v28, v31, v34, hw3, v36, 128#32, v37, v39, v41⟩))
      ⊢ wp frame (wpE (defs₀ (F := F)) 𝒱₀ (VT d i) none) Set.univ
          (k1_part8 (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5
            v1 k1_h1) Q := by
  sl_unfold [k1_part8]
  iintro ⟨Hmw, HE, HI, HC, Hsem, HO, HQ⟩
  sl_exec
  have hI : View.write (Elt F) bI.view fI (part8_run.sl.dma0 ids) Finset.univ = ids := by
    rw [fetched]; rfl
  rw [hI]
  sl_for (inv1 d i ids) $$ [HI HC]
  · intro k acc
    exact t1_step d i ids hok hi k1_h1 v1 h1 k acc
  · unfold inv1
    iexists fC
    isplitr
    · ipureintro
      exact inv1_zero ids i fC
    isplitl [HI]; · iexact HI
    iexact HC
  iintro %acc HI
  obtain ⟨a10, a11, a12, a13, a14, a15, a16, a17, a18, a19⟩ := acc
  unfold inv1
  icases HI with ⟨%f, %hp, HI, HC⟩
  simp only [t1_trips] at hp
  obtain ⟨hf, h10, ht, h12, h13, h14, h15, h16, h17, h18, h19⟩ := hp
  have e0 := count_word h12 inpos_S16_p15
  have e1 := count_word h13 inpos_S16_p15
  have e2 := count_word h14 inpos_S16_p15
  have e3 := count_word h15 inpos_S16_p15
  have e4 := count_word h16 inpos_S16_p15
  have e5 := count_word h17 inpos_S16_p15
  have e6 := count_word h18 inpos_S16_p15
  have e7 := count_word h19 inpos_S16_p15
  have e10 : a10 = cw (ctN ids) (widN i) := h10
  subst e10
  have hc2 := chk2_ok (ctN ids) (ct_sum ids) i hi
  have hc3 : k1_chk3 i (cw (ctN ids) (widN i)) (extractAt ![15] (k1_pay24 a12) inpos_S16_p15) (extractAt ![15] (k1_pay25 a13) inpos_S16_p15)
      (extractAt ![15] (k1_pay26 a14) inpos_S16_p15) (extractAt ![15] (k1_pay27 a15) inpos_S16_p15) (extractAt ![15] (k1_pay28 a16) inpos_S16_p15)
      (extractAt ![15] (k1_pay29 a17) inpos_S16_p15) (extractAt ![15] (k1_pay30 a18) inpos_S16_p15) (extractAt ![15] (k1_pay31 a19) inpos_S16_p15) := by
    have := chk3_ok (ctN ids) (ct_sum ids) i hi
    rw [← e0, ← e1, ← e2, ← e3, ← e4, ← e5, ← e6, ← e7] at this
    exact this
  sl_exec
  sl_step
  sl_unfold_run_names
  iapply HQ $$ %_ %_ %hc2 %_ %_ %_ %_ %_ %_ %_ %_ %hc3 %_ %_ %_ %_ %f [] [Hmw] [HE] [HI] [HC] [Hsem] [HO]
  · ipureintro
    exact ⟨⟨rfl, e0, e1, e2, e3, e4, e5, e6, e7, rfl, rfl, rfl, rfl, rfl⟩, hf⟩
  · iexact Hmw
  · iexact HE
  · iexact HI
  · iexact HC
  · iexact Hsem
  · iexists _; iexact HO

/-! ## The runs' table -/

/-- A lane's number against an expert's, cut to nought or one. -/
theorem sel_lane : ∀ k < 16, ∀ j < 8, IntOp.minsi (IntOp.maxsi (IntOp.subi (BitVec.ofNat 32 k) (BitVec.ofNat 32 j)) 0#32) 1#32
    = BitVec.ofNat 32 (if j < k then 1 else 0) := by decide +kernel

/-- One expert's term of the table at a lane. -/
def stTerm (l p j : BitVec 32) : BitVec 32 := IntOp.muli (fdw p) (IntOp.minsi (IntOp.maxsi (IntOp.subi l j) 0#32) 1#32)

/-- One term of a table entry: an earlier expert's run, in tiles. -/
theorem stTerm_eq (ct : ℕ → ℕ) (h : ∑ j ∈ Finset.range 8, ct j ≤ 2048) (k : ℕ) (hk : k < 16) (j : ℕ) (hj : j < 8) :
    stTerm (BitVec.ofNat 32 k) (padw (cw ct j)) (BitVec.ofNat 32 j) = BitVec.ofNat 32 (if j < k then cpad (ct j) / 128 else 0) := by
  have hc : ct j < 2049 := by have := ct_le ct h j hj; omega
  unfold stTerm
  rw [sel_lane k hk j hj, show padw (cw ct j) = _ from padw_ofNat _ hc, fdw_pad _ hc]
  show BitVec.ofNat 32 _ * BitVec.ofNat 32 _ = _
  rw [← BitVec.ofNat_mul]
  split
  · rw [Nat.mul_one]
  · rw [Nat.mul_zero]

/-- The table's lane, as the tile adds it up. -/
def stLane (l p0 p1 p2 p3 p4 p5 p6 p7 : BitVec 32) : BitVec 32 :=
  IntOp.addi (IntOp.addi (IntOp.addi (IntOp.addi (IntOp.addi (IntOp.addi (IntOp.addi (IntOp.addi 0#32 (stTerm l p0 0#32)) (stTerm l p1 1#32))
    (stTerm l p2 2#32)) (stTerm l p3 3#32)) (stTerm l p4 4#32)) (stTerm l p5 5#32)) (stTerm l p6 6#32)) (stTerm l p7 7#32)

/-- The terms of a table entry add up to the expert's start, in tiles. -/
theorem st_sum (ct : ℕ → ℕ) (k : ℕ) : ∑ j ∈ Finset.range 8, (if j < k then cpad (ct j) / 128 else 0) = startN ct (min k 8) / 128 := by
  have e : ∀ n, startN ct n = 128 * ∑ j ∈ Finset.range n, cpad (ct j) / 128 := by
    intro n
    unfold startN
    rw [Finset.mul_sum]
    refine Finset.sum_congr rfl fun j _ => ?_
    rw [Nat.mul_div_cancel' (cpad_dvd _)]
  rw [e, Nat.mul_div_cancel_left _ (by decide), ← Finset.sum_filter]
  refine Finset.sum_congr ?_ fun _ _ => rfl
  ext j
  simp only [Finset.mem_filter, Finset.mem_range, lt_min_iff]
  exact and_comm

/-- A lane of the table is an expert's start, in tiles. -/
theorem stLane_eq (ct : ℕ → ℕ) (h : ∑ j ∈ Finset.range 8, ct j ≤ 2048) (k : ℕ) (hk : k < 16) :
    stLane (BitVec.ofNat 32 k) (padw (cw ct 0)) (padw (cw ct 1)) (padw (cw ct 2)) (padw (cw ct 3)) (padw (cw ct 4)) (padw (cw ct 5))
      (padw (cw ct 6)) (padw (cw ct 7)) = BitVec.ofNat 32 (startN ct (min k 8) / 128) := by
  unfold stLane
  rw [show (0#32 : BitVec 32) = BitVec.ofNat 32 0 from rfl, show (1#32 : BitVec 32) = BitVec.ofNat 32 1 from rfl,
    show (2#32 : BitVec 32) = BitVec.ofNat 32 2 from rfl, show (3#32 : BitVec 32) = BitVec.ofNat 32 3 from rfl,
    show (4#32 : BitVec 32) = BitVec.ofNat 32 4 from rfl, show (5#32 : BitVec 32) = BitVec.ofNat 32 5 from rfl,
    show (6#32 : BitVec 32) = BitVec.ofNat 32 6 from rfl, show (7#32 : BitVec 32) = BitVec.ofNat 32 7 from rfl]
  rw [stTerm_eq ct h k hk 0 (by decide), stTerm_eq ct h k hk 1 (by decide), stTerm_eq ct h k hk 2 (by decide), stTerm_eq ct h k hk 3 (by decide),
    stTerm_eq ct h k hk 4 (by decide), stTerm_eq ct h k hk 5 (by decide), stTerm_eq ct h k hk 6 (by decide), stTerm_eq ct h k hk 7 (by decide)]
  rw [← st_sum]
  simp only [Finset.sum_range_succ, Finset.sum_range_zero, IntOp.addi, ← BitVec.ofNat_add]

end Cert.Sort

end
-- ==== Proof.Tile6.lean ====
/-
  The whole tile.
-/
module

public import Idealize.ShloMosaic.Lib.SparseCore.Ops
public import proofs.«01_k».proof.Proof.Tile5

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The padded scratch still lists the expert's tokens, -/
theorem compOk_pad {ids : Vec F S2048 .i32} {e : ℕ} (he : e < 8) {f g : Vec F S2304 .i32} (hf : CompOk ids e 2048 f) (h : Pad (ctN ids e) 128 f g) :
    CompOk ids e 2048 g := by
  intro t ht hh
  have h1 := cnt_lt_ct he hh
  have h2 := cnt_le ids e 2048
  have h3 : ctN ids e ≤ 2048 := h2
  rw [h _ (by omega), if_neg (by omega)]
  exact hf t ht hh

/-- and is padding for a tile's length after them. -/
theorem pad_at {n : ℕ} (hn : n ≤ 2048) {f g : Vec F S2304 .i32} (h : Pad n 128 f g) (k : ℕ) (h1 : n ≤ k) (h2 : k < n + 128) : at2304 g k = 2048#32 := by
  rw [h k (by omega), if_pos ⟨h1, h2⟩]

/-- The eight rows of padding, stored. -/
theorem pad_pack (d : Dev nD) (i : grid1.Coords) {n : ℕ} (hn : n ≤ 2048) (f : Vec F S2304 .i32) (v : IVec S16 32) (hv : v = k1_pay32)
    (i112 : ∀ a, k1_off2 (BitVec.ofNat 32 n) 112#32 a + S16.size a ≤ S2304.size a) (i96 : ∀ a, k1_off2 (BitVec.ofNat 32 n) 96#32 a + S16.size a ≤ S2304.size a) (i80 : ∀ a, k1_off2 (BitVec.ofNat 32 n) 80#32 a + S16.size a ≤ S2304.size a) (i64 : ∀ a, k1_off2 (BitVec.ofNat 32 n) 64#32 a + S16.size a ≤ S2304.size a) (i48 : ∀ a, k1_off2 (BitVec.ofNat 32 n) 48#32 a + S16.size a ≤ S2304.size a) (i32 : ∀ a, k1_off2 (BitVec.ofNat 32 n) 32#32 a + S16.size a ≤ S2304.size a) (i16 : ∀ a, k1_off2 (BitVec.ofNat 32 n) 16#32 a + S16.size a ≤ S2304.size a) (i0 : ∀ a, k1_off2 (BitVec.ofNat 32 n) 0#32 a + S16.size a ≤ S2304.size a) :
    (bC.view.loc (VT d i) ↦{fullShare} bC.view.writes (Elt F) f
        [⟨Rect.unit (s := S2304) (k1_off2 (BitVec.ofNat 32 n) 112#32) S16.size i112, v⟩,
        ⟨Rect.unit (s := S2304) (k1_off2 (BitVec.ofNat 32 n) 96#32) S16.size i96, v⟩,
        ⟨Rect.unit (s := S2304) (k1_off2 (BitVec.ofNat 32 n) 80#32) S16.size i80, v⟩,
        ⟨Rect.unit (s := S2304) (k1_off2 (BitVec.ofNat 32 n) 64#32) S16.size i64, v⟩,
        ⟨Rect.unit (s := S2304) (k1_off2 (BitVec.ofNat 32 n) 48#32) S16.size i48, v⟩,
        ⟨Rect.unit (s := S2304) (k1_off2 (BitVec.ofNat 32 n) 32#32) S16.size i32, v⟩,
        ⟨Rect.unit (s := S2304) (k1_off2 (BitVec.ofNat 32 n) 16#32) S16.size i16, v⟩,
        ⟨Rect.unit (s := S2304) (k1_off2 (BitVec.ofNat 32 n) 0#32) S16.size i0, v⟩] : sProp (MM F))
      ⊢ iprop(∃ f' : Vec F S2304 .i32, ⌜Pad n 128 f f'⌝ ∗ (bC.view.loc (VT d i) ↦{fullShare} f')) := by
  subst hv
  iintro H
  iexists _
  isplitr; swap; · iexact H
  ipureintro
  exact pad_cons (pad_cons (pad_cons (pad_cons (pad_cons (pad_cons (pad_cons (pad_cons (pad_nil n f)
    _ _ (off2_at hn 0 (by decide))) _ _ (off2_at hn 16 (by decide))) _ _ (off2_at hn 32 (by decide))) _ _ (off2_at hn 48 (by decide)))
    _ _ (off2_at hn 64 (by decide))) _ _ (off2_at hn 80 (by decide))) _ _ (off2_at hn 96 (by decide))) _ _ (off2_at hn 112 (by decide))

/-- A tile other than the first holds no table. -/
theorem noTable (d : Dev nD) (i : grid1.Coords) (v : Vec F S16 .i32) (h : ¬ widN i = 0) :
    (if widN i = 0 then iprop(∃ f, tV.view.loc (VT d i) ↦{fullShare} f) else iprop(emp) : sProp (MM F))
      ⊢ (if widN i = 0 then iprop(tV.view.loc (VT d i) ↦{fullShare} v) else iprop(emp)) := by
  rw [if_neg h, if_neg h]

/-- The first tile's table, put back. -/
theorem table_in (d : Dev nD) (i : grid1.Coords) (v : Vec F S16 .i32) (h : widN i = 0) :
    (tV.view.loc (VT d i) ↦{fullShare} v : sProp (MM F)) ⊢ (if widN i = 0 then iprop(tV.view.loc (VT d i) ↦{fullShare} v) else iprop(emp)) := by
  rw [if_pos h]

/-- A working tile's program runs: it fills its run of the sorted array, the first tile the table too. -/
theorem body_on (d : Dev nD) (i : grid1.Coords) (ids : Vec F S2048 .i32) (hok : IdsOK ids) (hi : widN i < 8) (q : PosShare TreeShare)
    (O : CellTallies nD τ sig (HIx 1)) (W : Waits sig (HIx 1)) (fI : Vec F S2048 .i32) (fC : Vec F S2304 .i32) (fN : Vec F S128 .i32) (fT : Vec F S16 .i32)
    (g : Vec F S3072 .i32) (Q : PUnit → sProp (MM F)) :
    iprop(Transfers.MayWaits (VT d i) (default : HIx 1) O ∗ (eV.view.loc (VT d i) ↦{q} ids) ∗ (sV.view.loc (VT d i) ↦[runSet ids (widN i)]{fullShare} g)
      ∗ (if widN i = 0 then iprop(∃ f, tV.view.loc (VT d i) ↦{fullShare} f) else iprop(emp))
      ∗ (bI.view.loc (VT d i) ↦{fullShare} fI) ∗ (bC.view.loc (VT d i) ↦{fullShare} fC) ∗ (bN.view.loc (VT d i) ↦{fullShare} fN)
      ∗ (bT.view.loc (VT d i) ↦{fullShare} fT)
      ∗ semVal (cell cc1_scoped0 d (cV i) (jV i)) 0 ∗ semVal (cell cc1_scoped1 d (cV i) (jV i)) 0 ∗ semVal (cell cc1_scoped3 d (cV i) (jV i)) 0
      ∗ semVal (cell cc1_scoped5 d (cV i) (jV i)) 0 ∗ owes (VT d i) O W
      ∗ (∀ (gI : Vec F S2048 .i32) (gC : Vec F S2304 .i32) (gN : Vec F S128 .i32) (gT : Vec F S16 .i32),
          (eV.view.loc (VT d i) ↦{q} ids) -∗ (sV.view.loc (VT d i) ↦[runSet ids (widN i)]{fullShare} sidxV ids) -∗
          (if widN i = 0 then iprop(tV.view.loc (VT d i) ↦{fullShare} stV ids) else iprop(emp)) -∗
          (bI.view.loc (VT d i) ↦{fullShare} gI) -∗ (bC.view.loc (VT d i) ↦{fullShare} gC) -∗ (bN.view.loc (VT d i) ↦{fullShare} gN) -∗
          (bT.view.loc (VT d i) ↦{fullShare} gT) -∗ semVal (cell cc1_scoped0 d (cV i) (jV i)) 0 -∗ semVal (cell cc1_scoped1 d (cV i) (jV i)) 0 -∗
          semVal (cell cc1_scoped3 d (cV i) (jV i)) 0 -∗ semVal (cell cc1_scoped5 d (cV i) (jV i)) 0 -∗ (∃ W', owes (VT d i) O W') -∗ Q ⟨⟩))
      ⊢ wp frame (wpE (defs₀ (F := F)) 𝒱₀ (VT d i) none) Set.univ
          (cc1_k (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5) Q := by
  have k1_h1 := (cond1_iff i).mpr hi
  sl_unfold [cc1_k]
  conv_rhs =>
    unfold cc1_k_skel
    dsimp only
    rw [dif_pos k1_h1]
  iintro ⟨Hmw, HE, HS, HT, HI, HC, HN, HB, Hs0, Hs1, Hs3, Hs5, HO, HQ⟩
  rw [wp_bind]
  iapply (part8_run d i ids hok hi q O W k1_h1 _ (widw_eq i) fI fC _)
  isplitl [Hmw]; · iexact Hmw
  isplitl [HE]; · iexact HE
  isplitl [HI]; · iexact HI
  isplitl [HC]; · iexact HC
  isplitl [Hs0]; · iexact Hs0
  isplitl [HO]; · iexact HO
  iintro %v5 %v10 %hw2 %v13 %v16 %v19 %v22 %v25 %v28 %v31 %v34 %hw3 %v36 %v37 %v39 %v41 %f %hp Hmw HE HI HC Hs0 HO
  obtain ⟨⟨e10, e13, e16, e19, e22, e25, e28, e31, e34, e5, e36, e37, e39, e41⟩, hf⟩ := hp
  subst e10 e13 e16 e19 e22 e25 e28 e31 e34 e36 e37 e39 e41 e5

  sl_exec
  have hn : ctN ids (widN i) ≤ 2048 := by have := ct_le (ctN ids) (ct_sum ids) (widN i) hi; omega
  ihave HC := (pad_pack d i hn f _ (show body_on.sl.v219 = k1_pay32 from rfl) _ _ _ _ _ _ _ _) $$ HC
  icases HC with ⟨%f', %hpad, HC⟩
  have hrun : ∀ k < cpad (ctN ids (widN i)), at2304 f' k = sidxW ids (startN (ctN ids) (widN i) + k) :=
    fun k hk => sidxW_run hi (compOk_pad hi hf hpad) (pad_at hn hpad) k hk
  icases HO with ⟨%W', HO⟩
  sl_for (inv2 d i ids f' O) $$ [Hmw HC HS Hs1 HO]
  · intro k acc
    exact t2_step d i ids hi f' hrun O k1_h1 hw2 hw3 k acc
  · unfold inv2
    isplitl [Hmw]; · iexact Hmw
    isplitl [HC]; · iexact HC
    isplitl [HS]
    · iexists g; isplitr; swap; · iexact HS
      ipureintro
      intro p hp hlt
      have := (Finset.mem_filter.mp hp).2.1
      omega
    isplitl [Hs1]; · iexact Hs1
    iexists _; iexact HO
  iintro %r HI2
  sl_exec
  sl_for (fun _ _ => inv2 d i ids f' O ((ctN ids (widN i) + 127) / 128) r) $$ [HI2]
  · intro k acc
    exact absurd (lt_of_lt_of_eq k.isLt (t3_trips _ (by omega))) (Nat.not_lt_zero _)
  · rw [← t2_trips (ctN ids (widN i)) (by omega)]; iexact HI2
  iintro %r' HI2
  unfold inv2
  icases HI2 with ⟨Hmw, HC, ⟨%g', %hg', HS⟩, Hs1, ⟨%W2, HO⟩⟩
  have hg2 : ∀ p ∈ runSet ids (widN i), (p 0).val < startN (ctN ids) (widN i + 1) → g' p = sidxV ids p := by
    intro p hp hlt
    refine hg' p hp ?_
    rw [startN_succ] at hlt
    unfold cpad at hlt
    omega
  have hc2 := cond2_iff i
  have hc3 := cond3_iff i
  by_cases h7 : widN i = 7
  · have k2 := hc2.mpr h7
    have h0 : ¬ widN i = 0 := by omega
    have k3 := (not_congr hc3).mpr h0
    ihave HT := (noTable d i (stV ids) h0) $$ HT
    unfold body_on.sl.prog.cont_2
    rw [dif_pos k2, wp_bind]
    iapply (part3_run d i ids h7 fN O k1_h1 k2 _ _ hw3 _)
    isplitl [Hmw HN HS Hs3 HO]
    · unfold inv4
      isplitl [Hmw]; · iexact Hmw
      isplitl [HN]; · iexact HN
      isplitl [HS]
      · iexists g'; isplitr; swap; · iexact HS
        ipureintro
        intro p hp hlt
        refine hg2 p hp ?_
        rw [h7]; exact hlt
      isplitl [Hs3]; · iexact Hs3
      iexists _; iexact HO
    iintro %fN' Hmw HN HS Hs3 HO
    sl_exec
    sl_step
    iapply HQ $$ %_ %_ %_ %_ [HE] [HS] [HT] [HI] [HC] [HN] [HB] [Hs0] [Hs1] [Hs3] [Hs5] [HO]
    · iexact HE
    · iexact HS
    · iexact HT
    · iexact HI
    · iexact HC
    · iexact HN
    · iexact HB
    · iexact Hs0
    · iexact Hs1
    · iexact Hs3
    · iexact Hs5
    · iexact HO
  by_cases h0 : widN i = 0
  · have k2 : ¬ k1_cond2 i = 1#1 := fun h => h7 (hc2.mp h)
    have k3 := hc3.mpr h0
    ihave HT := (Entails.of_eq (if_pos h0)) $$ HT
    icases HT with ⟨%fT0, HT⟩
    sl_exec
    sl_step

    ihave HS := (Entails.of_eq (pointsTo_congr (ℓ := sV.view.loc (VT d i)) (q := fullShare) (g := sidxV ids) (fun p hp => hg2 p hp (by
      have := (Finset.mem_filter.mp hp).2.2
      omega)))) $$ HS
    iapply HQ $$ %_ %_ %_ %_ [HE] [HS] [HT] [HI] [HC] [HN] [HB] [Hs0] [Hs1] [Hs3] [Hs5] [HO]
    · iexact HE
    · iexact HS
    · iapply (table_in d i (stV ids) h0)
      have hst : View.write (Elt F) tV.view fT0 (body_on.sl.dma2 i ids fT hw2 hw3) Finset.univ = stV ids := by
        refine (View.write_whole_univ main_v2_1_scv fT0 _).trans ?_
        funext p
        have hp : (p 0).val < 16 := (p 0).isLt
        unfold body_on.sl.dma2 body_on.sl.HB_1
        refine (View.read_writes_cons_hit_of_coords bT.view fT _ _ _ p p (fun a => by fin_cases a; show (p 0).val = 0 + 1 * (p 0).val; omega)).trans ?_
        sl_unfold_run_names
        show stLane (BitVec.ofNat 32 (0 * 16 + (p 0).val)) (padw (cw (ctN ids) 0)) (padw (cw (ctN ids) 1)) (padw (cw (ctN ids) 2)) (padw (cw (ctN ids) 3))
          (padw (cw (ctN ids) 4)) (padw (cw (ctN ids) 5)) (padw (cw (ctN ids) 6)) (padw (cw (ctN ids) 7)) = _
        rw [Nat.zero_mul, Nat.zero_add, stLane_eq (ctN ids) (ct_sum ids) _ hp]
        rfl
      rw [← hst]
      iexact HT
    · iexact HI
    · iexact HC
    · iexact HN
    · iexact HB
    · iexact Hs0
    · iexact Hs1
    · iexact Hs3
    · iexact Hs5
    · iexists _; iexact HO
  · have k2 : ¬ k1_cond2 i = 1#1 := fun h => h7 (hc2.mp h)
    have k3 := (not_congr hc3).mpr h0
    ihave HT := (noTable d i (stV ids) h0) $$ HT
    sl_exec
    sl_step
    ihave HS := (Entails.of_eq (pointsTo_congr (ℓ := sV.view.loc (VT d i)) (q := fullShare) (g := sidxV ids) (fun p hp => hg2 p hp (by
      have := (Finset.mem_filter.mp hp).2.2
      omega)))) $$ HS
    iapply HQ $$ %_ %_ %_ %_ [HE] [HS] [HT] [HI] [HC] [HN] [HB] [Hs0] [Hs1] [Hs3] [Hs5] [HO]
    · iexact HE
    · iexact HS
    · iexact HT
    · iexact HI
    · iexact HC
    · iexact HN
    · iexact HB
    · iexact Hs0
    · iexact Hs1
    · iexact Hs3
    · iexact Hs5
    · iexists _; iexact HO

end Cert.Sort

end
-- ==== Proof.Tile7.lean ====
/-
  The tile as the launch runs it, and the handshakes' payloads.
-/
module

public import Idealize.ShloMosaic.Lib.SparseCore.Ops
public import proofs.«01_k».proof.Proof.Tile6

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The tokens' experts are one array for every tile. -/
theorem eLoc_eq (d : Dev nD) (i : grid1.Coords) : eV.view.loc (VT d i) = eLoc d := rfl
/-- The sorted array is one array for every tile. -/
theorem sLoc_eq (d : Dev nD) (i : grid1.Coords) : sV.view.loc (VT d i) = sLoc d := rfl
/-- The table is one array for every tile. -/
theorem tLoc_eq (d : Dev nD) (i : grid1.Coords) : tV.view.loc (VT d i) = tLoc d := rfl

/-- The task at grid position `i` of device `d`, from its part of the arrays to its part sorted. -/
theorem tile_body (d : Dev nD) (i : grid1.Coords) (ids : Vec F S2048 .i32) (hok : IdsOK ids) (hF : (K (F := F)).Facts)
    (O : CellTallies nD τ sig (HIx 1)) (W : Waits sig (HIx 1)) (hO : ∀ g, O g none = 0) :
    iprop(levAts (K (F := F)).L (K (F := F)).lev ∗ emp ∗ goP ids d (widN i)
        ∗ scopedBufs (VT d i) ∗ scopedSems0 (VT d i) ∗ owes (VT d i) O W)
      ⊢ wp frame (wpE (defs₀ (F := F)) 𝒱₀ (VT d i) none) Set.univ
          (cc1_k (F := F) i eV (Memref.isWhole_whole _) sV (Memref.isWhole_whole _) tV (Memref.isWhole_whole _) bI (Memref.isWhole_whole _)
            bC (Memref.isWhole_whole _) bN (Memref.isWhole_whole _) bT (Memref.isWhole_whole _) cc1_scoped0 cc1_scoped1 cc1_scoped2 cc1_scoped3 cc1_scoped4 cc1_scoped5)
          fun _ => iprop(tdP ids d (widN i) ∗ scopedBufs (VT d i) ∗ scopedSems0 (VT d i)
            ∗ ∃ W', ⌜∀ p ∈ W', p ∈ W ∨ p.2 = none ∨ p.2 = some (0 : Fin 1)⌝ ∗ owes (VT d i) O W') := by
  have hw : ∀ W' : Waits sig (HIx 1), ∀ p ∈ W', p ∈ W ∨ p.2 = none ∨ p.2 = some (0 : Fin 1) := by
    intro W' p _
    rcases p.2 with _ | q
    · exact .inr (.inl rfl)
    · exact .inr (.inr (congrArg some (Subsingleton.elim q 0)))
  by_cases hi : widN i < 8
  · rw [(K (F := F)).scopedBufs_V hF d (cV i) (jV i), SparseCore.Cfg.scopedSems0_V (Val := Elt F) d (cV i) (jV i), ownSems0_V, ownBufs_V]
    unfold goP tdP
    rw [if_pos hi, if_pos hi]
    iintro ⟨#Hlv, -, ⟨HE, ⟨%g, HS⟩, HT⟩, ⟨⟨%fI, HI⟩, ⟨%fC, HC⟩, ⟨%fN, HN⟩, ⟨%fT, HB⟩, Hbufs⟩, ⟨Hs0, Hs1, Hs2, Hs3, Hs4, Hs5, Hsems⟩, HO⟩
    ihave Hmw := (show levAts (K (F := F)).L (K (F := F)).lev ⊢ Transfers.MayWaits (VT d i) (default : HIx 1) O from
      (K (F := F)).mayWaits_none (thr := VT d i) hO) $$ Hlv
    iapply (body_on d i ids hok hi (Transfers.shareTokN fullShare (widN i)) O W fI fC fN fT g _)
    isplitl [Hmw]; · iexact Hmw
    isplitl [HE]; · iexact HE
    isplitl [HS]; · iexact HS
    isplitl [HT]; · iexact HT
    isplitl [HI]; · iexact HI
    isplitl [HC]; · iexact HC
    isplitl [HN]; · iexact HN
    isplitl [HB]; · iexact HB
    isplitl [Hs0]; · iexact Hs0
    isplitl [Hs1]; · iexact Hs1
    isplitl [Hs3]; · iexact Hs3
    isplitl [Hs5]; · iexact Hs5
    isplitl [HO]; · iexact HO
    iintro %gI %gC %gN %gT HE HS HT HI HC HN HB Hs0 Hs1 Hs3 Hs5 ⟨%W', HO⟩
    isplitl [HE HS HT]
    · isplitl [HE]; · iexact HE
      isplitl [HS]; · iexact HS
      iexact HT
    isplitl [HI HC HN HB Hbufs]
    · isplitl [HI]; · iexists _; iexact HI
      isplitl [HC]; · iexists _; iexact HC
      isplitl [HN]; · iexists _; iexact HN
      isplitl [HB]; · iexists _; iexact HB
      iexact Hbufs
    isplitl [Hs0 Hs1 Hs2 Hs3 Hs4 Hs5 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hsems
    iexists W'; isplitr; swap; · iexact HO
    ipureintro; exact hw W'
  · have k1 : ¬ k1_cond1 i = 1#1 := (not_congr (cond1_iff i)).mpr hi
    unfold goP tdP
    rw [if_neg hi, if_neg hi]
    sl_unfold [cc1_k]
    iintro ⟨-, -, H, Hb, Hs, HO⟩
    sl_exec
    sl_step
    isplitl [H]; · iexact H
    isplitl [Hb]; · iexact Hb
    isplitl [Hs]; · iexact Hs
    iexists W; isplitr; swap; · iexact HO
    ipureintro; exact hw W

/-! ## The payloads: each SparseCore's start carries its tiles' parts, and its done brings them back -/

/-- The worker number of tile `s` of SparseCore `c`. -/
abbrev wid (c s : ℕ) : ℕ := s * 2 + c

section Launch

variable (I : Dev nD → Vec F S2048 .i32)

/-- A SparseCore's part: its tiles'. -/
def stP (d : Dev nD) (c : ℕ) : sProp (MM F) := bigSep Finset.univ fun s : Fin 16 => goP (I d) d (wid c s.val)
/-- What a SparseCore hands back. -/
def dnP (d : Dev nD) (c : ℕ) : sProp (MM F) := bigSep Finset.univ fun s : Fin 16 => tdP (I d) d (wid c s.val)

/-- What a tile is given can be kept in an invariant. -/
instance goP_storable (ids : Vec F S2048 .i32) (d : Dev nD) (w : ℕ) : BI.Storable (upEmb : UEmb _ (MM F)) (goP ids d w) := by
  unfold goP; split_ifs <;> infer_instance
/-- What a tile gives back can be kept in an invariant. -/
instance tdP_storable (ids : Vec F S2048 .i32) (d : Dev nD) (w : ℕ) : BI.Storable (upEmb : UEmb _ (MM F)) (tdP ids d w) := by
  unfold tdP; split_ifs <;> infer_instance

/-- What passes between the host, the SparseCores and the tiles. -/
def P : (K (F := F)).Pay (nD := nD) (Val := Elt F) (Name := ℕ) (U := UU) where
  st := fun q d c => match q with | 0 => stP I d c.val
  dn := fun q d c => match q with | 0 => dnP I d c.val
  go := fun q d c i => match q with | 0 => goP (I d) d (wid c.val i.val)
  td := fun q d c i => match q with | 0 => tdP (I d) d (wid c.val i.val)
  x := fun _ _ => iprop(emp)

/-- All of it can be kept in an invariant. -/
instance P_storable : (P (F := F) I).IsStorable where
  st q d c := match q with | 0 => (by unfold P stP; infer_instance)
  dn q d c := match q with | 0 => (by unfold P dnP; infer_instance)
  go q d c i := match q with | 0 => goP_storable (I d) d (wid c.val i.val)
  td q d c i := match q with | 0 => tdP_storable (I d) d (wid c.val i.val)

/-- A tile's coordinates from its numbers. -/
def coordsV (c : Fin (grid1.bound 0)) (s : Fin (grid1.bound 1)) : grid1.Coords :=
  fun | 0 => c | 1 => s | ⟨_ + 2, h⟩ => absurd h (Nat.not_lt.2 (Nat.le_add_left _ _))

/-- The program a tile runs. -/
theorem defs₀_vector (c : Fin τ.nSC) (s : Fin τ.nSub) :
    defs₀ (F := F) (.scVector c s) 1 ()
      = SparseCore.onTile hcore1 hsub1 (fun c s => cc1_k (coordsV c s) eV (Memref.isWhole_whole _) sV (Memref.isWhole_whole _) tV (Memref.isWhole_whole _)
          bI (Memref.isWhole_whole _) bC (Memref.isWhole_whole _) bN (Memref.isWhole_whole _) bT (Memref.isWhole_whole _)
          cc1_scoped0 cc1_scoped1 cc1_scoped2 cc1_scoped3 cc1_scoped4 cc1_scoped5) ⟨⟩ c s := rfl

/-- Every tile's program runs from what it is given to what it gives back. -/
theorem tileObl (hI : ∀ d, IdsOK (I d)) (hF : (K (F := F)).Facts) : (K (F := F)).TileObl (D (F := F)) 𝒱 (P I) v₀ 0 := by
  intro d c i O W hO _ _
  simp only [show (P I).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (I d) (hI d) hF O W hO

/-- What a SparseCore is handed is what its tiles are given, and back. -/
theorem vecSplit : (K (F := F)).VecSplit' (P I) 0 := by
  intro d c
  show stP I d c.val ⊢ |={Set.univ}=> iprop((bigSep Finset.univ fun i : Fin 16 => goP (I d) d (wid c.val i.val))
      ∗ ((bigSep Finset.univ fun i : Fin 16 => tdP (I d) d (wid c.val i.val)) -∗ dnP I d c.val))
  unfold stP dnP
  iintro H; imodintro
  isplitl [H]; · iexact H
  iintro H; iexact H

end Launch

end Cert.Sort

end
-- ==== Proof.Deal.lean ====
/-
  Dealing the sort's arrays to its tiles, and collecting them.
-/
module

public import Idealize.ShloMosaic.Lib.Ring
public import Idealize.SL.BI.BigOpNat
public import proofs.«01_k».proof.Proof.Tile7

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The tiles of the two SparseCores, in one row -/

/-- A family over the tiles' numbers that is empty from tile eight on is the first eight of it. -/
theorem range_eight (Φ : ℕ → sProp (MM F)) (h : ∀ w, 8 ≤ w → Φ w = iprop(emp)) : ∀ n, bigSep (Finset.range (8 + n)) Φ = bigSep (Finset.range 8) Φ
  | 0 => rfl
  | n + 1 => by
    rw [show 8 + (n + 1) = (8 + n) + 1 from rfl, BI.bigSep_range_succ, h _ (Nat.le_add_right _ _), range_eight Φ h n]
    exact BI.equiv_iff.mp BI.emp_sep

/-- The same family dealt core by core. -/
theorem cores_eight (Φ : ℕ → sProp (MM F)) (h : ∀ w, 8 ≤ w → Φ w = iprop(emp)) :
    (bigSep Finset.univ fun c : Fin 2 => bigSep Finset.univ fun s : Fin 16 => Φ (wid c.val s.val)) = bigSep (Finset.range 8) Φ := by
  rw [← range_eight Φ h 24, show (8 + 24 : ℕ) = 2 * 16 from rfl, Ring.bigSep_range_deinterleave, BI.bigSep_fin_two,
    Ring.bigSep_fin_eq_range 16 (fun s : Fin 16 => Φ (wid (0 : Fin 2).val s.val)) (fun k => Φ (2 * k)) (fun t _ => by
      show Φ (2 * t) = Φ (t * 2 + 0); congr 1; omega),
    Ring.bigSep_fin_eq_range 16 (fun s : Fin 16 => Φ (wid (1 : Fin 2).val s.val)) (fun k => Φ (2 * k + 1)) (fun t _ => by
      show Φ (2 * t + 1) = Φ (t * 2 + 1); congr 1; omega)]
  rfl

/-! ## The runs of the sorted array -/

/-- The tiles' runs of the sorted array do not meet. -/
theorem runs_disjoint (ids : Vec F S2048 .i32) : ∀ w ∈ Finset.range 8, ∀ w' ∈ Finset.range 8, w ≠ w' → Disjoint (runSet ids w) (runSet ids w') := by
  have key : ∀ w w', w < w' → w' < 8 → Disjoint (runSet ids w) (runSet ids w') := fun w w' h h8 => by
    rw [Finset.disjoint_left]
    intro p hp hp'
    unfold runSet at hp hp'
    rw [Finset.mem_filter] at hp hp'
    have h1 := hp.2.2
    have h2 := hp'.2.1
    have h3 := startN_mono (ctN ids) (show w + 1 ≤ w' from h)
    rcases h1 with h1 | h1 <;> omega
  intro w hw w' hw' hne
  rw [Finset.mem_range] at hw hw'
  rcases lt_or_gt_of_ne hne with h | h
  · exact key w w' h hw'
  · exact (key w' w h hw).symm

/-- The tiles' runs of the sorted array cover it. -/
theorem runs_cover (ids : Vec F S2048 .i32) : (Finset.range 8).biUnion (runSet ids) = Finset.univ := by
  refine Finset.eq_univ_of_forall fun p => ?_
  rw [Finset.mem_biUnion]
  have key : ∀ n, n ≤ 7 → startN (ctN ids) (7 - n) ≤ (p 0).val → ∃ w ∈ Finset.range 8, p ∈ runSet ids w := by
    intro n
    induction n with
    | zero =>
      intro _ h
      exact ⟨7, by decide, Finset.mem_filter.2 ⟨Finset.mem_univ _, h, Or.inl rfl⟩⟩
    | succ n ih =>
      intro hn h
      by_cases h' : startN (ctN ids) (7 - n) ≤ (p 0).val
      · exact ih (by omega) h'
      · refine ⟨7 - (n + 1), Finset.mem_range.2 (by omega), Finset.mem_filter.2 ⟨Finset.mem_univ _, h, Or.inr ?_⟩⟩
        rw [show 7 - (n + 1) + 1 = 7 - n by omega]
        omega
  exact key 7 le_rfl (by rw [Nat.sub_self, startN_zero]; exact Nat.zero_le _)

/-! ## The tile boundaries are usable -/

/-- The table's entry, as a number: the expert's start in tiles. -/
theorem stW_toNat (ids : Vec F S2048 .i32) (n : ℕ) : (stW ids n).toNat = startN (ctN ids) (min n 8) / 128 := by
  unfold stW
  rw [BitVec.toNat_ofNat, Nat.mod_eq_of_lt]
  have h := startN_eight (ctN ids) (ct_sum ids)
  have h' := startN_mono (ctN ids) (Nat.min_le_right n 8)
  omega

/-- A family that is empty but at zero. -/
theorem only_zero (X : sProp (MM F)) : (bigSep (Finset.range 8) fun w => if w = 0 then X else iprop(emp)) = X := by
  rw [show Finset.range 8 = insert 0 ((Finset.range 8).erase 0) by decide, SparseCore.bigSep_insert' (by decide), if_pos rfl,
    bigSep_congr (Ψ := fun _ => iprop(emp)) (fun w hw => if_neg (Finset.ne_of_mem_erase hw)),
    show (bigSep ((Finset.range 8).erase 0) fun _ => iprop(emp) : sProp (MM F)) = iprop(emp) from bigSep_emp_const _]
  exact BI.equiv_iff.mp BI.sep_emp

/-! ## The arrays dealt and collected -/

/-- A tile's share of the tokens' experts. -/
abbrev tok (w : ℕ) : PosShare TreeShare := Transfers.shareTokN fullShare w

/-- What the tiles are given: shares of the experts, their runs, and the table. -/
theorem goP_eq (ids : Vec F S2048 .i32) (d : Dev nD) :
    (bigSep (Finset.range 8) fun w => goP ids d w : sProp (MM F))
      = iprop((bigSep (Finset.range 8) fun w => eLoc d ↦{tok w} ids) ∗ (bigSep (Finset.range 8) fun w => iprop(∃ f, sLoc d ↦[runSet ids w]{fullShare} f))
        ∗ iprop(∃ f, tLoc d ↦{fullShare} f)) := by
  have h0 : (bigSep (Finset.range 8) fun w => if w = 0 then iprop(∃ f, tLoc d ↦{fullShare} f) else iprop(emp) : sProp (MM F)) = iprop(∃ f, tLoc d ↦{fullShare} f) :=
    only_zero _
  rw [bigSep_congr (Ψ := fun w => iprop((eLoc d ↦{tok w} ids) ∗ (∃ f, sLoc d ↦[runSet ids w]{fullShare} f)
    ∗ (if w = 0 then iprop(∃ f, tLoc d ↦{fullShare} f) else iprop(emp)))) (fun w hw => by unfold goP; rw [if_pos (Finset.mem_range.1 hw)]),
    bigSep_sep', bigSep_sep', h0]

/-- What the tiles give back: the shares, the sorted array and the table, filled. -/
theorem tdP_eq (ids : Vec F S2048 .i32) (d : Dev nD) :
    (bigSep (Finset.range 8) fun w => tdP ids d w : sProp (MM F))
      = iprop((bigSep (Finset.range 8) fun w => eLoc d ↦{tok w} ids) ∗ (sLoc d ↦{fullShare} sidxV ids) ∗ (tLoc d ↦{fullShare} stV ids)) := by
  have h0 : (bigSep (Finset.range 8) fun w => if w = 0 then iprop(tLoc d ↦{fullShare} stV ids) else iprop(emp) : sProp (MM F)) = iprop(tLoc d ↦{fullShare} stV ids) :=
    only_zero _
  have h1 : (sLoc d ↦{fullShare} sidxV ids : sProp (MM F)) = bigSep (Finset.range 8) fun w => iprop(sLoc d ↦[runSet ids w]{fullShare} sidxV ids) := by
    rw [← runs_cover ids]
    exact pointsTo_biUnion (ℓ := sLoc d) (q := fullShare) (f := sidxV ids) (Finset.range 8) (runSet ids) (runs_disjoint ids)
  rw [bigSep_congr (Ψ := fun w => iprop((eLoc d ↦{tok w} ids) ∗ (sLoc d ↦[runSet ids w]{fullShare} sidxV ids)
    ∗ (if w = 0 then iprop(tLoc d ↦{fullShare} stV ids) else iprop(emp)))) (fun w hw => by unfold tdP; rw [if_pos (Finset.mem_range.1 hw)]),
    bigSep_sep', bigSep_sep', h0, ← h1]

/-- What stays of the experts' numbers while the tiles read them. -/
abbrev left8 : PosShare TreeShare := Transfers.shareDrop fullShare 8

/-- The three arrays are dealt to the tiles, with a share of the experts left over. -/
theorem deal (ids : Vec F S2048 .i32) (d : Dev nD) (f : Vec F S3072 .i32) (g : Vec F S16 .i32) :
    iprop((eLoc d ↦{fullShare} ids) ∗ (sLoc d ↦{fullShare} f) ∗ (tLoc d ↦{fullShare} g))
      ⊢ iprop((eLoc d ↦{left8} ids) ∗ (bigSep (Finset.range 8) fun w => goP ids d w : sProp (MM F))) := by
  have h1 : (sLoc d ↦{fullShare} f : sProp (MM F)) = bigSep (Finset.range 8) fun w => iprop(sLoc d ↦[runSet ids w]{fullShare} f) := by
    rw [← runs_cover ids]
    exact pointsTo_biUnion (ℓ := sLoc d) (q := fullShare) (f := f) (Finset.range 8) (runSet ids) (runs_disjoint ids)
  have hm : (bigSep (Finset.range 8) fun w => iprop(sLoc d ↦[runSet ids w]{fullShare} f))
      ⊢ (bigSep (Finset.range 8) fun w => iprop(∃ f, sLoc d ↦[runSet ids w]{fullShare} f) : sProp (MM F)) := by
    refine bigSep_mono fun w _ => ?_
    show (_ : sProp (MM F)) ⊢ (_ : sProp (MM F))
    iintro H; iexists _; iexact H
  rw [goP_eq, h1]
  iintro ⟨He, Hs, Ht⟩
  ihave He := (Transfers.pointsTo_toks_range (ℓ := eLoc d) (S := Finset.univ) (f := ids) fullShare 8).1 $$ He
  icases He with ⟨He, Hes⟩
  isplitl [He]; · iexact He
  isplitl [Hes]; · iexact Hes
  isplitl [Hs]
  · iapply hm $$ Hs
  iexists _; iexact Ht

/-- What the tiles give back makes the three arrays whole again. -/
theorem collect (ids : Vec F S2048 .i32) (d : Dev nD) :
    iprop((eLoc d ↦{left8} ids) ∗ (bigSep (Finset.range 8) fun w => tdP ids d w : sProp (MM F)))
      ⊢ iprop((eLoc d ↦{fullShare} ids) ∗ (sLoc d ↦{fullShare} sidxV ids) ∗ (tLoc d ↦{fullShare} stV ids)) := by
  rw [tdP_eq]
  iintro ⟨He, Hes, Hs, Ht⟩
  isplitl [He Hes]
  · iapply (Transfers.pointsTo_toks_range (ℓ := eLoc d) (S := Finset.univ) (f := ids) fullShare 8).2
    isplitl [He]; · iexact He
    iexact Hes
  isplitl [Hs]; · iexact Hs
  iexact Ht

variable (I : Dev nD → Vec F S2048 .i32)

/-- What both SparseCores are handed is what the eight working tiles are given. -/
theorem st_all (d : Dev nD) : (bigSep Finset.univ fun c : Fin ((K (F := F)).nCore 0) => (P I).st 0 d c) = (bigSep (Finset.range 8) fun w => goP (I d) d w : sProp (MM F)) :=
  cores_eight (fun w => goP (I d) d w) fun w hw => by unfold goP; exact if_neg (Nat.not_lt.2 hw)
/-- What both SparseCores hand back is what the eight working tiles give back. -/
theorem dn_all (d : Dev nD) : (bigSep Finset.univ fun c : Fin ((K (F := F)).nCore 0) => (P I).dn 0 d c) = (bigSep (Finset.range 8) fun w => tdP (I d) d w : sProp (MM F)) :=
  cores_eight (fun w => tdP (I d) d w) fun w hw => by unfold tdP; exact if_neg (Nat.not_lt.2 hw)

end Cert.Sort

end
-- ==== Proof.Region.lean ====
/-
  The TensorCore calls as regions of the main program: what is common to the three.
-/
module

public import Idealize.ShloMosaic.Lib.Pipeline.Regions
public import Idealize.ShloMosaic.Lib.Pipeline.ValueKit
public import proofs.«01_k».proof.Proof.Gen.KernelIdeal.Launch
public import proofs.«01_k».proof.Proof.Gen.KernelIdeal.Points
public import proofs.«01_k».proof.Proof.Tile7

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The pipelines' ghost state -/

/-- The staging cells' rounds: the second component's first half. -/
def EP : Emb UP (MM F) := (Emb.inl : Emb UP (UP × Counters)).trans (embR : Emb (UP × Counters) (MM F))

/-- The pipelines' ghost state sits in the program's. -/
instance EP_landsIn : (EP (F := F)).LandsIn (upEmb : UEmb _ (MM F)) := by unfold EP; infer_instance

/-- The pipelined calls' configurations are admissible. -/
abbrev adm : (p : Fin 3) → (pcfgs (F := F) p).Adm := fun p => (cfgs p).toPCfg_adm

/-- A pipeline's proof data. -/
abbrev DatT (F : FTy → Type) (cfg : Pipeline.Cfg sig Λ₀) (c : Dev nD) : Type := Pipeline.Dat τ (Elt F) (HIx 1) ℕ UU ℕ cfg c

/-- The proof data of a pipeline that is not being run. -/
def junkDat [∀ e, Nonempty (Elt F e)] {cfg : Pipeline.Cfg sig Λ₀} (c : Dev nD) : DatT F cfg c where
  A _ := fun _ => Classical.arbitrary _
  after _ _ := fun _ => Classical.arbitrary _
  Φ _ := BI.emp
  q _ := fullShare
  owed _ := 0

/-- What the TensorCore owes, its recorded waits at most at level `b`. -/
def OW (b : ℕ) (O : CellTallies nD τ sig (HIx 1)) (c : Dev nD) : sProp (MM F) :=
  iprop(∃ W, ⌜(K (F := F)).WBelow (T c) W b⌝ ∗ owes (T c) O W)

/-- The pairs a TensorCore's waits may have recorded. -/
def recd (F : FTy → Type) [FloatOps F] (b : ℕ) (c : Dev nD) : Set (SemLoc sig × HIx 1) := {x | (K (F := F)).lev (T c, x.1) x.2 ≤ b}

section Seg

variable {p : Fin 3} (pdats : (p : Fin 3) → (c : Dev nD) → DatT F (Pipeline.pin (pcfgs (F := F)) adm p) c)

set_option backward.isDefEq.respectTransparency.types false in
/-- A region whose invariant takes `XX` and gives back `YY`, the core's debts the constant `O` throughout. -/
def mkSeg (launch : Pipeline.LaunchFacts (nD := nD) (τ := τ) cfgs p) (KK : Type) [Fintype KK] (osem : KK → SemLoc sig)
    (ho : Pipeline.OwnSemFacts (cfgs p).spec osem) (b : ℕ) (O : CellTallies nD τ sig (HIx 1)) (hO : ∀ g, O g none = 0)
    (howed : ∀ c t, (pdats p c).owed t = O) (hrec : ∀ c t, (pdats p c).recorded t = recd F b c)
    (hbody : ∀ c, Pipeline.BodyObligation (pdats p c) (defs₀ (F := F)) 𝒱₀ (none : HIx 1) Set.univ)
    (XX YY : Dev nD → sProp (MM F))
    (hin : ∀ c, iprop(XX c ∗ Pipeline.ownSems0 osem c ∗ Pipeline.scopedRest (cfgs p).spec c) ⊢ (pdats p c).Φ 0)
    (hout : ∀ c, (pdats p c).Φ (Fin.last _) ⊢ iprop(YY c ∗ Pipeline.ownSems0 osem c ∗ Pipeline.scopedRest (cfgs p).spec c)) :
    Pipeline.RegionSeg (pcfgs (F := F)) adm pdats (none : HIx 1) defs₀ 𝒱₀ (K (F := F)).L (K (F := F)).lev p where
  win := launch.win.to₀
  block_pos := launch.block_pos
  stage_whole := launch.stage_whole
  K := KK
  osem := osem
  ho := ho
  hbody c := (hbody c).loose
  hwaits c := Pipeline.cellsWaits_intro (Pipeline.pin (pcfgs (F := F)) adm) pdats none p c fun w s t => by
    rw [howed c t]; exact (K (F := F)).mayWait_none (thr := T c) _ hO
  pre c := iprop((pdats p c).arrays ((pdats p c).arrAt · 0) ∗ XX c ∗ OW b O c)
  post c := iprop((pdats p c).arrays ((pdats p c).arrAt · (Pipeline.pin (pcfgs (F := F)) adm p).N) ∗ YY c ∗ OW b O c)
  X c := iprop(XX c ∗ Pipeline.ownSems0 osem c)
  Y := YY
  Z _ := iprop(emp)
  hentry c := by
    iintro ⟨⟨Ha, HX, HO⟩, Hs, -⟩
    imodintro
    isplitl [Ha]; · iexact Ha
    isplitr
    · unfold Pipeline.prefHeld
      rw [show (Finset.univ : Finset (Fin 0)) = ∅ from rfl, BI.bigSep_empty]; iempintro
    isplitl [HO]
    · unfold OW Pipeline.Dat.owesAt Pipeline.owesWithin
      icases HO with ⟨%W, %hW, HO⟩
      iexists W; isplitr
      · ipureintro
        intro x hx
        refine Or.inl ?_
        rw [hrec]; exact hW x hx
      rw [howed]; iexact HO
    isplitl [HX Hs]
    · isplitl [HX] <;> iassumption
    iempintro
  hin c := by
    iintro ⟨⟨HX, Hs⟩, -, Hr⟩
    iapply (hin c)
    isplitl [HX]; · iexact HX
    isplitl [Hs]; · iexact Hs
    iexact Hr
  hout c := hout c
  hexit c := by
    iintro ⟨Ha, HO, HY, -⟩
    imodintro
    isplitl [Ha]; · iexact Ha
    isplitl [HY]; · iexact HY
    unfold OW Pipeline.Dat.owesAt Pipeline.owesWithin
    icases HO with ⟨%W, %hW, HO⟩
    iexists W; isplitr
    · ipureintro
      intro x hx
      rcases hW hx with h | ⟨w, s, h⟩
      · rw [hrec] at h; exact h
      · subst h; exact Nat.zero_le _
    rw [howed]; iexact HO

/-- A region's call in the main program. -/
theorem region_wp [∀ e, Nonempty (Elt F e)] (R : Pipeline.RegionSeg (pcfgs (F := F)) adm pdats (none : HIx 1) defs₀ 𝒱₀ (K (F := F)).L (K (F := F)).lev p)
    (c : Dev nD) (Q : PUnit → sProp (MM F)) :
    iprop((boundary (T c) ∗ R.pre c ∗ levAts (K (F := F)).L (K (F := F)).lev
        ∗ Pipeline.cellsGhost (Pipeline.pin (pcfgs (F := F)) adm) EP p c ∗ Pipeline.toksInit (Pipeline.pin (pcfgs (F := F)) adm) EP p c)
        ∗ ((boundary (T c) ∗ R.post c) -∗ Q ⟨⟩))
      ⊢ wp frame (wpE ((K (F := F)).defs D) 𝒱 (T c) none) Set.univ
          (Prog.lift (.customCall (SparseCore.inner (Pipeline.entry p)) ())) Q := by
  have h := Pipeline.RegionSeg.wp (pcfgs (F := F)) adm pdats (none : HIx 1) cellOf_inj EP defs₀ 𝒱₀ (K (F := F)).L (K (F := F)).lev R c none
    (by intro v hv; cases hv) .ret Q
  refine BI.Entails.trans ?_ ((K (F := F)).wp_liftProg (D (F := F)) 𝒱 (T c) Set.univ none
    (.op (.customCall (Pipeline.entry p) ()) .ret) Q)
  refine BI.Entails.trans ?_ h
  show (_ : sProp (MM F)) ⊢ (_ : sProp (MM F))
  iintro ⟨⟨Hb, Hp, Hl, Hg, Ht⟩, HQ⟩
  isplitl [HQ]
  · iintro H; sl_step; iapply HQ; iexact H
  isplitl [Hb]; · iexact Hb
  isplitl [Hp]; · iexact Hp
  isplitl [Hl]; · iexact Hl
  isplitl [Hg]; · iexact Hg
  iexact Ht

end Seg

/-! ## Whole loads and stores -/

/-- The rectangle that is the whole shape places every index at itself. -/
theorem unit_idx {s : Shape} (off : Fin s.rank → ℕ) (inb : ∀ a, off a + s.size a ≤ s.size a) (j : (Rect.unit off s.size inb).shape.Idx) :
    (Rect.unit off s.size inb).idx j = j := by
  funext a
  refine Fin.ext ?_
  show off a + 1 * (j a).val = (j a).val
  have := inb a
  have h0 : off a = 0 := by omega
  rw [h0, Nat.zero_add, Nat.one_mul]

/-- A load of the whole buffer reads it. -/
theorem readAt_full {κ : Kind} {sp : Space} {s : Shape} {e : EltTy} (v : View sig κ sp s e) (off : Fin s.rank → ℕ)
    (inb : ∀ a, off a + s.size a ≤ s.size a) (f : v.ty.Contents (Elt F)) :
    View.readAt (Elt F) v (Rect.unit off s.size inb).toLoadRect f = v.read (Elt F) f := by
  funext j
  show v.read (Elt F) f ((Rect.unit off s.size inb).idx j) = v.read (Elt F) f j
  rw [unit_idx]

/-- A store of the whole buffer leaves what was stored. -/
theorem read_writes_full {κ : Kind} {sp : Space} {s : Shape} {e : EltTy} (v : View sig κ sp s e) (off : Fin s.rank → ℕ)
    (inb : ∀ a, off a + s.size a ≤ s.size a) (f : v.ty.Contents (Elt F)) (w : s.Idx → Elt F e) (L : List (View.Piece (Elt F) s e)) :
    v.read (Elt F) (v.writes (Elt F) f (⟨Rect.unit off s.size inb, w⟩ :: L)) = w := by
  funext j
  refine View.read_writes_cons_hit_of_coords v f (Rect.unit off s.size inb) w L j j fun a => ?_
  exact (congrArg (fun i : s.Idx => (i a).val) (unit_idx off inb j)).symm

/-- A read of a whole buffer reads its contents. -/
theorem whole_readAt {κ : Kind} (r : Ref sig κ) (off : Fin r.ty.shape.rank → ℕ)
    (inb : ∀ a, off a + r.ty.shape.size a ≤ r.ty.shape.size a) (f : r.ty.Contents (Elt F)) :
    View.readAt (Elt F) (Memref.whole r).view (Rect.unit off r.ty.shape.size inb).toLoadRect f = f :=
  (readAt_full (View.whole r) off inb f).trans (View.read_whole r f)

/-- A write of a whole buffer leaves what is written. -/
theorem whole_writes {κ : Kind} (r : Ref sig κ) (off : Fin r.ty.shape.rank → ℕ)
    (inb : ∀ a, off a + r.ty.shape.size a ≤ r.ty.shape.size a) (f w : r.ty.Contents (Elt F)) (L : List (View.Piece (Elt F) r.ty.shape r.ty.elt)) :
    (Memref.whole r).view.writes (Elt F) f (⟨Rect.unit off r.ty.shape.size inb, w⟩ :: L) = w :=
  (View.read_whole r _).symm.trans (read_writes_full (View.whole r) off inb f w L)

/-- A buffer of the main program on device `d`. -/
abbrev mLoc (d : Dev nD) (r : Ref sig .tc) : Loc nD τ sig := (SparseCore.T d).loc r

/-- The contents of a buffer, said otherwise. -/
theorem pt_eq {ℓ : Loc nD τ sig} {q : PosShare TreeShare} {g g' : Buf (Elt F) ℓ} (h : g = g') :
    (ℓ ↦{q} g : sProp (MM F)) ⊢ ℓ ↦{q} g' := Entails.of_eq (congrArg (fun g => (ℓ ↦{q} g : sProp (MM F))) h)

end Cert.Sort

end
-- ==== Proof.Router.lean ====
/-
  The router's call: what it leaves in its two results, and its region of the main program.
-/
module

public import proofs.«01_k».proof.Proof.Region

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The router's body on its four staged windows. -/
theorem router_run (d : Dev nD) (f0 : Vec F S2048x768 .f32) (f1 : Vec F S768x8 .f32) (f2 : Vec F S2048 .i32) (f3 : Vec F S2048x1 .f32)
    (Q : PUnit → sProp (MM F)) :
    iprop(((stage0_0 0).view.loc (T d) ↦{fullShare} f0) ∗ ((stage0_1 0).view.loc (T d) ↦{fullShare} f1)
        ∗ ((stage0_2 0).view.loc (T d) ↦{fullShare} f2) ∗ ((stage0_3 0).view.loc (T d) ↦{fullShare} f3)
        ∗ (((stage0_0 0).view.loc (T d) ↦{fullShare} f0) -∗ ((stage0_1 0).view.loc (T d) ↦{fullShare} f1)
          -∗ ((stage0_2 0).view.loc (T d) ↦{fullShare} k0_pay3 f0 f1) -∗ ((stage0_3 0).view.loc (T d) ↦{fullShare} k0_pay4 f0 f1) -∗ Q ⟨⟩))
      ⊢ wp frame (wpE (defs₀ (F := F)) 𝒱₀ (T d) none) Set.univ
          (cc0__router_body (F := F) (stage0_0 0) (hstage0_0 0) (stage0_1 0) (hstage0_1 0) (stage0_2 0) (hstage0_2 0) (stage0_3 0) (hstage0_3 0)) Q := by
  have h0 : View.readAt (Elt F) (stage0_0 0).view (Rect.unit ![0, 0] S2048x768.size inb_S2048x768_S2048x768_0_0).toLoadRect f0 = f0 :=
    whole_readAt cc0_stg0_0 _ _ f0
  have h1 : View.readAt (Elt F) (stage0_1 0).view (Rect.unit ![0, 0] S768x8.size inb_S768x8_S768x8_0_0).toLoadRect f1 = f1 :=
    whole_readAt cc0_stg1_0 _ _ f1
  have h2 : (stage0_2 0).view.writes (Elt F) f2 [⟨Rect.unit ![0] S2048.size inb_S2048_S2048_0, k0_pay3 f0 f1⟩] = k0_pay3 f0 f1 :=
    whole_writes cc0_stg2_0 _ _ f2 _ []
  have h3 : (stage0_3 0).view.writes (Elt F) f3 [⟨Rect.unit ![0, 0] S2048x1.size inb_S2048x1_S2048x1_0_0, k0_pay4 f0 f1⟩] = k0_pay4 f0 f1 :=
    whole_writes cc0_stg3_0 _ _ f3 _ []
  rw [cc0__router_body_eq_skeleton]
  iintro ⟨H0, H1, H2, H3, HQ⟩
  sl_exec
  sl_step
  iapply HQ $$ [H0] [H1] [H2] [H3]
  · iexact H0
  · iexact H1
  · iapply (pt_eq (ℓ := (stage0_2 0).view.loc (T d)) (q := fullShare) h2) $$ H2
  · iapply (pt_eq (ℓ := (stage0_3 0).view.loc (T d)) (q := fullShare) h3) $$ H3

/-! ## Its proof data -/

variable [∀ e, Nonempty (Elt F e)]

section Data

variable (O : CellTallies nD τ sig (HIx 1)) (b : ℕ) (x : Vec F S2048x768 .f32) (wr : Vec F S768x8 .f32)
  (a2 : Vec F S2048 .i32) (a3 : Vec F S2048x1 .f32) (y2 : Vec F S2048 .i32) (y3 : Vec F S2048x1 .f32)

/-- The router's call from tokens `x` and weights `wr`, its results' arrays at anything. -/
def dat0 (c : Dev nD) : DatT F cfg0 c where
  A w := match w with | 0 => x | 1 => wr | 2 => a2 | 3 => a3
  after w _ := match w with | 0 => x | 1 => wr | 2 => y2 | 3 => y3
  Φ _ := Pipeline.scopedRest (Ix := HIx 1) (Name := ℕ) (U := UU) (Lvl := ℕ) (Val := Elt F) spec0 c
  q _ := fullShare
  owed _ := O
  recorded _ := recd F b c

/-- The data of the three pipelined calls, this call's in its place. -/
def pdats0 : (p : Fin 3) → (c : Dev nD) → DatT F (Pipeline.pin (pcfgs (F := F)) adm p) c
  | ⟨0, _⟩ => fun c => dat0 O b x wr a2 a3 y2 y3 c
  | ⟨1, _⟩ => fun c => junkDat c
  | ⟨2, _⟩ => fun c => junkDat c

/-- The body finds the tokens' rows in its first block. -/
theorem before0_0 (c : Dev nD) (d) : (dat0 O b x wr a2 a3 y2 y3 c).before 0 t0_0 d = x := by
  unfold Pipeline.Dat.before; rw [if_pos (by decide)]
  funext j
  exact congrArg x (funext fun a => Fin.ext (Pipeline.Window.rect_emb_val_of_index_zero (cfg0.win 0) t0_0 a rfl _))
/-- The body finds the router's weights in its second block. -/
theorem before0_1 (c : Dev nD) (d) : (dat0 O b x wr a2 a3 y2 y3 c).before 1 t0_0 d = wr := by
  unfold Pipeline.Dat.before; rw [if_pos (by decide)]
  funext j
  exact congrArg wr (funext fun a => Fin.ext (Pipeline.Window.rect_emb_val_of_index_zero (cfg0.win 1) t0_0 a rfl _))

/-- The body keeps what the pipeline asks of it. -/
theorem body_obligation0 (h2 : y2 = k0_pay3 x wr) (h3 : y3 = k0_pay4 x wr) (c : Dev nD) : Pipeline.BodyObligation (dat0 O b x wr a2 a3 y2 y3 c) (defs₀ (F := F)) 𝒱₀ (none : HIx 1) Set.univ := fun t => by
  obtain rfl := fin_N0 t
  rw [bigSep_W0, bigSep_W0]
  simp only [owns_whole_eq]
  rw [show (dat0 O b x wr a2 a3 y2 y3 c).Φ t0_0.castSucc = (dat0 O b x wr a2 a3 y2 y3 c).Φ t0_0.succ from rfl,
    show (dat0 O b x wr a2 a3 y2 y3 c).owesAt none t0_0.succ = (dat0 O b x wr a2 a3 y2 y3 c).owesAt none t0_0.castSucc from rfl]
  iintro ⟨HΦ, Howes, ⟨%d0, %f0, %hf0, H0⟩, ⟨%d1, %f1, %hf1, H1⟩, ⟨%d2, %f2, -, H2⟩, ⟨%d3, %f3, -, H3⟩⟩
  rw [before0_0] at hf0
  rw [before0_1] at hf1
  subst hf0 hf1 h2 h3
  iapply (router_run c f0 f1 f2 f3 _)
  isplitl [H0]; · iexact H0
  isplitl [H1]; · iexact H1
  isplitl [H2]; · iexact H2
  isplitl [H3]; · iexact H3
  iintro H0 H1 H2 H3
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  iexists _; isplitr; swap; (· iexact H3); ipureintro; dsimp only [dat0]

/-- The call's first result is the tokens' experts. -/
theorem arr0_2 (c : Dev nD) : (dat0 O b x wr a2 a3 y2 y3 c).arrAt 2 cfg0.N = y2 :=
  (dat0 O b x wr a2 a3 y2 y3 c).arrAt_eq_of_after_last 2 t0_0 (by decide +kernel) _ fun j => rfl
/-- The call's second result is the tokens' scores. -/
theorem arr0_3 (c : Dev nD) : (dat0 O b x wr a2 a3 y2 y3 c).arrAt 3 cfg0.N = y3 :=
  (dat0 O b x wr a2 a3 y2 y3 c).arrAt_eq_of_after_last 3 t0_0 (by decide +kernel) _ fun j => rfl

/-- The router's call, as a stretch of the host program. -/
def seg0 (h2 : y2 = k0_pay3 x wr) (h3 : y3 = k0_pay4 x wr) (hO : ∀ g, O g none = 0) : Pipeline.RegionSeg (pcfgs (F := F)) adm (pdats0 O b x wr a2 a3 y2 y3) (none : HIx 1) defs₀ 𝒱₀ (K (F := F)).L (K (F := F)).lev 0 :=
  mkSeg (p := 0) (pdats0 O b x wr a2 a3 y2 y3) launch0 PEmpty (fun k => k.elim) (Pipeline.OwnSemFacts.none _) b O hO (fun _ _ => rfl) (fun _ _ => rfl)
    (fun c => body_obligation0 O b x wr a2 a3 y2 y3 h2 h3 c) (fun _ => iprop(emp)) (fun _ => iprop(emp))
    (fun c => by
      show _ ⊢ Pipeline.scopedRest (Ix := HIx 1) (Name := ℕ) (U := UU) (Lvl := ℕ) (Val := Elt F) spec0 c
      iintro ⟨-, -, H⟩; iexact H)
    (fun c => by
      show Pipeline.scopedRest (Ix := HIx 1) (Name := ℕ) (U := UU) (Lvl := ℕ) (Val := Elt F) spec0 c ⊢ _
      rw [Pipeline.ownSems0_none]
      iintro H
      isplitr; · iempintro
      isplitr; · iempintro
      iexact H)

set_option backward.isDefEq.respectTransparency.types false in
/-- What the call needs is what the host holds before it. -/
theorem pre0 (h2 : y2 = k0_pay3 x wr) (h3 : y3 = k0_pay4 x wr) (hO : ∀ g, O g none = 0) (d : Dev nD) :
    iprop((mLoc d main_v0 ↦{fullShare} x) ∗ (mLoc d main_arg1 ↦{fullShare} wr) ∗ (mLoc d main_v1_0 ↦{fullShare} a2)
        ∗ (mLoc d main_v1_1 ↦{fullShare} a3) ∗ OW b O d) ⊢ (seg0 O b x wr a2 a3 y2 y3 h2 h3 hO).pre d := by
  have h : (pdats0 O b x wr a2 a3 y2 y3 0 d).arrays ((pdats0 O b x wr a2 a3 y2 y3 0 d).arrAt · 0)
      = iprop((mLoc d main_v0 ↦{fullShare} x) ∗ (mLoc d main_arg1 ↦{fullShare} wr) ∗ (mLoc d main_v1_0 ↦{fullShare} a2)
        ∗ (mLoc d main_v1_1 ↦{fullShare} a3)) :=
    (Pipeline.arrays_eq (p := 0) (Pipeline.pin (pcfgs (F := F)) adm) (pdats0 O b x wr a2 a3 y2 y3) d launch0.arr_whole
      ((pdats0 O b x wr a2 a3 y2 y3 0 d).share_full fun _ => rfl) _).trans (bigSep_W0 _)
  show _ ⊢ iprop((pdats0 O b x wr a2 a3 y2 y3 0 d).arrays ((pdats0 O b x wr a2 a3 y2 y3 0 d).arrAt · 0) ∗ iprop(emp) ∗ OW b O d)
  rw [h]
  iintro ⟨H0, H1, H2, H3, HO⟩
  isplitl [H0 H1 H2 H3]
  · isplitl [H0]; · iexact H0
    isplitl [H1]; · iexact H1
    isplitl [H2]; · iexact H2
    iexact H3
  isplitr; · iempintro
  iexact HO

set_option backward.isDefEq.respectTransparency.types false in
/-- What the host holds after the call: its operands unchanged, its results filled. -/
theorem post0 (h2 : y2 = k0_pay3 x wr) (h3 : y3 = k0_pay4 x wr) (hO : ∀ g, O g none = 0) (d : Dev nD) :
    (seg0 O b x wr a2 a3 y2 y3 h2 h3 hO).post d
      ⊢ iprop((mLoc d main_v0 ↦{fullShare} x) ∗ (mLoc d main_arg1 ↦{fullShare} wr) ∗ (mLoc d main_v1_0 ↦{fullShare} y2)
        ∗ (mLoc d main_v1_1 ↦{fullShare} y3) ∗ OW b O d) := by
  have e : (fun w : Fin 4 => (dat0 O b x wr a2 a3 y2 y3 d).arrAt w cfg0.N) = fun w => match w with | 0 => x | 1 => wr | 2 => y2 | 3 => y3 := by
    funext w
    match w with
    | 0 => exact (dat0 O b x wr a2 a3 y2 y3 d).arrAt_in 0 rfl _
    | 1 => exact (dat0 O b x wr a2 a3 y2 y3 d).arrAt_in 1 rfl _
    | 2 => exact arr0_2 O b x wr a2 a3 y2 y3 d
    | 3 => exact arr0_3 O b x wr a2 a3 y2 y3 d
  have h : (pdats0 O b x wr a2 a3 y2 y3 0 d).arrays (fun w : Fin 4 => (dat0 O b x wr a2 a3 y2 y3 d).arrAt w cfg0.N)
      = iprop((mLoc d main_v0 ↦{fullShare} x) ∗ (mLoc d main_arg1 ↦{fullShare} wr) ∗ (mLoc d main_v1_0 ↦{fullShare} y2)
        ∗ (mLoc d main_v1_1 ↦{fullShare} y3)) := by
    rw [e]
    exact (Pipeline.arrays_eq (p := 0) (Pipeline.pin (pcfgs (F := F)) adm) (pdats0 O b x wr a2 a3 y2 y3) d launch0.arr_whole
      ((pdats0 O b x wr a2 a3 y2 y3 0 d).share_full fun _ => rfl) _).trans (bigSep_W0 _)
  show iprop((pdats0 O b x wr a2 a3 y2 y3 0 d).arrays (fun w : Fin 4 => (dat0 O b x wr a2 a3 y2 y3 d).arrAt w cfg0.N) ∗ iprop(emp) ∗ OW b O d) ⊢ _
  rw [h]
  iintro ⟨⟨H0, H1, H2, H3⟩, -, HO⟩
  isplitl [H0]; · iexact H0
  isplitl [H1]; · iexact H1
  isplitl [H2]; · iexact H2
  isplitl [H3]; · iexact H3
  iexact HO

/-- The router's call in the main program: from the tokens and the weights, each token's expert and its score. -/
theorem router_call (h2 : y2 = k0_pay3 x wr) (h3 : y3 = k0_pay4 x wr) (hO : ∀ g, O g none = 0) (d : Dev nD) (Q : PUnit → sProp (MM F)) :
    iprop(boundary (T d) ∗ levAts (K (F := F)).L (K (F := F)).lev
        ∗ (Pipeline.cellsGhost (Pipeline.pin (pcfgs (F := F)) adm) EP 0 d ∗ Pipeline.toksInit (Pipeline.pin (pcfgs (F := F)) adm) EP 0 d)
        ∗ (mLoc d main_v0 ↦{fullShare} x) ∗ (mLoc d main_arg1 ↦{fullShare} wr) ∗ (mLoc d main_v1_0 ↦{fullShare} a2)
        ∗ (mLoc d main_v1_1 ↦{fullShare} a3) ∗ OW b O d
        ∗ (boundary (T d) -∗ (mLoc d main_v0 ↦{fullShare} x) -∗ (mLoc d main_arg1 ↦{fullShare} wr)
          -∗ (mLoc d main_v1_0 ↦{fullShare} y2) -∗ (mLoc d main_v1_1 ↦{fullShare} y3) -∗ OW b O d -∗ Q ⟨⟩))
      ⊢ wp frame (wpE ((K (F := F)).defs D) 𝒱 (T d) none) Set.univ
          (Prog.lift (.customCall (SparseCore.inner (Pipeline.entry 0)) ())) Q := by
  refine BI.Entails.trans ?_ (region_wp (pdats0 O b x wr a2 a3 y2 y3) (seg0 O b x wr a2 a3 y2 y3 h2 h3 hO) d Q)
  show (_ : sProp (MM F)) ⊢ (_ : sProp (MM F))
  iintro ⟨Hb, Hl, ⟨Hg, Ht⟩, H0, H1, H2, H3, HO, HQ⟩
  isplitr [HQ]
  · isplitl [Hb]; · iexact Hb
    isplitl [H0 H1 H2 H3 HO]
    · iapply (pre0 O b x wr a2 a3 y2 y3 h2 h3 hO d)
      isplitl [H0]; · iexact H0
      isplitl [H1]; · iexact H1
      isplitl [H2]; · iexact H2
      isplitl [H3]; · iexact H3
      iexact HO
    isplitl [Hl]; · iexact Hl
    isplitl [Hg]; · iexact Hg
    iexact Ht
  iintro ⟨Hb, HP⟩
  ihave H := (post0 O b x wr a2 a3 y2 y3 h2 h3 hO d) $$ HP
  icases H with ⟨H0, H1, H2, H3, HO⟩
  iapply HQ $$ Hb H0 H1 H2 H3 HO

end Data

/-! ## The experts' numbers are at most eight -/

/-- A signed minimum of small words, from the greatest word: one of them, and at most each. -/
theorem fold_min {ι : Type} [DecidableEq ι] (S : Finset ι) (f : ι → BitVec 32) (hf : ∀ k, (f k).toNat ≤ 8) :
    (S = ∅ ∧ S.fold IntOp.minsi 2147483647#32 f = 2147483647#32)
      ∨ ∃ k ∈ S, S.fold IntOp.minsi 2147483647#32 f = f k ∧ ∀ k' ∈ S, (f k).toNat ≤ (f k').toNat := by
  have slt_iff : ∀ a b : BitVec 32, a.toNat < 2 ^ 31 → b.toNat < 2 ^ 31 → (a.slt b = true ↔ a.toNat < b.toNat) := by
    intro a b ha hb
    rw [BitVec.slt_iff_toInt_lt, BitVec.toInt_eq_toNat_of_lt (by omega), BitVec.toInt_eq_toNat_of_lt (by omega)]
    exact Nat.cast_lt
  induction S using Finset.induction_on with
  | empty => exact .inl ⟨rfl, rfl⟩
  | insert a S ha ih =>
    refine .inr ?_
    rw [Finset.fold_insert ha]
    have h8 := hf a
    rcases ih with ⟨rfl, e⟩ | ⟨k, hk, e, hmin⟩
    · refine ⟨a, Finset.mem_insert_self _ _, ?_, fun k' hk' => ?_⟩
      · rw [e]; unfold IntOp.minsi
        rw [if_pos ((slt_iff _ _ (by omega) (by decide)).mpr (by rw [show (2147483647#32).toNat = 2147483647 from rfl]; omega))]
      · rcases Finset.mem_insert.mp hk' with rfl | h
        · exact le_rfl
        · exact absurd h (Finset.notMem_empty _)
    · have hk8 := hf k
      rw [e]; unfold IntOp.minsi
      by_cases hlt : (f a).toNat < (f k).toNat
      · rw [if_pos ((slt_iff _ _ (by omega) (by omega)).mpr hlt)]
        refine ⟨a, Finset.mem_insert_self _ _, rfl, fun k' hk' => ?_⟩
        rcases Finset.mem_insert.mp hk' with rfl | h
        · exact le_rfl
        · exact hlt.le.trans (hmin k' h)
      · rw [if_neg (fun h => hlt ((slt_iff _ _ (by omega) (by omega)).mp h))]
        refine ⟨k, Finset.mem_insert_of_mem hk, rfl, fun k' hk' => ?_⟩
        rcases Finset.mem_insert.mp hk' with rfl | h
        · omega
        · exact hmin k' h

/-- Lane `k`'s candidate for row `j`: its number if its logit is the row's greatest, else eight. -/
def cand (x : Vec F S2048x768 .f32) (wr : Vec F S768x8 .f32) (j : S2048.Idx) (k : Fin 8) : BitVec 32 :=
  if cmpf .oeq (k0_pay1 x wr) (broadcastTo S2048x8 (k0_pay2 x wr) broadcasts_S2048x1_S2048x8) (reduces_S2048x8_S2048.lift j k) = 1#1
    then BitVec.ofNat 32 k.val else 8#32

/-- A candidate is at most eight. -/
theorem cand_le (x : Vec F S2048x768 .f32) (wr : Vec F S768x8 .f32) (j : S2048.Idx) (k : Fin 8) : (cand x wr j k).toNat ≤ 8 := by
  unfold cand
  split_ifs
  · rw [BitVec.toNat_ofNat]; have := k.isLt; omega
  · decide

/-- A token's expert is the least of its candidates. -/
theorem pay3_fold (x : Vec F S2048x768 .f32) (wr : Vec F S768x8 .f32) (j : S2048.Idx) :
    k0_pay3 x wr j = (Finset.univ : Finset (Fin 8)).fold IntOp.minsi 2147483647#32 (cand x wr j) := by
  refine Eq.trans (multiReductionI_eq_fold .minsi _ _ reduces_S2048x8_S2048 rfl j) ?_
  refine (reduces_S2048x8_S2048.fold_filter_drop_single _ _ _ j).trans ?_
  refine congrArg (fun f => Finset.fold IntOp.minsi 2147483647#32 f Finset.univ) (funext fun k => ?_)
  have hk : iota Kind.tc S2048x8 32 [1] iota_S2048x8_d1_w32 (reduces_S2048x8_S2048.lift j k) = BitVec.ofNat 32 k.val := by
    show BitVec.ofNat 32 (0 * S2048x8.size 1 + (reduces_S2048x8_S2048.lift j k 1).val) = BitVec.ofNat 32 k.val
    rw [Nat.zero_mul, Nat.zero_add]
    rfl
  unfold cand
  rw [← hk]
  rfl

/-- A row's expert: a lane with the candidate, at most every lane's. -/
theorem pay3_spec (x : Vec F S2048x768 .f32) (wr : Vec F S768x8 .f32) (j : S2048.Idx) :
    ∃ k, k0_pay3 x wr j = cand x wr j k ∧ ∀ k', (cand x wr j k).toNat ≤ (cand x wr j k').toNat := by
  rcases fold_min (Finset.univ : Finset (Fin 8)) (cand x wr j) (cand_le x wr j) with ⟨h, -⟩ | ⟨k, -, e, h⟩
  · exact absurd h (Finset.univ_nonempty (α := Fin 8)).ne_empty
  · exact ⟨k, (pay3_fold x wr j).trans e, fun k' => h k' (Finset.mem_univ _)⟩

/-- Every expert's number the router gives is at most eight. -/
theorem router_ids (x : Vec F S2048x768 .f32) (wr : Vec F S768x8 .f32) : IdsOK (F := F) (k0_pay3 x wr) := fun j => by
  obtain ⟨k, e, -⟩ := pay3_spec x wr j
  exact e ▸ cand_le x wr j k

end Cert.Sort

end
-- ==== Proof.FfnWords.lean ====
/-
  The words of the grouped feed-forward loops: the tile counts pass every check and give every loop its trips.
-/
module

public import proofs.«01_k».proof.Proof.Region

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The tile loop's bounds pass its check, for every pair of bounds. -/
theorem chk_fin : ∀ a b : Fin 25, a.val ≤ b.val → k2_chk1 (BitVec.ofNat 32 a.val) (BitVec.ofNat 32 b.val) := by decide +kernel

/-- The tile loop's trips are the bounds' difference, for every pair of bounds. -/
theorem trips_fin : ∀ a b : Fin 25, a.val ≤ b.val → (k2_t1_loop (BitVec.ofNat 32 a.val) (BitVec.ofNat 32 b.val)).trips = b.val - a.val
    ∧ (k2_t2_loop (BitVec.ofNat 32 a.val) (BitVec.ofNat 32 b.val)).trips = 0 := by decide +kernel

/-- The tile's row is 128 times its number, for every tile. -/
theorem off_fin : ∀ a : Fin 25, ∀ k : Fin 24, a.val + k.val < 24 →
    (Scalar.indexCast (Scalar.muli (Scf.iv (BitVec.ofNat 32 a.val) 1#32 k.val) 128#32)).toNat = 128 * (a.val + k.val) := by decide +kernel

/-- A tile boundary's word: at most 24. -/
theorem word_fin (v : BitVec 32) (h : v.toNat ≤ 24) : ∃ a : Fin 25, v = BitVec.ofNat 32 a.val ∧ a.val = v.toNat :=
  ⟨⟨v.toNat, by omega⟩, by simp, rfl⟩

/-- Bounds in order and within the array pass the loop's check. -/
theorem chk_ok (u v : BitVec 32) (h : u.toNat ≤ v.toNat) (hv : v.toNat ≤ 24) : k2_chk1 u v := by
  obtain ⟨a, rfl, ha⟩ := word_fin u (h.trans hv)
  obtain ⟨b, rfl, hb⟩ := word_fin v hv
  exact chk_fin a b (by rw [ha, hb]; exact h)

/-- The tile loop runs once per tile, and its remainder loop never. -/
theorem trips_ok (u v : BitVec 32) (h : u.toNat ≤ v.toNat) (hv : v.toNat ≤ 24) :
    (k2_t1_loop u v).trips = v.toNat - u.toNat ∧ (k2_t2_loop u v).trips = 0 := by
  obtain ⟨a, rfl, ha⟩ := word_fin u (h.trans hv)
  obtain ⟨b, rfl, hb⟩ := word_fin v hv
  have := trips_fin a b (by rw [ha, hb]; exact h)
  rw [← ha, ← hb]; exact this

/-- A trip's row is its tile's first, and its tile lies before the upper bound. -/
theorem off_ok (u v : BitVec 32) (h : u.toNat ≤ v.toNat) (hv : v.toNat ≤ 24) (k : Fin (k2_t1_loop u v).trips) :
    k2_off1 u v k = ![128 * (u.toNat + k.val), 0] ∧ u.toNat + k.val < v.toNat := by
  have hk : k.val < v.toNat - u.toNat := lt_of_lt_of_eq k.isLt (trips_ok u v h hv).1
  obtain ⟨a, rfl, ha⟩ := word_fin u (h.trans hv)
  have := off_fin a ⟨k.val, by omega⟩ (by show a.val + k.val < 24; omega)
  refine ⟨?_, by omega⟩
  have e : (BitVec.ofNat 32 a.val).toNat + k.val = a.val + k.val := by omega
  show ![(Scalar.indexCast (Scalar.muli (Scf.iv (BitVec.ofNat 32 a.val) 1#32 k.val) 128#32)).toNat, 0] = ![128 * ((BitVec.ofNat 32 a.val).toNat + k.val), 0]
  rw [e]
  exact congrArg (fun n : ℕ => (![n, 0] : Fin 2 → ℕ)) this

end Cert.Sort

end
-- ==== Proof.FfnVal.lean ====
/-
  The grouped feed-forward call's values: the rows of a tile, and what the sorted output holds after each expert.
-/
module

public import proofs.«01_k».proof.Proof.FfnWords
public import Idealize.ShloMosaic.Lib.Pointwise.Index

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The table of first tiles. -/
abbrev m0 : Memref sig .tc .smem S16 .i32 := Memref.whole cc2_stg0_0
/-- The sorted tokens' numbers, as a column. -/
abbrev m1 : Memref sig .tc .vmem S3072x1 .i32 := Memref.whole cc2_stg1_0
/-- The tokens' rows. -/
abbrev m2 : Memref sig .tc .vmem S2048x768 .f32 := Memref.whole cc2_stg2_0
/-- The first layer's weights. -/
abbrev m3 : Memref sig .tc .hbm S8x768x3072 .f32 := Memref.whole main_arg2
/-- The first layer's biases. -/
abbrev m4 : Memref sig .tc .vmem S8x3072 .f32 := Memref.whole cc2_stg3_0
/-- The second layer's weights. -/
abbrev m5 : Memref sig .tc .hbm S8x3072x768 .f32 := Memref.whole main_arg4
/-- The second layer's biases. -/
abbrev m6 : Memref sig .tc .vmem S8x768 .f32 := Memref.whole cc2_stg4_0
/-- The sorted outputs. -/
abbrev m7 : Memref sig .tc .vmem S3072x768 .f32 := Memref.whole cc2_stg5_0
/-- The two slots for an expert's first weights. -/
abbrev m8 : Memref sig .tc .vmem S2x768x3072 .f32 := Memref.whole cc2_scratch0
/-- The two slots for an expert's second weights. -/
abbrev m9 : Memref sig .tc .vmem S2x3072x768 .f32 := Memref.whole cc2_scratch1

/-- What the feed-forward call reads. -/
structure FfnIn (F : FTy → Type) where
  si : Vec F S3072x1 .i32
  x : Vec F S2048x768 .f32
  w1 : Vec F S8x768x3072 .f32
  b1 : Vec F S8x3072 .f32
  w2 : Vec F S8x3072x768 .f32
  b2 : Vec F S8x768 .f32

/-- Expert `e`'s first weights. -/
def FfnIn.w1r (A : FfnIn F) (e : Fin 8) : Vec F S1x768x3072 .f32 := fun j => A.w1 (ValueIdx.ix3 e (j 1) (j 2))
/-- Expert `e`'s second weights. -/
def FfnIn.w2r (A : FfnIn F) (e : Fin 8) : Vec F S1x3072x768 .f32 := fun j => A.w2 (ValueIdx.ix3 e (j 1) (j 2))
/-- Expert `e`'s first bias. -/
def FfnIn.b1r (A : FfnIn F) (e : Fin 8) : Vec F S1x3072 .f32 := fun j => A.b1 (ValueIdx.ix2 e (j 1))
/-- Expert `e`'s second bias. -/
def FfnIn.b2r (A : FfnIn F) (e : Fin 8) : Vec F S1x768 .f32 := fun j => A.b2 (ValueIdx.ix2 e (j 1))
/-- The sorted ids of tile `t`. -/
def FfnIn.sir (A : FfnIn F) (t : ℕ) : Vec F S128x1 .i32 :=
  fun j => A.si (ValueIdx.ix2 ⟨(128 * t + (j 0).val) % 3072, Nat.mod_lt _ (by decide)⟩ 0)

/-- Tile `t` of the sorted output, by expert `e`. -/
def FfnIn.tile (A : FfnIn F) (e : Fin 8) (t : ℕ) : Vec F S128x768 .f32 :=
  k2_pay4 (A.sir t) A.x (A.w1r e) (A.b1r e) (A.w2r e) (A.b2r e)

/-- Row `i`'s place in its tile. -/
def inTile (i : S3072x768.Idx) : S128x768.Idx := ValueIdx.ix2 ⟨(i 0).val % 128, Nat.mod_lt _ (by decide)⟩ (i 1)

/-- The sorted output with the first `k` tiles of expert `e`, whose tiles begin at `a`, written over `g`. -/
def FfnIn.put (A : FfnIn F) (e : Fin 8) (a k : ℕ) (g : Vec F S3072x768 .f32) : Vec F S3072x768 .f32 :=
  fun i => if a ≤ (i 0).val / 128 ∧ (i 0).val / 128 < a + k then A.tile e ((i 0).val / 128) (inTile i) else g i

/-- No tile put leaves the array as it was. -/
theorem FfnIn.put_zero (A : FfnIn F) (e : Fin 8) (a : ℕ) (g : Vec F S3072x768 .f32) : A.put e a 0 g = g := by
  funext i
  unfold FfnIn.put
  rw [if_neg (by omega)]

/-- One more tile is one more store. -/
theorem FfnIn.put_succ (A : FfnIn F) (e : Fin 8) (a k : ℕ) (g : Vec F S3072x768 .f32) (off : Fin 2 → ℕ)
    (inb : ∀ x, off x + S128x768.size x ≤ S3072x768.size x) (hoff : off = ![128 * (a + k), 0]) (w : Vec F S128x768 .f32)
    (hw : w = A.tile e (a + k)) :
    m7.view.writes (Elt F) (A.put e a k g) [⟨Rect.unit (s := S3072x768) off S128x768.size inb, w⟩] = A.put e a (k + 1) g := by
  subst hoff hw
  refine (View.read_whole cc2_stg5_0 _).symm.trans ?_
  funext i
  by_cases hi : (i 0).val / 128 = a + k
  · refine (View.read_writes_cons_hit_of_coords (View.whole cc2_stg5_0) _ (Rect.unit (s := S3072x768) ![128 * (a + k), 0] S128x768.size inb) _ [] (inTile i) i fun x => ?_).trans ?_
    · fin_cases x
      · show (i 0).val = 128 * (a + k) + 1 * ((i 0).val % 128)
        omega
      · show (i 1).val = 0 + 1 * (i 1).val
        omega
    · unfold FfnIn.put
      rw [if_pos (by omega), hi]
  · refine (View.read_writes_cons_miss_of_axis (View.whole cc2_stg5_0) _ ⟨Rect.unit (s := S3072x768) ![128 * (a + k), 0] S128x768.size inb, A.tile e (a + k)⟩ [] i (0 : Fin 2)
      (128 * (a + k)) 128 rfl rfl rfl (by omega)).trans ?_
    · refine (congrFun (View.read_whole cc2_stg5_0 _) i).trans ?_
      show A.put e a k g i = A.put e a (k + 1) g i
      unfold FfnIn.put
      by_cases h : a ≤ (i 0).val / 128 ∧ (i 0).val / 128 < a + k
      · rw [if_pos h, if_pos (by omega)]
      · rw [if_neg h, if_neg (by omega)]

/-- The ids a tile loads. -/
theorem FfnIn.sir_load (A : FfnIn F) (t : ℕ) (ht : t < 24) (off : Fin 2 → ℕ) (inb : ∀ x, off x + S128x1.size x ≤ S3072x1.size x)
    (hoff : off = ![128 * t, 0]) :
    View.readAt (Elt F) m1.view (Rect.unit (s := S3072x1) off S128x1.size inb).toLoadRect A.si = A.sir t := by
  subst hoff
  funext j
  refine congrArg A.si ?_
  funext x
  refine Fin.ext ?_
  have h0 : (j 0).val < 128 := (j 0).isLt
  fin_cases x
  · show 128 * t + 1 * (j 0).val = (128 * t + (j 0).val) % 3072
    omega
  · show 0 + 1 * (j 1).val = 0
    have : (j 1).val < 1 := (j 1).isLt
    omega

/-- An expert's first biases, read in place. -/
theorem FfnIn.b1_load (A : FfnIn F) (e : Fin 8) (off : Fin 2 → ℕ) (inb : ∀ x, off x + S1x3072.size x ≤ S8x3072.size x) (hoff : off = ![e.val, 0]) :
    View.readAt (Elt F) m4.view (Rect.unit (s := S8x3072) off S1x3072.size inb).toLoadRect A.b1 = A.b1r e := by
  subst hoff
  funext j
  refine congrArg A.b1 ?_
  funext x
  refine Fin.ext ?_
  have h0 : (j 0).val < 1 := (j 0).isLt
  fin_cases x
  · show e.val + 1 * (j 0).val = e.val
    omega
  · show 0 + 1 * (j 1).val = (j 1).val
    omega

/-- An expert's second biases, read in place. -/
theorem FfnIn.b2_load (A : FfnIn F) (e : Fin 8) (off : Fin 2 → ℕ) (inb : ∀ x, off x + S1x768.size x ≤ S8x768.size x) (hoff : off = ![e.val, 0]) :
    View.readAt (Elt F) m6.view (Rect.unit (s := S8x768) off S1x768.size inb).toLoadRect A.b2 = A.b2r e := by
  subst hoff
  funext j
  refine congrArg A.b2 ?_
  funext x
  refine Fin.ext ?_
  have h0 : (j 0).val < 1 := (j 0).isLt
  fin_cases x
  · show e.val + 1 * (j 0).val = e.val
    omega
  · show 0 + 1 * (j 1).val = (j 1).val
    omega

end Cert.Sort

end
-- ==== Proof.FfnStep.lean ====
/-
  One trip of each expert's loop: its tile is written.
-/
module

public import proofs.«01_k».proof.Proof.FfnVal

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The four halves of the two weight buffers. -/
abbrev s80 := m8.view.setOn (Rect.unit (s := S2x768x3072) ![0, 0, 0] S1x768x3072.size inb_S2x768x3072_S1x768x3072_0_0_0).set
/-- The places of the first weights' second slot. -/
abbrev s81 := m8.view.setOn (Rect.unit (s := S2x768x3072) ![1, 0, 0] S1x768x3072.size inb_S2x768x3072_S1x768x3072_1_0_0).set
/-- The places of the second weights' first slot. -/
abbrev s90 := m9.view.setOn (Rect.unit (s := S2x3072x768) ![0, 0, 0] S1x3072x768.size inb_S2x3072x768_S1x3072x768_0_0_0).set
/-- The places of the second weights' second slot. -/
abbrev s91 := m9.view.setOn (Rect.unit (s := S2x3072x768) ![1, 0, 0] S1x3072x768.size inb_S2x3072x768_S1x3072x768_1_0_0).set

/-- The rectangle of the first weights' first slot. -/
abbrev r80 := (Rect.unit (s := S2x768x3072) ![0, 0, 0] S1x768x3072.size inb_S2x768x3072_S1x768x3072_0_0_0).toLoadRect
/-- The rectangle of the first weights' second slot. -/
abbrev r81 := (Rect.unit (s := S2x768x3072) ![1, 0, 0] S1x768x3072.size inb_S2x768x3072_S1x768x3072_1_0_0).toLoadRect
/-- The rectangle of the second weights' first slot. -/
abbrev r90 := (Rect.unit (s := S2x3072x768) ![0, 0, 0] S1x3072x768.size inb_S2x3072x768_S1x3072x768_0_0_0).toLoadRect
/-- The rectangle of the second weights' second slot. -/
abbrev r91 := (Rect.unit (s := S2x3072x768) ![1, 0, 0] S1x3072x768.size inb_S2x3072x768_S1x3072x768_1_0_0).toLoadRect

/-- Before trip `k` of expert `e`'s loop, its tiles beginning at `a`: the first `k` are written over `g`. -/
def invF (d : Dev nD) (A : FfnIn F) (e : Fin 8) (a : ℕ) (g : Vec F S3072x768 .f32) (s8 : Finset S2x768x3072.Idx) (s9 : Finset S2x3072x768.Idx)
    (G8 : Vec F S2x768x3072 .f32) (G9 : Vec F S2x3072x768 .f32) (k : ℕ) (_ : BitVec 32) : sProp (MM F) :=
  iprop((m1.view.loc (T d) ↦{fullShare} A.si) ∗ (m2.view.loc (T d) ↦{fullShare} A.x) ∗ (m4.view.loc (T d) ↦{fullShare} A.b1)
    ∗ (m6.view.loc (T d) ↦{fullShare} A.b2) ∗ (m8.view.loc (T d) ↦[s8]{fullShare} G8) ∗ (m9.view.loc (T d) ↦[s9]{fullShare} G9)
    ∗ (m7.view.loc (T d) ↦{fullShare} A.put e a k g))

/-- One trip of expert 0's loop. -/
theorem step0 (d : Dev nD) (A : FfnIn F) (u v : BitVec 32) (huv : u.toNat ≤ v.toNat) (hv : v.toNat ≤ 24) (hw : k2_chk1 u v)
    (g : Vec F S3072x768 .f32) (G8 : Vec F S2x768x3072 .f32) (G9 : Vec F S2x3072x768 .f32)
    (h8 : View.readAt (Elt F) m8.view r80 G8 = A.w1r 0) (h9 : View.readAt (Elt F) m9.view r90 G9 = A.w2r 0)
    (k : Fin (k2_t1_loop u v).trips) (acc : BitVec 32) :
    invF d A 0 u.toNat g s80 s90 G8 G9 k.val acc
      ⊢ wp frame (wpE (defs₀ (F := F)) 𝒱₀ (T d) none) Set.univ
          (k2_t1_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2 u v hw k acc)
          (fun yld => invF d A 0 u.toNat g s80 s90 G8 G9 (k.val + 1) yld) := by
  obtain ⟨ho, hk⟩ := off_ok u v huv hv k
  have h1 := A.sir_load (u.toNat + k.val) (by omega) (k2_off1 u v k) (k2_off1_inb u v hw k) ho
  have h2 : View.readAt (Elt F) m2.view (Rect.unit (s := S2048x768) ![0, 0] S2048x768.size inb_S2048x768_S2048x768_0_0).toLoadRect A.x = A.x :=
    whole_readAt cc2_stg2_0 _ _ A.x
  have h4 := A.b1_load 0 ![0, 0] inb_S8x3072_S1x3072_0_0 rfl
  have h6 := A.b2_load 0 ![0, 0] inb_S8x768_S1x768_0_0 rfl
  sl_unfold [k2_t1_body]
  unfold invF s80 s90
  iintro ⟨H1, H2, H4, H6, H8, H9, H7⟩
  sl_exec
  sl_step
  isplitl [H1]; · iexact H1
  isplitl [H2]; · iexact H2
  isplitl [H4]; · iexact H4
  isplitl [H6]; · iexact H6
  isplitl [H8]; · iexact H8
  isplitl [H9]; · iexact H9
  have hp := A.put_succ 0 u.toNat k.val g (k2_off2 u v k) (k2_off2_inb u v hw k) ho (k2_pay4 (A.sir (u.toNat + k.val)) A.x (A.w1r 0) (A.b1r 0) (A.w2r 0) (A.b2r 0)) rfl
  rw [← hp, ← h1, ← h2, ← h4, ← h6, ← h8, ← h9]
  iexact H7

/-- One trip of expert 1's loop. -/
theorem step1 (d : Dev nD) (A : FfnIn F) (u v : BitVec 32) (huv : u.toNat ≤ v.toNat) (hv : v.toNat ≤ 24) (hw : k2_chk2 u v)
    (g : Vec F S3072x768 .f32) (G8 : Vec F S2x768x3072 .f32) (G9 : Vec F S2x3072x768 .f32)
    (h8 : View.readAt (Elt F) m8.view r81 G8 = A.w1r 1) (h9 : View.readAt (Elt F) m9.view r91 G9 = A.w2r 1)
    (k : Fin (k2_t3_loop u v).trips) (acc : BitVec 32) :
    invF d A 1 u.toNat g s81 s91 G8 G9 k.val acc
      ⊢ wp frame (wpE (defs₀ (F := F)) 𝒱₀ (T d) none) Set.univ
          (k2_t3_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2 u v hw 0#32 (Scalar.subi v u) k acc)
          (fun yld => invF d A 1 u.toNat g s81 s91 G8 G9 (k.val + 1) yld) := by
  obtain ⟨ho, hk⟩ := off_ok u v huv hv k
  have h1 := A.sir_load (u.toNat + k.val) (by omega) (k2_off5 u v k) (k2_off5_inb u v hw k) ho
  have h2 : View.readAt (Elt F) m2.view (Rect.unit (s := S2048x768) ![0, 0] S2048x768.size inb_S2048x768_S2048x768_0_0).toLoadRect A.x = A.x :=
    whole_readAt cc2_stg2_0 _ _ A.x
  have h4 := A.b1_load 1 ![1, 0] inb_S8x3072_S1x3072_1_0 rfl
  have h6 := A.b2_load 1 ![1, 0] inb_S8x768_S1x768_1_0 rfl
  sl_unfold [k2_t3_body]
  unfold invF s81 s91
  iintro ⟨H1, H2, H4, H6, H8, H9, H7⟩
  sl_exec
  sl_step
  isplitl [H1]; · iexact H1
  isplitl [H2]; · iexact H2
  isplitl [H4]; · iexact H4
  isplitl [H6]; · iexact H6
  isplitl [H8]; · iexact H8
  isplitl [H9]; · iexact H9
  have hp := A.put_succ 1 u.toNat k.val g (k2_off6 u v k) (k2_off6_inb u v hw k) ho (k2_pay6 (A.sir (u.toNat + k.val)) A.x (A.w1r 1) (A.b1r 1) (A.w2r 1) (A.b2r 1)) rfl
  rw [← hp, ← h1, ← h2, ← h4, ← h6, ← h8, ← h9]
  iexact H7

/-- One trip of expert 2's loop. -/
theorem step2 (d : Dev nD) (A : FfnIn F) (u v : BitVec 32) (huv : u.toNat ≤ v.toNat) (hv : v.toNat ≤ 24) (hw : k2_chk3 u v)
    (g : Vec F S3072x768 .f32) (G8 : Vec F S2x768x3072 .f32) (G9 : Vec F S2x3072x768 .f32)
    (h8 : View.readAt (Elt F) m8.view r80 G8 = A.w1r 2) (h9 : View.readAt (Elt F) m9.view r90 G9 = A.w2r 2)
    (k : Fin (k2_t5_loop u v).trips) (acc : BitVec 32) :
    invF d A 2 u.toNat g s80 s90 G8 G9 k.val acc
      ⊢ wp frame (wpE (defs₀ (F := F)) 𝒱₀ (T d) none) Set.univ
          (k2_t5_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2 u v hw k acc)
          (fun yld => invF d A 2 u.toNat g s80 s90 G8 G9 (k.val + 1) yld) := by
  obtain ⟨ho, hk⟩ := off_ok u v huv hv k
  have h1 := A.sir_load (u.toNat + k.val) (by omega) (k2_off9 u v k) (k2_off9_inb u v hw k) ho
  have h2 : View.readAt (Elt F) m2.view (Rect.unit (s := S2048x768) ![0, 0] S2048x768.size inb_S2048x768_S2048x768_0_0).toLoadRect A.x = A.x :=
    whole_readAt cc2_stg2_0 _ _ A.x
  have h4 := A.b1_load 2 ![2, 0] inb_S8x3072_S1x3072_2_0 rfl
  have h6 := A.b2_load 2 ![2, 0] inb_S8x768_S1x768_2_0 rfl
  sl_unfold [k2_t5_body]
  unfold invF s80 s90
  iintro ⟨H1, H2, H4, H6, H8, H9, H7⟩
  sl_exec
  sl_step
  isplitl [H1]; · iexact H1
  isplitl [H2]; · iexact H2
  isplitl [H4]; · iexact H4
  isplitl [H6]; · iexact H6
  isplitl [H8]; · iexact H8
  isplitl [H9]; · iexact H9
  have hp := A.put_succ 2 u.toNat k.val g (k2_off10 u v k) (k2_off10_inb u v hw k) ho (k2_pay8 (A.sir (u.toNat + k.val)) A.x (A.w1r 2) (A.b1r 2) (A.w2r 2) (A.b2r 2)) rfl
  rw [← hp, ← h1, ← h2, ← h4, ← h6, ← h8, ← h9]
  iexact H7

/-- One trip of expert 3's loop. -/
theorem step3 (d : Dev nD) (A : FfnIn F) (u v : BitVec 32) (huv : u.toNat ≤ v.toNat) (hv : v.toNat ≤ 24) (hw : k2_chk4 u v)
    (g : Vec F S3072x768 .f32) (G8 : Vec F S2x768x3072 .f32) (G9 : Vec F S2x3072x768 .f32)
    (h8 : View.readAt (Elt F) m8.view r81 G8 = A.w1r 3) (h9 : View.readAt (Elt F) m9.view r91 G9 = A.w2r 3)
    (k : Fin (k2_t7_loop u v).trips) (acc : BitVec 32) :
    invF d A 3 u.toNat g s81 s91 G8 G9 k.val acc
      ⊢ wp frame (wpE (defs₀ (F := F)) 𝒱₀ (T d) none) Set.univ
          (k2_t7_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2 u v hw k acc)
          (fun yld => invF d A 3 u.toNat g s81 s91 G8 G9 (k.val + 1) yld) := by
  obtain ⟨ho, hk⟩ := off_ok u v huv hv k
  have h1 := A.sir_load (u.toNat + k.val) (by omega) (k2_off13 u v k) (k2_off13_inb u v hw k) ho
  have h2 : View.readAt (Elt F) m2.view (Rect.unit (s := S2048x768) ![0, 0] S2048x768.size inb_S2048x768_S2048x768_0_0).toLoadRect A.x = A.x :=
    whole_readAt cc2_stg2_0 _ _ A.x
  have h4 := A.b1_load 3 ![3, 0] inb_S8x3072_S1x3072_3_0 rfl
  have h6 := A.b2_load 3 ![3, 0] inb_S8x768_S1x768_3_0 rfl
  sl_unfold [k2_t7_body]
  unfold invF s81 s91
  iintro ⟨H1, H2, H4, H6, H8, H9, H7⟩
  sl_exec
  sl_step
  isplitl [H1]; · iexact H1
  isplitl [H2]; · iexact H2
  isplitl [H4]; · iexact H4
  isplitl [H6]; · iexact H6
  isplitl [H8]; · iexact H8
  isplitl [H9]; · iexact H9
  have hp := A.put_succ 3 u.toNat k.val g (k2_off14 u v k) (k2_off14_inb u v hw k) ho (k2_pay10 (A.sir (u.toNat + k.val)) A.x (A.w1r 3) (A.b1r 3) (A.w2r 3) (A.b2r 3)) rfl
  rw [← hp, ← h1, ← h2, ← h4, ← h6, ← h8, ← h9]
  iexact H7

/-- One trip of expert 4's loop. -/
theorem step4 (d : Dev nD) (A : FfnIn F) (u v : BitVec 32) (huv : u.toNat ≤ v.toNat) (hv : v.toNat ≤ 24) (hw : k2_chk5 u v)
    (g : Vec F S3072x768 .f32) (G8 : Vec F S2x768x3072 .f32) (G9 : Vec F S2x3072x768 .f32)
    (h8 : View.readAt (Elt F) m8.view r80 G8 = A.w1r 4) (h9 : View.readAt (Elt F) m9.view r90 G9 = A.w2r 4)
    (k : Fin (k2_t9_loop u v).trips) (acc : BitVec 32) :
    invF d A 4 u.toNat g s80 s90 G8 G9 k.val acc
      ⊢ wp frame (wpE (defs₀ (F := F)) 𝒱₀ (T d) none) Set.univ
          (k2_t9_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2 u v hw k acc)
          (fun yld => invF d A 4 u.toNat g s80 s90 G8 G9 (k.val + 1) yld) := by
  obtain ⟨ho, hk⟩ := off_ok u v huv hv k
  have h1 := A.sir_load (u.toNat + k.val) (by omega) (k2_off17 u v k) (k2_off17_inb u v hw k) ho
  have h2 : View.readAt (Elt F) m2.view (Rect.unit (s := S2048x768) ![0, 0] S2048x768.size inb_S2048x768_S2048x768_0_0).toLoadRect A.x = A.x :=
    whole_readAt cc2_stg2_0 _ _ A.x
  have h4 := A.b1_load 4 ![4, 0] inb_S8x3072_S1x3072_4_0 rfl
  have h6 := A.b2_load 4 ![4, 0] inb_S8x768_S1x768_4_0 rfl
  sl_unfold [k2_t9_body]
  unfold invF s80 s90
  iintro ⟨H1, H2, H4, H6, H8, H9, H7⟩
  sl_exec
  sl_step
  isplitl [H1]; · iexact H1
  isplitl [H2]; · iexact H2
  isplitl [H4]; · iexact H4
  isplitl [H6]; · iexact H6
  isplitl [H8]; · iexact H8
  isplitl [H9]; · iexact H9
  have hp := A.put_succ 4 u.toNat k.val g (k2_off18 u v k) (k2_off18_inb u v hw k) ho (k2_pay12 (A.sir (u.toNat + k.val)) A.x (A.w1r 4) (A.b1r 4) (A.w2r 4) (A.b2r 4)) rfl
  rw [← hp, ← h1, ← h2, ← h4, ← h6, ← h8, ← h9]
  iexact H7

/-- One trip of expert 5's loop. -/
theorem step5 (d : Dev nD) (A : FfnIn F) (u v : BitVec 32) (huv : u.toNat ≤ v.toNat) (hv : v.toNat ≤ 24) (hw : k2_chk6 u v)
    (g : Vec F S3072x768 .f32) (G8 : Vec F S2x768x3072 .f32) (G9 : Vec F S2x3072x768 .f32)
    (h8 : View.readAt (Elt F) m8.view r81 G8 = A.w1r 5) (h9 : View.readAt (Elt F) m9.view r91 G9 = A.w2r 5)
    (k : Fin (k2_t11_loop u v).trips) (acc : BitVec 32) :
    invF d A 5 u.toNat g s81 s91 G8 G9 k.val acc
      ⊢ wp frame (wpE (defs₀ (F := F)) 𝒱₀ (T d) none) Set.univ
          (k2_t11_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2 u v hw k acc)
          (fun yld => invF d A 5 u.toNat g s81 s91 G8 G9 (k.val + 1) yld) := by
  obtain ⟨ho, hk⟩ := off_ok u v huv hv k
  have h1 := A.sir_load (u.toNat + k.val) (by omega) (k2_off21 u v k) (k2_off21_inb u v hw k) ho
  have h2 : View.readAt (Elt F) m2.view (Rect.unit (s := S2048x768) ![0, 0] S2048x768.size inb_S2048x768_S2048x768_0_0).toLoadRect A.x = A.x :=
    whole_readAt cc2_stg2_0 _ _ A.x
  have h4 := A.b1_load 5 ![5, 0] inb_S8x3072_S1x3072_5_0 rfl
  have h6 := A.b2_load 5 ![5, 0] inb_S8x768_S1x768_5_0 rfl
  sl_unfold [k2_t11_body]
  unfold invF s81 s91
  iintro ⟨H1, H2, H4, H6, H8, H9, H7⟩
  sl_exec
  sl_step
  isplitl [H1]; · iexact H1
  isplitl [H2]; · iexact H2
  isplitl [H4]; · iexact H4
  isplitl [H6]; · iexact H6
  isplitl [H8]; · iexact H8
  isplitl [H9]; · iexact H9
  have hp := A.put_succ 5 u.toNat k.val g (k2_off22 u v k) (k2_off22_inb u v hw k) ho (k2_pay14 (A.sir (u.toNat + k.val)) A.x (A.w1r 5) (A.b1r 5) (A.w2r 5) (A.b2r 5)) rfl
  rw [← hp, ← h1, ← h2, ← h4, ← h6, ← h8, ← h9]
  iexact H7

/-- One trip of expert 6's loop. -/
theorem step6 (d : Dev nD) (A : FfnIn F) (u v : BitVec 32) (huv : u.toNat ≤ v.toNat) (hv : v.toNat ≤ 24) (hw : k2_chk7 u v)
    (g : Vec F S3072x768 .f32) (G8 : Vec F S2x768x3072 .f32) (G9 : Vec F S2x3072x768 .f32)
    (h8 : View.readAt (Elt F) m8.view r80 G8 = A.w1r 6) (h9 : View.readAt (Elt F) m9.view r90 G9 = A.w2r 6)
    (k : Fin (k2_t13_loop u v).trips) (acc : BitVec 32) :
    invF d A 6 u.toNat g s80 s90 G8 G9 k.val acc
      ⊢ wp frame (wpE (defs₀ (F := F)) 𝒱₀ (T d) none) Set.univ
          (k2_t13_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2 u v hw k acc)
          (fun yld => invF d A 6 u.toNat g s80 s90 G8 G9 (k.val + 1) yld) := by
  obtain ⟨ho, hk⟩ := off_ok u v huv hv k
  have h1 := A.sir_load (u.toNat + k.val) (by omega) (k2_off25 u v k) (k2_off25_inb u v hw k) ho
  have h2 : View.readAt (Elt F) m2.view (Rect.unit (s := S2048x768) ![0, 0] S2048x768.size inb_S2048x768_S2048x768_0_0).toLoadRect A.x = A.x :=
    whole_readAt cc2_stg2_0 _ _ A.x
  have h4 := A.b1_load 6 ![6, 0] inb_S8x3072_S1x3072_6_0 rfl
  have h6 := A.b2_load 6 ![6, 0] inb_S8x768_S1x768_6_0 rfl
  sl_unfold [k2_t13_body]
  unfold invF s80 s90
  iintro ⟨H1, H2, H4, H6, H8, H9, H7⟩
  sl_exec
  sl_step
  isplitl [H1]; · iexact H1
  isplitl [H2]; · iexact H2
  isplitl [H4]; · iexact H4
  isplitl [H6]; · iexact H6
  isplitl [H8]; · iexact H8
  isplitl [H9]; · iexact H9
  have hp := A.put_succ 6 u.toNat k.val g (k2_off26 u v k) (k2_off26_inb u v hw k) ho (k2_pay16 (A.sir (u.toNat + k.val)) A.x (A.w1r 6) (A.b1r 6) (A.w2r 6) (A.b2r 6)) rfl
  rw [← hp, ← h1, ← h2, ← h4, ← h6, ← h8, ← h9]
  iexact H7

/-- One trip of expert 7's loop. -/
theorem step7 (d : Dev nD) (A : FfnIn F) (u v : BitVec 32) (huv : u.toNat ≤ v.toNat) (hv : v.toNat ≤ 24) (hw : k2_chk8 u v)
    (g : Vec F S3072x768 .f32) (G8 : Vec F S2x768x3072 .f32) (G9 : Vec F S2x3072x768 .f32)
    (h8 : View.readAt (Elt F) m8.view r81 G8 = A.w1r 7) (h9 : View.readAt (Elt F) m9.view r91 G9 = A.w2r 7)
    (k : Fin (k2_t15_loop u v).trips) (acc : BitVec 32) :
    invF d A 7 u.toNat g s81 s91 G8 G9 k.val acc
      ⊢ wp frame (wpE (defs₀ (F := F)) 𝒱₀ (T d) none) Set.univ
          (k2_t15_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2 u v hw k acc)
          (fun yld => invF d A 7 u.toNat g s81 s91 G8 G9 (k.val + 1) yld) := by
  obtain ⟨ho, hk⟩ := off_ok u v huv hv k
  have h1 := A.sir_load (u.toNat + k.val) (by omega) (k2_off29 u v k) (k2_off29_inb u v hw k) ho
  have h2 : View.readAt (Elt F) m2.view (Rect.unit (s := S2048x768) ![0, 0] S2048x768.size inb_S2048x768_S2048x768_0_0).toLoadRect A.x = A.x :=
    whole_readAt cc2_stg2_0 _ _ A.x
  have h4 := A.b1_load 7 ![7, 0] inb_S8x3072_S1x3072_7_0 rfl
  have h6 := A.b2_load 7 ![7, 0] inb_S8x768_S1x768_7_0 rfl
  sl_unfold [k2_t15_body]
  unfold invF s81 s91
  iintro ⟨H1, H2, H4, H6, H8, H9, H7⟩
  sl_exec
  sl_step
  isplitl [H1]; · iexact H1
  isplitl [H2]; · iexact H2
  isplitl [H4]; · iexact H4
  isplitl [H6]; · iexact H6
  isplitl [H8]; · iexact H8
  isplitl [H9]; · iexact H9
  have hp := A.put_succ 7 u.toNat k.val g (k2_off30 u v k) (k2_off30_inb u v hw k) ho (k2_pay1 (A.sir (u.toNat + k.val)) A.x (A.w1r 7) (A.b1r 7) (A.w2r 7) (A.b2r 7)) rfl
  rw [← hp, ← h1, ← h2, ← h4, ← h6, ← h8, ← h9]
  iexact H7

end Cert.Sort

end
-- ==== Proof.FfnSlot.lean ====
/-
  The weight copies: what a slot holds once its copy has landed.
-/
module

public import proofs.«01_k».proof.Proof.FfnStep

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A reshape loses nothing. -/
theorem shapeCast_inj {s t : Shape} {α : Type} (h : s.ShapeCasts t) {x y : s.Idx → α} (e : shapeCast t x h = shapeCast t y h) : x = y := by
  funext j
  have := congrFun e ((Shape.reshapeEquiv h).symm j)
  unfold shapeCast at this
  rwa [Equiv.apply_symm_apply] at this

/-- A slot of the first weights' buffer, after a copy, reads as the expert's weights. -/
theorem slot8_read (off off' : Fin 3 → ℕ) (inb : ∀ a, off a + S1x768x3072.size a ≤ S2x768x3072.size a)
    (inb' : ∀ a, off' a + S1x768x3072.size a ≤ S8x768x3072.size a)
    (hr : ∀ a, (Rect.unit (s := S2x768x3072) off S1x768x3072.size inb).stride a = 1)
    (hr' : ∀ a, (Rect.unit (s := S8x768x3072) off' S1x768x3072.size inb').stride a = 1)
    (f : Vec F S2x768x3072 .f32) (w : Vec F S8x768x3072 .f32) :
    View.readAt (Elt F) m8.view (Rect.unit (s := S2x768x3072) off S1x768x3072.size inb).toLoadRect
        (View.write (Elt F) ((m8.slice (Rect.unit (s := S2x768x3072) off S1x768x3072.size inb) hr).squeeze S768x3072 squeezes_S1x768x3072_S768x3072).view f
          (((m3.slice (Rect.unit (s := S8x768x3072) off' S1x768x3072.size inb') hr').squeeze S768x3072 squeezes_S1x768x3072_S768x3072).view.read (Elt F) w) Finset.univ)
      = View.readAt (Elt F) m3.view (Rect.unit (s := S8x768x3072) off' S1x768x3072.size inb').toLoadRect w := by
  refine shapeCast_inj (t := S768x3072) shapeCasts_S1x768x3072_S768x3072 ?_
  rw [← Memref.read_squeeze_slice m3 (Rect.unit (s := S8x768x3072) off' S1x768x3072.size inb') hr' squeezes_S1x768x3072_S768x3072]
  exact (Memref.read_squeeze_slice m8 (Rect.unit (s := S2x768x3072) off S1x768x3072.size inb) hr squeezes_S1x768x3072_S768x3072 shapeCasts_S1x768x3072_S768x3072 _).symm.trans
    (View.read_write_univ _ _)

/-- A slot of the second weights' buffer, after a copy, reads as the expert's weights. -/
theorem slot9_read (off off' : Fin 3 → ℕ) (inb : ∀ a, off a + S1x3072x768.size a ≤ S2x3072x768.size a)
    (inb' : ∀ a, off' a + S1x3072x768.size a ≤ S8x3072x768.size a)
    (hr : ∀ a, (Rect.unit (s := S2x3072x768) off S1x3072x768.size inb).stride a = 1)
    (hr' : ∀ a, (Rect.unit (s := S8x3072x768) off' S1x3072x768.size inb').stride a = 1)
    (f : Vec F S2x3072x768 .f32) (w : Vec F S8x3072x768 .f32) :
    View.readAt (Elt F) m9.view (Rect.unit (s := S2x3072x768) off S1x3072x768.size inb).toLoadRect
        (View.write (Elt F) ((m9.slice (Rect.unit (s := S2x3072x768) off S1x3072x768.size inb) hr).squeeze S3072x768 squeezes_S1x3072x768_S3072x768).view f
          (((m5.slice (Rect.unit (s := S8x3072x768) off' S1x3072x768.size inb') hr').squeeze S3072x768 squeezes_S1x3072x768_S3072x768).view.read (Elt F) w) Finset.univ)
      = View.readAt (Elt F) m5.view (Rect.unit (s := S8x3072x768) off' S1x3072x768.size inb').toLoadRect w := by
  refine shapeCast_inj (t := S3072x768) shapeCasts_S1x3072x768_S3072x768 ?_
  rw [← Memref.read_squeeze_slice m5 (Rect.unit (s := S8x3072x768) off' S1x3072x768.size inb') hr' squeezes_S1x3072x768_S3072x768]
  exact (Memref.read_squeeze_slice m9 (Rect.unit (s := S2x3072x768) off S1x3072x768.size inb) hr squeezes_S1x3072x768_S3072x768 shapeCasts_S1x3072x768_S3072x768 _).symm.trans
    (View.read_write_univ _ _)

/-- An expert's first weights, read in place. -/
theorem FfnIn.w1_load (A : FfnIn F) (e : Fin 8) (off : Fin 3 → ℕ) (inb : ∀ x, off x + S1x768x3072.size x ≤ S8x768x3072.size x) (hoff : off = ![e.val, 0, 0]) :
    View.readAt (Elt F) m3.view (Rect.unit (s := S8x768x3072) off S1x768x3072.size inb).toLoadRect A.w1 = A.w1r e := by
  subst hoff
  funext j
  refine congrArg A.w1 ?_
  funext x
  refine Fin.ext ?_
  have h0 : (j 0).val < 1 := (j 0).isLt
  fin_cases x
  · show e.val + 1 * (j 0).val = e.val
    omega
  · show 0 + 1 * (j 1).val = (j 1).val
    omega
  · show 0 + 1 * (j 2).val = (j 2).val
    omega

/-- An expert's second weights, read in place. -/
theorem FfnIn.w2_load (A : FfnIn F) (e : Fin 8) (off : Fin 3 → ℕ) (inb : ∀ x, off x + S1x3072x768.size x ≤ S8x3072x768.size x) (hoff : off = ![e.val, 0, 0]) :
    View.readAt (Elt F) m5.view (Rect.unit (s := S8x3072x768) off S1x3072x768.size inb).toLoadRect A.w2 = A.w2r e := by
  subst hoff
  funext j
  refine congrArg A.w2 ?_
  funext x
  refine Fin.ext ?_
  have h0 : (j 0).val < 1 := (j 0).isLt
  fin_cases x
  · show e.val + 1 * (j 0).val = e.val
    omega
  · show 0 + 1 * (j 1).val = (j 1).val
    omega
  · show 0 + 1 * (j 2).val = (j 2).val
    omega

end Cert.Sort

end
-- ==== Proof.FfnBody.lean ====
/-
  The grouped feed-forward call's body, run.
-/
module

public import proofs.«01_k».proof.Proof.FfnSlot

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The word of entry `n` of the tile boundaries. -/
abbrev wS (st : Vec F S16 .i32) (n : Fin 16) : BitVec 32 := st (ValueIdx.ix1 n)

/-- The tile boundaries are usable: they do not go down over the eight experts and stay within 24. -/
def StOK (st : Vec F S16 .i32) : Prop :=
  (∀ e : Fin 8, (wS st ⟨e.val, by omega⟩).toNat ≤ (wS st ⟨e.val + 1, by omega⟩).toNat) ∧ ∀ e : Fin 9, (wS st ⟨e.val, by omega⟩).toNat ≤ 24

/-- The sorted output after the first `n` experts. -/
def FfnIn.upTo (A : FfnIn F) (st : Vec F S16 .i32) : ℕ → Vec F S3072x768 .f32
  | 0 => k2_pay3
  | n + 1 => if h : n < 8 then A.put ⟨n, h⟩ (wS st ⟨n, by omega⟩).toNat ((wS st ⟨n + 1, by omega⟩).toNat - (wS st ⟨n, by omega⟩).toNat) (A.upTo st n) else A.upTo st n

/-- A semaphore of the products' call, at zero. -/
abbrev sem0 (d : Dev nD) (k : DmaSem sig) : sProp (MM F) := semVal (T d, SemLoc.dma k) 0

/-- The word a scalar read of the boundaries gives. -/
theorem st_read (st : Vec F S16 .i32) (n : Fin 16) (off : Fin 1 → ℕ) (inb : ∀ a, off a + S1.size a ≤ S16.size a) (hoff : off = ![n.val]) (h : 0 < S1.numel) :
    View.readAt (Elt F) m0.view (Rect.unit (s := S16) off S1.size inb).toLoadRect st (Shape.Idx.first h) = wS st n := by
  subst hoff
  refine congrArg st ?_
  funext x
  refine Fin.ext ?_
  fin_cases x
  show n.val + 1 * 0 = n.val
  omega

set_option maxHeartbeats 4000000 in
set_option sl_exec.dmaWindow true in
/-- The body of the products' call runs: its output block is filled, its semaphores end at zero. -/
theorem ffn_run (d : Dev nD) (O : CellTallies nD τ sig (HIx 1)) (W : Waits sig (HIx 1))
    (st : Vec F S16 .i32) (hst : StOK st) (A : FfnIn F) (f7 : Vec F S3072x768 .f32)
    (f8 f8' : Vec F S2x768x3072 .f32) (f9 f9' : Vec F S2x3072x768 .f32)
    (Q : PUnit → sProp (MM F)) :
    iprop(Transfers.MayWaits (T d) (default : HIx 1) O ∗ owes (T d) O W
      ∗ sem0 d 16 ∗ sem0 d 17 ∗ sem0 d 18 ∗ sem0 d 19
      ∗ (m0.view.loc (T d) ↦{fullShare} st)
      ∗ (m1.view.loc (T d) ↦{fullShare} A.si)
      ∗ (m2.view.loc (T d) ↦{fullShare} A.x)
      ∗ (m3.view.loc (T d) ↦{fullShare} A.w1)
      ∗ (m4.view.loc (T d) ↦{fullShare} A.b1)
      ∗ (m5.view.loc (T d) ↦{fullShare} A.w2)
      ∗ (m6.view.loc (T d) ↦{fullShare} A.b2)
      ∗ (m7.view.loc (T d) ↦{fullShare} f7)
      ∗ (m8.view.loc (T d) ↦[m8.view.setOn (Rect.unit (s := S2x768x3072) ![0, 0, 0] S1x768x3072.size inb_S2x768x3072_S1x768x3072_0_0_0).set]{fullShare} f8) ∗ (m8.view.loc (T d) ↦[m8.view.setOn (Rect.unit (s := S2x768x3072) ![1, 0, 0] S1x768x3072.size inb_S2x768x3072_S1x768x3072_1_0_0).set]{fullShare} f8')
      ∗ (m9.view.loc (T d) ↦[m9.view.setOn (Rect.unit (s := S2x3072x768) ![0, 0, 0] S1x3072x768.size inb_S2x3072x768_S1x3072x768_0_0_0).set]{fullShare} f9) ∗ (m9.view.loc (T d) ↦[m9.view.setOn (Rect.unit (s := S2x3072x768) ![1, 0, 0] S1x3072x768.size inb_S2x3072x768_S1x3072x768_1_0_0).set]{fullShare} f9')
      ∗ (∀ (g8 g8' : Vec F S2x768x3072 .f32) (g9 g9' : Vec F S2x3072x768 .f32),
          (∃ W', owes (T d) O W' ∗ ⌜∀ p ∈ W', p ∈ W ∨ p.2 = none⌝)
      -∗ sem0 d 16 -∗ sem0 d 17 -∗ sem0 d 18 -∗ sem0 d 19
      -∗ (m0.view.loc (T d) ↦{fullShare} st)
      -∗ (m1.view.loc (T d) ↦{fullShare} A.si)
      -∗ (m2.view.loc (T d) ↦{fullShare} A.x)
      -∗ (m3.view.loc (T d) ↦{fullShare} A.w1)
      -∗ (m4.view.loc (T d) ↦{fullShare} A.b1)
      -∗ (m5.view.loc (T d) ↦{fullShare} A.w2)
      -∗ (m6.view.loc (T d) ↦{fullShare} A.b2)
      -∗ (m7.view.loc (T d) ↦{fullShare} A.upTo st 8)
      -∗ (m8.view.loc (T d) ↦[m8.view.setOn (Rect.unit (s := S2x768x3072) ![0, 0, 0] S1x768x3072.size inb_S2x768x3072_S1x768x3072_0_0_0).set]{fullShare} g8) -∗ (m8.view.loc (T d) ↦[m8.view.setOn (Rect.unit (s := S2x768x3072) ![1, 0, 0] S1x768x3072.size inb_S2x768x3072_S1x768x3072_1_0_0).set]{fullShare} g8')
      -∗ (m9.view.loc (T d) ↦[m9.view.setOn (Rect.unit (s := S2x3072x768) ![0, 0, 0] S1x3072x768.size inb_S2x3072x768_S1x3072x768_0_0_0).set]{fullShare} g9) -∗ (m9.view.loc (T d) ↦[m9.view.setOn (Rect.unit (s := S2x3072x768) ![1, 0, 0] S1x3072x768.size inb_S2x3072x768_S1x3072x768_1_0_0).set]{fullShare} g9')
      -∗ Q ⟨⟩))
      ⊢ wp frame (wpE (defs₀ (F := F)) 𝒱₀ (T d) none) Set.univ
          (cc2__ffn_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc2_scratch2) Q := by
  rw [cc2__ffn_body_eq_skeleton]
  iintro ⟨Hmw, HO, S0, S1, S2, S3, H0, H1, H2, H3, H4, H5, H6, H7, A0, A1, B0, B1, HQ⟩
  sl_exec
  have u0 : ffn_run.sl.r st = wS st 0 := by unfold ffn_run.sl.r; exact st_read (F := F) st 0 _ _ rfl _
  have v0 : ffn_run.sl.r_1 st = wS st 1 := by unfold ffn_run.sl.r_1; exact st_read (F := F) st 1 _ _ rfl _
  have hm0 : (ffn_run.sl.r st).toNat ≤ (ffn_run.sl.r_1 st).toNat := by rw [u0, v0]; exact hst.1 0
  have hb0 : (ffn_run.sl.r_1 st).toNat ≤ 24 := by rw [v0]; exact hst.2 1
  have hc0 : k2_chk1 (ffn_run.sl.r st) (ffn_run.sl.r_1 st) := chk_ok _ _ hm0 hb0
  sl_exec
  obtain ⟨G8_0, hG8_0, h8_0⟩ : ∃ G8, View.write (Elt F) ((m8.slice (Rect.unit (s := S2x768x3072) ![0, 0, 0] S1x768x3072.size inb_S2x768x3072_S1x768x3072_0_0_0) (fun _ => rfl)).squeeze S768x3072 squeezes_S1x768x3072_S768x3072).view f8 (ffn_run.sl.dma0 A) Finset.univ = G8
        ∧ View.readAt (Elt F) m8.view r80 G8 = A.w1r 0 := ⟨_, rfl, (slot8_read _ _ _ _ _ _ _ _).trans (A.w1_load 0 _ _ rfl)⟩
  obtain ⟨G9_0, hG9_0, h9_0⟩ : ∃ G9, View.write (Elt F) ((m9.slice (Rect.unit (s := S2x3072x768) ![0, 0, 0] S1x3072x768.size inb_S2x3072x768_S1x3072x768_0_0_0) (fun _ => rfl)).squeeze S3072x768 squeezes_S1x3072x768_S3072x768).view f9 (ffn_run.sl.dma0_1 A) Finset.univ = G9
        ∧ View.readAt (Elt F) m9.view r90 G9 = A.w2r 0 := ⟨_, rfl, (slot9_read _ _ _ _ _ _ _ _).trans (A.w2_load 0 _ _ rfl)⟩
  rw [hG8_0, hG9_0]
  sl_for (invF d A 0 (ffn_run.sl.r st).toNat (A.upTo st 0) s80 s90 G8_0 G9_0) $$ [H1 H2 H4 H6 A0 B0 H7]
  · intro k acc
    exact step0 d A _ _ hm0 hb0 hc0 (A.upTo st 0) G8_0 G9_0 h8_0 h9_0 k acc
  · unfold invF
    rw [FfnIn.put_zero]
    isplitl [H1]; · iexact H1
    isplitl [H2]; · iexact H2
    isplitl [H4]; · iexact H4
    isplitl [H6]; · iexact H6
    isplitl [A0]; · iexact A0
    isplitl [B0]; · iexact B0
    iapply (pt_eq (ℓ := m7.view.loc (T d)) (q := fullShare) (whole_writes cc2_stg5_0 ![0, 0] inb_S3072x768_S3072x768_0_0 m7.view.junk (k2_pay3 (F := F)) [])) $$ H7
  iintro %a0 HI
  sl_for (fun (_ : ℕ) (_ : BitVec 32) => (iprop(emp) : sProp (MM F))) $$ []
  · intro k acc
    exact absurd (lt_of_lt_of_eq k.isLt (trips_ok _ _ hm0 hb0).2) (Nat.not_lt_zero _)
  · iempintro
  iintro %b0 -
  unfold invF s80 s90
  icases HI with ⟨H1, H2, H4, H6, A0, B0, H7⟩
  have q0 : A.put 0 (ffn_run.sl.r st).toNat (k2_t1_loop (ffn_run.sl.r st) (ffn_run.sl.r_1 st)).trips (A.upTo st 0) = A.upTo st 1 := by
    rw [show (k2_t1_loop (ffn_run.sl.r st) (ffn_run.sl.r_1 st)).trips = _ from (trips_ok _ _ hm0 hb0).1, u0, v0]; rfl
  ihave H7 := (pt_eq (ℓ := m7.view.loc (T d)) (q := fullShare) q0) $$ H7
  sl_exec
  have u1 : ffn_run.sl.r_2 st = wS st 1 := by unfold ffn_run.sl.r_2; exact st_read (F := F) st 1 _ _ rfl _
  have v1 : ffn_run.sl.r_3 st = wS st 2 := by unfold ffn_run.sl.r_3; exact st_read (F := F) st 2 _ _ rfl _
  have hm1 : (ffn_run.sl.r_2 st).toNat ≤ (ffn_run.sl.r_3 st).toNat := by rw [u1, v1]; exact hst.1 1
  have hb1 : (ffn_run.sl.r_3 st).toNat ≤ 24 := by rw [v1]; exact hst.2 2
  have hc1 : k2_chk2 (ffn_run.sl.r_2 st) (ffn_run.sl.r_3 st) := chk_ok _ _ hm1 hb1
  sl_exec
  obtain ⟨G8_1, hG8_1, h8_1⟩ : ∃ G8, View.write (Elt F) ((m8.slice (Rect.unit (s := S2x768x3072) ![1, 0, 0] S1x768x3072.size inb_S2x768x3072_S1x768x3072_1_0_0) (fun _ => rfl)).squeeze S768x3072 squeezes_S1x768x3072_S768x3072).view f8' (ffn_run.sl.dma2 A) Finset.univ = G8
        ∧ View.readAt (Elt F) m8.view r81 G8 = A.w1r 1 := ⟨_, rfl, (slot8_read _ _ _ _ _ _ _ _).trans (A.w1_load 1 _ _ rfl)⟩
  obtain ⟨G9_1, hG9_1, h9_1⟩ : ∃ G9, View.write (Elt F) ((m9.slice (Rect.unit (s := S2x3072x768) ![1, 0, 0] S1x3072x768.size inb_S2x3072x768_S1x3072x768_1_0_0) (fun _ => rfl)).squeeze S3072x768 squeezes_S1x3072x768_S3072x768).view f9' (ffn_run.sl.dma2_1 A) Finset.univ = G9
        ∧ View.readAt (Elt F) m9.view r91 G9 = A.w2r 1 := ⟨_, rfl, (slot9_read _ _ _ _ _ _ _ _).trans (A.w2_load 1 _ _ rfl)⟩
  rw [hG8_1, hG9_1]
  sl_for (invF d A 1 (ffn_run.sl.r_2 st).toNat (A.upTo st 1) s81 s91 G8_1 G9_1) $$ [H1 H2 H4 H6 A1 B1 H7]
  · intro k acc
    exact step1 d A _ _ hm1 hb1 hc1 (A.upTo st 1) G8_1 G9_1 h8_1 h9_1 k acc
  · unfold invF
    rw [FfnIn.put_zero]
    isplitl [H1]; · iexact H1
    isplitl [H2]; · iexact H2
    isplitl [H4]; · iexact H4
    isplitl [H6]; · iexact H6
    isplitl [A1]; · iexact A1
    isplitl [B1]; · iexact B1
    iexact H7
  iintro %a1 HI
  sl_for (fun (_ : ℕ) (_ : BitVec 32) => (iprop(emp) : sProp (MM F))) $$ []
  · intro k acc
    exact absurd (lt_of_lt_of_eq k.isLt (trips_ok _ _ hm1 hb1).2) (Nat.not_lt_zero _)
  · iempintro
  iintro %b1 -
  unfold invF s81 s91
  icases HI with ⟨H1, H2, H4, H6, A1, B1, H7⟩
  have q1 : A.put 1 (ffn_run.sl.r_2 st).toNat (k2_t3_loop (ffn_run.sl.r_2 st) (ffn_run.sl.r_3 st)).trips (A.upTo st 1) = A.upTo st 2 := by
    rw [show (k2_t3_loop (ffn_run.sl.r_2 st) (ffn_run.sl.r_3 st)).trips = _ from (trips_ok _ _ hm1 hb1).1, u1, v1]; rfl
  ihave H7 := (pt_eq (ℓ := m7.view.loc (T d)) (q := fullShare) q1) $$ H7
  sl_exec
  have u2 : ffn_run.sl.r_4 st = wS st 2 := by unfold ffn_run.sl.r_4; exact st_read (F := F) st 2 _ _ rfl _
  have v2 : ffn_run.sl.r_5 st = wS st 3 := by unfold ffn_run.sl.r_5; exact st_read (F := F) st 3 _ _ rfl _
  have hm2 : (ffn_run.sl.r_4 st).toNat ≤ (ffn_run.sl.r_5 st).toNat := by rw [u2, v2]; exact hst.1 2
  have hb2 : (ffn_run.sl.r_5 st).toNat ≤ 24 := by rw [v2]; exact hst.2 3
  have hc2 : k2_chk3 (ffn_run.sl.r_4 st) (ffn_run.sl.r_5 st) := chk_ok _ _ hm2 hb2
  sl_exec
  obtain ⟨G8_2, hG8_2, h8_2⟩ : ∃ G8, View.write (Elt F) ((m8.slice (Rect.unit (s := S2x768x3072) ![0, 0, 0] S1x768x3072.size inb_S2x768x3072_S1x768x3072_0_0_0) (fun _ => rfl)).squeeze S768x3072 squeezes_S1x768x3072_S768x3072).view G8_0 (ffn_run.sl.dma0_2 A) Finset.univ = G8
        ∧ View.readAt (Elt F) m8.view r80 G8 = A.w1r 2 := ⟨_, rfl, (slot8_read _ _ _ _ _ _ _ _).trans (A.w1_load 2 _ _ rfl)⟩
  obtain ⟨G9_2, hG9_2, h9_2⟩ : ∃ G9, View.write (Elt F) ((m9.slice (Rect.unit (s := S2x3072x768) ![0, 0, 0] S1x3072x768.size inb_S2x3072x768_S1x3072x768_0_0_0) (fun _ => rfl)).squeeze S3072x768 squeezes_S1x3072x768_S3072x768).view G9_0 (ffn_run.sl.dma0_3 A) Finset.univ = G9
        ∧ View.readAt (Elt F) m9.view r90 G9 = A.w2r 2 := ⟨_, rfl, (slot9_read _ _ _ _ _ _ _ _).trans (A.w2_load 2 _ _ rfl)⟩
  rw [hG8_2, hG9_2]
  sl_for (invF d A 2 (ffn_run.sl.r_4 st).toNat (A.upTo st 2) s80 s90 G8_2 G9_2) $$ [H1 H2 H4 H6 A0 B0 H7]
  · intro k acc
    exact step2 d A _ _ hm2 hb2 hc2 (A.upTo st 2) G8_2 G9_2 h8_2 h9_2 k acc
  · unfold invF
    rw [FfnIn.put_zero]
    isplitl [H1]; · iexact H1
    isplitl [H2]; · iexact H2
    isplitl [H4]; · iexact H4
    isplitl [H6]; · iexact H6
    isplitl [A0]; · iexact A0
    isplitl [B0]; · iexact B0
    iexact H7
  iintro %a2 HI
  sl_for (fun (_ : ℕ) (_ : BitVec 32) => (iprop(emp) : sProp (MM F))) $$ []
  · intro k acc
    exact absurd (lt_of_lt_of_eq k.isLt (trips_ok _ _ hm2 hb2).2) (Nat.not_lt_zero _)
  · iempintro
  iintro %b2 -
  unfold invF s80 s90
  icases HI with ⟨H1, H2, H4, H6, A0, B0, H7⟩
  have q2 : A.put 2 (ffn_run.sl.r_4 st).toNat (k2_t5_loop (ffn_run.sl.r_4 st) (ffn_run.sl.r_5 st)).trips (A.upTo st 2) = A.upTo st 3 := by
    rw [show (k2_t5_loop (ffn_run.sl.r_4 st) (ffn_run.sl.r_5 st)).trips = _ from (trips_ok _ _ hm2 hb2).1, u2, v2]; rfl
  ihave H7 := (pt_eq (ℓ := m7.view.loc (T d)) (q := fullShare) q2) $$ H7
  sl_exec
  have u3 : ffn_run.sl.r_6 st = wS st 3 := by unfold ffn_run.sl.r_6; exact st_read (F := F) st 3 _ _ rfl _
  have v3 : ffn_run.sl.r_7 st = wS st 4 := by unfold ffn_run.sl.r_7; exact st_read (F := F) st 4 _ _ rfl _
  have hm3 : (ffn_run.sl.r_6 st).toNat ≤ (ffn_run.sl.r_7 st).toNat := by rw [u3, v3]; exact hst.1 3
  have hb3 : (ffn_run.sl.r_7 st).toNat ≤ 24 := by rw [v3]; exact hst.2 4
  have hc3 : k2_chk4 (ffn_run.sl.r_6 st) (ffn_run.sl.r_7 st) := chk_ok _ _ hm3 hb3
  sl_exec
  obtain ⟨G8_3, hG8_3, h8_3⟩ : ∃ G8, View.write (Elt F) ((m8.slice (Rect.unit (s := S2x768x3072) ![1, 0, 0] S1x768x3072.size inb_S2x768x3072_S1x768x3072_1_0_0) (fun _ => rfl)).squeeze S768x3072 squeezes_S1x768x3072_S768x3072).view G8_1 (ffn_run.sl.dma0_4 A) Finset.univ = G8
        ∧ View.readAt (Elt F) m8.view r81 G8 = A.w1r 3 := ⟨_, rfl, (slot8_read _ _ _ _ _ _ _ _).trans (A.w1_load 3 _ _ rfl)⟩
  obtain ⟨G9_3, hG9_3, h9_3⟩ : ∃ G9, View.write (Elt F) ((m9.slice (Rect.unit (s := S2x3072x768) ![1, 0, 0] S1x3072x768.size inb_S2x3072x768_S1x3072x768_1_0_0) (fun _ => rfl)).squeeze S3072x768 squeezes_S1x3072x768_S3072x768).view G9_1 (ffn_run.sl.dma0_5 A) Finset.univ = G9
        ∧ View.readAt (Elt F) m9.view r91 G9 = A.w2r 3 := ⟨_, rfl, (slot9_read _ _ _ _ _ _ _ _).trans (A.w2_load 3 _ _ rfl)⟩
  rw [hG8_3, hG9_3]
  sl_for (invF d A 3 (ffn_run.sl.r_6 st).toNat (A.upTo st 3) s81 s91 G8_3 G9_3) $$ [H1 H2 H4 H6 A1 B1 H7]
  · intro k acc
    exact step3 d A _ _ hm3 hb3 hc3 (A.upTo st 3) G8_3 G9_3 h8_3 h9_3 k acc
  · unfold invF
    rw [FfnIn.put_zero]
    isplitl [H1]; · iexact H1
    isplitl [H2]; · iexact H2
    isplitl [H4]; · iexact H4
    isplitl [H6]; · iexact H6
    isplitl [A1]; · iexact A1
    isplitl [B1]; · iexact B1
    iexact H7
  iintro %a3 HI
  sl_for (fun (_ : ℕ) (_ : BitVec 32) => (iprop(emp) : sProp (MM F))) $$ []
  · intro k acc
    exact absurd (lt_of_lt_of_eq k.isLt (trips_ok _ _ hm3 hb3).2) (Nat.not_lt_zero _)
  · iempintro
  iintro %b3 -
  unfold invF s81 s91
  icases HI with ⟨H1, H2, H4, H6, A1, B1, H7⟩
  have q3 : A.put 3 (ffn_run.sl.r_6 st).toNat (k2_t7_loop (ffn_run.sl.r_6 st) (ffn_run.sl.r_7 st)).trips (A.upTo st 3) = A.upTo st 4 := by
    rw [show (k2_t7_loop (ffn_run.sl.r_6 st) (ffn_run.sl.r_7 st)).trips = _ from (trips_ok _ _ hm3 hb3).1, u3, v3]; rfl
  ihave H7 := (pt_eq (ℓ := m7.view.loc (T d)) (q := fullShare) q3) $$ H7
  sl_exec
  have u4 : ffn_run.sl.r_8 st = wS st 4 := by unfold ffn_run.sl.r_8; exact st_read (F := F) st 4 _ _ rfl _
  have v4 : ffn_run.sl.r_9 st = wS st 5 := by unfold ffn_run.sl.r_9; exact st_read (F := F) st 5 _ _ rfl _
  have hm4 : (ffn_run.sl.r_8 st).toNat ≤ (ffn_run.sl.r_9 st).toNat := by rw [u4, v4]; exact hst.1 4
  have hb4 : (ffn_run.sl.r_9 st).toNat ≤ 24 := by rw [v4]; exact hst.2 5
  have hc4 : k2_chk5 (ffn_run.sl.r_8 st) (ffn_run.sl.r_9 st) := chk_ok _ _ hm4 hb4
  sl_exec
  obtain ⟨G8_4, hG8_4, h8_4⟩ : ∃ G8, View.write (Elt F) ((m8.slice (Rect.unit (s := S2x768x3072) ![0, 0, 0] S1x768x3072.size inb_S2x768x3072_S1x768x3072_0_0_0) (fun _ => rfl)).squeeze S768x3072 squeezes_S1x768x3072_S768x3072).view G8_2 (ffn_run.sl.dma0_6 A) Finset.univ = G8
        ∧ View.readAt (Elt F) m8.view r80 G8 = A.w1r 4 := ⟨_, rfl, (slot8_read _ _ _ _ _ _ _ _).trans (A.w1_load 4 _ _ rfl)⟩
  obtain ⟨G9_4, hG9_4, h9_4⟩ : ∃ G9, View.write (Elt F) ((m9.slice (Rect.unit (s := S2x3072x768) ![0, 0, 0] S1x3072x768.size inb_S2x3072x768_S1x3072x768_0_0_0) (fun _ => rfl)).squeeze S3072x768 squeezes_S1x3072x768_S3072x768).view G9_2 (ffn_run.sl.dma0_7 A) Finset.univ = G9
        ∧ View.readAt (Elt F) m9.view r90 G9 = A.w2r 4 := ⟨_, rfl, (slot9_read _ _ _ _ _ _ _ _).trans (A.w2_load 4 _ _ rfl)⟩
  rw [hG8_4, hG9_4]
  sl_for (invF d A 4 (ffn_run.sl.r_8 st).toNat (A.upTo st 4) s80 s90 G8_4 G9_4) $$ [H1 H2 H4 H6 A0 B0 H7]
  · intro k acc
    exact step4 d A _ _ hm4 hb4 hc4 (A.upTo st 4) G8_4 G9_4 h8_4 h9_4 k acc
  · unfold invF
    rw [FfnIn.put_zero]
    isplitl [H1]; · iexact H1
    isplitl [H2]; · iexact H2
    isplitl [H4]; · iexact H4
    isplitl [H6]; · iexact H6
    isplitl [A0]; · iexact A0
    isplitl [B0]; · iexact B0
    iexact H7
  iintro %a4 HI
  sl_for (fun (_ : ℕ) (_ : BitVec 32) => (iprop(emp) : sProp (MM F))) $$ []
  · intro k acc
    exact absurd (lt_of_lt_of_eq k.isLt (trips_ok _ _ hm4 hb4).2) (Nat.not_lt_zero _)
  · iempintro
  iintro %b4 -
  unfold invF s80 s90
  icases HI with ⟨H1, H2, H4, H6, A0, B0, H7⟩
  have q4 : A.put 4 (ffn_run.sl.r_8 st).toNat (k2_t9_loop (ffn_run.sl.r_8 st) (ffn_run.sl.r_9 st)).trips (A.upTo st 4) = A.upTo st 5 := by
    rw [show (k2_t9_loop (ffn_run.sl.r_8 st) (ffn_run.sl.r_9 st)).trips = _ from (trips_ok _ _ hm4 hb4).1, u4, v4]; rfl
  ihave H7 := (pt_eq (ℓ := m7.view.loc (T d)) (q := fullShare) q4) $$ H7
  sl_exec
  have u5 : ffn_run.sl.r_10 st = wS st 5 := by unfold ffn_run.sl.r_10; exact st_read (F := F) st 5 _ _ rfl _
  have v5 : ffn_run.sl.r_11 st = wS st 6 := by unfold ffn_run.sl.r_11; exact st_read (F := F) st 6 _ _ rfl _
  have hm5 : (ffn_run.sl.r_10 st).toNat ≤ (ffn_run.sl.r_11 st).toNat := by rw [u5, v5]; exact hst.1 5
  have hb5 : (ffn_run.sl.r_11 st).toNat ≤ 24 := by rw [v5]; exact hst.2 6
  have hc5 : k2_chk6 (ffn_run.sl.r_10 st) (ffn_run.sl.r_11 st) := chk_ok _ _ hm5 hb5
  sl_exec
  obtain ⟨G8_5, hG8_5, h8_5⟩ : ∃ G8, View.write (Elt F) ((m8.slice (Rect.unit (s := S2x768x3072) ![1, 0, 0] S1x768x3072.size inb_S2x768x3072_S1x768x3072_1_0_0) (fun _ => rfl)).squeeze S768x3072 squeezes_S1x768x3072_S768x3072).view G8_3 (ffn_run.sl.dma0_8 A) Finset.univ = G8
        ∧ View.readAt (Elt F) m8.view r81 G8 = A.w1r 5 := ⟨_, rfl, (slot8_read _ _ _ _ _ _ _ _).trans (A.w1_load 5 _ _ rfl)⟩
  obtain ⟨G9_5, hG9_5, h9_5⟩ : ∃ G9, View.write (Elt F) ((m9.slice (Rect.unit (s := S2x3072x768) ![1, 0, 0] S1x3072x768.size inb_S2x3072x768_S1x3072x768_1_0_0) (fun _ => rfl)).squeeze S3072x768 squeezes_S1x3072x768_S3072x768).view G9_3 (ffn_run.sl.dma0_9 A) Finset.univ = G9
        ∧ View.readAt (Elt F) m9.view r91 G9 = A.w2r 5 := ⟨_, rfl, (slot9_read _ _ _ _ _ _ _ _).trans (A.w2_load 5 _ _ rfl)⟩
  rw [hG8_5, hG9_5]
  sl_for (invF d A 5 (ffn_run.sl.r_10 st).toNat (A.upTo st 5) s81 s91 G8_5 G9_5) $$ [H1 H2 H4 H6 A1 B1 H7]
  · intro k acc
    exact step5 d A _ _ hm5 hb5 hc5 (A.upTo st 5) G8_5 G9_5 h8_5 h9_5 k acc
  · unfold invF
    rw [FfnIn.put_zero]
    isplitl [H1]; · iexact H1
    isplitl [H2]; · iexact H2
    isplitl [H4]; · iexact H4
    isplitl [H6]; · iexact H6
    isplitl [A1]; · iexact A1
    isplitl [B1]; · iexact B1
    iexact H7
  iintro %a5 HI
  sl_for (fun (_ : ℕ) (_ : BitVec 32) => (iprop(emp) : sProp (MM F))) $$ []
  · intro k acc
    exact absurd (lt_of_lt_of_eq k.isLt (trips_ok _ _ hm5 hb5).2) (Nat.not_lt_zero _)
  · iempintro
  iintro %b5 -
  unfold invF s81 s91
  icases HI with ⟨H1, H2, H4, H6, A1, B1, H7⟩
  have q5 : A.put 5 (ffn_run.sl.r_10 st).toNat (k2_t11_loop (ffn_run.sl.r_10 st) (ffn_run.sl.r_11 st)).trips (A.upTo st 5) = A.upTo st 6 := by
    rw [show (k2_t11_loop (ffn_run.sl.r_10 st) (ffn_run.sl.r_11 st)).trips = _ from (trips_ok _ _ hm5 hb5).1, u5, v5]; rfl
  ihave H7 := (pt_eq (ℓ := m7.view.loc (T d)) (q := fullShare) q5) $$ H7
  sl_exec
  have u6 : ffn_run.sl.r_12 st = wS st 6 := by unfold ffn_run.sl.r_12; exact st_read (F := F) st 6 _ _ rfl _
  have v6 : ffn_run.sl.r_13 st = wS st 7 := by unfold ffn_run.sl.r_13; exact st_read (F := F) st 7 _ _ rfl _
  have hm6 : (ffn_run.sl.r_12 st).toNat ≤ (ffn_run.sl.r_13 st).toNat := by rw [u6, v6]; exact hst.1 6
  have hb6 : (ffn_run.sl.r_13 st).toNat ≤ 24 := by rw [v6]; exact hst.2 7
  have hc6 : k2_chk7 (ffn_run.sl.r_12 st) (ffn_run.sl.r_13 st) := chk_ok _ _ hm6 hb6
  sl_exec
  obtain ⟨G8_6, hG8_6, h8_6⟩ : ∃ G8, View.write (Elt F) ((m8.slice (Rect.unit (s := S2x768x3072) ![0, 0, 0] S1x768x3072.size inb_S2x768x3072_S1x768x3072_0_0_0) (fun _ => rfl)).squeeze S768x3072 squeezes_S1x768x3072_S768x3072).view G8_4 (ffn_run.sl.dma0_10 A) Finset.univ = G8
        ∧ View.readAt (Elt F) m8.view r80 G8 = A.w1r 6 := ⟨_, rfl, (slot8_read _ _ _ _ _ _ _ _).trans (A.w1_load 6 _ _ rfl)⟩
  obtain ⟨G9_6, hG9_6, h9_6⟩ : ∃ G9, View.write (Elt F) ((m9.slice (Rect.unit (s := S2x3072x768) ![0, 0, 0] S1x3072x768.size inb_S2x3072x768_S1x3072x768_0_0_0) (fun _ => rfl)).squeeze S3072x768 squeezes_S1x3072x768_S3072x768).view G9_4 (ffn_run.sl.dma0_11 A) Finset.univ = G9
        ∧ View.readAt (Elt F) m9.view r90 G9 = A.w2r 6 := ⟨_, rfl, (slot9_read _ _ _ _ _ _ _ _).trans (A.w2_load 6 _ _ rfl)⟩
  rw [hG8_6, hG9_6]
  sl_for (invF d A 6 (ffn_run.sl.r_12 st).toNat (A.upTo st 6) s80 s90 G8_6 G9_6) $$ [H1 H2 H4 H6 A0 B0 H7]
  · intro k acc
    exact step6 d A _ _ hm6 hb6 hc6 (A.upTo st 6) G8_6 G9_6 h8_6 h9_6 k acc
  · unfold invF
    rw [FfnIn.put_zero]
    isplitl [H1]; · iexact H1
    isplitl [H2]; · iexact H2
    isplitl [H4]; · iexact H4
    isplitl [H6]; · iexact H6
    isplitl [A0]; · iexact A0
    isplitl [B0]; · iexact B0
    iexact H7
  iintro %a6 HI
  sl_for (fun (_ : ℕ) (_ : BitVec 32) => (iprop(emp) : sProp (MM F))) $$ []
  · intro k acc
    exact absurd (lt_of_lt_of_eq k.isLt (trips_ok _ _ hm6 hb6).2) (Nat.not_lt_zero _)
  · iempintro
  iintro %b6 -
  unfold invF s80 s90
  icases HI with ⟨H1, H2, H4, H6, A0, B0, H7⟩
  have q6 : A.put 6 (ffn_run.sl.r_12 st).toNat (k2_t13_loop (ffn_run.sl.r_12 st) (ffn_run.sl.r_13 st)).trips (A.upTo st 6) = A.upTo st 7 := by
    rw [show (k2_t13_loop (ffn_run.sl.r_12 st) (ffn_run.sl.r_13 st)).trips = _ from (trips_ok _ _ hm6 hb6).1, u6, v6]; rfl
  ihave H7 := (pt_eq (ℓ := m7.view.loc (T d)) (q := fullShare) q6) $$ H7
  sl_exec
  have u7 : ffn_run.sl.r_14 st = wS st 7 := by unfold ffn_run.sl.r_14; exact st_read (F := F) st 7 _ _ rfl _
  have v7 : ffn_run.sl.r_15 st = wS st 8 := by unfold ffn_run.sl.r_15; exact st_read (F := F) st 8 _ _ rfl _
  have hm7 : (ffn_run.sl.r_14 st).toNat ≤ (ffn_run.sl.r_15 st).toNat := by rw [u7, v7]; exact hst.1 7
  have hb7 : (ffn_run.sl.r_15 st).toNat ≤ 24 := by rw [v7]; exact hst.2 8
  have hc7 : k2_chk8 (ffn_run.sl.r_14 st) (ffn_run.sl.r_15 st) := chk_ok _ _ hm7 hb7
  sl_exec
  obtain ⟨G8_7, hG8_7, h8_7⟩ : ∃ G8, View.write (Elt F) ((m8.slice (Rect.unit (s := S2x768x3072) ![1, 0, 0] S1x768x3072.size inb_S2x768x3072_S1x768x3072_1_0_0) (fun _ => rfl)).squeeze S768x3072 squeezes_S1x768x3072_S768x3072).view G8_5 (ffn_run.sl.dma0_12 A) Finset.univ = G8
        ∧ View.readAt (Elt F) m8.view r81 G8 = A.w1r 7 := ⟨_, rfl, (slot8_read _ _ _ _ _ _ _ _).trans (A.w1_load 7 _ _ rfl)⟩
  obtain ⟨G9_7, hG9_7, h9_7⟩ : ∃ G9, View.write (Elt F) ((m9.slice (Rect.unit (s := S2x3072x768) ![1, 0, 0] S1x3072x768.size inb_S2x3072x768_S1x3072x768_1_0_0) (fun _ => rfl)).squeeze S3072x768 squeezes_S1x3072x768_S3072x768).view G9_5 (ffn_run.sl.dma0_13 A) Finset.univ = G9
        ∧ View.readAt (Elt F) m9.view r91 G9 = A.w2r 7 := ⟨_, rfl, (slot9_read _ _ _ _ _ _ _ _).trans (A.w2_load 7 _ _ rfl)⟩
  rw [hG8_7, hG9_7]
  sl_for (invF d A 7 (ffn_run.sl.r_14 st).toNat (A.upTo st 7) s81 s91 G8_7 G9_7) $$ [H1 H2 H4 H6 A1 B1 H7]
  · intro k acc
    exact step7 d A _ _ hm7 hb7 hc7 (A.upTo st 7) G8_7 G9_7 h8_7 h9_7 k acc
  · unfold invF
    rw [FfnIn.put_zero]
    isplitl [H1]; · iexact H1
    isplitl [H2]; · iexact H2
    isplitl [H4]; · iexact H4
    isplitl [H6]; · iexact H6
    isplitl [A1]; · iexact A1
    isplitl [B1]; · iexact B1
    iexact H7
  iintro %a7 HI
  sl_for (fun (_ : ℕ) (_ : BitVec 32) => (iprop(emp) : sProp (MM F))) $$ []
  · intro k acc
    exact absurd (lt_of_lt_of_eq k.isLt (trips_ok _ _ hm7 hb7).2) (Nat.not_lt_zero _)
  · iempintro
  iintro %b7 -
  unfold invF s81 s91
  icases HI with ⟨H1, H2, H4, H6, A1, B1, H7⟩
  have q7 : A.put 7 (ffn_run.sl.r_14 st).toNat (k2_t15_loop (ffn_run.sl.r_14 st) (ffn_run.sl.r_15 st)).trips (A.upTo st 7) = A.upTo st 8 := by
    rw [show (k2_t15_loop (ffn_run.sl.r_14 st) (ffn_run.sl.r_15 st)).trips = _ from (trips_ok _ _ hm7 hb7).1, u7, v7]; rfl
  ihave H7 := (pt_eq (ℓ := m7.view.loc (T d)) (q := fullShare) q7) $$ H7
  sl_exec
  sl_step
  iapply HQ $$ %_ %_ %_ %_ [HO] [S0] [S1] [S2] [S3] [H0] [H1] [H2] [H3] [H4] [H5] [H6] [H7] [A0] [A1] [B0] [B1]
  · iexists _
    isplitl [HO]
    · iexact HO
    · ipureintro
      intro p hp
      iterate 16
        rcases Finset.mem_insert.1 hp with rfl | hp
        · exact Or.inr rfl
      exact Or.inl hp
  · iexact S0
  · iexact S1
  · iexact S2
  · iexact S3
  · iexact H0
  · iexact H1
  · iexact H2
  · iexact H3
  · iexact H4
  · iexact H5
  · iexact H6
  · iexact H7
  · iexact A0
  · iexact A1
  · iexact B0
  · iexact B1

end Cert.Sort

end
-- ==== Proof.FfnCall.lean ====
/-
  The grouped feed-forward call in the main program.
-/
module

public import proofs.«01_k».proof.Proof.Region
public import proofs.«01_k».proof.Proof.FfnBody

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The weight buffers' halves -/

/-- The two slots of the first weights' buffer make it whole. -/
theorem s8_union : s80 ∪ s81 = (Finset.univ : Finset S2x768x3072.Idx) := by
  refine Finset.eq_univ_of_forall fun y => ?_
  rw [Finset.mem_union]
  rcases (show (y 0).val = 0 ∨ (y 0).val = 1 from by have h : (y 0).val < 2 := (y 0).isLt; omega) with h | h
  · refine Or.inl ((View.mem_setOn (v := m8.view) (x := y)).2 (Rect.mem_set_unit.2 fun a => ?_))
    fin_cases a
    · exact ⟨Nat.zero_le _, lt_of_eq_of_lt h Nat.zero_lt_one⟩
    · exact ⟨Nat.zero_le _, lt_of_lt_of_eq (y 1).isLt (Nat.zero_add _).symm⟩
    · exact ⟨Nat.zero_le _, lt_of_lt_of_eq (y 2).isLt (Nat.zero_add _).symm⟩
  · refine Or.inr ((View.mem_setOn (v := m8.view) (x := y)).2 (Rect.mem_set_unit.2 fun a => ?_))
    fin_cases a
    · exact ⟨h.ge, lt_of_eq_of_lt h Nat.one_lt_two⟩
    · exact ⟨Nat.zero_le _, lt_of_lt_of_eq (y 1).isLt (Nat.zero_add _).symm⟩
    · exact ⟨Nat.zero_le _, lt_of_lt_of_eq (y 2).isLt (Nat.zero_add _).symm⟩

/-- The two slots of the first weights' buffer do not meet. -/
theorem s8_disjoint : Disjoint (s80 : Finset S2x768x3072.Idx) s81 := by
  rw [Finset.disjoint_left]
  intro y h h'
  have h := (Rect.mem_set_unit.1 ((View.mem_setOn (v := m8.view) (x := y)).1 h) (0 : Fin 3)).2
  have h' := (Rect.mem_set_unit.1 ((View.mem_setOn (v := m8.view) (x := y)).1 h') (0 : Fin 3)).1
  exact absurd (lt_of_le_of_lt h' h) (lt_irrefl 1)

/-- The two slots of the second weights' buffer make it whole. -/
theorem s9_union : s90 ∪ s91 = (Finset.univ : Finset S2x3072x768.Idx) := by
  refine Finset.eq_univ_of_forall fun y => ?_
  rw [Finset.mem_union]
  rcases (show (y 0).val = 0 ∨ (y 0).val = 1 from by have h : (y 0).val < 2 := (y 0).isLt; omega) with h | h
  · refine Or.inl ((View.mem_setOn (v := m9.view) (x := y)).2 (Rect.mem_set_unit.2 fun a => ?_))
    fin_cases a
    · exact ⟨Nat.zero_le _, lt_of_eq_of_lt h Nat.zero_lt_one⟩
    · exact ⟨Nat.zero_le _, lt_of_lt_of_eq (y 1).isLt (Nat.zero_add _).symm⟩
    · exact ⟨Nat.zero_le _, lt_of_lt_of_eq (y 2).isLt (Nat.zero_add _).symm⟩
  · refine Or.inr ((View.mem_setOn (v := m9.view) (x := y)).2 (Rect.mem_set_unit.2 fun a => ?_))
    fin_cases a
    · exact ⟨h.ge, lt_of_eq_of_lt h Nat.one_lt_two⟩
    · exact ⟨Nat.zero_le _, lt_of_lt_of_eq (y 1).isLt (Nat.zero_add _).symm⟩
    · exact ⟨Nat.zero_le _, lt_of_lt_of_eq (y 2).isLt (Nat.zero_add _).symm⟩

/-- The two slots of the second weights' buffer do not meet. -/
theorem s9_disjoint : Disjoint (s90 : Finset S2x3072x768.Idx) s91 := by
  rw [Finset.disjoint_left]
  intro y h h'
  have h := (Rect.mem_set_unit.1 ((View.mem_setOn (v := m9.view) (x := y)).1 h) (0 : Fin 3)).2
  have h' := (Rect.mem_set_unit.1 ((View.mem_setOn (v := m9.view) (x := y)).1 h') (0 : Fin 3)).1
  exact absurd (lt_of_le_of_lt h' h) (lt_irrefl 1)

/-- The first weights' buffer parts into its slots. -/
theorem split8 (d : Dev nD) (f : Vec F S2x768x3072 .f32) :
    (mLoc d cc2_scratch0 ↦{fullShare} f : sProp (MM F)) ⊢ iprop((m8.view.loc (T d) ↦[s80]{fullShare} f) ∗ (m8.view.loc (T d) ↦[s81]{fullShare} f)) := by
  have h := (pointsTo_union (Ix := HIx 1) (Name := ℕ) (U := UU) (Lvl := ℕ) (Val := Elt F) (ℓ := mLoc d cc2_scratch0) (f := f) (q := fullShare) s8_disjoint).1
  rw [s8_union] at h
  exact h

/-- The slots of the first weights' buffer make a buffer. -/
theorem join8 (d : Dev nD) (f g : Vec F S2x768x3072 .f32) :
    iprop((m8.view.loc (T d) ↦[s80]{fullShare} f) ∗ (m8.view.loc (T d) ↦[s81]{fullShare} g))
      ⊢ (iprop(∃ f : Buf (Elt F) (mLoc d cc2_scratch0), mLoc d cc2_scratch0 ↦{fullShare} f) : sProp (MM F)) := by
  have h := pointsTo_join (Ix := HIx 1) (Name := ℕ) (U := UU) (Lvl := ℕ) (Val := Elt F) (ℓ := mLoc d cc2_scratch0) (f := f) (g := g) (q := fullShare) s8_disjoint
  rw [s8_union] at h
  refine BI.Entails.trans h ?_
  show (_ : sProp (MM F)) ⊢ (_ : sProp (MM F))
  iintro H
  iexists _
  iexact H

/-- The second weights' buffer parts into its slots. -/
theorem split9 (d : Dev nD) (f : Vec F S2x3072x768 .f32) :
    (mLoc d cc2_scratch1 ↦{fullShare} f : sProp (MM F)) ⊢ iprop((m9.view.loc (T d) ↦[s90]{fullShare} f) ∗ (m9.view.loc (T d) ↦[s91]{fullShare} f)) := by
  have h := (pointsTo_union (Ix := HIx 1) (Name := ℕ) (U := UU) (Lvl := ℕ) (Val := Elt F) (ℓ := mLoc d cc2_scratch1) (f := f) (q := fullShare) s9_disjoint).1
  rw [s9_union] at h
  exact h

/-- The slots of the second weights' buffer make a buffer. -/
theorem join9 (d : Dev nD) (f g : Vec F S2x3072x768 .f32) :
    iprop((m9.view.loc (T d) ↦[s90]{fullShare} f) ∗ (m9.view.loc (T d) ↦[s91]{fullShare} g))
      ⊢ (iprop(∃ f : Buf (Elt F) (mLoc d cc2_scratch1), mLoc d cc2_scratch1 ↦{fullShare} f) : sProp (MM F)) := by
  have h := pointsTo_join (Ix := HIx 1) (Name := ℕ) (U := UU) (Lvl := ℕ) (Val := Elt F) (ℓ := mLoc d cc2_scratch1) (f := f) (g := g) (q := fullShare) s9_disjoint
  rw [s9_union] at h
  refine BI.Entails.trans h ?_
  show (_ : sProp (MM F)) ⊢ (_ : sProp (MM F))
  iintro H
  iexists _
  iexact H

/-! ## Its proof data -/

/-- The call's own transfer semaphores. -/
def osem2 : Fin 4 → SemLoc sig := fun j => (![SemLoc.dma 16, SemLoc.dma 17, SemLoc.dma 18, SemLoc.dma 19] : Fin 4 → SemLoc sig) j
/-- The call's own semaphores are distinct and not its pipeline's. -/
theorem ownSemFacts2 : Pipeline.OwnSemFacts spec2 osem2 := by decide
/-- The call's own semaphores at zero, one by one. -/
theorem ownSems2_eq (c : Dev nD) :
    (Pipeline.ownSems0 (Ix := HIx 1) (Name := ℕ) (U := UU) (Lvl := ℕ) (Val := Elt F) (τ := τ) osem2 c : sProp (MM F))
      = iprop(sem0 c 16 ∗ sem0 c 17 ∗ sem0 c 18 ∗ sem0 c 19) := by
  rw [Pipeline.ownSems0_eq_of_list c osem2 [0, 1, 2, 3] (by decide) (by decide)]; rfl

variable [∀ e, Nonempty (Elt F e)]

/-- What the body holds besides its windows: the levels, the two weight arrays, its semaphores and the rest of the scoped buffers. -/
def Φ2 (A : FfnIn F) (c : Dev nD) : sProp (MM F) :=
  iprop((levAts (K (F := F)).L (K (F := F)).lev ∗ (mLoc c main_arg2 ↦{fullShare} A.w1) ∗ (mLoc c main_arg4 ↦{fullShare} A.w2))
    ∗ Pipeline.ownSems0 (Ix := HIx 1) (Name := ℕ) (U := UU) (Lvl := ℕ) (Val := Elt F) (τ := τ) osem2 c
    ∗ Pipeline.scopedRest (Ix := HIx 1) (Name := ℕ) (U := UU) (Lvl := ℕ) (Val := Elt F) spec2 c)

section Data

variable (O : CellTallies nD τ sig (HIx 1)) (b : ℕ) (st : Vec F S16 .i32) (A : FfnIn F) (a5 : Vec F S3072x768 .f32)

/-- The grouped call from the boundaries `st` and the operands `A`, its result's array at anything. -/
def dat2 (c : Dev nD) : DatT F cfg2 c where
  A w := match w with | 0 => st | 1 => A.si | 2 => A.x | 3 => A.b1 | 4 => A.b2 | 5 => a5
  after w _ := match w with | 0 => st | 1 => A.si | 2 => A.x | 3 => A.b1 | 4 => A.b2 | 5 => A.upTo st 8
  Φ _ := Φ2 A c
  q _ := fullShare
  owed _ := O
  recorded _ := recd F b c

/-- The data of the three pipelined calls, this call's in its place. -/
def pdats2 : (p : Fin 3) → (c : Dev nD) → DatT F (Pipeline.pin (pcfgs (F := F)) adm p) c
  | ⟨0, _⟩ => fun c => junkDat c
  | ⟨1, _⟩ => fun c => dat2 O b st A a5 c
  | ⟨2, _⟩ => fun c => junkDat c

/-- The body finds the table of first tiles in its first block. -/
theorem before2_0 (c : Dev nD) (d) : (dat2 O b st A a5 c).before 0 t2_0 d = st := by
  unfold Pipeline.Dat.before; rw [if_pos (fetch2_0 t2_0)]
  funext j
  exact congrArg st (funext fun a => Fin.ext (Pipeline.Window.rect_emb_val_of_index_zero (cfg2.win 0) t2_0 a rfl _))

/-- The body finds the sorted tokens' numbers in its second block. -/
theorem before2_1 (c : Dev nD) (d) : (dat2 O b st A a5 c).before 1 t2_0 d = A.si := by
  unfold Pipeline.Dat.before; rw [if_pos (fetch2_1 t2_0)]
  funext j
  exact congrArg (A.si) (funext fun a => Fin.ext (Pipeline.Window.rect_emb_val_of_index_zero (cfg2.win 1) t2_0 a rfl _))

/-- The body finds the tokens' rows in its third block. -/
theorem before2_2 (c : Dev nD) (d) : (dat2 O b st A a5 c).before 2 t2_0 d = A.x := by
  unfold Pipeline.Dat.before; rw [if_pos (fetch2_2 t2_0)]
  funext j
  exact congrArg (A.x) (funext fun a => Fin.ext (Pipeline.Window.rect_emb_val_of_index_zero (cfg2.win 2) t2_0 a rfl _))

/-- The body finds the first layer's biases in its fourth block. -/
theorem before2_3 (c : Dev nD) (d) : (dat2 O b st A a5 c).before 3 t2_0 d = A.b1 := by
  unfold Pipeline.Dat.before; rw [if_pos (fetch2_3 t2_0)]
  funext j
  exact congrArg (A.b1) (funext fun a => Fin.ext (Pipeline.Window.rect_emb_val_of_index_zero (cfg2.win 3) t2_0 a rfl _))

/-- The body finds the second layer's biases in its fifth block. -/
theorem before2_4 (c : Dev nD) (d) : (dat2 O b st A a5 c).before 4 t2_0 d = A.b2 := by
  unfold Pipeline.Dat.before; rw [if_pos (fetch2_4 t2_0)]
  funext j
  exact congrArg (A.b2) (funext fun a => Fin.ext (Pipeline.Window.rect_emb_val_of_index_zero (cfg2.win 4) t2_0 a rfl _))

set_option maxHeartbeats 1000000 in
/-- The body keeps what the pipeline asks of it. -/
theorem body_obligation2 (hst : StOK st) (hO : ∀ g, O g none = 0) (c : Dev nD) :
    Pipeline.BodyObligation (dat2 O b st A a5 c) (defs₀ (F := F)) 𝒱₀ (none : HIx 1) Set.univ := fun t => by
  obtain rfl := fin_N2 t
  rw [bigSep_W2, bigSep_W2]
  simp only [owns_whole_eq]
  rw [show (dat2 O b st A a5 c).Φ t2_0.castSucc = Φ2 A c from rfl, show (dat2 O b st A a5 c).Φ t2_0.succ = Φ2 A c from rfl,
    show (dat2 O b st A a5 c).owesAt none t2_0.succ = (dat2 O b st A a5 c).owesAt none t2_0.castSucc from rfl]
  unfold Φ2
  rw [ownSems2_eq, scopedRest2_eq]
  iintro ⟨⟨⟨#Hlev, HW1, HW2⟩, ⟨S0, S1, S2, S3⟩, R0, R1, R2, R3, ⟨%g8, G8⟩, ⟨%g9, G9⟩, R6, R7, R8, R9, R10, R11⟩, Howes,
    ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before2_0] at hf0
  rw [before2_1] at hf1
  rw [before2_2] at hf2
  rw [before2_3] at hf3
  rw [before2_4] at hf4
  subst hf0 hf1 hf2 hf3 hf4
  unfold Pipeline.Dat.owesAt Pipeline.owesWithin
  icases Howes with ⟨%W, %hW, HO⟩
  ihave G8 := (split8 c g8) $$ G8
  icases G8 with ⟨G8, G8'⟩
  ihave G9 := (split9 c g9) $$ G9
  icases G9 with ⟨G9, G9'⟩
  iapply (ffn_run c O W _ hst A f5 g8 g8 g9 g9 _)
  isplitr
  · unfold Transfers.MayWaits
    iintro %sm
    iapply ((K (F := F)).mayWait_none (thr := T c) sm hO) $$ Hlev
  isplitl [HO]; · iexact HO
  isplitl [S0]; · iexact S0
  isplitl [S1]; · iexact S1
  isplitl [S2]; · iexact S2
  isplitl [S3]; · iexact S3
  isplitl [H0]; · iexact H0
  isplitl [H1]; · iexact H1
  isplitl [H2]; · iexact H2
  isplitl [HW1]; · iexact HW1
  isplitl [H3]; · iexact H3
  isplitl [HW2]; · iexact HW2
  isplitl [H4]; · iexact H4
  isplitl [H5]; · iexact H5
  isplitl [G8]; · iexact G8
  isplitl [G8']; · iexact G8'
  isplitl [G9]; · iexact G9
  isplitl [G9']; · iexact G9'
  iintro %e8 %e8' %e9 %e9' ⟨%W', HO, %hW'⟩ S0 S1 S2 S3 H0 H1 H2 HW1 H3 HW2 H4 H5 G8 G8' G9 G9'
  isplitl [HW1 HW2 S0 S1 S2 S3 R0 R1 R2 R3 G8 G8' G9 G9' R6 R7 R8 R9 R10 R11]
  · isplitl [HW1 HW2]
    · isplitr; · iexact Hlev
      isplitl [HW1]; · iexact HW1
      iexact HW2
    isplitl [S0 S1 S2 S3]
    · isplitl [S0]; · iexact S0
      isplitl [S1]; · iexact S1
      isplitl [S2]; · iexact S2
      iexact S3
    isplitl [R0]; · iexact R0
    isplitl [R1]; · iexact R1
    isplitl [R2]; · iexact R2
    isplitl [R3]; · iexact R3
    isplitl [G8 G8']
    · iapply (join8 c e8 e8')
      isplitl [G8]; · iexact G8
      iexact G8'
    isplitl [G9 G9']
    · iapply (join9 c e9 e9')
      isplitl [G9]; · iexact G9
      iexact G9'
    isplitl [R6]; · iexact R6
    isplitl [R7]; · iexact R7
    isplitl [R8]; · iexact R8
    isplitl [R9]; · iexact R9
    isplitl [R10]; · iexact R10
    iexact R11
  isplitl [HO]
  · iexists W'; isplitr
    · ipureintro
      intro x hx
      rcases hW' x hx with h | h
      · exact hW h
      · obtain ⟨s, i⟩ := x
        dsimp only at h
        subst h
        exact Or.inl (Nat.zero_le _)
    iexact HO
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  isplitl [H3]; · iexists _; isplitr; swap; (· iexact H3); ipureintro; dsimp only [dat2]
  isplitl [H4]; · iexists _; isplitr; swap; (· iexact H4); ipureintro; dsimp only [dat2]
  iexists _; isplitr; swap; (· iexact H5); ipureintro; dsimp only [dat2]

/-- The call's result is the array with all eight experts' tiles filled. -/
theorem arr2_5 (c : Dev nD) : (dat2 O b st A a5 c).arrAt 5 cfg2.N = A.upTo st 8 :=
  (dat2 O b st A a5 c).arrAt_eq_of_after_last 5 t2_0 (by decide +kernel) _ fun j => rfl

/-- What the call borrows besides its windows' arrays. -/
def XX2 (d : Dev nD) : sProp (MM F) := iprop(levAts (K (F := F)).L (K (F := F)).lev ∗ (mLoc d main_arg2 ↦{fullShare} A.w1) ∗ (mLoc d main_arg4 ↦{fullShare} A.w2))

/-- The products' call, as a stretch of the host program. -/
def seg2 (hst : StOK st) (hO : ∀ g, O g none = 0) : Pipeline.RegionSeg (pcfgs (F := F)) adm (pdats2 O b st A a5) (none : HIx 1) defs₀ 𝒱₀ (K (F := F)).L (K (F := F)).lev 1 :=
  mkSeg (p := 1) (pdats2 O b st A a5) launch2 (Fin 4) osem2 ownSemFacts2 b O hO (fun _ _ => rfl) (fun _ _ => rfl)
    (fun c => body_obligation2 O b st A a5 hst hO c) (XX2 A) (XX2 A)
    (fun c => by
      show _ ⊢ Φ2 A c
      unfold Φ2 XX2
      show (_ : sProp (MM F)) ⊢ (_ : sProp (MM F))
      iintro H; iexact H)
    (fun c => by
      show Φ2 A c ⊢ _
      unfold Φ2 XX2
      show (_ : sProp (MM F)) ⊢ (_ : sProp (MM F))
      iintro H; iexact H)

set_option backward.isDefEq.respectTransparency.types false in
/-- What the call needs is what the host holds before it. -/
theorem pre2 (hst : StOK st) (hO : ∀ g, O g none = 0) (d : Dev nD) :
    iprop(((mLoc d main_v2_1 ↦{fullShare} st) ∗ (mLoc d main_v3 ↦{fullShare} A.si) ∗ (mLoc d main_v0 ↦{fullShare} A.x) ∗ (mLoc d main_arg3 ↦{fullShare} A.b1) ∗ (mLoc d main_arg5 ↦{fullShare} A.b2)
        ∗ (mLoc d main_v4 ↦{fullShare} a5)) ∗ XX2 A d ∗ OW b O d) ⊢ (seg2 O b st A a5 hst hO).pre d := by
  have h : (pdats2 O b st A a5 1 d).arrays ((pdats2 O b st A a5 1 d).arrAt · 0)
      = iprop((mLoc d main_v2_1 ↦{fullShare} st) ∗ (mLoc d main_v3 ↦{fullShare} A.si) ∗ (mLoc d main_v0 ↦{fullShare} A.x) ∗ (mLoc d main_arg3 ↦{fullShare} A.b1) ∗ (mLoc d main_arg5 ↦{fullShare} A.b2)
        ∗ (mLoc d main_v4 ↦{fullShare} a5)) :=
    (Pipeline.arrays_eq (p := 1) (Pipeline.pin (pcfgs (F := F)) adm) (pdats2 O b st A a5) d launch2.arr_whole
      ((pdats2 O b st A a5 1 d).share_full fun _ => rfl) _).trans (bigSep_W2 _)
  show _ ⊢ iprop((pdats2 O b st A a5 1 d).arrays ((pdats2 O b st A a5 1 d).arrAt · 0) ∗ XX2 A d ∗ OW b O d)
  rw [h]

set_option backward.isDefEq.respectTransparency.types false in
/-- What the host holds after the call: its operands unchanged, its result filled. -/
theorem post2 (hst : StOK st) (hO : ∀ g, O g none = 0) (d : Dev nD) :
    (seg2 O b st A a5 hst hO).post d ⊢ iprop(((mLoc d main_v2_1 ↦{fullShare} st) ∗ (mLoc d main_v3 ↦{fullShare} A.si) ∗ (mLoc d main_v0 ↦{fullShare} A.x) ∗ (mLoc d main_arg3 ↦{fullShare} A.b1) ∗ (mLoc d main_arg5 ↦{fullShare} A.b2)
        ∗ (mLoc d main_v4 ↦{fullShare} A.upTo st 8)) ∗ XX2 A d ∗ OW b O d) := by
  have e : (fun w : Fin 6 => (dat2 O b st A a5 d).arrAt w cfg2.N) = fun w => match w with | 0 => st | 1 => A.si | 2 => A.x | 3 => A.b1 | 4 => A.b2 | 5 => A.upTo st 8 := by
    funext w
    match w with
    | 0 => exact (dat2 O b st A a5 d).arrAt_in 0 rfl _
    | 1 => exact (dat2 O b st A a5 d).arrAt_in 1 rfl _
    | 2 => exact (dat2 O b st A a5 d).arrAt_in 2 rfl _
    | 3 => exact (dat2 O b st A a5 d).arrAt_in 3 rfl _
    | 4 => exact (dat2 O b st A a5 d).arrAt_in 4 rfl _
    | 5 => exact arr2_5 O b st A a5 d
  have h : (pdats2 O b st A a5 1 d).arrays (fun w : Fin 6 => (dat2 O b st A a5 d).arrAt w cfg2.N)
      = iprop((mLoc d main_v2_1 ↦{fullShare} st) ∗ (mLoc d main_v3 ↦{fullShare} A.si) ∗ (mLoc d main_v0 ↦{fullShare} A.x) ∗ (mLoc d main_arg3 ↦{fullShare} A.b1) ∗ (mLoc d main_arg5 ↦{fullShare} A.b2)
        ∗ (mLoc d main_v4 ↦{fullShare} A.upTo st 8)) := by
    rw [e]
    exact (Pipeline.arrays_eq (p := 1) (Pipeline.pin (pcfgs (F := F)) adm) (pdats2 O b st A a5) d launch2.arr_whole
      ((pdats2 O b st A a5 1 d).share_full fun _ => rfl) _).trans (bigSep_W2 _)
  show iprop((pdats2 O b st A a5 1 d).arrays (fun w : Fin 6 => (dat2 O b st A a5 d).arrAt w cfg2.N) ∗ XX2 A d ∗ OW b O d) ⊢ _
  rw [h]

/-- The grouped call in the main program: from the tile boundaries, the sorted tokens' numbers, the tokens and the experts' weights, the sorted outputs. -/
theorem ffn_call (hst : StOK st) (hO : ∀ g, O g none = 0) (d : Dev nD) (Q : PUnit → sProp (MM F)) :
    iprop(boundary (T d) ∗ levAts (K (F := F)).L (K (F := F)).lev
        ∗ (Pipeline.cellsGhost (Pipeline.pin (pcfgs (F := F)) adm) EP 1 d ∗ Pipeline.toksInit (Pipeline.pin (pcfgs (F := F)) adm) EP 1 d)
        ∗ ((mLoc d main_v2_1 ↦{fullShare} st) ∗ (mLoc d main_v3 ↦{fullShare} A.si) ∗ (mLoc d main_v0 ↦{fullShare} A.x) ∗ (mLoc d main_arg3 ↦{fullShare} A.b1) ∗ (mLoc d main_arg5 ↦{fullShare} A.b2)
        ∗ (mLoc d main_v4 ↦{fullShare} a5)) ∗ ((mLoc d main_arg2 ↦{fullShare} A.w1) ∗ (mLoc d main_arg4 ↦{fullShare} A.w2)) ∗ OW b O d
        ∗ (boundary (T d) -∗ ((mLoc d main_v2_1 ↦{fullShare} st) ∗ (mLoc d main_v3 ↦{fullShare} A.si) ∗ (mLoc d main_v0 ↦{fullShare} A.x) ∗ (mLoc d main_arg3 ↦{fullShare} A.b1) ∗ (mLoc d main_arg5 ↦{fullShare} A.b2)
        ∗ (mLoc d main_v4 ↦{fullShare} A.upTo st 8)) -∗ ((mLoc d main_arg2 ↦{fullShare} A.w1) ∗ (mLoc d main_arg4 ↦{fullShare} A.w2)) -∗ OW b O d -∗ Q ⟨⟩))
      ⊢ wp frame (wpE ((K (F := F)).defs D) 𝒱 (T d) none) Set.univ
          (Prog.lift (.customCall (SparseCore.inner (Pipeline.entry 1)) ())) Q := by
  refine BI.Entails.trans ?_ (region_wp (pdats2 O b st A a5) (seg2 O b st A a5 hst hO) d Q)
  show (_ : sProp (MM F)) ⊢ (_ : sProp (MM F))
  iintro ⟨Hb, #Hl, ⟨Hg, Ht⟩, HA, HW, HO, HQ⟩
  isplitr [HQ]
  · isplitl [Hb]; · iexact Hb
    isplitl [HA HW HO]
    · iapply (pre2 O b st A a5 hst hO d)
      isplitl [HA]; · iexact HA
      isplitl [HW]
      · unfold XX2
        isplitr; · iexact Hl
        iexact HW
      iexact HO
    isplitr; · iexact Hl
    isplitl [Hg]; · iexact Hg
    iexact Ht
  iintro ⟨Hb, HP⟩
  ihave H := (post2 O b st A a5 hst hO d) $$ HP
  unfold XX2
  icases H with ⟨HA, ⟨-, HW⟩, HO⟩
  iapply HQ $$ Hb HA HW HO

end Data

end Cert.Sort

end
-- ==== Proof.Unsort.lean ====
/-
  The last call: what it leaves in each block of its result, and its region of the main program.
-/
module

public import proofs.«01_k».proof.Proof.Router

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The body on its staged windows, by buffers -/

/-- The body runs on the first score buffer and the first output buffer. -/
theorem unsort_run00 (d : Dev nD) (i : grid3.Coords) (s0 : Vec F S1x3072 .i32) (s1 : Vec F S3072x768 .f32) (s2 : Vec F S128x1 .f32) (s3 : Vec F S128x768 .f32)
    (Q : PUnit → sProp (MM F)) :
    iprop(((stage3_0 0).view.loc (T d) ↦{fullShare} s0) ∗ ((stage3_1 0).view.loc (T d) ↦{fullShare} s1)
        ∗ ((stage3_2 0).view.loc (T d) ↦{fullShare} s2) ∗ ((stage3_3 0).view.loc (T d) ↦{fullShare} s3)
        ∗ (((stage3_0 0).view.loc (T d) ↦{fullShare} s0) -∗ ((stage3_1 0).view.loc (T d) ↦{fullShare} s1)
          -∗ ((stage3_2 0).view.loc (T d) ↦{fullShare} s2) -∗ ((stage3_3 0).view.loc (T d) ↦{fullShare} k3_pay1 i s0 s1 s2) -∗ Q ⟨⟩))
      ⊢ wp frame (wpE (defs₀ (F := F)) 𝒱₀ (T d) none) Set.univ
          (cc3__unsort_body (F := F) i (stage3_0 0) (hstage3_0 0) (stage3_1 0) (hstage3_1 0) (stage3_2 0) (hstage3_2 0) (stage3_3 0) (hstage3_3 0)) Q := by
  have h0 : View.readAt (Elt F) (stage3_0 0).view (Rect.unit ![0, 0] S1x3072.size inb_S1x3072_S1x3072_0_0).toLoadRect s0 = s0 :=
    whole_readAt cc3_stg0_0 _ _ s0
  have h1 : View.readAt (Elt F) (stage3_1 0).view (Rect.unit ![0, 0] S3072x768.size inb_S3072x768_S3072x768_0_0).toLoadRect s1 = s1 :=
    whole_readAt cc3_stg1_0 _ _ s1
  have h2 : View.readAt (Elt F) (stage3_2 0).view (Rect.unit ![0, 0] S128x1.size inb_S128x1_S128x1_0_0).toLoadRect s2 = s2 :=
    whole_readAt cc3_stg2_0 _ _ s2
  have h3 : (stage3_3 0).view.writes (Elt F) s3 [⟨Rect.unit ![0, 0] S128x768.size inb_S128x768_S128x768_0_0, k3_pay1 i s0 s1 s2⟩] = k3_pay1 i s0 s1 s2 :=
    whole_writes cc3_stg3_0 _ _ s3 _ []
  rw [cc3__unsort_body_eq_skeleton]
  iintro ⟨H0, H1, H2, H3, HQ⟩
  sl_exec
  sl_step
  iapply HQ $$ [H0] [H1] [H2] [H3]
  · iexact H0
  · iexact H1
  · iexact H2
  · iapply (pt_eq (ℓ := (stage3_3 0).view.loc (T d)) (q := fullShare) h3) $$ H3

/-- The body runs on the first score buffer and the second output buffer. -/
theorem unsort_run01 (d : Dev nD) (i : grid3.Coords) (s0 : Vec F S1x3072 .i32) (s1 : Vec F S3072x768 .f32) (s2 : Vec F S128x1 .f32) (s3 : Vec F S128x768 .f32)
    (Q : PUnit → sProp (MM F)) :
    iprop(((stage3_0 0).view.loc (T d) ↦{fullShare} s0) ∗ ((stage3_1 0).view.loc (T d) ↦{fullShare} s1)
        ∗ ((stage3_2 0).view.loc (T d) ↦{fullShare} s2) ∗ ((stage3_3 1).view.loc (T d) ↦{fullShare} s3)
        ∗ (((stage3_0 0).view.loc (T d) ↦{fullShare} s0) -∗ ((stage3_1 0).view.loc (T d) ↦{fullShare} s1)
          -∗ ((stage3_2 0).view.loc (T d) ↦{fullShare} s2) -∗ ((stage3_3 1).view.loc (T d) ↦{fullShare} k3_pay1 i s0 s1 s2) -∗ Q ⟨⟩))
      ⊢ wp frame (wpE (defs₀ (F := F)) 𝒱₀ (T d) none) Set.univ
          (cc3__unsort_body (F := F) i (stage3_0 0) (hstage3_0 0) (stage3_1 0) (hstage3_1 0) (stage3_2 0) (hstage3_2 0) (stage3_3 1) (hstage3_3 1)) Q := by
  have h0 : View.readAt (Elt F) (stage3_0 0).view (Rect.unit ![0, 0] S1x3072.size inb_S1x3072_S1x3072_0_0).toLoadRect s0 = s0 :=
    whole_readAt cc3_stg0_0 _ _ s0
  have h1 : View.readAt (Elt F) (stage3_1 0).view (Rect.unit ![0, 0] S3072x768.size inb_S3072x768_S3072x768_0_0).toLoadRect s1 = s1 :=
    whole_readAt cc3_stg1_0 _ _ s1
  have h2 : View.readAt (Elt F) (stage3_2 0).view (Rect.unit ![0, 0] S128x1.size inb_S128x1_S128x1_0_0).toLoadRect s2 = s2 :=
    whole_readAt cc3_stg2_0 _ _ s2
  have h3 : (stage3_3 1).view.writes (Elt F) s3 [⟨Rect.unit ![0, 0] S128x768.size inb_S128x768_S128x768_0_0, k3_pay1 i s0 s1 s2⟩] = k3_pay1 i s0 s1 s2 :=
    whole_writes cc3_stg3_1 _ _ s3 _ []
  rw [cc3__unsort_body_eq_skeleton]
  iintro ⟨H0, H1, H2, H3, HQ⟩
  sl_exec
  sl_step
  iapply HQ $$ [H0] [H1] [H2] [H3]
  · iexact H0
  · iexact H1
  · iexact H2
  · iapply (pt_eq (ℓ := (stage3_3 1).view.loc (T d)) (q := fullShare) h3) $$ H3

/-- The body runs on the second score buffer and the first output buffer. -/
theorem unsort_run10 (d : Dev nD) (i : grid3.Coords) (s0 : Vec F S1x3072 .i32) (s1 : Vec F S3072x768 .f32) (s2 : Vec F S128x1 .f32) (s3 : Vec F S128x768 .f32)
    (Q : PUnit → sProp (MM F)) :
    iprop(((stage3_0 0).view.loc (T d) ↦{fullShare} s0) ∗ ((stage3_1 0).view.loc (T d) ↦{fullShare} s1)
        ∗ ((stage3_2 1).view.loc (T d) ↦{fullShare} s2) ∗ ((stage3_3 0).view.loc (T d) ↦{fullShare} s3)
        ∗ (((stage3_0 0).view.loc (T d) ↦{fullShare} s0) -∗ ((stage3_1 0).view.loc (T d) ↦{fullShare} s1)
          -∗ ((stage3_2 1).view.loc (T d) ↦{fullShare} s2) -∗ ((stage3_3 0).view.loc (T d) ↦{fullShare} k3_pay1 i s0 s1 s2) -∗ Q ⟨⟩))
      ⊢ wp frame (wpE (defs₀ (F := F)) 𝒱₀ (T d) none) Set.univ
          (cc3__unsort_body (F := F) i (stage3_0 0) (hstage3_0 0) (stage3_1 0) (hstage3_1 0) (stage3_2 1) (hstage3_2 1) (stage3_3 0) (hstage3_3 0)) Q := by
  have h0 : View.readAt (Elt F) (stage3_0 0).view (Rect.unit ![0, 0] S1x3072.size inb_S1x3072_S1x3072_0_0).toLoadRect s0 = s0 :=
    whole_readAt cc3_stg0_0 _ _ s0
  have h1 : View.readAt (Elt F) (stage3_1 0).view (Rect.unit ![0, 0] S3072x768.size inb_S3072x768_S3072x768_0_0).toLoadRect s1 = s1 :=
    whole_readAt cc3_stg1_0 _ _ s1
  have h2 : View.readAt (Elt F) (stage3_2 1).view (Rect.unit ![0, 0] S128x1.size inb_S128x1_S128x1_0_0).toLoadRect s2 = s2 :=
    whole_readAt cc3_stg2_1 _ _ s2
  have h3 : (stage3_3 0).view.writes (Elt F) s3 [⟨Rect.unit ![0, 0] S128x768.size inb_S128x768_S128x768_0_0, k3_pay1 i s0 s1 s2⟩] = k3_pay1 i s0 s1 s2 :=
    whole_writes cc3_stg3_0 _ _ s3 _ []
  rw [cc3__unsort_body_eq_skeleton]
  iintro ⟨H0, H1, H2, H3, HQ⟩
  sl_exec
  sl_step
  iapply HQ $$ [H0] [H1] [H2] [H3]
  · iexact H0
  · iexact H1
  · iexact H2
  · iapply (pt_eq (ℓ := (stage3_3 0).view.loc (T d)) (q := fullShare) h3) $$ H3

/-- The body runs on the second score buffer and the second output buffer. -/
theorem unsort_run11 (d : Dev nD) (i : grid3.Coords) (s0 : Vec F S1x3072 .i32) (s1 : Vec F S3072x768 .f32) (s2 : Vec F S128x1 .f32) (s3 : Vec F S128x768 .f32)
    (Q : PUnit → sProp (MM F)) :
    iprop(((stage3_0 0).view.loc (T d) ↦{fullShare} s0) ∗ ((stage3_1 0).view.loc (T d) ↦{fullShare} s1)
        ∗ ((stage3_2 1).view.loc (T d) ↦{fullShare} s2) ∗ ((stage3_3 1).view.loc (T d) ↦{fullShare} s3)
        ∗ (((stage3_0 0).view.loc (T d) ↦{fullShare} s0) -∗ ((stage3_1 0).view.loc (T d) ↦{fullShare} s1)
          -∗ ((stage3_2 1).view.loc (T d) ↦{fullShare} s2) -∗ ((stage3_3 1).view.loc (T d) ↦{fullShare} k3_pay1 i s0 s1 s2) -∗ Q ⟨⟩))
      ⊢ wp frame (wpE (defs₀ (F := F)) 𝒱₀ (T d) none) Set.univ
          (cc3__unsort_body (F := F) i (stage3_0 0) (hstage3_0 0) (stage3_1 0) (hstage3_1 0) (stage3_2 1) (hstage3_2 1) (stage3_3 1) (hstage3_3 1)) Q := by
  have h0 : View.readAt (Elt F) (stage3_0 0).view (Rect.unit ![0, 0] S1x3072.size inb_S1x3072_S1x3072_0_0).toLoadRect s0 = s0 :=
    whole_readAt cc3_stg0_0 _ _ s0
  have h1 : View.readAt (Elt F) (stage3_1 0).view (Rect.unit ![0, 0] S3072x768.size inb_S3072x768_S3072x768_0_0).toLoadRect s1 = s1 :=
    whole_readAt cc3_stg1_0 _ _ s1
  have h2 : View.readAt (Elt F) (stage3_2 1).view (Rect.unit ![0, 0] S128x1.size inb_S128x1_S128x1_0_0).toLoadRect s2 = s2 :=
    whole_readAt cc3_stg2_1 _ _ s2
  have h3 : (stage3_3 1).view.writes (Elt F) s3 [⟨Rect.unit ![0, 0] S128x768.size inb_S128x768_S128x768_0_0, k3_pay1 i s0 s1 s2⟩] = k3_pay1 i s0 s1 s2 :=
    whole_writes cc3_stg3_1 _ _ s3 _ []
  rw [cc3__unsort_body_eq_skeleton]
  iintro ⟨H0, H1, H2, H3, HQ⟩
  sl_exec
  sl_step
  iapply HQ $$ [H0] [H1] [H2] [H3]
  · iexact H0
  · iexact H1
  · iexact H2
  · iapply (pt_eq (ℓ := (stage3_3 1).view.loc (T d)) (q := fullShare) h3) $$ H3

/-- The body on its staged windows, whichever buffers they are. -/
theorem unsort_run (d : Dev nD) (i : grid3.Coords) (s0 : Vec F S1x3072 .i32) (s1 : Vec F S3072x768 .f32) (s2 : Vec F S128x1 .f32) (s3 : Vec F S128x768 .f32)
    (Q : PUnit → sProp (MM F)) : (e e' : Fin 1) → (a b : Fin 2) →
    iprop(owns (T d) (stage3_0 e) fullShare s0 ∗ owns (T d) (stage3_1 e') fullShare s1 ∗ owns (T d) (stage3_2 a) fullShare s2
        ∗ owns (T d) (stage3_3 b) fullShare s3
        ∗ (owns (T d) (stage3_0 e) fullShare s0 -∗ owns (T d) (stage3_1 e') fullShare s1 -∗ owns (T d) (stage3_2 a) fullShare s2
          -∗ owns (T d) (stage3_3 b) fullShare (k3_pay1 i s0 s1 s2) -∗ Q ⟨⟩))
      ⊢ wp frame (wpE (defs₀ (F := F)) 𝒱₀ (T d) none) Set.univ
          (cc3__unsort_body (F := F) i (stage3_0 e) (hstage3_0 e) (stage3_1 e') (hstage3_1 e') (stage3_2 a) (hstage3_2 a) (stage3_3 b) (hstage3_3 b)) Q
  | 0, 0, 0, 0 => by
    rw [owns_whole_eq, owns_whole_eq, owns_whole_eq, owns_whole_eq, owns_whole_eq]
    iintro ⟨⟨%f0, %e0, H0⟩, ⟨%f1, %e1, H1⟩, ⟨%f2, %e2, H2⟩, ⟨%f3, -, H3⟩, HQ⟩
    subst e0 e1 e2
    iapply (unsort_run00 d i f0 f1 f2 f3 Q)
    isplitl [H0]; · iexact H0
    isplitl [H1]; · iexact H1
    isplitl [H2]; · iexact H2
    isplitl [H3]; · iexact H3
    iintro H0 H1 H2 H3
    iapply HQ $$ [H0] [H1] [H2] [H3]
    · iexists _; isplitr; swap; (· iexact H0); ipureintro; rfl
    · iexists _; isplitr; swap; (· iexact H1); ipureintro; rfl
    · iexists _; isplitr; swap; (· iexact H2); ipureintro; rfl
    · iexists _; isplitr; swap; (· iexact H3); ipureintro; rfl
  | 0, 0, 0, 1 => by
    rw [owns_whole_eq, owns_whole_eq, owns_whole_eq, owns_whole_eq, owns_whole_eq]
    iintro ⟨⟨%f0, %e0, H0⟩, ⟨%f1, %e1, H1⟩, ⟨%f2, %e2, H2⟩, ⟨%f3, -, H3⟩, HQ⟩
    subst e0 e1 e2
    iapply (unsort_run01 d i f0 f1 f2 f3 Q)
    isplitl [H0]; · iexact H0
    isplitl [H1]; · iexact H1
    isplitl [H2]; · iexact H2
    isplitl [H3]; · iexact H3
    iintro H0 H1 H2 H3
    iapply HQ $$ [H0] [H1] [H2] [H3]
    · iexists _; isplitr; swap; (· iexact H0); ipureintro; rfl
    · iexists _; isplitr; swap; (· iexact H1); ipureintro; rfl
    · iexists _; isplitr; swap; (· iexact H2); ipureintro; rfl
    · iexists _; isplitr; swap; (· iexact H3); ipureintro; rfl
  | 0, 0, 1, 0 => by
    rw [owns_whole_eq, owns_whole_eq, owns_whole_eq, owns_whole_eq, owns_whole_eq]
    iintro ⟨⟨%f0, %e0, H0⟩, ⟨%f1, %e1, H1⟩, ⟨%f2, %e2, H2⟩, ⟨%f3, -, H3⟩, HQ⟩
    subst e0 e1 e2
    iapply (unsort_run10 d i f0 f1 f2 f3 Q)
    isplitl [H0]; · iexact H0
    isplitl [H1]; · iexact H1
    isplitl [H2]; · iexact H2
    isplitl [H3]; · iexact H3
    iintro H0 H1 H2 H3
    iapply HQ $$ [H0] [H1] [H2] [H3]
    · iexists _; isplitr; swap; (· iexact H0); ipureintro; rfl
    · iexists _; isplitr; swap; (· iexact H1); ipureintro; rfl
    · iexists _; isplitr; swap; (· iexact H2); ipureintro; rfl
    · iexists _; isplitr; swap; (· iexact H3); ipureintro; rfl
  | 0, 0, 1, 1 => by
    rw [owns_whole_eq, owns_whole_eq, owns_whole_eq, owns_whole_eq, owns_whole_eq]
    iintro ⟨⟨%f0, %e0, H0⟩, ⟨%f1, %e1, H1⟩, ⟨%f2, %e2, H2⟩, ⟨%f3, -, H3⟩, HQ⟩
    subst e0 e1 e2
    iapply (unsort_run11 d i f0 f1 f2 f3 Q)
    isplitl [H0]; · iexact H0
    isplitl [H1]; · iexact H1
    isplitl [H2]; · iexact H2
    isplitl [H3]; · iexact H3
    iintro H0 H1 H2 H3
    iapply HQ $$ [H0] [H1] [H2] [H3]
    · iexists _; isplitr; swap; (· iexact H0); ipureintro; rfl
    · iexists _; isplitr; swap; (· iexact H1); ipureintro; rfl
    · iexists _; isplitr; swap; (· iexact H2); ipureintro; rfl
    · iexists _; isplitr; swap; (· iexact H3); ipureintro; rfl

/-! ## Its proof data -/

variable [∀ e, Nonempty (Elt F e)]

/-- The block of the scores the call's point `t` reads. -/
def scBlk (sc : Vec F S2048x1 .f32) (t : Fin cfg3.N) : Vec F S128x1 .f32 := ((cfg3.win 2).blk t).view.read (Elt F) sc

/-- The result's blocks are what the body leaves in them. -/
def Unsorted (si : Vec F S1x3072 .i32) (o : Vec F S3072x768 .f32) (sc : Vec F S2048x1 .f32) (y3 : Vec F S2048x768 .f32) : Prop :=
  ∀ (t : Fin cfg3.N) (y : S128x768.Idx), k3_pay1 (grid3.coords t) si o (scBlk sc t) y = y3 (((cfg3.win 3).blk t).view.emb y)

section Data

variable (O : CellTallies nD τ sig (HIx 1)) (b : ℕ) (si : Vec F S1x3072 .i32) (o : Vec F S3072x768 .f32)
  (sc : Vec F S2048x1 .f32) (a3 : Vec F S2048x768 .f32) (y3 : Vec F S2048x768 .f32)

/-- The last call from the sorted tokens' numbers, the experts' rows and the scores. -/
def dat3 (c : Dev nD) : DatT F cfg3 c where
  A w := match w with | 0 => si | 1 => o | 2 => sc | 3 => a3
  after w t := match w with | 0 => si | 1 => o | 2 => scBlk sc t | 3 => k3_pay1 (grid3.coords t) si o (scBlk sc t)
  Φ _ := Pipeline.scopedRest (Ix := HIx 1) (Name := ℕ) (U := UU) (Lvl := ℕ) (Val := Elt F) spec3 c
  q _ := fullShare
  owed _ := O
  recorded _ := recd F b c

/-- The data of the three pipelined calls, this call's in its place. -/
def pdats3 : (p : Fin 3) → (c : Dev nD) → DatT F (Pipeline.pin (pcfgs (F := F)) adm p) c
  | ⟨0, _⟩ => fun c => junkDat c
  | ⟨1, _⟩ => fun c => junkDat c
  | ⟨2, _⟩ => fun c => dat3 O b si o sc a3 c

/-- Every step's first block is the whole row of slots' tokens. -/
theorem block3_0 (c : Dev nD) (t : Fin cfg3.N) : (dat3 O b si o sc a3 c).blockOf 0 t = si := by
  funext j
  exact congrArg si (funext fun a => Fin.ext (Pipeline.Window.rect_emb_val_of_index_zero (cfg3.win 0) t a (by fin_cases a <;> rfl) _))
/-- Every step's second block is the whole of the sorted outputs. -/
theorem block3_1 (c : Dev nD) (t : Fin cfg3.N) : (dat3 O b si o sc a3 c).blockOf 1 t = o := by
  funext j
  exact congrArg o (funext fun a => Fin.ext (Pipeline.Window.rect_emb_val_of_index_zero (cfg3.win 1) t a (by fin_cases a <;> rfl) _))

/-- The body finds the slots' tokens in its first block. -/
theorem before3_0 (c : Dev nD) (t : Fin cfg3.N) (d) : (dat3 O b si o sc a3 c).before 0 t d = si :=
  ((dat3 O b si o sc a3 c).before_in_eq_fetched 0 rfl (fun _ => rfl) (fun _ _ _ => rfl)
    (fun t => (block3_0 O b si o sc a3 c t).symm) t d).trans (block3_0 O b si o sc a3 c t)
/-- The body finds the sorted outputs in its second block. -/
theorem before3_1 (c : Dev nD) (t : Fin cfg3.N) (d) : (dat3 O b si o sc a3 c).before 1 t d = o :=
  ((dat3 O b si o sc a3 c).before_in_eq_fetched 1 rfl (fun _ => rfl) (fun _ _ _ => rfl)
    (fun t => (block3_1 O b si o sc a3 c t).symm) t d).trans (block3_1 O b si o sc a3 c t)
/-- The body finds its tokens' scores in its third block. -/
theorem before3_2 (c : Dev nD) (t : Fin cfg3.N) (d) : (dat3 O b si o sc a3 c).before 2 t d = scBlk sc t :=
  (dat3 O b si o sc a3 c).before_in_eq_fetched 2 rfl (fun _ => rfl) (fun _ _ _ => rfl) (fun t => rfl) t d

/-- The body keeps what the pipeline asks of it. -/
theorem body_obligation3 (c : Dev nD) : Pipeline.BodyObligation (dat3 O b si o sc a3 c) (defs₀ (F := F)) 𝒱₀ (none : HIx 1) Set.univ := fun t => by
  rw [bigSep_W3, bigSep_W3]
  rw [show (dat3 O b si o sc a3 c).Φ t.castSucc = (dat3 O b si o sc a3 c).Φ t.succ from rfl,
    show (dat3 O b si o sc a3 c).owesAt none t.succ = (dat3 O b si o sc a3 c).owesAt none t.castSucc from rfl]
  iintro ⟨HΦ, Howes, ⟨%d0, H0⟩, ⟨%d1, H1⟩, ⟨%d2, H2⟩, ⟨%d3, H3⟩⟩
  rw [before3_0, before3_1, before3_2]
  iapply (unsort_run c (grid3.coords t) si o (scBlk sc t) ((dat3 O b si o sc a3 c).before 3 t d3) _
    ((cfg3.slots t 0).cast nbuf3_0) ((cfg3.slots t 1).cast nbuf3_1) ((cfg3.slots t 2).cast nbuf3_2) ((cfg3.slots t 3).cast nbuf3_3))
  isplitl [H0]; · iexact H0
  isplitl [H1]; · iexact H1
  isplitl [H2]; · iexact H2
  isplitl [H3]; · iexact H3
  iintro H0 H1 H2 H3
  isplitl [HΦ]; · iexact HΦ
  isplitl [Howes]; · iexact Howes
  isplitl [H0]; · iexact H0
  isplitl [H1]; · iexact H1
  isplitl [H2]; · iexact H2
  iexact H3

/-- The call's result is the un-sorted array. -/
theorem arr3_3 (hy : Unsorted si o sc y3) (c : Dev nD) : (dat3 O b si o sc a3 c).arrAt 3 cfg3.N = y3 :=
  (dat3 O b si o sc a3 c).arrAt_eq_of_covers 3 y3 (by decide +kernel) fun t _ y => hy t y

/-- The un-sort's call, as a stretch of the host program. -/
def seg3 (hO : ∀ g, O g none = 0) : Pipeline.RegionSeg (pcfgs (F := F)) adm (pdats3 O b si o sc a3) (none : HIx 1) defs₀ 𝒱₀ (K (F := F)).L (K (F := F)).lev 2 :=
  mkSeg (p := 2) (pdats3 O b si o sc a3) launch3 PEmpty (fun k => k.elim) (Pipeline.OwnSemFacts.none _) b O hO (fun _ _ => rfl) (fun _ _ => rfl)
    (fun c => body_obligation3 O b si o sc a3 c) (fun _ => iprop(emp)) (fun _ => iprop(emp))
    (fun c => by
      show _ ⊢ Pipeline.scopedRest (Ix := HIx 1) (Name := ℕ) (U := UU) (Lvl := ℕ) (Val := Elt F) spec3 c
      iintro ⟨-, -, H⟩; iexact H)
    (fun c => by
      show Pipeline.scopedRest (Ix := HIx 1) (Name := ℕ) (U := UU) (Lvl := ℕ) (Val := Elt F) spec3 c ⊢ _
      rw [Pipeline.ownSems0_none]
      iintro H
      isplitr; · iempintro
      isplitr; · iempintro
      iexact H)

set_option backward.isDefEq.respectTransparency.types false in
/-- What the call needs is what the host holds before it. -/
theorem pre3 (hO : ∀ g, O g none = 0) (d : Dev nD) :
    iprop((mLoc d main_v5 ↦{fullShare} si) ∗ (mLoc d main_v4 ↦{fullShare} o) ∗ (mLoc d main_v1_1 ↦{fullShare} sc)
        ∗ (mLoc d main_v6 ↦{fullShare} a3) ∗ OW b O d) ⊢ (seg3 O b si o sc a3 hO).pre d := by
  have h : (pdats3 O b si o sc a3 2 d).arrays ((pdats3 O b si o sc a3 2 d).arrAt · 0)
      = iprop((mLoc d main_v5 ↦{fullShare} si) ∗ (mLoc d main_v4 ↦{fullShare} o) ∗ (mLoc d main_v1_1 ↦{fullShare} sc)
        ∗ (mLoc d main_v6 ↦{fullShare} a3)) :=
    (Pipeline.arrays_eq (p := 2) (Pipeline.pin (pcfgs (F := F)) adm) (pdats3 O b si o sc a3) d launch3.arr_whole
      ((pdats3 O b si o sc a3 2 d).share_full fun _ => rfl) _).trans (bigSep_W3 _)
  show _ ⊢ iprop((pdats3 O b si o sc a3 2 d).arrays ((pdats3 O b si o sc a3 2 d).arrAt · 0) ∗ iprop(emp) ∗ OW b O d)
  rw [h]
  iintro ⟨H0, H1, H2, H3, HO⟩
  isplitl [H0 H1 H2 H3]
  · isplitl [H0]; · iexact H0
    isplitl [H1]; · iexact H1
    isplitl [H2]; · iexact H2
    iexact H3
  isplitr; · iempintro
  iexact HO

set_option backward.isDefEq.respectTransparency.types false in
/-- What the host holds after the call: its operands unchanged, its result filled. -/
theorem post3 (hy : Unsorted si o sc y3) (hO : ∀ g, O g none = 0) (d : Dev nD) :
    (seg3 O b si o sc a3 hO).post d
      ⊢ iprop((mLoc d main_v5 ↦{fullShare} si) ∗ (mLoc d main_v4 ↦{fullShare} o) ∗ (mLoc d main_v1_1 ↦{fullShare} sc)
        ∗ (mLoc d main_v6 ↦{fullShare} y3) ∗ OW b O d) := by
  have e : (fun w : Fin 4 => (dat3 O b si o sc a3 d).arrAt w cfg3.N) = fun w => match w with | 0 => si | 1 => o | 2 => sc | 3 => y3 := by
    funext w
    match w with
    | 0 => exact (dat3 O b si o sc a3 d).arrAt_in 0 rfl _
    | 1 => exact (dat3 O b si o sc a3 d).arrAt_in 1 rfl _
    | 2 => exact (dat3 O b si o sc a3 d).arrAt_in 2 rfl _
    | 3 => exact arr3_3 O b si o sc a3 y3 hy d
  have h : (pdats3 O b si o sc a3 2 d).arrays (fun w : Fin 4 => (dat3 O b si o sc a3 d).arrAt w cfg3.N)
      = iprop((mLoc d main_v5 ↦{fullShare} si) ∗ (mLoc d main_v4 ↦{fullShare} o) ∗ (mLoc d main_v1_1 ↦{fullShare} sc)
        ∗ (mLoc d main_v6 ↦{fullShare} y3)) := by
    rw [e]
    exact (Pipeline.arrays_eq (p := 2) (Pipeline.pin (pcfgs (F := F)) adm) (pdats3 O b si o sc a3) d launch3.arr_whole
      ((pdats3 O b si o sc a3 2 d).share_full fun _ => rfl) _).trans (bigSep_W3 _)
  show iprop((pdats3 O b si o sc a3 2 d).arrays (fun w : Fin 4 => (dat3 O b si o sc a3 d).arrAt w cfg3.N) ∗ iprop(emp) ∗ OW b O d) ⊢ _
  rw [h]
  iintro ⟨⟨H0, H1, H2, H3⟩, -, HO⟩
  isplitl [H0]; · iexact H0
  isplitl [H1]; · iexact H1
  isplitl [H2]; · iexact H2
  isplitl [H3]; · iexact H3
  iexact HO

/-- The last call in the main program: the tokens' rows, back in their order and times their scores. -/
theorem unsort_call (hy : Unsorted si o sc y3) (hO : ∀ g, O g none = 0) (d : Dev nD) (Q : PUnit → sProp (MM F)) :
    iprop(boundary (T d) ∗ levAts (K (F := F)).L (K (F := F)).lev
        ∗ (Pipeline.cellsGhost (Pipeline.pin (pcfgs (F := F)) adm) EP 2 d ∗ Pipeline.toksInit (Pipeline.pin (pcfgs (F := F)) adm) EP 2 d)
        ∗ (mLoc d main_v5 ↦{fullShare} si) ∗ (mLoc d main_v4 ↦{fullShare} o) ∗ (mLoc d main_v1_1 ↦{fullShare} sc)
        ∗ (mLoc d main_v6 ↦{fullShare} a3) ∗ OW b O d
        ∗ (boundary (T d) -∗ (mLoc d main_v5 ↦{fullShare} si) -∗ (mLoc d main_v4 ↦{fullShare} o)
          -∗ (mLoc d main_v1_1 ↦{fullShare} sc) -∗ (mLoc d main_v6 ↦{fullShare} y3) -∗ OW b O d -∗ Q ⟨⟩))
      ⊢ wp frame (wpE ((K (F := F)).defs D) 𝒱 (T d) none) Set.univ
          (Prog.lift (.customCall (SparseCore.inner (Pipeline.entry 2)) ())) Q := by
  refine BI.Entails.trans ?_ (region_wp (pdats3 O b si o sc a3) (seg3 O b si o sc a3 hO) d Q)
  show (_ : sProp (MM F)) ⊢ (_ : sProp (MM F))
  iintro ⟨Hb, Hl, ⟨Hg, Ht⟩, H0, H1, H2, H3, HO, HQ⟩
  isplitr [HQ]
  · isplitl [Hb]; · iexact Hb
    isplitl [H0 H1 H2 H3 HO]
    · iapply (pre3 O b si o sc a3 hO d)
      isplitl [H0]; · iexact H0
      isplitl [H1]; · iexact H1
      isplitl [H2]; · iexact H2
      isplitl [H3]; · iexact H3
      iexact HO
    isplitl [Hl]; · iexact Hl
    isplitl [Hg]; · iexact Hg
    iexact Ht
  iintro ⟨Hb, HP⟩
  ihave H := (post3 O b si o sc a3 y3 hy hO d) $$ HP
  icases H with ⟨H0, H1, H2, H3, HO⟩
  iapply HQ $$ Hb H0 H1 H2 H3 HO

end Data

end Cert.Sort

end
-- ==== Proof.Host.lean ====
/-
  The main program run: from its arguments, its result.
-/
module

public import Idealize.ShloMosaic.Lib.SparseCore.Quiescent
public import Idealize.ShloMosaic.Lib.StableHlo.Run
public import Idealize.ShloMosaic.Lib.Pipeline.Kit
public import proofs.«01_k».proof.Proof.Deal
public import proofs.«01_k».proof.Proof.Router
public import proofs.«01_k».proof.Proof.FfnCall
public import proofs.«01_k».proof.Proof.Unsort

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

/-! ## The last call's result -/

/-- What the last call leaves: block by block what its body computes. -/
def unsortV (si : Vec F S1x3072 .i32) (o : Vec F S3072x768 .f32) (sc : Vec F S2048x1 .f32) : Vec F S2048x768 .f32 := fun p =>
  have ht : (p 0).val / 128 < grid3.N := by rw [N_3]; have h : (p 0).val < 2048 := (p 0).isLt; omega
  k3_pay1 (grid3.coords ⟨(p 0).val / 128, ht⟩) si o (scBlk sc ⟨(p 0).val / 128, ht⟩) (ValueIdx.ix2 ⟨(p 0).val % 128, Nat.mod_lt _ (by decide)⟩ ⟨(p 1).val, (p 1).isLt⟩)

/-- The un-sort's grid coordinate is the step's number. -/
theorem coords3 : ∀ t : Fin grid3.N, (grid3.coords t 0).val = t.val := by decide +kernel

/-- The un-sort's output block at a step is the step's own. -/
theorem win3_3_index (t : Fin grid3.N) : (cfg3.win 3).index t 0 = t.val ∧ (cfg3.win 3).index t 1 = 0 := by
  have h : ∀ t : Fin grid3.N, cc3_transform_3 (grid3.coords t) 0 = t.val ∧ cc3_transform_3 (grid3.coords t) 1 = 0 := by decide +kernel
  exact h t

/-- A block's row, in the array. -/
theorem emb3_0 (t : Fin cfg3.N) (y : S128x768.Idx) : (((cfg3.win 3).blk t).view.emb y 0).val = 128 * t.val + (y 0).val := by
  refine (Pipeline.Window.rect_emb_val (cfg3.win 3) t y 0).trans ?_
  rw [(win3_3_index t).1]
  show t.val * 128 + (y 0).val = _
  omega

/-- A block's column, in the array. -/
theorem emb3_1 (t : Fin cfg3.N) (y : S128x768.Idx) : (((cfg3.win 3).blk t).view.emb y 1).val = (y 1).val :=
  Pipeline.Window.rect_emb_val_of_index_zero (cfg3.win 3) t 1 (win3_3_index t).2 y

/-- A step's output block agrees with the whole un-sorted array. -/
theorem unsortV_at (si : Vec F S1x3072 .i32) (o : Vec F S3072x768 .f32) (sc : Vec F S2048x1 .f32) (t : Fin grid3.N) (y : S128x768.Idx)
    (z : S2048x768.Idx) (h0 : (z 0).val = 128 * t.val + (y 0).val) (h1 : (z 1).val = (y 1).val) :
    k3_pay1 (grid3.coords t) si o (scBlk sc t) y = unsortV si o sc z := by
  have hy : (y 0).val < 128 := (y 0).isLt
  have et : ∀ h, (⟨(z 0).val / 128, h⟩ : Fin grid3.N) = t := fun h => Fin.ext (by dsimp only; omega)
  unfold unsortV
  dsimp only
  rw [et]
  refine congrArg _ (funext fun a => ?_)
  match a with
  | ⟨0, _⟩ => exact Fin.ext (by show (y 0).val = (z 0).val % 128; omega)
  | ⟨1, _⟩ => exact Fin.ext h1.symm

/-- The un-sorted array is what the steps' blocks make. -/
theorem unsorted (si : Vec F S1x3072 .i32) (o : Vec F S3072x768 .f32) (sc : Vec F S2048x1 .f32) : Unsorted si o sc (unsortV si o sc) :=
  fun t y => unsortV_at si o sc t y _ (emb3_0 t y) (emb3_1 t y)

/-! ## What the program computes -/

section Value

variable (x0 : Vec F S1x2048x768 .f32) (wr : Vec F S768x8 .f32) (w1 : Vec F S8x768x3072 .f32) (b1 : Vec F S8x3072 .f32)
  (w2 : Vec F S8x3072x768 .f32) (b2 : Vec F S8x768 .f32)

/-- The tokens, one a row. -/
def xV : Vec F S2048x768 .f32 := shapeCast S2048x768 x0 shapeCasts_S1x2048x768_S2048x768
/-- Each token's expert. -/
def idV : Vec F S2048 .i32 := k0_pay3 (xV x0) wr
/-- Each token's score. -/
def scV : Vec F S2048x1 .f32 := k0_pay4 (xV x0) wr
/-- The sorted tokens' numbers, one a row. -/
def colV : Vec F S3072x1 .i32 := broadcastInDim S3072x1 ![0] bcast_S3072_S3072x1_0 (sidxV (idV x0 wr))
/-- The same, one a column. -/
def rowV : Vec F S1x3072 .i32 := broadcastInDim S1x3072 ![1] bcast_S3072_S1x3072_1 (sidxV (idV x0 wr))
/-- The grouped call's operands. -/
def inV : FfnIn F := ⟨colV x0 wr, xV x0, w1, b1, w2, b2⟩
/-- The sorted outputs. -/
def oV : Vec F S3072x768 .f32 := (inV x0 wr w1 b1 w2 b2).upTo (stV (idV x0 wr)) 8
/-- The outputs in the tokens' order. -/
def yV : Vec F S2048x768 .f32 := unsortV (rowV x0 wr) (oV x0 wr w1 b1 w2 b2) (scV x0 wr)
/-- The program's result. -/
def outV : Vec F S1x2048x768 .f32 := shapeCast S1x2048x768 (yV x0 wr w1 b1 w2 b2) shapeCasts_S2048x768_S1x2048x768

end Value

/-- The sort's table has its entries in order and within the array. -/
theorem stOK (ids : Vec F S2048 .i32) : StOK (F := F) (stV ids) := by
  have h8 := startN_eight (ctN ids) (ct_sum ids)
  have w : ∀ n : Fin 16, (wS (F := F) (stV ids) n).toNat = startN (ctN ids) (min n.val 8) / 128 := fun n => stW_toNat ids n.val
  refine ⟨fun e => ?_, fun e => ?_⟩
  · rw [w, w]
    exact Nat.div_le_div_right (startN_mono _ (by dsimp only; omega))
  · rw [w]
    have h := startN_mono (ctN ids) (Nat.min_le_right e.val 8)
    dsimp only
    omega

/-! ## A host operation of one operand -/

/-- A host operation that reads one array and writes another. -/
theorem host_wp (d : Dev nD) (op : HloOp τ sig (Elt F)) (x y : Ref sig .tc) (hb : op.bufs = {Proc.devRef .tc x, Proc.devRef .tc y})
    (hw : op.writes = {Proc.devRef .tc y}) (hxy : (Proc.devRef .tc x : DevRef τ sig) ≠ Proc.devRef .tc y) (hf : op.fresh = ∅)
    (g : Buf (Elt F) (mLoc d x) → Buf (Elt F) (mLoc d y)) (hg : ∀ V : Valuation τ sig (Elt F), op.result V (Proc.devRef .tc y) = g (V (Proc.devRef .tc x)))
    (V₀ : Valuation τ sig (Elt F)) (X : Buf (Elt F) (mLoc d x)) (Y : Buf (Elt F) (mLoc d y)) (Q : PUnit → sProp (MM F)) :
    iprop(boundary (T d) ∗ (mLoc d x ↦{fullShare} X) ∗ (mLoc d y ↦{fullShare} Y)
        ∗ (boundary (T d) -∗ (mLoc d x ↦{fullShare} X) -∗ (mLoc d y ↦{fullShare} g X) -∗ Q ⟨⟩))
      ⊢ wp frame (wpE ((K (F := F)).defs D) 𝒱 (T d) none) Set.univ (hlo rfl op (fun _ => .ret ⟨⟩)) Q := by
  have held2 : ∀ V : Valuation τ sig (Elt F), (held (T d) {Proc.devRef .tc x, Proc.devRef .tc y} V : sProp (MM F))
      = iprop((mLoc d x ↦{fullShare} V (Proc.devRef .tc x)) ∗ (mLoc d y ↦{fullShare} V (Proc.devRef .tc y))) := fun V => by
    unfold held
    rw [SparseCore.bigSep_insert' (by rw [Finset.mem_singleton]; exact hxy), bigSep_singleton]
  let V : Valuation τ sig (Elt F) := Function.update (Function.update V₀ (Proc.devRef .tc x) X) (Proc.devRef .tc y) Y
  have hVx : V (Proc.devRef .tc x) = X := (Function.update_of_ne hxy _ _).trans (Function.update_self _ _ _)
  have hVy : V (Proc.devRef .tc y) = Y := Function.update_self _ _ _
  have hRx : op.result V (Proc.devRef .tc x) = X := (op.result_of_not_mem V (by rw [hw, Finset.mem_singleton]; exact hxy)).trans hVx
  have hRy : op.result V (Proc.devRef .tc y) = g X := (hg V).trans (congrArg g hVx)
  have hout : (held (T d) {Proc.devRef .tc x, Proc.devRef .tc y} (op.result V) : sProp (MM F))
      ⊢ iprop((mLoc d x ↦{fullShare} X) ∗ (mLoc d y ↦{fullShare} g X)) := by
    rw [held2, hRx, hRy]
  have hret : (Q ⟨⟩ : sProp (MM F)) ⊢ wp frame (wpE ((K (F := F)).defs D) 𝒱 (T d) none) Set.univ (.ret ⟨⟩) Q := by
    rw [wp_ret]
    show (_ : sProp (MM F)) ⊢ (_ : sProp (MM F))
    iintro H; imodintro; iexact H
  iintro ⟨Hb, Hx, Hy, HQ⟩
  iapply (wp_hlo_within 𝒱 (T d) none Set.univ (op := op) (S := {Proc.devRef .tc x, Proc.devRef .tc y}) hb.subset (V := V) hf) $$ [Hb Hx Hy]
  · isplitl [Hb]; · iexact Hb
    rw [held2, hVx, hVy]
    isplitl [Hx]; · iexact Hx
    iexact Hy
  iintro ⟨Hb, Hh⟩
  ihave H := hout $$ Hh
  icases H with ⟨Hx, Hy⟩
  iapply (hret)
  iapply HQ $$ Hb Hx Hy

/-! ## What the TensorCore owes around its calls -/

/-- The TensorCore's state beside the SparseCore call, in parts. -/
theorem tcSt_split (d : Dev nD) (n : ℕ) : ((K (F := F)).tcSt EH d n : sProp (MM F))
    ⊢ iprop(OW (8 * n) ((K (F := F)).Otc d n) d ∗ (OW (8 * n) ((K (F := F)).Otc d n) d -∗ (K (F := F)).tcSt EH d n)) := by
  unfold SparseCore.Cfg.tcSt OW
  iintro ⟨HO, H⟩
  isplitl [HO]; · iexact HO
  iintro HO
  isplitl [HO]; · iexact HO
  iexact H

/-- The TensorCore owes nothing at the level of plain transfers. -/
theorem otc_none (d : Dev nD) (n : ℕ) (g : GSem nD τ sig) : (K (F := F)).Otc (N := 1) d n g none = 0 := by
  by_contra h
  have h' := (K (F := F)).lev_of_Otc_pos (Nat.pos_of_ne_zero h)
  exact absurd h' (by rw [show (K (F := F)).lev g none = 0 from rfl]; omega)

/-! ## The launch element -/

/-- The ghost state at the start. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipelines' rounds a device's TensorCore is handed. -/
def GG (F : FTy → Type) [FloatOps F] (d : Dev nD) : sProp (MM F) :=
  iprop((bigSep Finset.univ fun p : Fin 3 => Pipeline.cellsGhost (Pipeline.pin (pcfgs (F := F)) adm) EP p d)
    ∗ (bigSep Finset.univ fun p : Fin 3 => Pipeline.toksInit (Pipeline.pin (pcfgs (F := F)) adm) EP p d))

/-- The pipelines' ghost state and the counters', apart. -/
theorem own_pipes (a : UP) (b : Counters) : (BI.own ((embR : Emb (UP × Counters) (MM F)) (a, b)) : sProp (MM F))
    ⊢ iprop(BI.own (EP a) ∗ BI.own (((Emb.inr : Emb Counters (UP × Counters)).trans (embR : Emb (UP × Counters) (MM F))) b)) := own_pair_emb _ _ _

/-- The ghost state at the start holds the handshakes' cells and the pipelines'. -/
theorem hu₀ (I : Dev nD → Vec F S2048 .i32) : (ownU (u₀ (F := F)) : sProp (MM F))
    ⊢ |={Set.univ}=> iprop(BI.own (EH (initOf (K (F := F)).hsCells (K (F := F)).hsToks)) ∗ (bigSep Finset.univ fun d : Dev nD => GG F d)
        ∗ bigSep Finset.univ fun thr : Thread nD τ => bigSep Finset.univ fun q : Fin 1 => (P I).x q thr) := by
  unfold u₀
  iintro Hu
  ihave H := (ownU_pair (initOf (K (F := F)).hsCells (K (F := F)).hsToks) _) $$ Hu
  icases H with ⟨HH, HR⟩
  ihave H := (own_pipes _ _) $$ HR
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [show (bigSep Finset.univ fun d : Dev nD => GG F d) = iprop((bigSep Finset.univ fun d : Dev nD => bigSep Finset.univ fun p : Fin 3 => Pipeline.cellsGhost (Pipeline.pin (pcfgs (F := F)) adm) EP p d)
      ∗ (bigSep Finset.univ fun d : Dev nD => bigSep Finset.univ fun p : Fin 3 => Pipeline.toksInit (Pipeline.pin (pcfgs (F := F)) adm) EP p d)) from bigSep_sep' _ _ _]
    isplitl [Hc]; · iexact Hc
    iexact Ht
  rw [show (bigSep Finset.univ fun thr : Thread nD τ => bigSep Finset.univ fun q : Fin 1 => (P (F := F) I).x q thr) = (iprop(emp) : sProp (MM F)) from
    (bigSep_congr fun _ _ => bigSep_univ_of_subsingleton (0 : Fin 1)).trans (bigSep_emp_const _)]
  iempintro

end Cert.Sort

end
-- ==== Proof.Run.lean ====
/-
  The main program run: from its arguments, its result.
-/
module

public import proofs.«01_k».proof.Proof.Host

@[expose] public section

set_option maxRecDepth 16384

noncomputable section

namespace Cert.Sort

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## The arguments, by device -/

/-- The tokens, as given. -/
abbrev x0 (d : Dev nD) : Vec F S1x2048x768 .f32 := m (mLoc d main_arg0)
/-- The router's weights, as given. -/
abbrev wr (d : Dev nD) : Vec F S768x8 .f32 := m (mLoc d main_arg1)
/-- The first layer's weights, as given. -/
abbrev w1 (d : Dev nD) : Vec F S8x768x3072 .f32 := m (mLoc d main_arg2)
/-- The first layer's biases, as given. -/
abbrev b1 (d : Dev nD) : Vec F S8x3072 .f32 := m (mLoc d main_arg3)
/-- The second layer's weights, as given. -/
abbrev w2 (d : Dev nD) : Vec F S8x3072x768 .f32 := m (mLoc d main_arg4)
/-- The second layer's biases, as given. -/
abbrev b2 (d : Dev nD) : Vec F S8x768 .f32 := m (mLoc d main_arg5)

/-- The experts the router chooses, by device. -/
abbrev ids (d : Dev nD) : Vec F S2048 .i32 := idV (x0 m d) (wr m d)

/-- The program's arrays, one by one. -/
theorem unscopedBufs_eq (d : Dev nD) (W : (b : Ref sig .tc) → Buf (Elt F) ((d.tc : Thread nD τ).loc b)) :
    (unscopedBufs d W : sProp (MM F))
      = iprop((mLoc d main_arg0 ↦{fullShare} W main_arg0) ∗ (mLoc d main_arg1 ↦{fullShare} W main_arg1) ∗ (mLoc d main_arg2 ↦{fullShare} W main_arg2) ∗ (mLoc d main_arg3 ↦{fullShare} W main_arg3) ∗ (mLoc d main_arg4 ↦{fullShare} W main_arg4) ∗ (mLoc d main_arg5 ↦{fullShare} W main_arg5) ∗ (mLoc d main_v0 ↦{fullShare} W main_v0) ∗ (mLoc d main_v1_0 ↦{fullShare} W main_v1_0) ∗ (mLoc d main_v1_1 ↦{fullShare} W main_v1_1) ∗ (mLoc d main_v2_0 ↦{fullShare} W main_v2_0) ∗ (mLoc d main_v2_1 ↦{fullShare} W main_v2_1) ∗ (mLoc d main_v3 ↦{fullShare} W main_v3) ∗ (mLoc d main_v4 ↦{fullShare} W main_v4) ∗ (mLoc d main_v5 ↦{fullShare} W main_v5) ∗ (mLoc d main_v6 ↦{fullShare} W main_v6) ∗ (mLoc d main_v7 ↦{fullShare} W main_v7)) := by
  unfold unscopedBufs
  rw [show (Finset.univ.filter fun b : Ref sig .tc => ¬ b.isScoped) = {main_arg0, main_arg1, main_arg2, main_arg3, main_arg4, main_arg5, main_v0, main_v1_0, main_v1_1, main_v2_0, main_v2_1, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What is held at the end: the arguments as they were, and the result. -/
abbrev FIN (d : Dev nD) : sProp (MM F) :=
  iprop((mLoc d main_arg0 ↦{fullShare} m (mLoc d main_arg0)) ∗ (mLoc d main_arg1 ↦{fullShare} m (mLoc d main_arg1)) ∗ (mLoc d main_arg2 ↦{fullShare} m (mLoc d main_arg2)) ∗ (mLoc d main_arg3 ↦{fullShare} m (mLoc d main_arg3)) ∗ (mLoc d main_arg4 ↦{fullShare} m (mLoc d main_arg4)) ∗ (mLoc d main_arg5 ↦{fullShare} m (mLoc d main_arg5))
    ∗ (mLoc d main_v7 ↦{fullShare} outV (x0 m d) (wr m d) (w1 m d) (b1 m d) (w2 m d) (b2 m d)))

/-- Three pieces, one by one. -/
theorem three (Φ : Fin 3 → sProp (MM F)) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

/-! ## The host's operations -/

include m in
/-- The host makes the tokens an array of rows. -/
theorem reshape_in (d : Dev nD) (X : Vec F S1x2048x768 .f32) (Y : Vec F S2048x768 .f32) (Q : PUnit → sProp (MM F)) :
    iprop(boundary (T d) ∗ (mLoc d main_arg0 ↦{fullShare} X) ∗ (mLoc d main_v0 ↦{fullShare} Y)
        ∗ (boundary (T d) -∗ (mLoc d main_arg0 ↦{fullShare} X) -∗ (mLoc d main_v0 ↦{fullShare} xV X) -∗ Q ⟨⟩))
      ⊢ wp frame (wpE ((K (F := F)).defs D) 𝒱 (T d) none) Set.univ (hlo rfl (StableHlo.reshape main_arg0 main_v0 (rfl : (.f32 : EltTy) = .f32) shapeCasts_S1x2048x768_S2048x768) (fun _ => .ret ⟨⟩)) Q :=
  host_wp d _ main_arg0 main_v0 rfl rfl (by decide) rfl xV (fun V => StableHlo.reshape_result main_arg0 main_v0 rfl shapeCasts_S1x2048x768_S2048x768 _ _ V) (fun b => m (d, b)) X Y Q

include m in
/-- The host makes the rows of results an array of tokens. -/
theorem reshape_out (d : Dev nD) (X : Vec F S2048x768 .f32) (Y : Vec F S1x2048x768 .f32) (Q : PUnit → sProp (MM F)) :
    iprop(boundary (T d) ∗ (mLoc d main_v6 ↦{fullShare} X) ∗ (mLoc d main_v7 ↦{fullShare} Y)
        ∗ (boundary (T d) -∗ (mLoc d main_v6 ↦{fullShare} X) -∗ (mLoc d main_v7 ↦{fullShare} (shapeCast S1x2048x768 X shapeCasts_S2048x768_S1x2048x768 : Vec F S1x2048x768 .f32)) -∗ Q ⟨⟩))
      ⊢ wp frame (wpE ((K (F := F)).defs D) 𝒱 (T d) none) Set.univ (hlo rfl (StableHlo.reshape main_v6 main_v7 (rfl : (.f32 : EltTy) = .f32) shapeCasts_S2048x768_S1x2048x768) (fun _ => .ret ⟨⟩)) Q :=
  host_wp d _ main_v6 main_v7 rfl rfl (by decide) rfl (fun X : Vec F S2048x768 .f32 => (shapeCast S1x2048x768 X shapeCasts_S2048x768_S1x2048x768 : Vec F S1x2048x768 .f32)) (fun V => StableHlo.reshape_result main_v6 main_v7 rfl shapeCasts_S2048x768_S1x2048x768 _ _ V) (fun b => m (d, b)) X Y Q

include m in
/-- The host makes the sorted tokens' numbers a column. -/
theorem col_wp (d : Dev nD) (X : Vec F S3072 .i32) (Y : Vec F S3072x1 .i32) (Q : PUnit → sProp (MM F)) :
    iprop(boundary (T d) ∗ (mLoc d main_v2_0 ↦{fullShare} X) ∗ (mLoc d main_v3 ↦{fullShare} Y)
        ∗ (boundary (T d) -∗ (mLoc d main_v2_0 ↦{fullShare} X) -∗ (mLoc d main_v3 ↦{fullShare} (broadcastInDim S3072x1 ![0] bcast_S3072_S3072x1_0 X : Vec F S3072x1 .i32)) -∗ Q ⟨⟩))
      ⊢ wp frame (wpE ((K (F := F)).defs D) 𝒱 (T d) none) Set.univ (hlo rfl (StableHlo.unary main_v2_0 main_v3 (broadcastInDim S3072x1 ![0] bcast_S3072_S3072x1_0 : (⟨S3072, .i32⟩ : BufTy).Contents (Elt F) → (⟨S3072x1, .i32⟩ : BufTy).Contents (Elt F))) (fun _ => .ret ⟨⟩)) Q :=
  host_wp d _ main_v2_0 main_v3 rfl rfl (by decide) rfl (broadcastInDim S3072x1 ![0] bcast_S3072_S3072x1_0 : (⟨S3072, .i32⟩ : BufTy).Contents (Elt F) → (⟨S3072x1, .i32⟩ : BufTy).Contents (Elt F)) (fun V => StableHlo.unary_result main_v2_0 main_v3 (broadcastInDim S3072x1 ![0] bcast_S3072_S3072x1_0 : (⟨S3072, .i32⟩ : BufTy).Contents (Elt F) → (⟨S3072x1, .i32⟩ : BufTy).Contents (Elt F)) _ _ V) (fun b => m (d, b)) X Y Q

include m in
/-- The host makes the sorted tokens' numbers a row. -/
theorem row_wp (d : Dev nD) (X : Vec F S3072 .i32) (Y : Vec F S1x3072 .i32) (Q : PUnit → sProp (MM F)) :
    iprop(boundary (T d) ∗ (mLoc d main_v2_0 ↦{fullShare} X) ∗ (mLoc d main_v5 ↦{fullShare} Y)
        ∗ (boundary (T d) -∗ (mLoc d main_v2_0 ↦{fullShare} X) -∗ (mLoc d main_v5 ↦{fullShare} (broadcastInDim S1x3072 ![1] bcast_S3072_S1x3072_1 X : Vec F S1x3072 .i32)) -∗ Q ⟨⟩))
      ⊢ wp frame (wpE ((K (F := F)).defs D) 𝒱 (T d) none) Set.univ (hlo rfl (StableHlo.unary main_v2_0 main_v5 (broadcastInDim S1x3072 ![1] bcast_S3072_S1x3072_1 : (⟨S3072, .i32⟩ : BufTy).Contents (Elt F) → (⟨S1x3072, .i32⟩ : BufTy).Contents (Elt F))) (fun _ => .ret ⟨⟩)) Q :=
  host_wp d _ main_v2_0 main_v5 rfl rfl (by decide) rfl (broadcastInDim S1x3072 ![1] bcast_S3072_S1x3072_1 : (⟨S3072, .i32⟩ : BufTy).Contents (Elt F) → (⟨S1x3072, .i32⟩ : BufTy).Contents (Elt F)) (fun V => StableHlo.unary_result main_v2_0 main_v5 (broadcastInDim S1x3072 ![1] bcast_S3072_S1x3072_1 : (⟨S3072, .i32⟩ : BufTy).Contents (Elt F) → (⟨S1x3072, .i32⟩ : BufTy).Contents (Elt F)) _ _ V) (fun b => m (d, b)) X Y Q

/-! ## The program on a device's TensorCore -/

/-- The TensorCore's state after the SparseCore call. -/
theorem tcSt_after (d : Dev nD) : ((K (F := F)).tcSt EH d ((0 : Fin 1).val + 1) : sProp (MM F))
    ⊢ iprop(OW (8 * 1) ((K (F := F)).Otc d 1) d ∗ (OW (8 * 1) ((K (F := F)).Otc d 1) d -∗ (K (F := F)).tcSt EH d 1)) := tcSt_split d 1

set_option maxHeartbeats 2000000 in
/-- The host program runs, and ends with the result written and the arguments unchanged. -/
theorem hmain (κ : GSem nD τ sig → ℕ) (d : Dev nD) :
    iprop((K (F := F)).ctx EH (P (ids m)) κ ∗ (K (F := F)).tcSt EH d 0 ∗ (K (F := F)).tcRes m ρ d ∗ GG F d)
      ⊢ wp frame (wpE ((K (F := F)).defs D) 𝒱 (T d) none) Set.univ (main d) fun _ => iprop((K (F := F)).tcSt EH d 1 ∗ FIN m d ∗ (K (F := F)).tcEnd d) := by
  unfold SparseCore.Cfg.tcRes SparseCore.Cfg.tcEnd GG
  rw [unscopedBufs_eq, three, three]
  simp only [main, wp_bind, wp_pure]
  iintro ⟨#Hctx, Hst, ⟨Hb, ⟨Ha0, Ha1, Ha2, Ha3, Ha4, Ha5, Hv0, Hv1_0, Hv1_1, Hv2_0, Hv2_1, Hv3, Hv4, Hv5, Hv6, Hv7⟩, Hts, -⟩, ⟨Hg0, Hg1, Hg2⟩, ⟨Hk0, Hk1, Hk2⟩⟩
  ihave #Hl := (SparseCore.Cfg.ctx_levAts κ) $$ Hctx
  iapply (reshape_in m d (x0 m d) (m (mLoc d main_v0)))
  isplitl [Hb]; · iexact Hb
  isplitl [Ha0]; · iexact Ha0
  isplitl [Hv0]; · iexact Hv0
  iintro Hb Ha0 Hv0
  ihave H := (tcSt_split d 0) $$ Hst
  icases H with ⟨HO, Hst⟩
  iapply (router_call ((K (F := F)).Otc d 0) (8 * 0) (xV (x0 m d)) (wr m d) (m (mLoc d main_v1_0)) (m (mLoc d main_v1_1)) (ids m d) (scV (x0 m d) (wr m d)) rfl rfl (otc_none d 0) d)
  isplitl [Hb]; · iexact Hb
  isplitr; · iexact Hl
  isplitl [Hg0 Hk0]
  · isplitl [Hg0]; · iexact Hg0
    iexact Hk0
  isplitl [Hv0]; · iexact Hv0
  isplitl [Ha1]; · iexact Ha1
  isplitl [Hv1_0]; · iexact Hv1_0
  isplitl [Hv1_1]; · iexact Hv1_1
  isplitl [HO]; · iexact HO
  iintro Hb Hv0 Ha1 Hv1_0 Hv1_1 HO
  ihave Hst := Hst $$ HO
  ihave H := (deal (ids m d) d (m (mLoc d main_v2_0)) (m (mLoc d main_v2_1))) $$ [Hv1_0 Hv2_0 Hv2_1]
  · isplitl [Hv1_0]; · iexact Hv1_0
    isplitl [Hv2_0]; · iexact Hv2_0
    iexact Hv2_1
  icases H with ⟨He, Hgo⟩
  iapply ((K (F := F)).wp_run D 𝒱 (EH := EH) (P := P (ids m)) κ d 0)
  isplitr; · iexact Hctx
  isplitl [Hst]; · iexact Hst
  isplitl [Hgo]
  · rw [st_all]; iexact Hgo
  iintro ⟨Hst, Hdn⟩
  ihave Hdn := (Entails.of_eq (dn_all (ids m) d)) $$ Hdn
  ihave H := (collect (ids m d) d) $$ [He Hdn]
  · isplitl [He]; · iexact He
    iexact Hdn
  icases H with ⟨Hv1_0, Hv2_0, Hv2_1⟩
  iapply (col_wp m d (sidxV (ids m d)) (m (mLoc d main_v3)))
  isplitl [Hb]; · iexact Hb
  isplitl [Hv2_0]; · iexact Hv2_0
  isplitl [Hv3]; · iexact Hv3
  iintro Hb Hv2_0 Hv3
  ihave H := (tcSt_after d) $$ Hst
  icases H with ⟨HO, Hst⟩
  iapply (ffn_call ((K (F := F)).Otc d 1) (8 * 1) (stV (ids m d)) (inV (x0 m d) (wr m d) (w1 m d) (b1 m d) (w2 m d) (b2 m d)) (m (mLoc d main_v4)) (stOK _) (otc_none d 1) d)
  isplitl [Hb]; · iexact Hb
  isplitr; · iexact Hl
  isplitl [Hg1 Hk1]
  · isplitl [Hg1]; · iexact Hg1
    iexact Hk1
  isplitl [Hv2_1 Hv3 Hv0 Ha3 Ha5 Hv4]
  · isplitl [Hv2_1]; · iexact Hv2_1
    isplitl [Hv3]; · iexact Hv3
    isplitl [Hv0]; · iexact Hv0
    isplitl [Ha3]; · iexact Ha3
    isplitl [Ha5]; · iexact Ha5
    iexact Hv4
  isplitl [Ha2 Ha4]
  · isplitl [Ha2]; · iexact Ha2
    iexact Ha4
  isplitl [HO]; · iexact HO
  iintro Hb ⟨Hv2_1, Hv3, Hv0, Ha3, Ha5, Hv4⟩ ⟨Ha2, Ha4⟩ HO
  iapply (row_wp m d (sidxV (ids m d)) (m (mLoc d main_v5)))
  isplitl [Hb]; · iexact Hb
  isplitl [Hv2_0]; · iexact Hv2_0
  isplitl [Hv5]; · iexact Hv5
  iintro Hb Hv2_0 Hv5
  iapply (unsort_call ((K (F := F)).Otc d 1) (8 * 1) (rowV (x0 m d) (wr m d)) (oV (x0 m d) (wr m d) (w1 m d) (b1 m d) (w2 m d) (b2 m d)) (scV (x0 m d) (wr m d)) (m (mLoc d main_v6)) (yV (x0 m d) (wr m d) (w1 m d) (b1 m d) (w2 m d) (b2 m d)) (unsorted _ _ _) (otc_none d 1) d)
  isplitl [Hb]; · iexact Hb
  isplitr; · iexact Hl
  isplitl [Hg2 Hk2]
  · isplitl [Hg2]; · iexact Hg2
    iexact Hk2
  isplitl [Hv5]; · iexact Hv5
  isplitl [Hv4]; · iexact Hv4
  isplitl [Hv1_1]; · iexact Hv1_1
  isplitl [Hv6]; · iexact Hv6
  isplitl [HO]; · iexact HO
  iintro Hb Hv5 Hv4 Hv1_1 Hv6 HO
  ihave Hst := Hst $$ HO
  iapply (reshape_out m d (yV (x0 m d) (wr m d) (w1 m d) (b1 m d) (w2 m d) (b2 m d)) (m (mLoc d main_v7)))
  isplitl [Hb]; · iexact Hb
  isplitl [Hv6]; · iexact Hv6
  isplitl [Hv7]; · iexact Hv7
  iintro Hb Hv6 Hv7
  imodintro
  isplitl [Hst]; · iexact Hst
  isplitr [Hb Hts]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Hv7
  isplitl [Hb]; · iexact Hb
  iexact Hts

/-- What a final state holds on a device. -/
def fq (d : Dev nD) (s : Phys nD τ sig (Elt F)) : Prop :=
  s.mem.mem (mLoc d main_arg0) = m (mLoc d main_arg0) ∧ s.mem.mem (mLoc d main_arg1) = m (mLoc d main_arg1) ∧ s.mem.mem (mLoc d main_arg2) = m (mLoc d main_arg2) ∧ s.mem.mem (mLoc d main_arg3) = m (mLoc d main_arg3) ∧ s.mem.mem (mLoc d main_arg4) = m (mLoc d main_arg4) ∧ s.mem.mem (mLoc d main_arg5) = m (mLoc d main_arg5)
    ∧ s.mem.mem (mLoc d main_v7) = outV (x0 m d) (wr m d) (w1 m d) (b1 m d) (w2 m d) (b2 m d)

/-- An array held is the array in memory. -/
theorem agree (d : Dev nD) (b : Ref sig .tc) (s : Phys nD τ sig (Elt F)) (f : Buf (Elt F) (mLoc d b)) :
    iprop((mLoc d b ↦{fullShare} f) ∗ SI s) ⊢ (iprop(⌜s.mem.mem (mLoc d b) = f⌝ ∗ SI s) : sProp (MM F)) := by
  iintro ⟨Hx, HSI⟩
  ihave H := (persistent_entails_right (SI_pointsTo_agree (st := s) (ℓ := mLoc d b) (I := Finset.univ) (q := fullShare) (f := f))) $$ [HSI Hx]
  · isplitl [HSI] <;> iassumption
  icases H with ⟨%hx, HSI, -⟩
  isplitr; · ipureintro; exact funext fun i => hx i (Finset.mem_univ i)
  iexact HSI

/-- What is held at the end says what memory holds. -/
theorem hfin (d : Dev nD) (s : Phys nD τ sig (Elt F)) : iprop(FIN m d ∗ SI s) ⊢ (⌜fq m d s⌝ : sProp (MM F)) := by
  iintro ⟨⟨H0, H1, H2, H3, H4, H5, H6⟩, HSI⟩
  ihave H := (agree d main_arg0 s _) $$ [H0 HSI]
  · isplitl [H0] <;> iassumption
  icases H with ⟨%h0, HSI⟩
  ihave H := (agree d main_arg1 s _) $$ [H1 HSI]
  · isplitl [H1] <;> iassumption
  icases H with ⟨%h1, HSI⟩
  ihave H := (agree d main_arg2 s _) $$ [H2 HSI]
  · isplitl [H2] <;> iassumption
  icases H with ⟨%h2, HSI⟩
  ihave H := (agree d main_arg3 s _) $$ [H3 HSI]
  · isplitl [H3] <;> iassumption
  icases H with ⟨%h3, HSI⟩
  ihave H := (agree d main_arg4 s _) $$ [H4 HSI]
  · isplitl [H4] <;> iassumption
  icases H with ⟨%h4, HSI⟩
  ihave H := (agree d main_arg5 s _) $$ [H5 HSI]
  · isplitl [H5] <;> iassumption
  icases H with ⟨%h5, HSI⟩
  ihave H := (agree d main_v7 s _) $$ [H6 HSI]
  · isplitl [H6] <;> iassumption
  icases H with ⟨%h6, HSI⟩
  ipureintro; exact ⟨h0, h1, h2, h3, h4, h5, h6⟩

/-- What the run ends in: on every device the arguments as they were and the result; every semaphore at zero. -/
def QC : PUnit × MemSt nD τ sig (Elt F) → Prop := fun r =>
  (∀ d : Dev nD, r.2.mem (mLoc d main_arg0) = m (mLoc d main_arg0) ∧ r.2.mem (mLoc d main_arg1) = m (mLoc d main_arg1) ∧ r.2.mem (mLoc d main_arg2) = m (mLoc d main_arg2) ∧ r.2.mem (mLoc d main_arg3) = m (mLoc d main_arg3) ∧ r.2.mem (mLoc d main_arg4) = m (mLoc d main_arg4) ∧ r.2.mem (mLoc d main_arg5) = m (mLoc d main_arg5)
    ∧ r.2.mem (mLoc d main_v7) = outV (x0 m d) (wr m d) (w1 m d) (b1 m d) (w2 m d) (b2 m d)) ∧ r.2.sem = fun _ => 0

/-- The program runs from any arguments to its result, over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ids m)) (A := ∅) facts v₀
    (fun q hq => match q with | 0 => nomatch hq)
    (fun q _ => match q with | 0 => tileObl (ids m) (fun d => router_ids _ _) facts)
    (fun q _ => match q with | 0 => SparseCore.Cfg.VecSplit.of_plain (vecSplit (ids m)))
    m ρ main (GG F) (FIN m) (u₀ (F := F)) (sep_elim_left.trans (hu₀ (ids m))) (hmain m ρ) (fq m) (hfin m) (QC m) (fun _ h hz => ⟨h, hz⟩)

end Cert.Sort

end
-- ==== Proof.RefRun.lean ====
/-
  The reference's run: every array it makes, by the operation that makes it.
-/
module

public import proofs.«01_k».proof.Defs
public import proofs.«01_k».proof.Proof.Gen.ReferenceIdeal
public import Idealize.ShloMosaic.Lib.StableHlo.RunHlo
public import Idealize.ShloMosaic.Lib.Quiescent

@[expose] public section

set_option maxRecDepth 16384

noncomputable section

namespace Cert.Ref

open Cert.ReferenceIdeal Cert.ReferenceIdeal.Gen Cert.ReferenceIdeal.Facts
open Idealize.ShloMosaic Idealize.SL.Sem
open Idealize.ShloMosaic.StableHlo (after seq run_seq launchContents)

variable {F : FTy → Type} [FloatOps F]

/-! ## The operations, in order -/

/-- What makes `main_v0`. -/
def o0 : HloOp τ sig (Elt F) := StableHlo.reshape main_arg0 main_v0 (rfl : (.f32 : EltTy) = .f32) shapeCasts_S1x2048x768_S2048x768
/-- What makes `main_v1`. -/
def o1 : HloOp τ sig (Elt F) := StableHlo.binary main_v0 main_arg1 main_v1 ((fun l r => Host.dotGeneral dot_S2048x768_S768x8_S2048x8_1_0_0_1_n_n none l r) : (⟨S2048x768, .f32⟩ : BufTy).Contents (Elt F) → (⟨S768x8, .f32⟩ : BufTy).Contents (Elt F) → (⟨S2048x8, .f32⟩ : BufTy).Contents (Elt F))
/-- What makes `main_cst`. -/
def o2 : HloOp τ sig (Elt F) := StableHlo.nullary main_cst (constant S_ .f32 0xFF800000#32)
/-- What makes `main_v2`. -/
def o3 : HloOp τ sig (Elt F) := StableHlo.binary main_v1 main_cst main_v2 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F))
/-- What makes `main_cst_0`. -/
def o4 : HloOp τ sig (Elt F) := StableHlo.nullary main_cst_0 (constant S_ .f32 0xFF800000#32)
/-- What makes `main_v3`. -/
def o5 : HloOp τ sig (Elt F) := StableHlo.unary main_cst_0 main_v3 (broadcastInDim S2048 ![] bcast_S_S2048 : (⟨S_, .f32⟩ : BufTy).Contents (Elt F) → (⟨S2048, .f32⟩ : BufTy).Contents (Elt F))
/-- What makes `main_v4`. -/
def o6 : HloOp τ sig (Elt F) := StableHlo.binary main_v3 main_v2 main_v4 (maximumf : (⟨S2048, .f32⟩ : BufTy).Contents (Elt F) → (⟨S2048, .f32⟩ : BufTy).Contents (Elt F) → (⟨S2048, .f32⟩ : BufTy).Contents (Elt F))
/-- What makes `main_v5`. -/
def o7 : HloOp τ sig (Elt F) := StableHlo.unary main_v4 main_v5 (broadcastInDim S2048x1 ![0] bcast_S2048_S2048x1_0 : (⟨S2048, .f32⟩ : BufTy).Contents (Elt F) → (⟨S2048x1, .f32⟩ : BufTy).Contents (Elt F))
/-- What makes `main_v6`. -/
def o8 : HloOp τ sig (Elt F) := StableHlo.unary main_v5 main_v6 (broadcastInDim S2048x8 ![0, 1] bcast_S2048x1_S2048x8_0_1 : (⟨S2048x1, .f32⟩ : BufTy).Contents (Elt F) → (⟨S2048x8, .f32⟩ : BufTy).Contents (Elt F))
/-- What makes `main_v7`. -/
def o9 : HloOp τ sig (Elt F) := StableHlo.binary main_v1 main_v6 main_v7 (subf : (⟨S2048x8, .f32⟩ : BufTy).Contents (Elt F) → (⟨S2048x8, .f32⟩ : BufTy).Contents (Elt F) → (⟨S2048x8, .f32⟩ : BufTy).Contents (Elt F))
/-- What makes `main_v8`. -/
def o10 : HloOp τ sig (Elt F) := StableHlo.unary main_v7 main_v8 (Host.exp : (⟨S2048x8, .f32⟩ : BufTy).Contents (Elt F) → (⟨S2048x8, .f32⟩ : BufTy).Contents (Elt F))
/-- What makes `main_cst_1`. -/
def o11 : HloOp τ sig (Elt F) := StableHlo.nullary main_cst_1 (constant S_ .f32 0x00000000#32)
/-- What makes `main_v9`. -/
def o12 : HloOp τ sig (Elt F) := StableHlo.binary main_v8 main_cst_1 main_v9 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F))
/-- What makes `main_v10`. -/
def o13 : HloOp τ sig (Elt F) := StableHlo.unary main_v9 main_v10 (broadcastInDim S2048x1 ![0] bcast_S2048_S2048x1_0 : (⟨S2048, .f32⟩ : BufTy).Contents (Elt F) → (⟨S2048x1, .f32⟩ : BufTy).Contents (Elt F))
/-- What makes `main_v11`. -/
def o14 : HloOp τ sig (Elt F) := StableHlo.unary main_v10 main_v11 (broadcastInDim S2048x8 ![0, 1] bcast_S2048x1_S2048x8_0_1 : (⟨S2048x1, .f32⟩ : BufTy).Contents (Elt F) → (⟨S2048x8, .f32⟩ : BufTy).Contents (Elt F))
/-- What makes `main_v12`. -/
def o15 : HloOp τ sig (Elt F) := StableHlo.binary main_v8 main_v11 main_v12 (Host.divf : (⟨S2048x8, .f32⟩ : BufTy).Contents (Elt F) → (⟨S2048x8, .f32⟩ : BufTy).Contents (Elt F) → (⟨S2048x8, .f32⟩ : BufTy).Contents (Elt F))
/-- What makes `main_call0_v0`. -/
def o16 : HloOp τ sig (Elt F) := StableHlo.nullary main_call0_v0 ((iotaInDim S2048x8 32 1) : (⟨S2048x8, .i32⟩ : BufTy).Contents (Elt F))
/-- What makes `main_call0_cst`. -/
def o17 : HloOp τ sig (Elt F) := StableHlo.nullary main_call0_cst ((constant S_ .f32 0xFF800000#32) : (⟨S_, .f32⟩ : BufTy).Contents (Elt F))
/-- What makes `main_call0_c`. -/
def o18 : HloOp τ sig (Elt F) := StableHlo.nullary main_call0_c ((constantI S_ 32 0#32) : (⟨S_, .i32⟩ : BufTy).Contents (Elt F))
/-- What makes `main_call0_v1_0`. -/
def o19 : HloOp τ sig (Elt F) := StableHlo.quaternary main_v12 main_call0_v0 main_call0_cst main_call0_c main_call0_v1_0 ((fun x y u v j => (Host.argReduce reducer_argmax_f32_i32 x y u v reducesTo_S2048x8_S2048_d1 h_S_ j).1) : (⟨S2048x8, .f32⟩ : BufTy).Contents (Elt F) → (⟨S2048x8, .i32⟩ : BufTy).Contents (Elt F) → (⟨S_, .f32⟩ : BufTy).Contents (Elt F) → (⟨S_, .i32⟩ : BufTy).Contents (Elt F) → (⟨S2048, .f32⟩ : BufTy).Contents (Elt F))
/-- What makes `main_v13`. -/
def o20 : HloOp τ sig (Elt F) := StableHlo.quaternary main_v12 main_call0_v0 main_call0_cst main_call0_c main_v13 ((fun x y u v j => (Host.argReduce reducer_argmax_f32_i32 x y u v reducesTo_S2048x8_S2048_d1 h_S_ j).2) : (⟨S2048x8, .f32⟩ : BufTy).Contents (Elt F) → (⟨S2048x8, .i32⟩ : BufTy).Contents (Elt F) → (⟨S_, .f32⟩ : BufTy).Contents (Elt F) → (⟨S_, .i32⟩ : BufTy).Contents (Elt F) → (⟨S2048, .i32⟩ : BufTy).Contents (Elt F))
/-- What makes `main_v14`. -/
def o21 : HloOp τ sig (Elt F) := StableHlo.unary main_v13 main_v14 (broadcastInDim S2048x1 ![0] bcast_S2048_S2048x1_0 : (⟨S2048, .i32⟩ : BufTy).Contents (Elt F) → (⟨S2048x1, .i32⟩ : BufTy).Contents (Elt F))
/-- What makes `main_call1_c`. -/
def o22 : HloOp τ sig (Elt F) := StableHlo.nullary main_call1_c ((constantI S_ 32 0#32) : (⟨S_, .i32⟩ : BufTy).Contents (Elt F))
/-- What makes `main_call1_v0`. -/
def o23 : HloOp τ sig (Elt F) := StableHlo.unary main_call1_c main_call1_v0 ((broadcastInDim S2048x1 ![] bcast_S_S2048x1) : (⟨S_, .i32⟩ : BufTy).Contents (Elt F) → (⟨S2048x1, .i32⟩ : BufTy).Contents (Elt F))
/-- What makes `main_call1_v1`. -/
def o24 : HloOp τ sig (Elt F) := StableHlo.binary main_v14 main_call1_v0 main_call1_v1 ((cmpi .slt) : (⟨S2048x1, .i32⟩ : BufTy).Contents (Elt F) → (⟨S2048x1, .i32⟩ : BufTy).Contents (Elt F) → (⟨S2048x1, .i1⟩ : BufTy).Contents (Elt F))
/-- What makes `main_call1_c_0`. -/
def o25 : HloOp τ sig (Elt F) := StableHlo.nullary main_call1_c_0 ((constantI S_ 32 8#32) : (⟨S_, .i32⟩ : BufTy).Contents (Elt F))
/-- What makes `main_call1_v2`. -/
def o26 : HloOp τ sig (Elt F) := StableHlo.unary main_call1_c_0 main_call1_v2 ((broadcastInDim S2048x1 ![] bcast_S_S2048x1) : (⟨S_, .i32⟩ : BufTy).Contents (Elt F) → (⟨S2048x1, .i32⟩ : BufTy).Contents (Elt F))
/-- What makes `main_call1_v3`. -/
def o27 : HloOp τ sig (Elt F) := StableHlo.binary main_v14 main_call1_v2 main_call1_v3 (addi : (⟨S2048x1, .i32⟩ : BufTy).Contents (Elt F) → (⟨S2048x1, .i32⟩ : BufTy).Contents (Elt F) → (⟨S2048x1, .i32⟩ : BufTy).Contents (Elt F))
/-- What makes `main_call1_v4`. -/
def o28 : HloOp τ sig (Elt F) := StableHlo.ternary main_call1_v1 main_call1_v3 main_v14 main_call1_v4 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F))
/-- What makes `main_call1_v5`. -/
def o29 : HloOp τ sig (Elt F) := StableHlo.reshape main_call1_v4 main_call1_v5 (rfl : (.i32 : EltTy) = .i32) shapeCasts_S2048x1_S2048x1x1
/-- What makes `main_call1_c_1`. -/
def o30 : HloOp τ sig (Elt F) := StableHlo.nullary main_call1_c_1 ((constantI S1 32 7#32) : (⟨S1, .i32⟩ : BufTy).Contents (Elt F))
/-- What makes `main_call1_c_2`. -/
def o31 : HloOp τ sig (Elt F) := StableHlo.nullary main_call1_c_2 ((constantI S_ 32 0#32) : (⟨S_, .i32⟩ : BufTy).Contents (Elt F))
/-- What makes `main_call1_v6`. -/
def o32 : HloOp τ sig (Elt F) := StableHlo.unary main_call1_c_2 main_call1_v6 ((broadcastInDim S2048x1x1 ![] bcast_S_S2048x1x1) : (⟨S_, .i32⟩ : BufTy).Contents (Elt F) → (⟨S2048x1x1, .i32⟩ : BufTy).Contents (Elt F))
/-- What makes `main_call1_v7`. -/
def o33 : HloOp τ sig (Elt F) := StableHlo.binary main_call1_v5 main_call1_v6 main_call1_v7 ((cmpi .sge) : (⟨S2048x1x1, .i32⟩ : BufTy).Contents (Elt F) → (⟨S2048x1x1, .i32⟩ : BufTy).Contents (Elt F) → (⟨S2048x1x1, .i1⟩ : BufTy).Contents (Elt F))
/-- What makes `main_call1_v8`. -/
def o34 : HloOp τ sig (Elt F) := StableHlo.unary main_call1_c_1 main_call1_v8 ((broadcastInDim S1x1x1 ![2] bcast_S1_S1x1x1_2) : (⟨S1, .i32⟩ : BufTy).Contents (Elt F) → (⟨S1x1x1, .i32⟩ : BufTy).Contents (Elt F))
/-- What makes `main_call1_v9`. -/
def o35 : HloOp τ sig (Elt F) := StableHlo.unary main_call1_v8 main_call1_v9 ((broadcastInDim S2048x1x1 ![0, 1, 2] bcast_S1x1x1_S2048x1x1_0_1_2) : (⟨S1x1x1, .i32⟩ : BufTy).Contents (Elt F) → (⟨S2048x1x1, .i32⟩ : BufTy).Contents (Elt F))
/-- What makes `main_call1_v10`. -/
def o36 : HloOp τ sig (Elt F) := StableHlo.binary main_call1_v5 main_call1_v9 main_call1_v10 ((cmpi .sle) : (⟨S2048x1x1, .i32⟩ : BufTy).Contents (Elt F) → (⟨S2048x1x1, .i32⟩ : BufTy).Contents (Elt F) → (⟨S2048x1x1, .i1⟩ : BufTy).Contents (Elt F))
/-- What makes `main_call1_v11`. -/
def o37 : HloOp τ sig (Elt F) := StableHlo.binary main_call1_v7 main_call1_v10 main_call1_v11 (andi : (⟨S2048x1x1, .i1⟩ : BufTy).Contents (Elt F) → (⟨S2048x1x1, .i1⟩ : BufTy).Contents (Elt F) → (⟨S2048x1x1, .i1⟩ : BufTy).Contents (Elt F))
/-- What makes `main_call1_c_3`. -/
def o38 : HloOp τ sig (Elt F) := StableHlo.nullary main_call1_c_3 ((constantI S_ 1 1#1) : (⟨S_, .i1⟩ : BufTy).Contents (Elt F))
/-- What makes `main_call1_v12`. -/
def o39 : HloOp τ sig (Elt F) := StableHlo.binary main_call1_v11 main_call1_c_3 main_call1_v12 ((fun x v => Host.reduce IntOp.andi x v reducesTo_S2048x1x1_S2048x1_d2 h_S_) : (⟨S2048x1x1, .i1⟩ : BufTy).Contents (Elt F) → (⟨S_, .i1⟩ : BufTy).Contents (Elt F) → (⟨S2048x1, .i1⟩ : BufTy).Contents (Elt F))
/-- What makes `main_call1_v13`. -/
def o40 : HloOp τ sig (Elt F) := StableHlo.binary main_v12 main_call1_v5 main_call1_v13 ((fun x i => Host.gather gather_S2048x8_S2048x1x1_S2048x1_n_1_0_0_1_2_11 x i) : (⟨S2048x8, .f32⟩ : BufTy).Contents (Elt F) → (⟨S2048x1x1, .i32⟩ : BufTy).Contents (Elt F) → (⟨S2048x1, .f32⟩ : BufTy).Contents (Elt F))
/-- What makes `main_call1_cst`. -/
def o41 : HloOp τ sig (Elt F) := StableHlo.nullary main_call1_cst ((constant S_ .f32 0x7FC00000#32) : (⟨S_, .f32⟩ : BufTy).Contents (Elt F))
/-- What makes `main_call1_v14`. -/
def o42 : HloOp τ sig (Elt F) := StableHlo.unary main_call1_cst main_call1_v14 ((broadcastInDim S2048x1 ![] bcast_S_S2048x1) : (⟨S_, .f32⟩ : BufTy).Contents (Elt F) → (⟨S2048x1, .f32⟩ : BufTy).Contents (Elt F))
/-- What makes `main_v15`. -/
def o43 : HloOp τ sig (Elt F) := StableHlo.ternary main_call1_v12 main_call1_v13 main_call1_v14 main_v15 (select : (⟨S2048x1, .i1⟩ : BufTy).Contents (Elt F) → (⟨S2048x1, .f32⟩ : BufTy).Contents (Elt F) → (⟨S2048x1, .f32⟩ : BufTy).Contents (Elt F) → (⟨S2048x1, .f32⟩ : BufTy).Contents (Elt F))
/-- What makes `main_v16`. -/
def o44 : HloOp τ sig (Elt F) := StableHlo.binary main_arg2 main_v0 main_v16 ((fun l r => Host.dotGeneral dot_S8x768x3072_S2048x768_S8x3072x2048_1_1_02_0_n_n none l r) : (⟨S8x768x3072, .f32⟩ : BufTy).Contents (Elt F) → (⟨S2048x768, .f32⟩ : BufTy).Contents (Elt F) → (⟨S8x3072x2048, .f32⟩ : BufTy).Contents (Elt F))
/-- What makes `main_v17`. -/
def o45 : HloOp τ sig (Elt F) := StableHlo.unary main_v16 main_v17 ((transpose S8x2048x3072 [0, 2, 1] · transposes_S8x3072x2048_S8x2048x3072_0_2_1) : (⟨S8x3072x2048, .f32⟩ : BufTy).Contents (Elt F) → (⟨S8x2048x3072, .f32⟩ : BufTy).Contents (Elt F))
/-- What makes `main_v18`. -/
def o46 : HloOp τ sig (Elt F) := StableHlo.unary main_arg3 main_v18 (broadcastInDim S8x1x3072 ![0, 2] bcast_S8x3072_S8x1x3072_0_2 : (⟨S8x3072, .f32⟩ : BufTy).Contents (Elt F) → (⟨S8x1x3072, .f32⟩ : BufTy).Contents (Elt F))
/-- What makes `main_v19`. -/
def o47 : HloOp τ sig (Elt F) := StableHlo.unary main_v18 main_v19 (broadcastInDim S8x2048x3072 ![0, 1, 2] bcast_S8x1x3072_S8x2048x3072_0_1_2 : (⟨S8x1x3072, .f32⟩ : BufTy).Contents (Elt F) → (⟨S8x2048x3072, .f32⟩ : BufTy).Contents (Elt F))
/-- What makes `main_v20`. -/
def o48 : HloOp τ sig (Elt F) := StableHlo.binary main_v17 main_v19 main_v20 (addf : (⟨S8x2048x3072, .f32⟩ : BufTy).Contents (Elt F) → (⟨S8x2048x3072, .f32⟩ : BufTy).Contents (Elt F) → (⟨S8x2048x3072, .f32⟩ : BufTy).Contents (Elt F))
/-- What makes `main_call2_cst`. -/
def o49 : HloOp τ sig (Elt F) := StableHlo.nullary main_call2_cst ((constant S_ .f32 0x00000000#32) : (⟨S_, .f32⟩ : BufTy).Contents (Elt F))
/-- What makes `main_call2_v0`. -/
def o50 : HloOp τ sig (Elt F) := StableHlo.unary main_call2_cst main_call2_v0 ((broadcastInDim S8x2048x3072 ![] bcast_S_S8x2048x3072) : (⟨S_, .f32⟩ : BufTy).Contents (Elt F) → (⟨S8x2048x3072, .f32⟩ : BufTy).Contents (Elt F))
/-- What makes `main_v21`. -/
def o51 : HloOp τ sig (Elt F) := StableHlo.binary main_v20 main_call2_v0 main_v21 (maximumf : (⟨S8x2048x3072, .f32⟩ : BufTy).Contents (Elt F) → (⟨S8x2048x3072, .f32⟩ : BufTy).Contents (Elt F) → (⟨S8x2048x3072, .f32⟩ : BufTy).Contents (Elt F))
/-- What makes `main_v22`. -/
def o52 : HloOp τ sig (Elt F) := StableHlo.binary main_v21 main_arg4 main_v22 ((fun l r => Host.dotGeneral dot_S8x2048x3072_S8x3072x768_S8x2048x768_2_1_1_2_0_0 none l r) : (⟨S8x2048x3072, .f32⟩ : BufTy).Contents (Elt F) → (⟨S8x3072x768, .f32⟩ : BufTy).Contents (Elt F) → (⟨S8x2048x768, .f32⟩ : BufTy).Contents (Elt F))
/-- What makes `main_v23`. -/
def o53 : HloOp τ sig (Elt F) := StableHlo.unary main_arg5 main_v23 (broadcastInDim S8x1x768 ![0, 2] bcast_S8x768_S8x1x768_0_2 : (⟨S8x768, .f32⟩ : BufTy).Contents (Elt F) → (⟨S8x1x768, .f32⟩ : BufTy).Contents (Elt F))
/-- What makes `main_v24`. -/
def o54 : HloOp τ sig (Elt F) := StableHlo.unary main_v23 main_v24 (broadcastInDim S8x2048x768 ![0, 1, 2] bcast_S8x1x768_S8x2048x768_0_1_2 : (⟨S8x1x768, .f32⟩ : BufTy).Contents (Elt F) → (⟨S8x2048x768, .f32⟩ : BufTy).Contents (Elt F))
/-- What makes `main_v25`. -/
def o55 : HloOp τ sig (Elt F) := StableHlo.binary main_v22 main_v24 main_v25 (addf : (⟨S8x2048x768, .f32⟩ : BufTy).Contents (Elt F) → (⟨S8x2048x768, .f32⟩ : BufTy).Contents (Elt F) → (⟨S8x2048x768, .f32⟩ : BufTy).Contents (Elt F))
/-- What makes `main_v26`. -/
def o56 : HloOp τ sig (Elt F) := StableHlo.nullary main_v26 (iotaInDim S2048 32 0)
/-- What makes `main_c`. -/
def o57 : HloOp τ sig (Elt F) := StableHlo.nullary main_c (constantI S_ 32 0#32)
/-- What makes `main_v27`. -/
def o58 : HloOp τ sig (Elt F) := StableHlo.unary main_c main_v27 (broadcastInDim S2048 ![] bcast_S_S2048 : (⟨S_, .i32⟩ : BufTy).Contents (Elt F) → (⟨S2048, .i32⟩ : BufTy).Contents (Elt F))
/-- What makes `main_v28`. -/
def o59 : HloOp τ sig (Elt F) := StableHlo.binary main_v13 main_v27 main_v28 (cmpi .slt : (⟨S2048, .i32⟩ : BufTy).Contents (Elt F) → (⟨S2048, .i32⟩ : BufTy).Contents (Elt F) → (⟨S2048, .i1⟩ : BufTy).Contents (Elt F))
/-- What makes `main_c_2`. -/
def o60 : HloOp τ sig (Elt F) := StableHlo.nullary main_c_2 (constantI S_ 32 8#32)
/-- What makes `main_v29`. -/
def o61 : HloOp τ sig (Elt F) := StableHlo.unary main_c_2 main_v29 (broadcastInDim S2048 ![] bcast_S_S2048 : (⟨S_, .i32⟩ : BufTy).Contents (Elt F) → (⟨S2048, .i32⟩ : BufTy).Contents (Elt F))
/-- What makes `main_v30`. -/
def o62 : HloOp τ sig (Elt F) := StableHlo.binary main_v13 main_v29 main_v30 (addi : (⟨S2048, .i32⟩ : BufTy).Contents (Elt F) → (⟨S2048, .i32⟩ : BufTy).Contents (Elt F) → (⟨S2048, .i32⟩ : BufTy).Contents (Elt F))
/-- What makes `main_v31`. -/
def o63 : HloOp τ sig (Elt F) := StableHlo.ternary main_v28 main_v30 main_v13 main_v31 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
/-- What makes `main_c_3`. -/
def o64 : HloOp τ sig (Elt F) := StableHlo.nullary main_c_3 (constantI S_ 32 0#32)
/-- What makes `main_v32`. -/
def o65 : HloOp τ sig (Elt F) := StableHlo.unary main_c_3 main_v32 (broadcastInDim S2048 ![] bcast_S_S2048 : (⟨S_, .i32⟩ : BufTy).Contents (Elt F) → (⟨S2048, .i32⟩ : BufTy).Contents (Elt F))
/-- What makes `main_v33`. -/
def o66 : HloOp τ sig (Elt F) := StableHlo.binary main_v26 main_v32 main_v33 (cmpi .slt : (⟨S2048, .i32⟩ : BufTy).Contents (Elt F) → (⟨S2048, .i32⟩ : BufTy).Contents (Elt F) → (⟨S2048, .i1⟩ : BufTy).Contents (Elt F))
/-- What makes `main_c_4`. -/
def o67 : HloOp τ sig (Elt F) := StableHlo.nullary main_c_4 (constantI S_ 32 2048#32)
/-- What makes `main_v34`. -/
def o68 : HloOp τ sig (Elt F) := StableHlo.unary main_c_4 main_v34 (broadcastInDim S2048 ![] bcast_S_S2048 : (⟨S_, .i32⟩ : BufTy).Contents (Elt F) → (⟨S2048, .i32⟩ : BufTy).Contents (Elt F))
/-- What makes `main_v35`. -/
def o69 : HloOp τ sig (Elt F) := StableHlo.binary main_v26 main_v34 main_v35 (addi : (⟨S2048, .i32⟩ : BufTy).Contents (Elt F) → (⟨S2048, .i32⟩ : BufTy).Contents (Elt F) → (⟨S2048, .i32⟩ : BufTy).Contents (Elt F))
/-- What makes `main_v36`. -/
def o70 : HloOp τ sig (Elt F) := StableHlo.ternary main_v33 main_v35 main_v26 main_v36 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
/-- What makes `main_v37`. -/
def o71 : HloOp τ sig (Elt F) := StableHlo.unary main_v31 main_v37 (broadcastInDim S2048x1 ![0] bcast_S2048_S2048x1_0 : (⟨S2048, .i32⟩ : BufTy).Contents (Elt F) → (⟨S2048x1, .i32⟩ : BufTy).Contents (Elt F))
/-- What makes `main_v38`. -/
def o72 : HloOp τ sig (Elt F) := StableHlo.unary main_v36 main_v38 (broadcastInDim S2048x1 ![0] bcast_S2048_S2048x1_0 : (⟨S2048, .i32⟩ : BufTy).Contents (Elt F) → (⟨S2048x1, .i32⟩ : BufTy).Contents (Elt F))
/-- What makes `main_v39`. -/
def o73 : HloOp τ sig (Elt F) := StableHlo.binary main_v37 main_v38 main_v39 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
/-- What makes `main_v40`. -/
def o74 : HloOp τ sig (Elt F) := StableHlo.binary main_v25 main_v39 main_v40 ((fun x i => Host.gather gather_S8x2048x768_S2048x2_S2048x768_1_01_n_n_01_1_11768 x i) : (⟨S8x2048x768, .f32⟩ : BufTy).Contents (Elt F) → (⟨S2048x2, .i32⟩ : BufTy).Contents (Elt F) → (⟨S2048x768, .f32⟩ : BufTy).Contents (Elt F))
/-- What makes `main_v41`. -/
def o75 : HloOp τ sig (Elt F) := StableHlo.unary main_v15 main_v41 (broadcastInDim S2048x768 ![0, 1] bcast_S2048x1_S2048x768_0_1 : (⟨S2048x1, .f32⟩ : BufTy).Contents (Elt F) → (⟨S2048x768, .f32⟩ : BufTy).Contents (Elt F))
/-- What makes `main_v42`. -/
def o76 : HloOp τ sig (Elt F) := StableHlo.binary main_v40 main_v41 main_v42 (mulf : (⟨S2048x768, .f32⟩ : BufTy).Contents (Elt F) → (⟨S2048x768, .f32⟩ : BufTy).Contents (Elt F) → (⟨S2048x768, .f32⟩ : BufTy).Contents (Elt F))
/-- What makes `main_v43`. -/
def o77 : HloOp τ sig (Elt F) := StableHlo.reshape main_v42 main_v43 (rfl : (.f32 : EltTy) = .f32) shapeCasts_S2048x768_S1x2048x768

/-- All of them. -/
def ops : List (HloOp τ sig (Elt F)) := [o0, o1, o2, o3, o4, o5, o6, o7, o8, o9, o10, o11, o12, o13, o14, o15, o16, o17, o18, o19, o20, o21, o22, o23, o24, o25, o26, o27, o28, o29, o30, o31, o32, o33, o34, o35, o36, o37, o38, o39, o40, o41, o42, o43, o44, o45, o46, o47, o48, o49, o50, o51, o52, o53, o54, o55, o56, o57, o58, o59, o60, o61, o62, o63, o64, o65, o66, o67, o68, o69, o70, o71, o72, o73, o74, o75, o76, o77]
/-- The arrays they make. -/
def outs : List (Ref sig .tc) := [main_v0, main_v1, main_cst, main_v2, main_cst_0, main_v3, main_v4, main_v5, main_v6, main_v7, main_v8, main_cst_1, main_v9, main_v10, main_v11, main_v12, main_call0_v0, main_call0_cst, main_call0_c, main_call0_v1_0, main_v13, main_v14, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v15, main_v16, main_v17, main_v18, main_v19, main_v20, main_call2_cst, main_call2_v0, main_v21, main_v22, main_v23, main_v24, main_v25, main_v26, main_c, main_v27, main_v28, main_c_2, main_v29, main_v30, main_v31, main_c_3, main_v32, main_v33, main_c_4, main_v34, main_v35, main_v36, main_v37, main_v38, main_v39, main_v40, main_v41, main_v42, main_v43]

/-- The reference is its operations in order. -/
theorem main_eq (d : Dev nD) : main (F := F) d = seq ops := rfl

/-- Each operation writes one array, its own. -/
theorem ops_writes : List.Forall₂ (fun (op : HloOp τ sig (Elt F)) y => op.writes = {Proc.devRef .tc y}) ops outs :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))

/-! ## Reading one array -/

/-- Arrays no operation makes keep their contents. -/
theorem after_keep : ∀ (l : List (HloOp τ sig (Elt F))) (w : List (Ref sig .tc)),
    List.Forall₂ (fun (op : HloOp τ sig (Elt F)) y => op.writes = {Proc.devRef .tc y}) l w →
    ∀ (V : Valuation τ sig (Elt F)) (b : Ref sig .tc), b ∉ w → after l V (Proc.devRef .tc b) = V (Proc.devRef .tc b)
  | _, _, .nil, _, _, _ => rfl
  | op :: l, y :: w, .cons h t, V, b, hb => by
    have hb' : b ≠ y ∧ b ∉ w := List.ne_and_not_mem_of_not_mem_cons hb
    refine (after_keep l w t (op.result V) b hb'.2).trans (op.result_of_not_mem V ?_)
    rw [h, Finset.mem_singleton]
    exact fun e => hb'.1 (Proc.devRef_injective _ e)

/-- The contents at the end. -/
def fin (V : Valuation τ sig (Elt F)) (b : Ref sig .tc) : b.ty.Contents (Elt F) := after ops V (Proc.devRef .tc b)

/-- Two stretches of operations leave what the second leaves from what the first does. -/
theorem after_append (l r : List (HloOp τ sig (Elt F))) : ∀ V, after (l ++ r) V = after r (after l V) := by
  induction l with
  | nil => exact fun _ => rfl
  | cons op l ih => exact fun V => ih (op.result V)

/-- An array's contents at the end are those an operation reads, when no later operation makes it. -/
theorem fin_in (V : Valuation τ sig (Elt F)) (k : ℕ) (b : Ref sig .tc) (hb : b ∉ outs.drop k) :
    fin V b = after (ops.take k) V (Proc.devRef .tc b) := by
  unfold fin
  conv_lhs => rw [← List.take_append_drop k (ops (F := F)), after_append]
  exact after_keep _ _ (List.forall₂_drop k ops_writes) _ b hb

/-- An array's contents at the end are those its operation leaves, when no later operation makes it. -/
theorem fin_out (V : Valuation τ sig (Elt F)) (k : ℕ) (op : HloOp τ sig (Elt F)) (h : ops.drop k = op :: ops.drop (k + 1)) (b : Ref sig .tc)
    (hb : b ∉ outs.drop (k + 1)) : fin V b = op.result (after (ops.take k) V) (Proc.devRef .tc b) := by
  unfold fin
  conv_lhs => rw [← List.take_append_drop k (ops (F := F)), after_append, h]
  exact after_keep _ _ (List.forall₂_drop (k + 1) ops_writes) _ b hb

/-! ## Every array -/

section Facts

variable (V : Valuation τ sig (Elt F))

/-- What `main_v0` holds at the end: its operation, on what its operands hold at the end. -/
theorem e_main_v0 : fin V main_v0 = shapeCast S2048x768 (fin V main_arg0) shapeCasts_S1x2048x768_S2048x768 :=
  (fin_out V 0 o0 rfl main_v0 (by decide +kernel)).trans ((StableHlo.reshape_result main_arg0 main_v0 rfl shapeCasts_S1x2048x768_S2048x768 _ _ _).trans
    (by rw [fin_in V 0 main_arg0 (by decide +kernel)]; rfl))
/-- What `main_v1` holds at the end: its operation, on what its operands hold at the end. -/
theorem e_main_v1 : fin V main_v1 = ((fun l r => Host.dotGeneral dot_S2048x768_S768x8_S2048x8_1_0_0_1_n_n none l r) : (⟨S2048x768, .f32⟩ : BufTy).Contents (Elt F) → (⟨S768x8, .f32⟩ : BufTy).Contents (Elt F) → (⟨S2048x8, .f32⟩ : BufTy).Contents (Elt F)) (fin V main_v0) (fin V main_arg1) :=
  (fin_out V 1 o1 rfl main_v1 (by decide +kernel)).trans ((StableHlo.binary_result (Val := Elt F) main_v0 main_arg1 main_v1 ((fun l r => Host.dotGeneral dot_S2048x768_S768x8_S2048x8_1_0_0_1_n_n none l r) : (⟨S2048x768, .f32⟩ : BufTy).Contents (Elt F) → (⟨S768x8, .f32⟩ : BufTy).Contents (Elt F) → (⟨S2048x8, .f32⟩ : BufTy).Contents (Elt F)) _ _ _ _).trans
    (by rw [fin_in V 1 main_v0 (by decide +kernel), fin_in V 1 main_arg1 (by decide +kernel)]))
/-- What `main_cst` holds at the end: its operation, on what its operands hold at the end. -/
theorem e_main_cst : fin V main_cst = (constant S_ .f32 0xFF800000#32) :=
  (fin_out V 2 o2 rfl main_cst (by decide +kernel)).trans (StableHlo.nullary_result (Val := Elt F) main_cst (constant S_ .f32 0xFF800000#32) _ _)
/-- What `main_v2` holds at the end: its operation, on what its operands hold at the end. -/
theorem e_main_v2 : fin V main_v2 = ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F)) (fin V main_v1) (fin V main_cst) :=
  (fin_out V 3 o3 rfl main_v2 (by decide +kernel)).trans ((StableHlo.binary_result (Val := Elt F) main_v1 main_cst main_v2 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F)) _ _ _ _).trans
    (by rw [fin_in V 3 main_v1 (by decide +kernel), fin_in V 3 main_cst (by decide +kernel)]))
/-- What `main_cst_0` holds at the end: its operation, on what its operands hold at the end. -/
theorem e_main_cst_0 : fin V main_cst_0 = (constant S_ .f32 0xFF800000#32) :=
  (fin_out V 4 o4 rfl main_cst_0 (by decide +kernel)).trans (StableHlo.nullary_result (Val := Elt F) main_cst_0 (constant S_ .f32 0xFF800000#32) _ _)
/-- What `main_v3` holds at the end: its operation, on what its operands hold at the end. -/
theorem e_main_v3 : fin V main_v3 = (broadcastInDim S2048 ![] bcast_S_S2048 : (⟨S_, .f32⟩ : BufTy).Contents (Elt F) → (⟨S2048, .f32⟩ : BufTy).Contents (Elt F)) (fin V main_cst_0) :=
  (fin_out V 5 o5 rfl main_v3 (by decide +kernel)).trans ((StableHlo.unary_result (Val := Elt F) main_cst_0 main_v3 (broadcastInDim S2048 ![] bcast_S_S2048 : (⟨S_, .f32⟩ : BufTy).Contents (Elt F) → (⟨S2048, .f32⟩ : BufTy).Contents (Elt F)) _ _ _).trans
    (by rw [fin_in V 5 main_cst_0 (by decide +kernel)]))
/-- What `main_v4` holds at the end: its operation, on what its operands hold at the end. -/
theorem e_main_v4 : fin V main_v4 = (maximumf : (⟨S2048, .f32⟩ : BufTy).Contents (Elt F) → (⟨S2048, .f32⟩ : BufTy).Contents (Elt F) → (⟨S2048, .f32⟩ : BufTy).Contents (Elt F)) (fin V main_v3) (fin V main_v2) :=
  (fin_out V 6 o6 rfl main_v4 (by decide +kernel)).trans ((StableHlo.binary_result (Val := Elt F) main_v3 main_v2 main_v4 (maximumf : (⟨S2048, .f32⟩ : BufTy).Contents (Elt F) → (⟨S2048, .f32⟩ : BufTy).Contents (Elt F) → (⟨S2048, .f32⟩ : BufTy).Contents (Elt F)) _ _ _ _).trans
    (by rw [fin_in V 6 main_v3 (by decide +kernel), fin_in V 6 main_v2 (by decide +kernel)]))
/-- What `main_v5` holds at the end: its operation, on what its operands hold at the end. -/
theorem e_main_v5 : fin V main_v5 = (broadcastInDim S2048x1 ![0] bcast_S2048_S2048x1_0 : (⟨S2048, .f32⟩ : BufTy).Contents (Elt F) → (⟨S2048x1, .f32⟩ : BufTy).Contents (Elt F)) (fin V main_v4) :=
  (fin_out V 7 o7 rfl main_v5 (by decide +kernel)).trans ((StableHlo.unary_result (Val := Elt F) main_v4 main_v5 (broadcastInDim S2048x1 ![0] bcast_S2048_S2048x1_0 : (⟨S2048, .f32⟩ : BufTy).Contents (Elt F) → (⟨S2048x1, .f32⟩ : BufTy).Contents (Elt F)) _ _ _).trans
    (by rw [fin_in V 7 main_v4 (by decide +kernel)]))
/-- What `main_v6` holds at the end: its operation, on what its operands hold at the end. -/
theorem e_main_v6 : fin V main_v6 = (broadcastInDim S2048x8 ![0, 1] bcast_S2048x1_S2048x8_0_1 : (⟨S2048x1, .f32⟩ : BufTy).Contents (Elt F) → (⟨S2048x8, .f32⟩ : BufTy).Contents (Elt F)) (fin V main_v5) :=
  (fin_out V 8 o8 rfl main_v6 (by decide +kernel)).trans ((StableHlo.unary_result (Val := Elt F) main_v5 main_v6 (broadcastInDim S2048x8 ![0, 1] bcast_S2048x1_S2048x8_0_1 : (⟨S2048x1, .f32⟩ : BufTy).Contents (Elt F) → (⟨S2048x8, .f32⟩ : BufTy).Contents (Elt F)) _ _ _).trans
    (by rw [fin_in V 8 main_v5 (by decide +kernel)]))
/-- What `main_v7` holds at the end: its operation, on what its operands hold at the end. -/
theorem e_main_v7 : fin V main_v7 = (subf : (⟨S2048x8, .f32⟩ : BufTy).Contents (Elt F) → (⟨S2048x8, .f32⟩ : BufTy).Contents (Elt F) → (⟨S2048x8, .f32⟩ : BufTy).Contents (Elt F)) (fin V main_v1) (fin V main_v6) :=
  (fin_out V 9 o9 rfl main_v7 (by decide +kernel)).trans ((StableHlo.binary_result (Val := Elt F) main_v1 main_v6 main_v7 (subf : (⟨S2048x8, .f32⟩ : BufTy).Contents (Elt F) → (⟨S2048x8, .f32⟩ : BufTy).Contents (Elt F) → (⟨S2048x8, .f32⟩ : BufTy).Contents (Elt F)) _ _ _ _).trans
    (by rw [fin_in V 9 main_v1 (by decide +kernel), fin_in V 9 main_v6 (by decide +kernel)]))
/-- What `main_v8` holds at the end: its operation, on what its operands hold at the end. -/
theorem e_main_v8 : fin V main_v8 = (Host.exp : (⟨S2048x8, .f32⟩ : BufTy).Contents (Elt F) → (⟨S2048x8, .f32⟩ : BufTy).Contents (Elt F)) (fin V main_v7) :=
  (fin_out V 10 o10 rfl main_v8 (by decide +kernel)).trans ((StableHlo.unary_result (Val := Elt F) main_v7 main_v8 (Host.exp : (⟨S2048x8, .f32⟩ : BufTy).Contents (Elt F) → (⟨S2048x8, .f32⟩ : BufTy).Contents (Elt F)) _ _ _).trans
    (by rw [fin_in V 10 main_v7 (by decide +kernel)]))
/-- What `main_cst_1` holds at the end: its operation, on what its operands hold at the end. -/
theorem e_main_cst_1 : fin V main_cst_1 = (constant S_ .f32 0x00000000#32) :=
  (fin_out V 11 o11 rfl main_cst_1 (by decide +kernel)).trans (StableHlo.nullary_result (Val := Elt F) main_cst_1 (constant S_ .f32 0x00000000#32) _ _)
/-- What `main_v9` holds at the end: its operation, on what its operands hold at the end. -/
theorem e_main_v9 : fin V main_v9 = ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)) (fin V main_v8) (fin V main_cst_1) :=
  (fin_out V 12 o12 rfl main_v9 (by decide +kernel)).trans ((StableHlo.binary_result (Val := Elt F) main_v8 main_cst_1 main_v9 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)) _ _ _ _).trans
    (by rw [fin_in V 12 main_v8 (by decide +kernel), fin_in V 12 main_cst_1 (by decide +kernel)]))
/-- What `main_v10` holds at the end: its operation, on what its operands hold at the end. -/
theorem e_main_v10 : fin V main_v10 = (broadcastInDim S2048x1 ![0] bcast_S2048_S2048x1_0 : (⟨S2048, .f32⟩ : BufTy).Contents (Elt F) → (⟨S2048x1, .f32⟩ : BufTy).Contents (Elt F)) (fin V main_v9) :=
  (fin_out V 13 o13 rfl main_v10 (by decide +kernel)).trans ((StableHlo.unary_result (Val := Elt F) main_v9 main_v10 (broadcastInDim S2048x1 ![0] bcast_S2048_S2048x1_0 : (⟨S2048, .f32⟩ : BufTy).Contents (Elt F) → (⟨S2048x1, .f32⟩ : BufTy).Contents (Elt F)) _ _ _).trans
    (by rw [fin_in V 13 main_v9 (by decide +kernel)]))
/-- What `main_v11` holds at the end: its operation, on what its operands hold at the end. -/
theorem e_main_v11 : fin V main_v11 = (broadcastInDim S2048x8 ![0, 1] bcast_S2048x1_S2048x8_0_1 : (⟨S2048x1, .f32⟩ : BufTy).Contents (Elt F) → (⟨S2048x8, .f32⟩ : BufTy).Contents (Elt F)) (fin V main_v10) :=
  (fin_out V 14 o14 rfl main_v11 (by decide +kernel)).trans ((StableHlo.unary_result (Val := Elt F) main_v10 main_v11 (broadcastInDim S2048x8 ![0, 1] bcast_S2048x1_S2048x8_0_1 : (⟨S2048x1, .f32⟩ : BufTy).Contents (Elt F) → (⟨S2048x8, .f32⟩ : BufTy).Contents (Elt F)) _ _ _).trans
    (by rw [fin_in V 14 main_v10 (by decide +kernel)]))
/-- What `main_v12` holds at the end: its operation, on what its operands hold at the end. -/
theorem e_main_v12 : fin V main_v12 = (Host.divf : (⟨S2048x8, .f32⟩ : BufTy).Contents (Elt F) → (⟨S2048x8, .f32⟩ : BufTy).Contents (Elt F) → (⟨S2048x8, .f32⟩ : BufTy).Contents (Elt F)) (fin V main_v8) (fin V main_v11) :=
  (fin_out V 15 o15 rfl main_v12 (by decide +kernel)).trans ((StableHlo.binary_result (Val := Elt F) main_v8 main_v11 main_v12 (Host.divf : (⟨S2048x8, .f32⟩ : BufTy).Contents (Elt F) → (⟨S2048x8, .f32⟩ : BufTy).Contents (Elt F) → (⟨S2048x8, .f32⟩ : BufTy).Contents (Elt F)) _ _ _ _).trans
    (by rw [fin_in V 15 main_v8 (by decide +kernel), fin_in V 15 main_v11 (by decide +kernel)]))
/-- What `main_call0_v0` holds at the end: its operation, on what its operands hold at the end. -/
theorem e_main_call0_v0 : fin V main_call0_v0 = ((iotaInDim S2048x8 32 1) : (⟨S2048x8, .i32⟩ : BufTy).Contents (Elt F)) :=
  (fin_out V 16 o16 rfl main_call0_v0 (by decide +kernel)).trans (StableHlo.nullary_result (Val := Elt F) main_call0_v0 ((iotaInDim S2048x8 32 1) : (⟨S2048x8, .i32⟩ : BufTy).Contents (Elt F)) _ _)
/-- What `main_call0_cst` holds at the end: its operation, on what its operands hold at the end. -/
theorem e_main_call0_cst : fin V main_call0_cst = ((constant S_ .f32 0xFF800000#32) : (⟨S_, .f32⟩ : BufTy).Contents (Elt F)) :=
  (fin_out V 17 o17 rfl main_call0_cst (by decide +kernel)).trans (StableHlo.nullary_result (Val := Elt F) main_call0_cst ((constant S_ .f32 0xFF800000#32) : (⟨S_, .f32⟩ : BufTy).Contents (Elt F)) _ _)
/-- What `main_call0_c` holds at the end: its operation, on what its operands hold at the end. -/
theorem e_main_call0_c : fin V main_call0_c = ((constantI S_ 32 0#32) : (⟨S_, .i32⟩ : BufTy).Contents (Elt F)) :=
  (fin_out V 18 o18 rfl main_call0_c (by decide +kernel)).trans (StableHlo.nullary_result (Val := Elt F) main_call0_c ((constantI S_ 32 0#32) : (⟨S_, .i32⟩ : BufTy).Contents (Elt F)) _ _)
/-- What `main_call0_v1_0` holds at the end: its operation, on what its operands hold at the end. -/
theorem e_main_call0_v1_0 : fin V main_call0_v1_0 = ((fun x y u v j => (Host.argReduce reducer_argmax_f32_i32 x y u v reducesTo_S2048x8_S2048_d1 h_S_ j).1) : (⟨S2048x8, .f32⟩ : BufTy).Contents (Elt F) → (⟨S2048x8, .i32⟩ : BufTy).Contents (Elt F) → (⟨S_, .f32⟩ : BufTy).Contents (Elt F) → (⟨S_, .i32⟩ : BufTy).Contents (Elt F) → (⟨S2048, .f32⟩ : BufTy).Contents (Elt F)) (fin V main_v12) (fin V main_call0_v0) (fin V main_call0_cst) (fin V main_call0_c) :=
  (fin_out V 19 o19 rfl main_call0_v1_0 (by decide +kernel)).trans ((StableHlo.quaternary_result (Val := Elt F) main_v12 main_call0_v0 main_call0_cst main_call0_c main_call0_v1_0 ((fun x y u v j => (Host.argReduce reducer_argmax_f32_i32 x y u v reducesTo_S2048x8_S2048_d1 h_S_ j).1) : (⟨S2048x8, .f32⟩ : BufTy).Contents (Elt F) → (⟨S2048x8, .i32⟩ : BufTy).Contents (Elt F) → (⟨S_, .f32⟩ : BufTy).Contents (Elt F) → (⟨S_, .i32⟩ : BufTy).Contents (Elt F) → (⟨S2048, .f32⟩ : BufTy).Contents (Elt F)) _ _ _ _ _ _).trans
    (by rw [fin_in V 19 main_v12 (by decide +kernel), fin_in V 19 main_call0_v0 (by decide +kernel), fin_in V 19 main_call0_cst (by decide +kernel), fin_in V 19 main_call0_c (by decide +kernel)]))
/-- What `main_v13` holds at the end: its operation, on what its operands hold at the end. -/
theorem e_main_v13 : fin V main_v13 = ((fun x y u v j => (Host.argReduce reducer_argmax_f32_i32 x y u v reducesTo_S2048x8_S2048_d1 h_S_ j).2) : (⟨S2048x8, .f32⟩ : BufTy).Contents (Elt F) → (⟨S2048x8, .i32⟩ : BufTy).Contents (Elt F) → (⟨S_, .f32⟩ : BufTy).Contents (Elt F) → (⟨S_, .i32⟩ : BufTy).Contents (Elt F) → (⟨S2048, .i32⟩ : BufTy).Contents (Elt F)) (fin V main_v12) (fin V main_call0_v0) (fin V main_call0_cst) (fin V main_call0_c) :=
  (fin_out V 20 o20 rfl main_v13 (by decide +kernel)).trans ((StableHlo.quaternary_result (Val := Elt F) main_v12 main_call0_v0 main_call0_cst main_call0_c main_v13 ((fun x y u v j => (Host.argReduce reducer_argmax_f32_i32 x y u v reducesTo_S2048x8_S2048_d1 h_S_ j).2) : (⟨S2048x8, .f32⟩ : BufTy).Contents (Elt F) → (⟨S2048x8, .i32⟩ : BufTy).Contents (Elt F) → (⟨S_, .f32⟩ : BufTy).Contents (Elt F) → (⟨S_, .i32⟩ : BufTy).Contents (Elt F) → (⟨S2048, .i32⟩ : BufTy).Contents (Elt F)) _ _ _ _ _ _).trans
    (by rw [fin_in V 20 main_v12 (by decide +kernel), fin_in V 20 main_call0_v0 (by decide +kernel), fin_in V 20 main_call0_cst (by decide +kernel), fin_in V 20 main_call0_c (by decide +kernel)]))
/-- What `main_v14` holds at the end: its operation, on what its operands hold at the end. -/
theorem e_main_v14 : fin V main_v14 = (broadcastInDim S2048x1 ![0] bcast_S2048_S2048x1_0 : (⟨S2048, .i32⟩ : BufTy).Contents (Elt F) → (⟨S2048x1, .i32⟩ : BufTy).Contents (Elt F)) (fin V main_v13) :=
  (fin_out V 21 o21 rfl main_v14 (by decide +kernel)).trans ((StableHlo.unary_result (Val := Elt F) main_v13 main_v14 (broadcastInDim S2048x1 ![0] bcast_S2048_S2048x1_0 : (⟨S2048, .i32⟩ : BufTy).Contents (Elt F) → (⟨S2048x1, .i32⟩ : BufTy).Contents (Elt F)) _ _ _).trans
    (by rw [fin_in V 21 main_v13 (by decide +kernel)]))
/-- What `main_call1_c` holds at the end: its operation, on what its operands hold at the end. -/
theorem e_main_call1_c : fin V main_call1_c = ((constantI S_ 32 0#32) : (⟨S_, .i32⟩ : BufTy).Contents (Elt F)) :=
  (fin_out V 22 o22 rfl main_call1_c (by decide +kernel)).trans (StableHlo.nullary_result (Val := Elt F) main_call1_c ((constantI S_ 32 0#32) : (⟨S_, .i32⟩ : BufTy).Contents (Elt F)) _ _)
/-- What `main_call1_v0` holds at the end: its operation, on what its operands hold at the end. -/
theorem e_main_call1_v0 : fin V main_call1_v0 = ((broadcastInDim S2048x1 ![] bcast_S_S2048x1) : (⟨S_, .i32⟩ : BufTy).Contents (Elt F) → (⟨S2048x1, .i32⟩ : BufTy).Contents (Elt F)) (fin V main_call1_c) :=
  (fin_out V 23 o23 rfl main_call1_v0 (by decide +kernel)).trans ((StableHlo.unary_result (Val := Elt F) main_call1_c main_call1_v0 ((broadcastInDim S2048x1 ![] bcast_S_S2048x1) : (⟨S_, .i32⟩ : BufTy).Contents (Elt F) → (⟨S2048x1, .i32⟩ : BufTy).Contents (Elt F)) _ _ _).trans
    (by rw [fin_in V 23 main_call1_c (by decide +kernel)]))
/-- What `main_call1_v1` holds at the end: its operation, on what its operands hold at the end. -/
theorem e_main_call1_v1 : fin V main_call1_v1 = ((cmpi .slt) : (⟨S2048x1, .i32⟩ : BufTy).Contents (Elt F) → (⟨S2048x1, .i32⟩ : BufTy).Contents (Elt F) → (⟨S2048x1, .i1⟩ : BufTy).Contents (Elt F)) (fin V main_v14) (fin V main_call1_v0) :=
  (fin_out V 24 o24 rfl main_call1_v1 (by decide +kernel)).trans ((StableHlo.binary_result (Val := Elt F) main_v14 main_call1_v0 main_call1_v1 ((cmpi .slt) : (⟨S2048x1, .i32⟩ : BufTy).Contents (Elt F) → (⟨S2048x1, .i32⟩ : BufTy).Contents (Elt F) → (⟨S2048x1, .i1⟩ : BufTy).Contents (Elt F)) _ _ _ _).trans
    (by rw [fin_in V 24 main_v14 (by decide +kernel), fin_in V 24 main_call1_v0 (by decide +kernel)]))
/-- What `main_call1_c_0` holds at the end: its operation, on what its operands hold at the end. -/
theorem e_main_call1_c_0 : fin V main_call1_c_0 = ((constantI S_ 32 8#32) : (⟨S_, .i32⟩ : BufTy).Contents (Elt F)) :=
  (fin_out V 25 o25 rfl main_call1_c_0 (by decide +kernel)).trans (StableHlo.nullary_result (Val := Elt F) main_call1_c_0 ((constantI S_ 32 8#32) : (⟨S_, .i32⟩ : BufTy).Contents (Elt F)) _ _)
/-- What `main_call1_v2` holds at the end: its operation, on what its operands hold at the end. -/
theorem e_main_call1_v2 : fin V main_call1_v2 = ((broadcastInDim S2048x1 ![] bcast_S_S2048x1) : (⟨S_, .i32⟩ : BufTy).Contents (Elt F) → (⟨S2048x1, .i32⟩ : BufTy).Contents (Elt F)) (fin V main_call1_c_0) :=
  (fin_out V 26 o26 rfl main_call1_v2 (by decide +kernel)).trans ((StableHlo.unary_result (Val := Elt F) main_call1_c_0 main_call1_v2 ((broadcastInDim S2048x1 ![] bcast_S_S2048x1) : (⟨S_, .i32⟩ : BufTy).Contents (Elt F) → (⟨S2048x1, .i32⟩ : BufTy).Contents (Elt F)) _ _ _).trans
    (by rw [fin_in V 26 main_call1_c_0 (by decide +kernel)]))
/-- What `main_call1_v3` holds at the end: its operation, on what its operands hold at the end. -/
theorem e_main_call1_v3 : fin V main_call1_v3 = (addi : (⟨S2048x1, .i32⟩ : BufTy).Contents (Elt F) → (⟨S2048x1, .i32⟩ : BufTy).Contents (Elt F) → (⟨S2048x1, .i32⟩ : BufTy).Contents (Elt F)) (fin V main_v14) (fin V main_call1_v2) :=
  (fin_out V 27 o27 rfl main_call1_v3 (by decide +kernel)).trans ((StableHlo.binary_result (Val := Elt F) main_v14 main_call1_v2 main_call1_v3 (addi : (⟨S2048x1, .i32⟩ : BufTy).Contents (Elt F) → (⟨S2048x1, .i32⟩ : BufTy).Contents (Elt F) → (⟨S2048x1, .i32⟩ : BufTy).Contents (Elt F)) _ _ _ _).trans
    (by rw [fin_in V 27 main_v14 (by decide +kernel), fin_in V 27 main_call1_v2 (by decide +kernel)]))
/-- What `main_call1_v4` holds at the end: its operation, on what its operands hold at the end. -/
theorem e_main_call1_v4 : fin V main_call1_v4 = (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)) (fin V main_call1_v1) (fin V main_call1_v3) (fin V main_v14) :=
  (fin_out V 28 o28 rfl main_call1_v4 (by decide +kernel)).trans ((StableHlo.ternary_result (Val := Elt F) main_call1_v1 main_call1_v3 main_v14 main_call1_v4 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)) _ _ _ _ _).trans
    (by rw [fin_in V 28 main_call1_v1 (by decide +kernel), fin_in V 28 main_call1_v3 (by decide +kernel), fin_in V 28 main_v14 (by decide +kernel)]))
/-- What `main_call1_v5` holds at the end: its operation, on what its operands hold at the end. -/
theorem e_main_call1_v5 : fin V main_call1_v5 = shapeCast S2048x1x1 (fin V main_call1_v4) shapeCasts_S2048x1_S2048x1x1 :=
  (fin_out V 29 o29 rfl main_call1_v5 (by decide +kernel)).trans ((StableHlo.reshape_result main_call1_v4 main_call1_v5 rfl shapeCasts_S2048x1_S2048x1x1 _ _ _).trans
    (by rw [fin_in V 29 main_call1_v4 (by decide +kernel)]; rfl))
/-- What `main_call1_c_1` holds at the end: its operation, on what its operands hold at the end. -/
theorem e_main_call1_c_1 : fin V main_call1_c_1 = ((constantI S1 32 7#32) : (⟨S1, .i32⟩ : BufTy).Contents (Elt F)) :=
  (fin_out V 30 o30 rfl main_call1_c_1 (by decide +kernel)).trans (StableHlo.nullary_result (Val := Elt F) main_call1_c_1 ((constantI S1 32 7#32) : (⟨S1, .i32⟩ : BufTy).Contents (Elt F)) _ _)
/-- What `main_call1_c_2` holds at the end: its operation, on what its operands hold at the end. -/
theorem e_main_call1_c_2 : fin V main_call1_c_2 = ((constantI S_ 32 0#32) : (⟨S_, .i32⟩ : BufTy).Contents (Elt F)) :=
  (fin_out V 31 o31 rfl main_call1_c_2 (by decide +kernel)).trans (StableHlo.nullary_result (Val := Elt F) main_call1_c_2 ((constantI S_ 32 0#32) : (⟨S_, .i32⟩ : BufTy).Contents (Elt F)) _ _)
/-- What `main_call1_v6` holds at the end: its operation, on what its operands hold at the end. -/
theorem e_main_call1_v6 : fin V main_call1_v6 = ((broadcastInDim S2048x1x1 ![] bcast_S_S2048x1x1) : (⟨S_, .i32⟩ : BufTy).Contents (Elt F) → (⟨S2048x1x1, .i32⟩ : BufTy).Contents (Elt F)) (fin V main_call1_c_2) :=
  (fin_out V 32 o32 rfl main_call1_v6 (by decide +kernel)).trans ((StableHlo.unary_result (Val := Elt F) main_call1_c_2 main_call1_v6 ((broadcastInDim S2048x1x1 ![] bcast_S_S2048x1x1) : (⟨S_, .i32⟩ : BufTy).Contents (Elt F) → (⟨S2048x1x1, .i32⟩ : BufTy).Contents (Elt F)) _ _ _).trans
    (by rw [fin_in V 32 main_call1_c_2 (by decide +kernel)]))
/-- What `main_call1_v7` holds at the end: its operation, on what its operands hold at the end. -/
theorem e_main_call1_v7 : fin V main_call1_v7 = ((cmpi .sge) : (⟨S2048x1x1, .i32⟩ : BufTy).Contents (Elt F) → (⟨S2048x1x1, .i32⟩ : BufTy).Contents (Elt F) → (⟨S2048x1x1, .i1⟩ : BufTy).Contents (Elt F)) (fin V main_call1_v5) (fin V main_call1_v6) :=
  (fin_out V 33 o33 rfl main_call1_v7 (by decide +kernel)).trans ((StableHlo.binary_result (Val := Elt F) main_call1_v5 main_call1_v6 main_call1_v7 ((cmpi .sge) : (⟨S2048x1x1, .i32⟩ : BufTy).Contents (Elt F) → (⟨S2048x1x1, .i32⟩ : BufTy).Contents (Elt F) → (⟨S2048x1x1, .i1⟩ : BufTy).Contents (Elt F)) _ _ _ _).trans
    (by rw [fin_in V 33 main_call1_v5 (by decide +kernel), fin_in V 33 main_call1_v6 (by decide +kernel)]))
/-- What `main_call1_v8` holds at the end: its operation, on what its operands hold at the end. -/
theorem e_main_call1_v8 : fin V main_call1_v8 = ((broadcastInDim S1x1x1 ![2] bcast_S1_S1x1x1_2) : (⟨S1, .i32⟩ : BufTy).Contents (Elt F) → (⟨S1x1x1, .i32⟩ : BufTy).Contents (Elt F)) (fin V main_call1_c_1) :=
  (fin_out V 34 o34 rfl main_call1_v8 (by decide +kernel)).trans ((StableHlo.unary_result (Val := Elt F) main_call1_c_1 main_call1_v8 ((broadcastInDim S1x1x1 ![2] bcast_S1_S1x1x1_2) : (⟨S1, .i32⟩ : BufTy).Contents (Elt F) → (⟨S1x1x1, .i32⟩ : BufTy).Contents (Elt F)) _ _ _).trans
    (by rw [fin_in V 34 main_call1_c_1 (by decide +kernel)]))
/-- What `main_call1_v9` holds at the end: its operation, on what its operands hold at the end. -/
theorem e_main_call1_v9 : fin V main_call1_v9 = ((broadcastInDim S2048x1x1 ![0, 1, 2] bcast_S1x1x1_S2048x1x1_0_1_2) : (⟨S1x1x1, .i32⟩ : BufTy).Contents (Elt F) → (⟨S2048x1x1, .i32⟩ : BufTy).Contents (Elt F)) (fin V main_call1_v8) :=
  (fin_out V 35 o35 rfl main_call1_v9 (by decide +kernel)).trans ((StableHlo.unary_result (Val := Elt F) main_call1_v8 main_call1_v9 ((broadcastInDim S2048x1x1 ![0, 1, 2] bcast_S1x1x1_S2048x1x1_0_1_2) : (⟨S1x1x1, .i32⟩ : BufTy).Contents (Elt F) → (⟨S2048x1x1, .i32⟩ : BufTy).Contents (Elt F)) _ _ _).trans
    (by rw [fin_in V 35 main_call1_v8 (by decide +kernel)]))
/-- What `main_call1_v10` holds at the end: its operation, on what its operands hold at the end. -/
theorem e_main_call1_v10 : fin V main_call1_v10 = ((cmpi .sle) : (⟨S2048x1x1, .i32⟩ : BufTy).Contents (Elt F) → (⟨S2048x1x1, .i32⟩ : BufTy).Contents (Elt F) → (⟨S2048x1x1, .i1⟩ : BufTy).Contents (Elt F)) (fin V main_call1_v5) (fin V main_call1_v9) :=
  (fin_out V 36 o36 rfl main_call1_v10 (by decide +kernel)).trans ((StableHlo.binary_result (Val := Elt F) main_call1_v5 main_call1_v9 main_call1_v10 ((cmpi .sle) : (⟨S2048x1x1, .i32⟩ : BufTy).Contents (Elt F) → (⟨S2048x1x1, .i32⟩ : BufTy).Contents (Elt F) → (⟨S2048x1x1, .i1⟩ : BufTy).Contents (Elt F)) _ _ _ _).trans
    (by rw [fin_in V 36 main_call1_v5 (by decide +kernel), fin_in V 36 main_call1_v9 (by decide +kernel)]))
/-- What `main_call1_v11` holds at the end: its operation, on what its operands hold at the end. -/
theorem e_main_call1_v11 : fin V main_call1_v11 = (andi : (⟨S2048x1x1, .i1⟩ : BufTy).Contents (Elt F) → (⟨S2048x1x1, .i1⟩ : BufTy).Contents (Elt F) → (⟨S2048x1x1, .i1⟩ : BufTy).Contents (Elt F)) (fin V main_call1_v7) (fin V main_call1_v10) :=
  (fin_out V 37 o37 rfl main_call1_v11 (by decide +kernel)).trans ((StableHlo.binary_result (Val := Elt F) main_call1_v7 main_call1_v10 main_call1_v11 (andi : (⟨S2048x1x1, .i1⟩ : BufTy).Contents (Elt F) → (⟨S2048x1x1, .i1⟩ : BufTy).Contents (Elt F) → (⟨S2048x1x1, .i1⟩ : BufTy).Contents (Elt F)) _ _ _ _).trans
    (by rw [fin_in V 37 main_call1_v7 (by decide +kernel), fin_in V 37 main_call1_v10 (by decide +kernel)]))
/-- What `main_call1_c_3` holds at the end: its operation, on what its operands hold at the end. -/
theorem e_main_call1_c_3 : fin V main_call1_c_3 = ((constantI S_ 1 1#1) : (⟨S_, .i1⟩ : BufTy).Contents (Elt F)) :=
  (fin_out V 38 o38 rfl main_call1_c_3 (by decide +kernel)).trans (StableHlo.nullary_result (Val := Elt F) main_call1_c_3 ((constantI S_ 1 1#1) : (⟨S_, .i1⟩ : BufTy).Contents (Elt F)) _ _)
/-- What `main_call1_v12` holds at the end: its operation, on what its operands hold at the end. -/
theorem e_main_call1_v12 : fin V main_call1_v12 = ((fun x v => Host.reduce IntOp.andi x v reducesTo_S2048x1x1_S2048x1_d2 h_S_) : (⟨S2048x1x1, .i1⟩ : BufTy).Contents (Elt F) → (⟨S_, .i1⟩ : BufTy).Contents (Elt F) → (⟨S2048x1, .i1⟩ : BufTy).Contents (Elt F)) (fin V main_call1_v11) (fin V main_call1_c_3) :=
  (fin_out V 39 o39 rfl main_call1_v12 (by decide +kernel)).trans ((StableHlo.binary_result (Val := Elt F) main_call1_v11 main_call1_c_3 main_call1_v12 ((fun x v => Host.reduce IntOp.andi x v reducesTo_S2048x1x1_S2048x1_d2 h_S_) : (⟨S2048x1x1, .i1⟩ : BufTy).Contents (Elt F) → (⟨S_, .i1⟩ : BufTy).Contents (Elt F) → (⟨S2048x1, .i1⟩ : BufTy).Contents (Elt F)) _ _ _ _).trans
    (by rw [fin_in V 39 main_call1_v11 (by decide +kernel), fin_in V 39 main_call1_c_3 (by decide +kernel)]))
/-- What `main_call1_v13` holds at the end: its operation, on what its operands hold at the end. -/
theorem e_main_call1_v13 : fin V main_call1_v13 = ((fun x i => Host.gather gather_S2048x8_S2048x1x1_S2048x1_n_1_0_0_1_2_11 x i) : (⟨S2048x8, .f32⟩ : BufTy).Contents (Elt F) → (⟨S2048x1x1, .i32⟩ : BufTy).Contents (Elt F) → (⟨S2048x1, .f32⟩ : BufTy).Contents (Elt F)) (fin V main_v12) (fin V main_call1_v5) :=
  (fin_out V 40 o40 rfl main_call1_v13 (by decide +kernel)).trans ((StableHlo.binary_result (Val := Elt F) main_v12 main_call1_v5 main_call1_v13 ((fun x i => Host.gather gather_S2048x8_S2048x1x1_S2048x1_n_1_0_0_1_2_11 x i) : (⟨S2048x8, .f32⟩ : BufTy).Contents (Elt F) → (⟨S2048x1x1, .i32⟩ : BufTy).Contents (Elt F) → (⟨S2048x1, .f32⟩ : BufTy).Contents (Elt F)) _ _ _ _).trans
    (by rw [fin_in V 40 main_v12 (by decide +kernel), fin_in V 40 main_call1_v5 (by decide +kernel)]))
/-- What `main_call1_cst` holds at the end: its operation, on what its operands hold at the end. -/
theorem e_main_call1_cst : fin V main_call1_cst = ((constant S_ .f32 0x7FC00000#32) : (⟨S_, .f32⟩ : BufTy).Contents (Elt F)) :=
  (fin_out V 41 o41 rfl main_call1_cst (by decide +kernel)).trans (StableHlo.nullary_result (Val := Elt F) main_call1_cst ((constant S_ .f32 0x7FC00000#32) : (⟨S_, .f32⟩ : BufTy).Contents (Elt F)) _ _)
/-- What `main_call1_v14` holds at the end: its operation, on what its operands hold at the end. -/
theorem e_main_call1_v14 : fin V main_call1_v14 = ((broadcastInDim S2048x1 ![] bcast_S_S2048x1) : (⟨S_, .f32⟩ : BufTy).Contents (Elt F) → (⟨S2048x1, .f32⟩ : BufTy).Contents (Elt F)) (fin V main_call1_cst) :=
  (fin_out V 42 o42 rfl main_call1_v14 (by decide +kernel)).trans ((StableHlo.unary_result (Val := Elt F) main_call1_cst main_call1_v14 ((broadcastInDim S2048x1 ![] bcast_S_S2048x1) : (⟨S_, .f32⟩ : BufTy).Contents (Elt F) → (⟨S2048x1, .f32⟩ : BufTy).Contents (Elt F)) _ _ _).trans
    (by rw [fin_in V 42 main_call1_cst (by decide +kernel)]))
/-- What `main_v15` holds at the end: its operation, on what its operands hold at the end. -/
theorem e_main_v15 : fin V main_v15 = (select : (⟨S2048x1, .i1⟩ : BufTy).Contents (Elt F) → (⟨S2048x1, .f32⟩ : BufTy).Contents (Elt F) → (⟨S2048x1, .f32⟩ : BufTy).Contents (Elt F) → (⟨S2048x1, .f32⟩ : BufTy).Contents (Elt F)) (fin V main_call1_v12) (fin V main_call1_v13) (fin V main_call1_v14) :=
  (fin_out V 43 o43 rfl main_v15 (by decide +kernel)).trans ((StableHlo.ternary_result (Val := Elt F) main_call1_v12 main_call1_v13 main_call1_v14 main_v15 (select : (⟨S2048x1, .i1⟩ : BufTy).Contents (Elt F) → (⟨S2048x1, .f32⟩ : BufTy).Contents (Elt F) → (⟨S2048x1, .f32⟩ : BufTy).Contents (Elt F) → (⟨S2048x1, .f32⟩ : BufTy).Contents (Elt F)) _ _ _ _ _).trans
    (by rw [fin_in V 43 main_call1_v12 (by decide +kernel), fin_in V 43 main_call1_v13 (by decide +kernel), fin_in V 43 main_call1_v14 (by decide +kernel)]))
/-- What `main_v16` holds at the end: its operation, on what its operands hold at the end. -/
theorem e_main_v16 : fin V main_v16 = ((fun l r => Host.dotGeneral dot_S8x768x3072_S2048x768_S8x3072x2048_1_1_02_0_n_n none l r) : (⟨S8x768x3072, .f32⟩ : BufTy).Contents (Elt F) → (⟨S2048x768, .f32⟩ : BufTy).Contents (Elt F) → (⟨S8x3072x2048, .f32⟩ : BufTy).Contents (Elt F)) (fin V main_arg2) (fin V main_v0) :=
  (fin_out V 44 o44 rfl main_v16 (by decide +kernel)).trans ((StableHlo.binary_result (Val := Elt F) main_arg2 main_v0 main_v16 ((fun l r => Host.dotGeneral dot_S8x768x3072_S2048x768_S8x3072x2048_1_1_02_0_n_n none l r) : (⟨S8x768x3072, .f32⟩ : BufTy).Contents (Elt F) → (⟨S2048x768, .f32⟩ : BufTy).Contents (Elt F) → (⟨S8x3072x2048, .f32⟩ : BufTy).Contents (Elt F)) _ _ _ _).trans
    (by rw [fin_in V 44 main_arg2 (by decide +kernel), fin_in V 44 main_v0 (by decide +kernel)]))
/-- What `main_v17` holds at the end: its operation, on what its operands hold at the end. -/
theorem e_main_v17 : fin V main_v17 = ((transpose S8x2048x3072 [0, 2, 1] · transposes_S8x3072x2048_S8x2048x3072_0_2_1) : (⟨S8x3072x2048, .f32⟩ : BufTy).Contents (Elt F) → (⟨S8x2048x3072, .f32⟩ : BufTy).Contents (Elt F)) (fin V main_v16) :=
  (fin_out V 45 o45 rfl main_v17 (by decide +kernel)).trans ((StableHlo.unary_result (Val := Elt F) main_v16 main_v17 ((transpose S8x2048x3072 [0, 2, 1] · transposes_S8x3072x2048_S8x2048x3072_0_2_1) : (⟨S8x3072x2048, .f32⟩ : BufTy).Contents (Elt F) → (⟨S8x2048x3072, .f32⟩ : BufTy).Contents (Elt F)) _ _ _).trans
    (by rw [fin_in V 45 main_v16 (by decide +kernel)]))
/-- What `main_v18` holds at the end: its operation, on what its operands hold at the end. -/
theorem e_main_v18 : fin V main_v18 = (broadcastInDim S8x1x3072 ![0, 2] bcast_S8x3072_S8x1x3072_0_2 : (⟨S8x3072, .f32⟩ : BufTy).Contents (Elt F) → (⟨S8x1x3072, .f32⟩ : BufTy).Contents (Elt F)) (fin V main_arg3) :=
  (fin_out V 46 o46 rfl main_v18 (by decide +kernel)).trans ((StableHlo.unary_result (Val := Elt F) main_arg3 main_v18 (broadcastInDim S8x1x3072 ![0, 2] bcast_S8x3072_S8x1x3072_0_2 : (⟨S8x3072, .f32⟩ : BufTy).Contents (Elt F) → (⟨S8x1x3072, .f32⟩ : BufTy).Contents (Elt F)) _ _ _).trans
    (by rw [fin_in V 46 main_arg3 (by decide +kernel)]))
/-- What `main_v19` holds at the end: its operation, on what its operands hold at the end. -/
theorem e_main_v19 : fin V main_v19 = (broadcastInDim S8x2048x3072 ![0, 1, 2] bcast_S8x1x3072_S8x2048x3072_0_1_2 : (⟨S8x1x3072, .f32⟩ : BufTy).Contents (Elt F) → (⟨S8x2048x3072, .f32⟩ : BufTy).Contents (Elt F)) (fin V main_v18) :=
  (fin_out V 47 o47 rfl main_v19 (by decide +kernel)).trans ((StableHlo.unary_result (Val := Elt F) main_v18 main_v19 (broadcastInDim S8x2048x3072 ![0, 1, 2] bcast_S8x1x3072_S8x2048x3072_0_1_2 : (⟨S8x1x3072, .f32⟩ : BufTy).Contents (Elt F) → (⟨S8x2048x3072, .f32⟩ : BufTy).Contents (Elt F)) _ _ _).trans
    (by rw [fin_in V 47 main_v18 (by decide +kernel)]))
/-- What `main_v20` holds at the end: its operation, on what its operands hold at the end. -/
theorem e_main_v20 : fin V main_v20 = (addf : (⟨S8x2048x3072, .f32⟩ : BufTy).Contents (Elt F) → (⟨S8x2048x3072, .f32⟩ : BufTy).Contents (Elt F) → (⟨S8x2048x3072, .f32⟩ : BufTy).Contents (Elt F)) (fin V main_v17) (fin V main_v19) :=
  (fin_out V 48 o48 rfl main_v20 (by decide +kernel)).trans ((StableHlo.binary_result (Val := Elt F) main_v17 main_v19 main_v20 (addf : (⟨S8x2048x3072, .f32⟩ : BufTy).Contents (Elt F) → (⟨S8x2048x3072, .f32⟩ : BufTy).Contents (Elt F) → (⟨S8x2048x3072, .f32⟩ : BufTy).Contents (Elt F)) _ _ _ _).trans
    (by rw [fin_in V 48 main_v17 (by decide +kernel), fin_in V 48 main_v19 (by decide +kernel)]))
/-- What `main_call2_cst` holds at the end: its operation, on what its operands hold at the end. -/
theorem e_main_call2_cst : fin V main_call2_cst = ((constant S_ .f32 0x00000000#32) : (⟨S_, .f32⟩ : BufTy).Contents (Elt F)) :=
  (fin_out V 49 o49 rfl main_call2_cst (by decide +kernel)).trans (StableHlo.nullary_result (Val := Elt F) main_call2_cst ((constant S_ .f32 0x00000000#32) : (⟨S_, .f32⟩ : BufTy).Contents (Elt F)) _ _)
/-- What `main_call2_v0` holds at the end: its operation, on what its operands hold at the end. -/
theorem e_main_call2_v0 : fin V main_call2_v0 = ((broadcastInDim S8x2048x3072 ![] bcast_S_S8x2048x3072) : (⟨S_, .f32⟩ : BufTy).Contents (Elt F) → (⟨S8x2048x3072, .f32⟩ : BufTy).Contents (Elt F)) (fin V main_call2_cst) :=
  (fin_out V 50 o50 rfl main_call2_v0 (by decide +kernel)).trans ((StableHlo.unary_result (Val := Elt F) main_call2_cst main_call2_v0 ((broadcastInDim S8x2048x3072 ![] bcast_S_S8x2048x3072) : (⟨S_, .f32⟩ : BufTy).Contents (Elt F) → (⟨S8x2048x3072, .f32⟩ : BufTy).Contents (Elt F)) _ _ _).trans
    (by rw [fin_in V 50 main_call2_cst (by decide +kernel)]))
/-- What `main_v21` holds at the end: its operation, on what its operands hold at the end. -/
theorem e_main_v21 : fin V main_v21 = (maximumf : (⟨S8x2048x3072, .f32⟩ : BufTy).Contents (Elt F) → (⟨S8x2048x3072, .f32⟩ : BufTy).Contents (Elt F) → (⟨S8x2048x3072, .f32⟩ : BufTy).Contents (Elt F)) (fin V main_v20) (fin V main_call2_v0) :=
  (fin_out V 51 o51 rfl main_v21 (by decide +kernel)).trans ((StableHlo.binary_result (Val := Elt F) main_v20 main_call2_v0 main_v21 (maximumf : (⟨S8x2048x3072, .f32⟩ : BufTy).Contents (Elt F) → (⟨S8x2048x3072, .f32⟩ : BufTy).Contents (Elt F) → (⟨S8x2048x3072, .f32⟩ : BufTy).Contents (Elt F)) _ _ _ _).trans
    (by rw [fin_in V 51 main_v20 (by decide +kernel), fin_in V 51 main_call2_v0 (by decide +kernel)]))
/-- What `main_v22` holds at the end: its operation, on what its operands hold at the end. -/
theorem e_main_v22 : fin V main_v22 = ((fun l r => Host.dotGeneral dot_S8x2048x3072_S8x3072x768_S8x2048x768_2_1_1_2_0_0 none l r) : (⟨S8x2048x3072, .f32⟩ : BufTy).Contents (Elt F) → (⟨S8x3072x768, .f32⟩ : BufTy).Contents (Elt F) → (⟨S8x2048x768, .f32⟩ : BufTy).Contents (Elt F)) (fin V main_v21) (fin V main_arg4) :=
  (fin_out V 52 o52 rfl main_v22 (by decide +kernel)).trans ((StableHlo.binary_result (Val := Elt F) main_v21 main_arg4 main_v22 ((fun l r => Host.dotGeneral dot_S8x2048x3072_S8x3072x768_S8x2048x768_2_1_1_2_0_0 none l r) : (⟨S8x2048x3072, .f32⟩ : BufTy).Contents (Elt F) → (⟨S8x3072x768, .f32⟩ : BufTy).Contents (Elt F) → (⟨S8x2048x768, .f32⟩ : BufTy).Contents (Elt F)) _ _ _ _).trans
    (by rw [fin_in V 52 main_v21 (by decide +kernel), fin_in V 52 main_arg4 (by decide +kernel)]))
/-- What `main_v23` holds at the end: its operation, on what its operands hold at the end. -/
theorem e_main_v23 : fin V main_v23 = (broadcastInDim S8x1x768 ![0, 2] bcast_S8x768_S8x1x768_0_2 : (⟨S8x768, .f32⟩ : BufTy).Contents (Elt F) → (⟨S8x1x768, .f32⟩ : BufTy).Contents (Elt F)) (fin V main_arg5) :=
  (fin_out V 53 o53 rfl main_v23 (by decide +kernel)).trans ((StableHlo.unary_result (Val := Elt F) main_arg5 main_v23 (broadcastInDim S8x1x768 ![0, 2] bcast_S8x768_S8x1x768_0_2 : (⟨S8x768, .f32⟩ : BufTy).Contents (Elt F) → (⟨S8x1x768, .f32⟩ : BufTy).Contents (Elt F)) _ _ _).trans
    (by rw [fin_in V 53 main_arg5 (by decide +kernel)]))
/-- What `main_v24` holds at the end: its operation, on what its operands hold at the end. -/
theorem e_main_v24 : fin V main_v24 = (broadcastInDim S8x2048x768 ![0, 1, 2] bcast_S8x1x768_S8x2048x768_0_1_2 : (⟨S8x1x768, .f32⟩ : BufTy).Contents (Elt F) → (⟨S8x2048x768, .f32⟩ : BufTy).Contents (Elt F)) (fin V main_v23) :=
  (fin_out V 54 o54 rfl main_v24 (by decide +kernel)).trans ((StableHlo.unary_result (Val := Elt F) main_v23 main_v24 (broadcastInDim S8x2048x768 ![0, 1, 2] bcast_S8x1x768_S8x2048x768_0_1_2 : (⟨S8x1x768, .f32⟩ : BufTy).Contents (Elt F) → (⟨S8x2048x768, .f32⟩ : BufTy).Contents (Elt F)) _ _ _).trans
    (by rw [fin_in V 54 main_v23 (by decide +kernel)]))
/-- What `main_v25` holds at the end: its operation, on what its operands hold at the end. -/
theorem e_main_v25 : fin V main_v25 = (addf : (⟨S8x2048x768, .f32⟩ : BufTy).Contents (Elt F) → (⟨S8x2048x768, .f32⟩ : BufTy).Contents (Elt F) → (⟨S8x2048x768, .f32⟩ : BufTy).Contents (Elt F)) (fin V main_v22) (fin V main_v24) :=
  (fin_out V 55 o55 rfl main_v25 (by decide +kernel)).trans ((StableHlo.binary_result (Val := Elt F) main_v22 main_v24 main_v25 (addf : (⟨S8x2048x768, .f32⟩ : BufTy).Contents (Elt F) → (⟨S8x2048x768, .f32⟩ : BufTy).Contents (Elt F) → (⟨S8x2048x768, .f32⟩ : BufTy).Contents (Elt F)) _ _ _ _).trans
    (by rw [fin_in V 55 main_v22 (by decide +kernel), fin_in V 55 main_v24 (by decide +kernel)]))
/-- What `main_v26` holds at the end: its operation, on what its operands hold at the end. -/
theorem e_main_v26 : fin V main_v26 = (iotaInDim S2048 32 0) :=
  (fin_out V 56 o56 rfl main_v26 (by decide +kernel)).trans (StableHlo.nullary_result (Val := Elt F) main_v26 (iotaInDim S2048 32 0) _ _)
/-- What `main_c` holds at the end: its operation, on what its operands hold at the end. -/
theorem e_main_c : fin V main_c = (constantI S_ 32 0#32) :=
  (fin_out V 57 o57 rfl main_c (by decide +kernel)).trans (StableHlo.nullary_result (Val := Elt F) main_c (constantI S_ 32 0#32) _ _)
/-- What `main_v27` holds at the end: its operation, on what its operands hold at the end. -/
theorem e_main_v27 : fin V main_v27 = (broadcastInDim S2048 ![] bcast_S_S2048 : (⟨S_, .i32⟩ : BufTy).Contents (Elt F) → (⟨S2048, .i32⟩ : BufTy).Contents (Elt F)) (fin V main_c) :=
  (fin_out V 58 o58 rfl main_v27 (by decide +kernel)).trans ((StableHlo.unary_result (Val := Elt F) main_c main_v27 (broadcastInDim S2048 ![] bcast_S_S2048 : (⟨S_, .i32⟩ : BufTy).Contents (Elt F) → (⟨S2048, .i32⟩ : BufTy).Contents (Elt F)) _ _ _).trans
    (by rw [fin_in V 58 main_c (by decide +kernel)]))
/-- What `main_v28` holds at the end: its operation, on what its operands hold at the end. -/
theorem e_main_v28 : fin V main_v28 = (cmpi .slt : (⟨S2048, .i32⟩ : BufTy).Contents (Elt F) → (⟨S2048, .i32⟩ : BufTy).Contents (Elt F) → (⟨S2048, .i1⟩ : BufTy).Contents (Elt F)) (fin V main_v13) (fin V main_v27) :=
  (fin_out V 59 o59 rfl main_v28 (by decide +kernel)).trans ((StableHlo.binary_result (Val := Elt F) main_v13 main_v27 main_v28 (cmpi .slt : (⟨S2048, .i32⟩ : BufTy).Contents (Elt F) → (⟨S2048, .i32⟩ : BufTy).Contents (Elt F) → (⟨S2048, .i1⟩ : BufTy).Contents (Elt F)) _ _ _ _).trans
    (by rw [fin_in V 59 main_v13 (by decide +kernel), fin_in V 59 main_v27 (by decide +kernel)]))
/-- What `main_c_2` holds at the end: its operation, on what its operands hold at the end. -/
theorem e_main_c_2 : fin V main_c_2 = (constantI S_ 32 8#32) :=
  (fin_out V 60 o60 rfl main_c_2 (by decide +kernel)).trans (StableHlo.nullary_result (Val := Elt F) main_c_2 (constantI S_ 32 8#32) _ _)
/-- What `main_v29` holds at the end: its operation, on what its operands hold at the end. -/
theorem e_main_v29 : fin V main_v29 = (broadcastInDim S2048 ![] bcast_S_S2048 : (⟨S_, .i32⟩ : BufTy).Contents (Elt F) → (⟨S2048, .i32⟩ : BufTy).Contents (Elt F)) (fin V main_c_2) :=
  (fin_out V 61 o61 rfl main_v29 (by decide +kernel)).trans ((StableHlo.unary_result (Val := Elt F) main_c_2 main_v29 (broadcastInDim S2048 ![] bcast_S_S2048 : (⟨S_, .i32⟩ : BufTy).Contents (Elt F) → (⟨S2048, .i32⟩ : BufTy).Contents (Elt F)) _ _ _).trans
    (by rw [fin_in V 61 main_c_2 (by decide +kernel)]))
/-- What `main_v30` holds at the end: its operation, on what its operands hold at the end. -/
theorem e_main_v30 : fin V main_v30 = (addi : (⟨S2048, .i32⟩ : BufTy).Contents (Elt F) → (⟨S2048, .i32⟩ : BufTy).Contents (Elt F) → (⟨S2048, .i32⟩ : BufTy).Contents (Elt F)) (fin V main_v13) (fin V main_v29) :=
  (fin_out V 62 o62 rfl main_v30 (by decide +kernel)).trans ((StableHlo.binary_result (Val := Elt F) main_v13 main_v29 main_v30 (addi : (⟨S2048, .i32⟩ : BufTy).Contents (Elt F) → (⟨S2048, .i32⟩ : BufTy).Contents (Elt F) → (⟨S2048, .i32⟩ : BufTy).Contents (Elt F)) _ _ _ _).trans
    (by rw [fin_in V 62 main_v13 (by decide +kernel), fin_in V 62 main_v29 (by decide +kernel)]))
/-- What `main_v31` holds at the end: its operation, on what its operands hold at the end. -/
theorem e_main_v31 : fin V main_v31 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (fin V main_v28) (fin V main_v30) (fin V main_v13) :=
  (fin_out V 63 o63 rfl main_v31 (by decide +kernel)).trans ((StableHlo.ternary_result (Val := Elt F) main_v28 main_v30 main_v13 main_v31 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) _ _ _ _ _).trans
    (by rw [fin_in V 63 main_v28 (by decide +kernel), fin_in V 63 main_v30 (by decide +kernel), fin_in V 63 main_v13 (by decide +kernel)]))
/-- What `main_c_3` holds at the end: its operation, on what its operands hold at the end. -/
theorem e_main_c_3 : fin V main_c_3 = (constantI S_ 32 0#32) :=
  (fin_out V 64 o64 rfl main_c_3 (by decide +kernel)).trans (StableHlo.nullary_result (Val := Elt F) main_c_3 (constantI S_ 32 0#32) _ _)
/-- What `main_v32` holds at the end: its operation, on what its operands hold at the end. -/
theorem e_main_v32 : fin V main_v32 = (broadcastInDim S2048 ![] bcast_S_S2048 : (⟨S_, .i32⟩ : BufTy).Contents (Elt F) → (⟨S2048, .i32⟩ : BufTy).Contents (Elt F)) (fin V main_c_3) :=
  (fin_out V 65 o65 rfl main_v32 (by decide +kernel)).trans ((StableHlo.unary_result (Val := Elt F) main_c_3 main_v32 (broadcastInDim S2048 ![] bcast_S_S2048 : (⟨S_, .i32⟩ : BufTy).Contents (Elt F) → (⟨S2048, .i32⟩ : BufTy).Contents (Elt F)) _ _ _).trans
    (by rw [fin_in V 65 main_c_3 (by decide +kernel)]))
/-- What `main_v33` holds at the end: its operation, on what its operands hold at the end. -/
theorem e_main_v33 : fin V main_v33 = (cmpi .slt : (⟨S2048, .i32⟩ : BufTy).Contents (Elt F) → (⟨S2048, .i32⟩ : BufTy).Contents (Elt F) → (⟨S2048, .i1⟩ : BufTy).Contents (Elt F)) (fin V main_v26) (fin V main_v32) :=
  (fin_out V 66 o66 rfl main_v33 (by decide +kernel)).trans ((StableHlo.binary_result (Val := Elt F) main_v26 main_v32 main_v33 (cmpi .slt : (⟨S2048, .i32⟩ : BufTy).Contents (Elt F) → (⟨S2048, .i32⟩ : BufTy).Contents (Elt F) → (⟨S2048, .i1⟩ : BufTy).Contents (Elt F)) _ _ _ _).trans
    (by rw [fin_in V 66 main_v26 (by decide +kernel), fin_in V 66 main_v32 (by decide +kernel)]))
/-- What `main_c_4` holds at the end: its operation, on what its operands hold at the end. -/
theorem e_main_c_4 : fin V main_c_4 = (constantI S_ 32 2048#32) :=
  (fin_out V 67 o67 rfl main_c_4 (by decide +kernel)).trans (StableHlo.nullary_result (Val := Elt F) main_c_4 (constantI S_ 32 2048#32) _ _)
/-- What `main_v34` holds at the end: its operation, on what its operands hold at the end. -/
theorem e_main_v34 : fin V main_v34 = (broadcastInDim S2048 ![] bcast_S_S2048 : (⟨S_, .i32⟩ : BufTy).Contents (Elt F) → (⟨S2048, .i32⟩ : BufTy).Contents (Elt F)) (fin V main_c_4) :=
  (fin_out V 68 o68 rfl main_v34 (by decide +kernel)).trans ((StableHlo.unary_result (Val := Elt F) main_c_4 main_v34 (broadcastInDim S2048 ![] bcast_S_S2048 : (⟨S_, .i32⟩ : BufTy).Contents (Elt F) → (⟨S2048, .i32⟩ : BufTy).Contents (Elt F)) _ _ _).trans
    (by rw [fin_in V 68 main_c_4 (by decide +kernel)]))
/-- What `main_v35` holds at the end: its operation, on what its operands hold at the end. -/
theorem e_main_v35 : fin V main_v35 = (addi : (⟨S2048, .i32⟩ : BufTy).Contents (Elt F) → (⟨S2048, .i32⟩ : BufTy).Contents (Elt F) → (⟨S2048, .i32⟩ : BufTy).Contents (Elt F)) (fin V main_v26) (fin V main_v34) :=
  (fin_out V 69 o69 rfl main_v35 (by decide +kernel)).trans ((StableHlo.binary_result (Val := Elt F) main_v26 main_v34 main_v35 (addi : (⟨S2048, .i32⟩ : BufTy).Contents (Elt F) → (⟨S2048, .i32⟩ : BufTy).Contents (Elt F) → (⟨S2048, .i32⟩ : BufTy).Contents (Elt F)) _ _ _ _).trans
    (by rw [fin_in V 69 main_v26 (by decide +kernel), fin_in V 69 main_v34 (by decide +kernel)]))
/-- What `main_v36` holds at the end: its operation, on what its operands hold at the end. -/
theorem e_main_v36 : fin V main_v36 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (fin V main_v33) (fin V main_v35) (fin V main_v26) :=
  (fin_out V 70 o70 rfl main_v36 (by decide +kernel)).trans ((StableHlo.ternary_result (Val := Elt F) main_v33 main_v35 main_v26 main_v36 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) _ _ _ _ _).trans
    (by rw [fin_in V 70 main_v33 (by decide +kernel), fin_in V 70 main_v35 (by decide +kernel), fin_in V 70 main_v26 (by decide +kernel)]))
/-- What `main_v37` holds at the end: its operation, on what its operands hold at the end. -/
theorem e_main_v37 : fin V main_v37 = (broadcastInDim S2048x1 ![0] bcast_S2048_S2048x1_0 : (⟨S2048, .i32⟩ : BufTy).Contents (Elt F) → (⟨S2048x1, .i32⟩ : BufTy).Contents (Elt F)) (fin V main_v31) :=
  (fin_out V 71 o71 rfl main_v37 (by decide +kernel)).trans ((StableHlo.unary_result (Val := Elt F) main_v31 main_v37 (broadcastInDim S2048x1 ![0] bcast_S2048_S2048x1_0 : (⟨S2048, .i32⟩ : BufTy).Contents (Elt F) → (⟨S2048x1, .i32⟩ : BufTy).Contents (Elt F)) _ _ _).trans
    (by rw [fin_in V 71 main_v31 (by decide +kernel)]))
/-- What `main_v38` holds at the end: its operation, on what its operands hold at the end. -/
theorem e_main_v38 : fin V main_v38 = (broadcastInDim S2048x1 ![0] bcast_S2048_S2048x1_0 : (⟨S2048, .i32⟩ : BufTy).Contents (Elt F) → (⟨S2048x1, .i32⟩ : BufTy).Contents (Elt F)) (fin V main_v36) :=
  (fin_out V 72 o72 rfl main_v38 (by decide +kernel)).trans ((StableHlo.unary_result (Val := Elt F) main_v36 main_v38 (broadcastInDim S2048x1 ![0] bcast_S2048_S2048x1_0 : (⟨S2048, .i32⟩ : BufTy).Contents (Elt F) → (⟨S2048x1, .i32⟩ : BufTy).Contents (Elt F)) _ _ _).trans
    (by rw [fin_in V 72 main_v36 (by decide +kernel)]))
/-- What `main_v39` holds at the end: its operation, on what its operands hold at the end. -/
theorem e_main_v39 : fin V main_v39 = ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (fin V main_v37) (fin V main_v38) :=
  (fin_out V 73 o73 rfl main_v39 (by decide +kernel)).trans ((StableHlo.binary_result (Val := Elt F) main_v37 main_v38 main_v39 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) _ _ _ _).trans
    (by rw [fin_in V 73 main_v37 (by decide +kernel), fin_in V 73 main_v38 (by decide +kernel)]))
/-- What `main_v40` holds at the end: its operation, on what its operands hold at the end. -/
theorem e_main_v40 : fin V main_v40 = ((fun x i => Host.gather gather_S8x2048x768_S2048x2_S2048x768_1_01_n_n_01_1_11768 x i) : (⟨S8x2048x768, .f32⟩ : BufTy).Contents (Elt F) → (⟨S2048x2, .i32⟩ : BufTy).Contents (Elt F) → (⟨S2048x768, .f32⟩ : BufTy).Contents (Elt F)) (fin V main_v25) (fin V main_v39) :=
  (fin_out V 74 o74 rfl main_v40 (by decide +kernel)).trans ((StableHlo.binary_result (Val := Elt F) main_v25 main_v39 main_v40 ((fun x i => Host.gather gather_S8x2048x768_S2048x2_S2048x768_1_01_n_n_01_1_11768 x i) : (⟨S8x2048x768, .f32⟩ : BufTy).Contents (Elt F) → (⟨S2048x2, .i32⟩ : BufTy).Contents (Elt F) → (⟨S2048x768, .f32⟩ : BufTy).Contents (Elt F)) _ _ _ _).trans
    (by rw [fin_in V 74 main_v25 (by decide +kernel), fin_in V 74 main_v39 (by decide +kernel)]))
/-- What `main_v41` holds at the end: its operation, on what its operands hold at the end. -/
theorem e_main_v41 : fin V main_v41 = (broadcastInDim S2048x768 ![0, 1] bcast_S2048x1_S2048x768_0_1 : (⟨S2048x1, .f32⟩ : BufTy).Contents (Elt F) → (⟨S2048x768, .f32⟩ : BufTy).Contents (Elt F)) (fin V main_v15) :=
  (fin_out V 75 o75 rfl main_v41 (by decide +kernel)).trans ((StableHlo.unary_result (Val := Elt F) main_v15 main_v41 (broadcastInDim S2048x768 ![0, 1] bcast_S2048x1_S2048x768_0_1 : (⟨S2048x1, .f32⟩ : BufTy).Contents (Elt F) → (⟨S2048x768, .f32⟩ : BufTy).Contents (Elt F)) _ _ _).trans
    (by rw [fin_in V 75 main_v15 (by decide +kernel)]))
/-- What `main_v42` holds at the end: its operation, on what its operands hold at the end. -/
theorem e_main_v42 : fin V main_v42 = (mulf : (⟨S2048x768, .f32⟩ : BufTy).Contents (Elt F) → (⟨S2048x768, .f32⟩ : BufTy).Contents (Elt F) → (⟨S2048x768, .f32⟩ : BufTy).Contents (Elt F)) (fin V main_v40) (fin V main_v41) :=
  (fin_out V 76 o76 rfl main_v42 (by decide +kernel)).trans ((StableHlo.binary_result (Val := Elt F) main_v40 main_v41 main_v42 (mulf : (⟨S2048x768, .f32⟩ : BufTy).Contents (Elt F) → (⟨S2048x768, .f32⟩ : BufTy).Contents (Elt F) → (⟨S2048x768, .f32⟩ : BufTy).Contents (Elt F)) _ _ _ _).trans
    (by rw [fin_in V 76 main_v40 (by decide +kernel), fin_in V 76 main_v41 (by decide +kernel)]))
/-- What `main_v43` holds at the end: its operation, on what its operands hold at the end. -/
theorem e_main_v43 : fin V main_v43 = shapeCast S1x2048x768 (fin V main_v42) shapeCasts_S2048x768_S1x2048x768 :=
  (fin_out V 77 o77 rfl main_v43 (by decide +kernel)).trans ((StableHlo.reshape_result main_v42 main_v43 rfl shapeCasts_S2048x768_S1x2048x768 _ _ _).trans
    (by rw [fin_in V 77 main_v42 (by decide +kernel)]; rfl))
/-- Argument 0 keeps its contents. -/
theorem e_arg0 : fin V main_arg0 = V (Proc.devRef .tc main_arg0) := after_keep _ _ ops_writes V main_arg0 (by decide +kernel)
/-- Argument 1 keeps its contents. -/
theorem e_arg1 : fin V main_arg1 = V (Proc.devRef .tc main_arg1) := after_keep _ _ ops_writes V main_arg1 (by decide +kernel)
/-- Argument 2 keeps its contents. -/
theorem e_arg2 : fin V main_arg2 = V (Proc.devRef .tc main_arg2) := after_keep _ _ ops_writes V main_arg2 (by decide +kernel)
/-- Argument 3 keeps its contents. -/
theorem e_arg3 : fin V main_arg3 = V (Proc.devRef .tc main_arg3) := after_keep _ _ ops_writes V main_arg3 (by decide +kernel)
/-- Argument 4 keeps its contents. -/
theorem e_arg4 : fin V main_arg4 = V (Proc.devRef .tc main_arg4) := after_keep _ _ ops_writes V main_arg4 (by decide +kernel)
/-- Argument 5 keeps its contents. -/
theorem e_arg5 : fin V main_arg5 = V (Proc.devRef .tc main_arg5) := after_keep _ _ ops_writes V main_arg5 (by decide +kernel)

end Facts

/-! ## The run -/

/-- One array is among the program's. -/
theorem sub1 (a : Ref sig .tc) : ({Proc.devRef .tc a} : Finset (DevRef τ sig)) ⊆ StableHlo.tcRefs τ sig := by
  intro x hx
  simp only [Finset.mem_insert, Finset.mem_singleton] at hx
  rcases hx with rfl <;> exact StableHlo.devRef_mem_tcRefs _
/-- Two arrays are among the program's. -/
theorem sub2 (a b : Ref sig .tc) : ({Proc.devRef .tc a, Proc.devRef .tc b} : Finset (DevRef τ sig)) ⊆ StableHlo.tcRefs τ sig := by
  intro x hx
  simp only [Finset.mem_insert, Finset.mem_singleton] at hx
  rcases hx with rfl | rfl <;> exact StableHlo.devRef_mem_tcRefs _
/-- Three arrays are among the program's. -/
theorem sub3 (a b c : Ref sig .tc) : ({Proc.devRef .tc a, Proc.devRef .tc b, Proc.devRef .tc c} : Finset (DevRef τ sig)) ⊆ StableHlo.tcRefs τ sig := by
  intro x hx
  simp only [Finset.mem_insert, Finset.mem_singleton] at hx
  rcases hx with rfl | rfl | rfl <;> exact StableHlo.devRef_mem_tcRefs _
/-- Four arrays are among the program's. -/
theorem sub4 (a b c d : Ref sig .tc) : ({Proc.devRef .tc a, Proc.devRef .tc b, Proc.devRef .tc c, Proc.devRef .tc d} : Finset (DevRef τ sig)) ⊆ StableHlo.tcRefs τ sig := by
  intro x hx
  simp only [Finset.mem_insert, Finset.mem_singleton] at hx
  rcases hx with rfl | rfl | rfl | rfl <;> exact StableHlo.devRef_mem_tcRefs _
/-- Five arrays are among the program's. -/
theorem sub5 (a b c d e : Ref sig .tc) : ({Proc.devRef .tc a, Proc.devRef .tc b, Proc.devRef .tc c, Proc.devRef .tc d, Proc.devRef .tc e} : Finset (DevRef τ sig)) ⊆ StableHlo.tcRefs τ sig := by
  intro x hx
  simp only [Finset.mem_insert, Finset.mem_singleton] at hx
  rcases hx with rfl | rfl | rfl | rfl | rfl <;> exact StableHlo.devRef_mem_tcRefs _

/-- Every operation's arrays are among the program's. -/
theorem ops_bufs : (ops (F := F)).Forall fun op => op.bufs ⊆ StableHlo.tcRefs τ sig :=
  ⟨sub2 _ _ , sub3 _ _ _ , sub1 _ , sub3 _ _ _ , sub1 _ , sub2 _ _ , sub3 _ _ _ , sub2 _ _ , sub2 _ _ , sub3 _ _ _ , sub2 _ _ , sub1 _ , sub3 _ _ _ , sub2 _ _ , sub2 _ _ , sub3 _ _ _ , sub1 _ , sub1 _ , sub1 _ , sub5 _ _ _ _ _ , sub5 _ _ _ _ _ , sub2 _ _ , sub1 _ , sub2 _ _ , sub3 _ _ _ , sub1 _ , sub2 _ _ , sub3 _ _ _ , sub4 _ _ _ _ , sub2 _ _ , sub1 _ , sub1 _ , sub2 _ _ , sub3 _ _ _ , sub2 _ _ , sub2 _ _ , sub3 _ _ _ , sub3 _ _ _ , sub1 _ , sub3 _ _ _ , sub3 _ _ _ , sub1 _ , sub2 _ _ , sub4 _ _ _ _ , sub3 _ _ _ , sub2 _ _ , sub2 _ _ , sub2 _ _ , sub3 _ _ _ , sub1 _ , sub2 _ _ , sub3 _ _ _ , sub3 _ _ _ , sub2 _ _ , sub2 _ _ , sub3 _ _ _ , sub1 _ , sub1 _ , sub2 _ _ , sub3 _ _ _ , sub1 _ , sub2 _ _ , sub3 _ _ _ , sub4 _ _ _ _ , sub1 _ , sub2 _ _ , sub3 _ _ _ , sub1 _ , sub2 _ _ , sub3 _ _ _ , sub4 _ _ _ _ , sub2 _ _ , sub2 _ _ , sub3 _ _ _ , sub3 _ _ _ , sub2 _ _ , sub3 _ _ _ , sub2 _ _ ⟩

/-- No operation needs a fresh array. -/
theorem ops_fresh : (ops (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference ends with every array holding what its operations, in order, leave. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = fin (launchContents m d) b :=
  run_seq (by decide) (by decide) _ main (fun _ => ops) main_eq (fun _ => ops_bufs) m ρ (fun _ => List.forall_iff_forall_mem.mp ops_fresh)

/-- The reference ends with its arguments as they were and no counter raised. -/
theorem frame : Cert.quiescent_ReferenceIdeal (hReferenceIdeal := Cert.ReferenceIdeal.Gen.facts) := fun m ρ _ =>
  (θ_run (Cert.ReferenceIdeal.defs (F := Ideal)) _ _).mono (fun r h =>
    ⟨fun c => ⟨(h c _).trans (e_arg0 _), (h c _).trans (e_arg1 _), (h c _).trans (e_arg2 _), (h c _).trans (e_arg3 _), (h c _).trans (e_arg4 _), (h c _).trans (e_arg5 _)⟩,
      sem_eq_zero_of_no_sems rfl r.2⟩) (run m ρ)

end Cert.Ref

end
-- ==== Proof.Move.lean ====
module

public import proofs.«01_k».proof.Proof.Gen.Kernel
public import proofs.«01_k».proof.Proof.Gen.KernelIdeal

/-! The program printed for words and the program printed for any float values are one text: their tables of
    bodies and their threads are equal. A run of the one is therefore a run of the other. -/

@[expose] public section

noncomputable section

namespace Cert.Move

open Idealize.ShloMosaic Idealize.SL.Sem

variable [hK : Cert.Kernel.Facts] [hI : Cert.KernelIdeal.Facts]
variable {F : FTy → Type} [FloatOps F]

set_option maxHeartbeats 2000000 in
/-- The two tables of kernel bodies are equal, label by label and processor by processor. -/
theorem eq_defs₀ : Cert.Kernel.defs₀ (F := F) = Cert.KernelIdeal.defs₀ (F := F) := by
  funext p ℓ a
  rcases ℓ with ⟨ℓ, hℓ⟩
  have h4 : ℓ = 0 ∨ ℓ = 1 ∨ ℓ = 2 ∨ ℓ = 3 := by
    change ℓ < 4 at hℓ
    omega
  rcases h4 with rfl | rfl | rfl | rfl
  · cases p <;> rfl
  · cases p <;> rfl
  · cases p <;> rfl
  · cases p <;> rfl

set_option maxHeartbeats 2000000 in
/-- The two full tables, with the pipelines and the SparseCore launch around the bodies, are equal. -/
theorem eq_defs : Cert.Kernel.defs (F := F) = Cert.KernelIdeal.defs (F := F) := by
  unfold Cert.Kernel.defs Cert.KernelIdeal.defs
  rw [eq_defs₀]
  rfl

set_option maxHeartbeats 2000000 in
/-- The two programs start the same threads. -/
theorem eq_threads : Cert.Kernel.threads (F := F) = Cert.KernelIdeal.threads (F := F) := rfl

end Cert.Move

end
-- ==== Proof.RouterVal.lean ====
/-
  What the router computes over the reals: each token's logits, their greatest, the score.
-/
module

public import Idealize.ShloMosaic.Lib.Pointwise
public import proofs.«01_k».proof.Proof.Router

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- Token `n`'s logit of expert `k`. -/
def lg (x : Vec Ideal S2048x768 .f32) (wr : Vec Ideal S768x8 .f32) (n : Fin 2048) (k : Fin 8) : EReal :=
  ∑ d : Fin 768, (x (ix2 n d) : EReal) * wr (ix2 d k)

/-- The greatest of a family of eight. -/
def mx8 (f : Fin 8 → EReal) : EReal := (Finset.univ : Finset (Fin 8)).fold max ⊥ f

/-- The reciprocal of the sum of the exponentials of the logits less their greatest. -/
def rs8 (f : Fin 8 → EReal) : EReal := Ideal.div 1 (∑ k, Ideal.exp (f k - mx8 f))

/-- The word of minus infinity. -/
theorem bot_word : Ideal.ofBits .f32 0xFF800000#32 = (⊥ : EReal) := by
  simp [Ideal.ofBits, Ideal.ieee]

/-- The router's product is the logits. -/
theorem pay1_at (x : Vec Ideal S2048x768 .f32) (wr : Vec Ideal S768x8 .f32) (n : Fin 2048) (k : Fin 8) :
    k0_pay1 x wr (ix2 n k) = lg x wr n k := by
  pointwise [k0_pay1, lg]

/-- The router's row maximum is the greatest logit. -/
theorem pay2_at (x : Vec Ideal S2048x768 .f32) (wr : Vec Ideal S768x8 .f32) (n : Fin 2048) :
    k0_pay2 x wr (ix2 n 0) = mx8 (lg x wr n) := by
  pointwise [k0_pay2, mx8, pay1_at, bot_word]

/-- The router's score is the reciprocal of the exponentials' sum. -/
theorem pay4_at (x : Vec Ideal S2048x768 .f32) (wr : Vec Ideal S768x8 .f32) (n : Fin 2048) :
    k0_pay4 x wr (ix2 n 0) = rs8 (lg x wr n) := by
  pointwise [k0_pay4, rs8, pay1_at, pay2_at]

end Cert.Sort

end
-- ==== Proof.Softmax.lean ====
/-
  The softmax of eight real logits: its greatest entries are the logits' greatest, and the entry there.
-/
module

public import proofs.«01_k».proof.Proof.RouterVal

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- Place `k` holds the greatest entry, and no earlier place does. -/
def leastMax (f : Fin 8 → EReal) (k : Fin 8) : Prop := (∀ j, f j ≤ f k) ∧ ∀ j, f j = f k → k ≤ j

/-- The softmax of a family of eight, at place `k`. -/
def sm (f : Fin 8 → EReal) (k : Fin 8) : EReal := Ideal.div (Ideal.exp (f k - mx8 f)) (∑ j, Ideal.exp (f j - mx8 f))

/-- The greatest entry is one of the entries. -/
theorem mx8_of_max (f : Fin 8 → EReal) (k : Fin 8) (h : ∀ j, f j ≤ f k) : mx8 f = f k := by
  apply le_antisymm
  · rw [mx8, Finset.fold_max_le]
    exact ⟨bot_le, fun j _ => h j⟩
  · rw [mx8, Finset.le_fold_max]
    exact Or.inr ⟨k, Finset.mem_univ _, le_rfl⟩

/-- Some place is the least one that holds the greatest entry. -/
theorem exists_leastMax (f : Fin 8 → EReal) : ∃ k, leastMax f k := by
  obtain ⟨m, -, hm⟩ := Finset.exists_max_image (Finset.univ : Finset (Fin 8)) f ⟨0, Finset.mem_univ _⟩
  obtain ⟨k, hk, hl⟩ := Finset.exists_min_image (Finset.univ.filter fun j => f j = f m) id ⟨m, by simp⟩
  have hk' : f k = f m := by simpa using hk
  refine ⟨k, fun j => hk' ▸ hm j (Finset.mem_univ _), fun j hj => hl j (by simp [hj, hk'])⟩

/-- There is one such place only. -/
theorem leastMax_unique (f : Fin 8 → EReal) (a b : Fin 8) (ha : leastMax f a) (hb : leastMax f b) : a = b := by
  have e : f a = f b := le_antisymm (hb.1 a) (ha.1 b)
  exact le_antisymm (ha.2 b e.symm) (hb.2 a e)

/-- A finite sum of reals, read as extended reals. -/
theorem coe_sum8 {N : ℕ} (g : Fin N → ℝ) : ∑ k, ((g k : ℝ) : EReal) = ((∑ k, g k : ℝ) : EReal) := by
  induction N with
  | zero => simp
  | succ N ih => rw [Fin.sum_univ_succ, Fin.sum_univ_succ, ih, EReal.coe_add]

/-- The softmax of real logits, with its greatest logit at `m`, is a quotient of real numbers. -/
theorem sm_real (g : Fin 8 → ℝ) (m k : Fin 8) (h : ∀ j, (g j : EReal) ≤ g m) :
    sm (fun j => (g j : EReal)) k = ((Real.exp (g k - g m) * (1 / ∑ j, Real.exp (g j - g m)) : ℝ) : EReal) := by
  have hS : (∑ j, Real.exp (g j - g m)) ≠ 0 := (Finset.sum_pos (fun j _ => Real.exp_pos _) ⟨0, Finset.mem_univ _⟩).ne'
  have e : ∀ j, Ideal.exp ((g j : EReal) - (g m : EReal)) = ((Real.exp (g j - g m) : ℝ) : EReal) := fun j => by
    rw [← EReal.coe_sub]; rfl
  rw [sm, mx8_of_max (fun j => (g j : EReal)) m h]
  simp only [e]
  rw [coe_sum8, Ideal.div_coe hS, EReal.coe_mul]

/-- The softmax of real logits is above zero. -/
theorem sm_pos (f : Fin 8 → EReal) (g : Fin 8 → ℝ) (hf : ∀ j, f j = g j) (k : Fin 8) : ⊥ < sm f k := by
  obtain rfl : f = fun j => (g j : EReal) := funext hf
  obtain ⟨m, hm, -⟩ := exists_leastMax fun j => (g j : EReal)
  rw [sm_real g m k hm]
  exact EReal.bot_lt_coe _

/-- The least place of the greatest softmax entry is that of the greatest logit. -/
theorem leastMax_of_sm (f : Fin 8 → EReal) (g : Fin 8 → ℝ) (hf : ∀ j, f j = g j) (k : Fin 8) (h : leastMax (sm f) k) : leastMax f k := by
  obtain rfl : f = fun j => (g j : EReal) := funext hf
  obtain ⟨m, hm, -⟩ := exists_leastMax fun j => (g j : EReal)
  have hS : 0 < 1 / (∑ j, Real.exp (g j - g m)) :=
    one_div_pos.mpr (Finset.sum_pos (fun j _ => Real.exp_pos _) ⟨0, Finset.mem_univ _⟩)
  refine ⟨fun j => ?_, fun j hj => ?_⟩
  · have e := h.1 j
    rw [sm_real g m j hm, sm_real g m k hm, EReal.coe_le_coe_iff, mul_le_mul_iff_left₀ hS, Real.exp_le_exp] at e
    exact EReal.coe_le_coe_iff.mpr (by linarith)
  · refine h.2 j ?_
    have e : g j = g k := EReal.coe_injective hj
    rw [sm_real g m j hm, sm_real g m k hm, e]

/-- The softmax at the greatest logit is the reciprocal of the exponentials' sum. -/
theorem sm_at (f : Fin 8 → EReal) (g : Fin 8 → ℝ) (hf : ∀ j, f j = g j) (k : Fin 8) (h : leastMax f k) : sm f k = rs8 f := by
  have e : Ideal.exp (f k - mx8 f) = 1 := by
    rw [mx8_of_max f k h.1, hf k, ← EReal.coe_sub, sub_self]
    show ((Real.exp 0 : ℝ) : EReal) = 1
    rw [Real.exp_zero, EReal.coe_one]
  rw [sm, rs8, e]

end Cert.Sort

end
-- ==== Proof.FfnReal.lean ====
/-
  What a tile of the experts' products and a block of the un-sort compute over the reals.
-/
module

public import Idealize.ShloMosaic.Lib.Pointwise
public import proofs.«01_k».proof.Proof.Host

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A comparison's bit, widened and made a float, is one or zero. -/
theorem mask_val (a b : BitVec 32) :
    (FloatOps.sitofp (F := Ideal) FTy.f32 (BitVec.setWidth 32 (IntOp.cmpi CmpIPredicate.eq a b)) : EReal) = if a = b then 1 else 0 := by
  by_cases h : a = b
  · subst h
    rw [if_pos rfl]
    have e : BitVec.setWidth 32 (IntOp.cmpi CmpIPredicate.eq a a) = 1#32 := by simp [IntOp.cmpi]
    rw [e]
    show (((1#32 : BitVec 32).toInt : ℝ) : EReal) = 1
    norm_num
  · rw [if_neg h]
    have e : BitVec.setWidth 32 (IntOp.cmpi CmpIPredicate.eq a b) = 0#32 := by
      have hb : (a == b) = false := by simpa using h
      simp [IntOp.cmpi, hb]
    rw [e]
    show (((0#32 : BitVec 32).toInt : ℝ) : EReal) = 0
    norm_num

/-- A sum picked by a mask that is one at a single place. -/
theorem pick {N : ℕ} (q : Fin N → Prop) [DecidablePred q] (v : Fin N → EReal) (n : Fin N) (h : ∀ k, q k ↔ k = n) :
    ∑ k, (if q k then (1 : EReal) else 0) * v k = v n := by
  rw [Finset.sum_eq_single n]
  · rw [if_pos ((h n).mpr rfl), one_mul]
  · intro k _ hk
    rw [if_neg fun e => hk ((h k).mp e), zero_mul]
  · exact fun e => absurd (Finset.mem_univ _) e

/-- Expert `e`'s output for token `n`, column `c`. -/
def ffnE (x : Vec Ideal S2048x768 .f32) (w1 : Vec Ideal S8x768x3072 .f32) (b1 : Vec Ideal S8x3072 .f32) (w2 : Vec Ideal S8x3072x768 .f32)
    (b2 : Vec Ideal S8x768 .f32) (e : Fin 8) (n : Fin 2048) (c : Fin 768) : EReal :=
  (∑ f : Fin 3072, max ((∑ d : Fin 768, (x (ix2 n d) : EReal) * w1 (ix3 e d f)) + b1 (ix2 e f)) 0 * w2 (ix3 e f c)) + b2 (ix2 e c)

/-- A row of a tile whose sorted id is token `n`'s. -/
theorem pay4_ffn (si : Vec Ideal S128x1 .i32) (x : Vec Ideal S2048x768 .f32) (w1 : Vec Ideal S1x768x3072 .f32) (b1 : Vec Ideal S1x3072 .f32)
    (w2 : Vec Ideal S1x3072x768 .f32) (b2 : Vec Ideal S1x768 .f32) (r : Fin 128) (c : Fin 768) (n : Fin 2048) (h : si (ix2 r 0) = BitVec.ofNat 32 n.val) :
    k2_pay4 si x w1 b1 w2 b2 (ix2 r c)
      = (∑ f : Fin 3072, max ((∑ d : Fin 768, (x (ix2 n d) : EReal) * w1 (ix3 0 d f)) + b1 (ix2 0 f)) 0 * w2 (ix3 0 f c)) + b2 (ix2 0 c) := by
  pointwise [k2_pay4, mask_val, h]
  have hp : ∀ d : Fin 768, (∑ k : Fin 2048, (if BitVec.ofNat 32 n.val = BitVec.ofNat 32 k.val then (1 : EReal) else 0) * x (ix2 k d)) = x (ix2 n d) := fun d =>
    pick (fun k : Fin 2048 => BitVec.ofNat 32 n.val = BitVec.ofNat 32 k.val) (fun k => x (ix2 k d)) n fun k =>
      ⟨fun e => Fin.ext (ofNat_inj32 (by omega) (by omega) e).symm, fun e => by rw [e]⟩
  simp only [hp]

/-- A row of a block of the un-sort whose token is at position `p` alone. -/
theorem pay_unsort (i : grid3.Coords) (si : Vec Ideal S1x3072 .i32) (o : Vec Ideal S3072x768 .f32) (sc : Vec Ideal S128x1 .f32) (r : Fin 128) (c : Fin 768)
    (p : Fin 3072) (h : ∀ q : Fin 3072, si (ix2 0 q) = BitVec.ofNat 32 (128 * (i 0).val + r.val) ↔ q = p) :
    k3_pay1 i si o sc (ix2 r c) = (o (ix2 p c) : EReal) * sc (ix2 r 0) := by
  pointwise [k3_pay1, mask_val]
  have hw : IntOp.addi (BitVec.ofNat 32 r.val) (Scalar.muli (BitVec.ofNat 32 (i 0).val) 128#32) = BitVec.ofNat 32 (128 * (i 0).val + r.val) := by
    show BitVec.ofNat 32 r.val + BitVec.ofNat 32 (i 0).val * 128#32 = _
    apply BitVec.eq_of_toNat_eq
    simp only [BitVec.toNat_add, BitVec.toNat_mul, BitVec.toNat_ofNat]
    omega
  rw [hw]
  rw [pick (fun q : Fin 3072 => BitVec.ofNat 32 (128 * (i 0).val + r.val) = si (ix2 0 q)) (fun q => o (ix2 q c)) p
    fun q => ⟨fun e => (h q).mp e.symm, fun e => ((h q).mpr e).symm⟩]

/-- The sorted output at a row of a tile that expert `e` fills. -/
theorem upTo_at (A : FfnIn F) (st : Vec F S16 .i32) (e : ℕ) (he : e < 8) (p : S3072x768.Idx)
    (hm : ∀ n : Fin 15, (wS st ⟨n.val, by omega⟩).toNat ≤ (wS st ⟨n.val + 1, by omega⟩).toNat)
    (h0 : (wS st ⟨e, by omega⟩).toNat ≤ (p 0).val / 128) (h1 : (p 0).val / 128 < (wS st ⟨e + 1, by omega⟩).toNat) :
    ∀ n, e + 1 ≤ n → n ≤ 8 → (p 0).val / 128 < (wS st ⟨min n 15, by omega⟩).toNat ∧ A.upTo st n p = A.tile ⟨e, he⟩ ((p 0).val / 128) (inTile p) := by
  intro n hn
  induction n, hn using Nat.le_induction with
  | base =>
    intro _
    have hmin : min (e + 1) 15 = e + 1 := by omega
    refine ⟨by simpa only [hmin] using h1, ?_⟩
    rw [FfnIn.upTo, dif_pos he]
    unfold FfnIn.put
    rw [if_pos ⟨h0, by omega⟩]
  | succ n hn ih =>
    intro hn8
    obtain ⟨hlt, heq⟩ := ih (by omega)
    have hmin : min n 15 = n := by omega
    have hmin' : min (n + 1) 15 = n + 1 := by omega
    simp only [hmin] at hlt
    have hstep := hm ⟨n, by omega⟩
    refine ⟨by simp only [hmin']; exact lt_of_lt_of_le hlt hstep, ?_⟩
    rw [FfnIn.upTo, dif_pos (show n < 8 by omega)]
    unfold FfnIn.put
    rw [if_neg (by omega)]
    exact heq

/-- Where token `t` stands in the sorted array: in its expert's run, after the expert's earlier tokens. -/
def posN (ids : Vec F S2048 .i32) (j t : ℕ) : ℕ := startN (ctN ids) j + cnt ids j t

/-- A token's slot comes before the next expert's run. -/
theorem posN_lt (ids : Vec F S2048 .i32) {j t : ℕ} (hj : j < 8) (h : hit ids j t) : posN ids j t < startN (ctN ids) (j + 1) := by
  have h1 := cnt_lt_ct hj h
  have h2 := le_cpad (ctN ids j)
  rw [startN_succ]
  unfold posN
  omega

/-- A token's slot is one of the 3072. -/
theorem posN_lt' (ids : Vec F S2048 .i32) {j t : ℕ} (hj : j < 8) (h : hit ids j t) : posN ids j t < 3072 := by
  have h1 := posN_lt ids hj h
  have h2 := startN_mono (ctN ids) (show j + 1 ≤ 8 by omega)
  have h3 := startN_eight (ctN ids) (ct_sum ids)
  omega

/-- A sorted id is token `t`'s at its position alone. -/
theorem sidx_iff (ids : Vec F S2048 .i32) {j t : ℕ} (hj : j < 8) (h : hit ids j t) (q : ℕ) :
    sidxW ids q = BitVec.ofNat 32 t ↔ q = posN ids j t := by
  have ht := hit_lt hj h
  constructor
  · intro e
    by_cases hs : ∃ t', Slot ids q t'
    · obtain ⟨t', hs⟩ := hs
      obtain ⟨j', hj', hh', hq⟩ := hs
      rw [sidxW_slot ⟨j', hj', hh', hq⟩] at e
      have := ofNat_inj32 (by have := hit_lt hj' hh'; omega) (by omega) e
      subst this
      have := hit_uniq hj hj' h hh'
      subst this
      exact hq
    · rw [sidxW_none hs] at e
      have := ofNat_inj32 (a := 2048) (by omega) (by omega) e
      omega
  · intro e
    exact sidxW_slot ⟨j, hj, h, e⟩

section Whole

variable (x0 : Vec Ideal S1x2048x768 .f32) (wr : Vec Ideal S768x8 .f32) (w1 : Vec Ideal S8x768x3072 .f32) (b1 : Vec Ideal S8x3072 .f32)
  (w2 : Vec Ideal S8x3072x768 .f32) (b2 : Vec Ideal S8x768 .f32)

/-- The sorted output at the position of a token that goes to expert `e`. -/
theorem oV_at (e : Fin 8) (n : Fin 2048) (c : Fin 768) (h : hit (idV x0 wr) e.val n.val) :
    oV x0 wr w1 b1 w2 b2 (ix2 ⟨posN (idV x0 wr) e.val n.val, posN_lt' _ e.isLt h⟩ c) = ffnE (xV x0) w1 b1 w2 b2 e n c := by
  have hlt := posN_lt _ e.isLt h
  have hlt' := posN_lt' _ e.isLt h
  have w : ∀ k : Fin 16, (wS (F := Ideal) (stV (idV x0 wr)) k).toNat = startN (ctN (idV x0 wr)) (min k.val 8) / 128 := fun k => stW_toNat _ k.val
  have hd := startN_dvd (ctN (idV x0 wr)) e.val
  have hd' := startN_dvd (ctN (idV x0 wr)) (e.val + 1)
  have hge : startN (ctN (idV x0 wr)) e.val ≤ posN (idV x0 wr) e.val n.val := Nat.le_add_right _ _
  have hmin : min e.val 8 = e.val := by omega
  have hmin' : min (e.val + 1) 8 = e.val + 1 := by omega
  have hu := (upTo_at (inV x0 wr w1 b1 w2 b2) (stV (idV x0 wr)) e.val e.isLt
    (ix2 (⟨posN (idV x0 wr) e.val n.val, hlt'⟩ : Fin 3072) c)
    (fun k => by
      rw [w, w]
      exact Nat.div_le_div_right (startN_mono _ (by dsimp only; omega)))
    (by
      rw [w]
      dsimp only
      rw [hmin]
      exact Nat.div_le_div_right hge)
    (by
      rw [w]
      dsimp only
      rw [hmin']
      show posN (idV x0 wr) e.val n.val / 128 < _
      omega) 8 (by omega) le_rfl).2
  refine hu.trans ?_
  have hs := (sidx_iff (idV x0 wr) e.isLt h (posN (idV x0 wr) e.val n.val)).mpr rfl
  refine (pay4_ffn _ _ _ _ _ _ ⟨posN (idV x0 wr) e.val n.val % 128, Nat.mod_lt _ (by decide)⟩ c n ?_).trans rfl
  refine Eq.trans ?_ hs
  show sidxW (idV x0 wr) _ = _
  congr 1
  show (128 * (posN (idV x0 wr) e.val n.val / 128) + posN (idV x0 wr) e.val n.val % 128) % 3072 = _
  omega

/-- The program's rows: the expert's output times the score. -/
theorem yV_at (e : Fin 8) (n : Fin 2048) (c : Fin 768) (h : hit (idV x0 wr) e.val n.val) :
    yV x0 wr w1 b1 w2 b2 (ix2 n c) = ffnE (xV x0) w1 b1 w2 b2 e n c * scV x0 wr (ix2 n 0) := by
  have ht : n.val / 128 < grid3.N := by rw [N_3]; omega
  have hp := pay_unsort (grid3.coords ⟨n.val / 128, ht⟩) (rowV x0 wr) (oV x0 wr w1 b1 w2 b2) (scBlk (scV x0 wr) ⟨n.val / 128, ht⟩)
    ⟨n.val % 128, Nat.mod_lt _ (by decide)⟩ c ⟨posN (idV x0 wr) e.val n.val, posN_lt' _ e.isLt h⟩ (fun q => by
      rw [coords3]
      have hn : 128 * (n.val / 128) + n.val % 128 = n.val := by omega
      dsimp only
      rw [hn]
      refine Iff.trans ?_ ((sidx_iff (idV x0 wr) e.isLt h q.val).trans ⟨fun e => Fin.ext e, fun e => congrArg Fin.val e⟩)
      exact Iff.rfl)
  refine Eq.trans (b := k3_pay1 (grid3.coords ⟨n.val / 128, ht⟩) (rowV x0 wr) (oV x0 wr w1 b1 w2 b2) (scBlk (scV x0 wr) ⟨n.val / 128, ht⟩)
    (ix2 ⟨n.val % 128, Nat.mod_lt _ (by decide)⟩ c)) rfl (hp.trans ?_)
  rw [oV_at x0 wr w1 b1 w2 b2 e n c h]
  refine congrArg (fun s : EReal => ffnE (xV x0) w1 b1 w2 b2 e n c * s) ?_
  have hix : (cfg3.win 2).index ⟨n.val / 128, ht⟩ 0 = n.val / 128 ∧ (cfg3.win 2).index ⟨n.val / 128, ht⟩ 1 = 0 := by
    have h : ∀ t : Fin grid3.N, cc3_transform_2 (grid3.coords t) 0 = t.val ∧ cc3_transform_2 (grid3.coords t) 1 = 0 := by decide +kernel
    exact h ⟨n.val / 128, ht⟩
  show scV x0 wr (((cfg3.win 2).blk ⟨n.val / 128, ht⟩).view.emb (ix2 ⟨n.val % 128, Nat.mod_lt _ (by decide)⟩ 0)) = _
  congr 1
  funext a
  apply Fin.ext
  match a with
  | ⟨0, _⟩ =>
    refine (Pipeline.Window.rect_emb_val (cfg3.win 2) ⟨n.val / 128, ht⟩ (ix2 ⟨n.val % 128, Nat.mod_lt _ (by decide)⟩ 0) 0).trans ?_
    rw [hix.1]
    show n.val / 128 * 128 + n.val % 128 = n.val
    omega
  | ⟨1, _⟩ =>
    exact Pipeline.Window.rect_emb_val_of_index_zero (cfg3.win 2) ⟨n.val / 128, ht⟩ 1 hix.2 (ix2 ⟨n.val % 128, Nat.mod_lt _ (by decide)⟩ 0)

end Whole

end Cert.Sort

end
-- ==== Proof.KernelVal.lean ====
/-
  The expert the kernel's router names: the least one of the greatest logit.
-/
module

public import proofs.«01_k».proof.Proof.Softmax
public import proofs.«01_k».proof.Proof.FfnReal

@[expose] public section

set_option maxRecDepth 16384

noncomputable section

namespace Cert.Sort

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A candidate is its expert's number where that logit is the greatest, and eight elsewhere. -/
theorem cand_at (x : Vec Ideal S2048x768 .f32) (wr : Vec Ideal S768x8 .f32) (n : Fin 2048) (k : Fin 8) :
    cand x wr (ix1 n) k = if lg x wr n k = mx8 (lg x wr n) then BitVec.ofNat 32 k.val else 8#32 := by
  have e : reduces_S2048x8_S2048.lift (ix1 n) k = ix2 n k := by
    funext a
    match a with
    | ⟨0, _⟩ => rfl
    | ⟨1, _⟩ => rfl
  have hb : broadcastTo S2048x8 (k0_pay2 x wr) broadcasts_S2048x1_S2048x8 (ix2 n k) = mx8 (lg x wr n) := by
    pointwise [pay2_at]
  rw [cand, e]
  simp only [cmpf, hb, pay1_at]
  rw [Ideal.cmpf_def]
  by_cases h : lg x wr n k = mx8 (lg x wr n) <;> simp [Ideal.cmp, h]

/-- The router names the least expert of the greatest logit. -/
theorem expert_at (x : Vec Ideal S2048x768 .f32) (wr : Vec Ideal S768x8 .f32) (n : Fin 2048) (k : Fin 8) (h : leastMax (lg x wr n) k) :
    k0_pay3 x wr (ix1 n) = BitVec.ofNat 32 k.val := by
  have hk : cand x wr (ix1 n) k = BitVec.ofNat 32 k.val := by rw [cand_at, if_pos (mx8_of_max _ k h.1).symm]
  obtain ⟨j, e, hl⟩ := pay3_spec x wr (ix1 n)
  rw [e]
  have hj := hl k
  rw [hk, BitVec.toNat_ofNat, Nat.mod_eq_of_lt (by have := k.isLt; omega)] at hj
  rw [cand_at x wr n j] at hj ⊢
  by_cases hm : lg x wr n j = mx8 (lg x wr n)
  · rw [if_pos hm] at hj ⊢
    rw [BitVec.toNat_ofNat, Nat.mod_eq_of_lt (by have := j.isLt; omega)] at hj
    have := h.2 j (hm.trans (mx8_of_max _ k h.1))
    rw [show j = k from le_antisymm (Fin.le_def.mpr hj) this]
  · rw [if_neg hm] at hj
    exact absurd hj (by have := k.isLt; simp)

/-- The kernel's result for token `n`, column `c`: the chosen expert's output times the score. -/
theorem kernel_at (x0 : Vec Ideal S1x2048x768 .f32) (wr : Vec Ideal S768x8 .f32) (w1 : Vec Ideal S8x768x3072 .f32) (b1 : Vec Ideal S8x3072 .f32)
    (w2 : Vec Ideal S8x3072x768 .f32) (b2 : Vec Ideal S8x768 .f32) (k : Fin 8) (n : Fin 2048) (c : Fin 768)
    (h : leastMax (lg (xV x0) wr n) k) :
    yV x0 wr w1 b1 w2 b2 (ix2 n c) = ffnE (xV x0) w1 b1 w2 b2 k n c * rs8 (lg (xV x0) wr n) := by
  have hh : hit (idV x0 wr) k.val n.val := by
    rw [hit, idsN, dif_pos n.isLt, ← expert_at (xV x0) wr n k h, idV]
    exact congrArg (k0_pay3 (xV x0) wr) (funext fun a => match a with | ⟨0, _⟩ => rfl)
  rw [yV_at x0 wr w1 b1 w2 b2 k n c hh]
  congr 1
  exact pay4_at (xV x0) wr n

end Cert.Sort

end
-- ==== Proof.RefArgmax.lean ====
/-
  The reference's arg-max of a row of eight: the least place of the row's greatest entry.
-/
module

public import Idealize.ShloMosaic.Lib.Pointwise
public import proofs.«01_k».proof.Proof.Softmax
public import proofs.«01_k».proof.Proof.RefRun

@[expose] public section

set_option maxRecDepth 16384

noncomputable section

namespace Cert.Ref

open Cert.ReferenceIdeal Cert.ReferenceIdeal.Gen Cert.ReferenceIdeal.Facts
open Idealize.ShloMosaic
open Cert.Sort (leastMax)

/-- Pair `a` comes no later than `b`: its value is greater, or equal with a lane not after `b`'s. -/
def atLeast (a b : EReal × BitVec 32) : Prop := b.1 < a.1 ∨ (b.1 = a.1 ∧ a.2.toInt ≤ b.2.toInt)

/-- The relation chains. -/
theorem atLeast_trans (a b c : EReal × BitVec 32) (h : atLeast a b) (h' : atLeast b c) : atLeast a c := by
  rcases h with h | ⟨h, l⟩ <;> rcases h' with h' | ⟨h', l'⟩
  · exact Or.inl (h'.trans h)
  · exact Or.inl (h' ▸ h)
  · exact Or.inl (h ▸ h')
  · exact Or.inr ⟨h'.trans h, l.trans l'⟩

/-- One step of the arg-max keeps one of its two pairs, the one that comes first. -/
theorem red_step (a b : EReal × BitVec 32) :
    ((reducer_argmax_f32_i32 (F := Ideal) a b : EReal × BitVec 32) = a ∨ (reducer_argmax_f32_i32 (F := Ideal) a b : EReal × BitVec 32) = b)
      ∧ atLeast (reducer_argmax_f32_i32 (F := Ideal) a b) a ∧ atLeast (reducer_argmax_f32_i32 (F := Ideal) a b) b := by
  obtain ⟨x, i⟩ := a
  obtain ⟨y, j⟩ := b
  rcases lt_trichotomy x y with h | h | h
  · have e : (reducer_argmax_f32_i32 (F := Ideal) (x, i) (y, j) : EReal × BitVec 32) = (y, j) := by
      simp [reducer_argmax_f32_i32, Ideal.cmpf_def, Ideal.cmp, IntOp.ori, IntOp.andi, Scalar.select, h.ne, h.le, not_lt.mpr h.le]
    rw [e]
    exact ⟨Or.inr rfl, Or.inl h, Or.inr ⟨rfl, le_rfl⟩⟩
  · subst h
    by_cases l : i.toInt < j.toInt
    · have e : (reducer_argmax_f32_i32 (F := Ideal) (x, i) (x, j) : EReal × BitVec 32) = (x, i) := by
        simp [reducer_argmax_f32_i32, Ideal.cmpf_def, Ideal.cmp, IntOp.ori, IntOp.andi, IntOp.cmpi, Scalar.select, BitVec.slt, l]
      rw [e]
      exact ⟨Or.inl rfl, Or.inr ⟨rfl, le_rfl⟩, Or.inr ⟨rfl, l.le⟩⟩
    · have e : (reducer_argmax_f32_i32 (F := Ideal) (x, i) (x, j) : EReal × BitVec 32) = (x, j) := by
        simp [reducer_argmax_f32_i32, Ideal.cmpf_def, Ideal.cmp, IntOp.ori, IntOp.andi, IntOp.cmpi, Scalar.select, BitVec.slt, l]
      rw [e]
      exact ⟨Or.inr rfl, Or.inr ⟨rfl, not_lt.mp l⟩, Or.inr ⟨rfl, le_rfl⟩⟩
  · have e : (reducer_argmax_f32_i32 (F := Ideal) (x, i) (y, j) : EReal × BitVec 32) = (x, i) := by
      simp [reducer_argmax_f32_i32, Ideal.cmpf_def, Ideal.cmp, IntOp.ori, IntOp.andi, Scalar.select, h, h.ne']
    rw [e]
    exact ⟨Or.inl rfl, Or.inr ⟨rfl, le_rfl⟩, Or.inl h⟩

/-- The fold over a list of pairs is one of them, or the initial pair, and comes before all of these. -/
theorem red_fold (L : List (EReal × BitVec 32)) : ∀ a : EReal × BitVec 32,
    (L.foldl (reducer_argmax_f32_i32 (F := Ideal)) a = a ∨ L.foldl (reducer_argmax_f32_i32 (F := Ideal)) a ∈ L)
      ∧ atLeast (L.foldl (reducer_argmax_f32_i32 (F := Ideal)) a) a ∧ ∀ p ∈ L, atLeast (L.foldl (reducer_argmax_f32_i32 (F := Ideal)) a) p := by
  induction L with
  | nil => exact fun a => ⟨Or.inl rfl, Or.inr ⟨rfl, le_rfl⟩, by simp⟩
  | cons b L ih =>
    intro a
    obtain ⟨hm, ha, hL⟩ := ih (reducer_argmax_f32_i32 (F := Ideal) a b)
    obtain ⟨sm, sa, sb⟩ := red_step a b
    rw [List.foldl_cons]
    refine ⟨?_, atLeast_trans _ _ _ ha sa, ?_⟩
    · rcases hm with hm | hm
      · rcases sm with sm | sm
        · exact Or.inl (hm.trans sm)
        · exact Or.inr (by rw [hm, sm]; exact List.mem_cons_self)
      · exact Or.inr (List.mem_cons_of_mem _ hm)
    · intro p hp
      rcases List.mem_cons.mp hp with rfl | hp
      · exact atLeast_trans _ _ _ ha sb
      · exact hL p hp

/-- The pairs folded over at row `n` are the row's entries with their lanes. -/
theorem mem_fiber (x : Vec Ideal S2048x8 .f32) (y : Vec Ideal S2048x8 .i32) (n : Fin 2048) (p : EReal × BitVec 32) :
    p ∈ Host.argReduceFiber x y reducesTo_S2048x8_S2048_d1 (ix1 n) ↔ ∃ k : Fin 8, p = (x (ix2 n k), y (ix2 n k)) := by
  rw [Host.argReduceFiber, List.mem_map]
  constructor
  · rintro ⟨m, hm, rfl⟩
    rw [List.mem_filter] at hm
    have hd : (reducesTo_S2048x8_S2048_d1.drop (S2048x8.rowMajor.symm m)) = ix1 n := by simpa using hm.2
    obtain ⟨k, hk⟩ : ∃ k : Fin 8, S2048x8.rowMajor.symm m = ix2 n k := by
      refine ⟨S2048x8.rowMajor.symm m 1, ?_⟩
      funext a
      match a with
      | ⟨0, _⟩ =>
        have := Shape.ReducesTo.drop_apply_val reducesTo_S2048x8_S2048_d1 (S2048x8.rowMajor.symm m) 0
        rw [hd] at this
        exact Fin.ext this.symm
      | ⟨1, _⟩ => rfl
    exact ⟨k, by rw [hk]⟩
  · rintro ⟨k, rfl⟩
    refine ⟨S2048x8.rowMajor (ix2 n k), ?_, by rw [Equiv.symm_apply_apply]⟩
    rw [List.mem_filter, Equiv.symm_apply_apply]
    refine ⟨List.mem_finRange _, ?_⟩
    rw [decide_eq_true_iff]
    funext a
    match a with
    | ⟨0, _⟩ => exact Fin.ext (Shape.ReducesTo.drop_apply_val reducesTo_S2048x8_S2048_d1 (ix2 n k) 0)

/-- The arg-max of a row whose entries are all above minus infinity is the least place of its greatest entry. -/
theorem argmax_at (x : Vec Ideal S2048x8 .f32) (y : Vec Ideal S2048x8 .i32) (u : Vec Ideal S_ .f32) (v : Vec Ideal S_ .i32) (n : Fin 2048)
    (hu : (u (Shape.Idx.first h_S_) : EReal) = ⊥) (hy : ∀ k : Fin 8, y (ix2 n k) = BitVec.ofNat 32 k.val)
    (f : Fin 8 → EReal) (hx : ∀ k, x (ix2 n k) = f k) (hf : ∀ k, ⊥ < f k) :
    ∃ k, leastMax f k ∧ (Host.argReduce (reducer_argmax_f32_i32 (F := Ideal)) x y u v reducesTo_S2048x8_S2048_d1 h_S_ (ix1 n)).2 = BitVec.ofNat 32 k.val := by
  rw [Ideal.argReduce_eq_reduce2, Host.reduce2_eq_foldl_fiber]
  obtain ⟨hm, -, hL⟩ := red_fold (Host.argReduceFiber x y reducesTo_S2048x8_S2048_d1 (ix1 n)) (u (Shape.Idx.first h_S_), v (Shape.Idx.first h_S_))
  generalize (Host.argReduceFiber x y reducesTo_S2048x8_S2048_d1 (ix1 n)).foldl (reducer_argmax_f32_i32 (F := Ideal))
    (u (Shape.Idx.first h_S_), v (Shape.Idx.first h_S_)) = r at hm hL ⊢
  have hall : ∀ k : Fin 8, atLeast r (f k, BitVec.ofNat 32 k.val) := fun k =>
    hL _ ((mem_fiber x y n _).mpr ⟨k, by rw [hx, hy]⟩)
  have toI : ∀ k : Fin 8, (BitVec.ofNat 32 k.val).toInt = k.val := by decide
  rcases hm with hm | hm
  · exfalso
    rcases hall 0 with h | ⟨h, -⟩
    · rw [hm] at h
      exact absurd (hu ▸ h) not_lt_bot
    · rw [hm] at h
      exact absurd (h.trans hu) (hf 0).ne'
  · obtain ⟨k, rfl⟩ := (mem_fiber x y n r).mp hm
    rw [hx, hy] at hall ⊢
    refine ⟨k, ⟨fun j => ?_, fun j hj => ?_⟩, rfl⟩
    · rcases hall j with h | ⟨h, -⟩
      · exact h.le
      · exact h.le
    · rcases hall j with h | ⟨-, h⟩
      · exact absurd hj h.ne
      · rw [toI, toI] at h
        exact Fin.le_def.mpr (by exact_mod_cast h)

end Cert.Ref

end
-- ==== Proof.RefVal.lean ====
/-
  What the reference computes over the reals: the softmax, the arg-max, the experts and the pick.
-/
module

public import Idealize.ShloMosaic.Lib.Pointwise
public import Idealize.ShloMosaic.Lib.ReduceAll
public import proofs.«01_k».proof.Proof.RefArgmax
public import proofs.«01_k».proof.Proof.FfnReal

@[expose] public section

set_option maxRecDepth 16384

noncomputable section

namespace Cert.Ref

open Cert.ReferenceIdeal Cert.ReferenceIdeal.Gen Cert.ReferenceIdeal.Facts
open Idealize.ShloMosaic Idealize.SL.Sem
open Cert.Sort (leastMax lg mx8 rs8 sm ffnE bot_word)

variable (V : Valuation τ sig (Elt Ideal))

/-- The logits. -/
theorem v1_at (n : Fin 2048) (k : Fin 8) : fin V main_v1 (ix2 n k) = lg (fin V main_v0) (fin V main_arg1) n k := by
  rw [e_main_v1]
  pointwise [lg]

/-- Their greatest. -/
theorem v4_at (n : Fin 2048) : fin V main_v4 (ix1 n) = mx8 (lg (fin V main_v0) (fin V main_arg1) n) := by
  rw [e_main_v4, e_main_v3, e_main_v2, e_main_cst, e_main_cst_0]
  pointwise [v1_at, mx8, bot_word]
  exact max_eq_right (α := EReal) bot_le

/-- The softmax. -/
theorem v12_at (n : Fin 2048) (k : Fin 8) : fin V main_v12 (ix2 n k) = sm (lg (fin V main_v0) (fin V main_arg1) n) k := by
  rw [e_main_v12, e_main_v11, e_main_v10, e_main_v9, e_main_cst_1, e_main_v8, e_main_v7, e_main_v6, e_main_v5]
  pointwise [v1_at, v4_at, sm]

/-- The first layer's products, in either order. -/
theorem swap (p q : Fin 3072 → Fin 768 → EReal) (b r : Fin 3072 → EReal) (t : EReal) :
    (∑ f, max ((∑ d, p f d * q f d) + b f) 0 * r f) + t = (∑ f, max ((∑ d, q f d * p f d) + b f) 0 * r f) + t := by
  refine congrArg (· + t) (Finset.sum_congr rfl fun f _ => ?_)
  rw [Finset.sum_congr rfl fun d _ => mul_comm (p f d) (q f d)]

/-- Each expert's output for each token. -/
theorem v25_at (e : Fin 8) (n : Fin 2048) (c : Fin 768) :
    fin V main_v25 (ix3 e n c) = ffnE (fin V main_v0) (fin V main_arg2) (fin V main_arg3) (fin V main_arg4) (fin V main_arg5) e n c := by
  rw [e_main_v25, e_main_v24, e_main_v23, e_main_v22, e_main_v21, e_main_call2_v0, e_main_call2_cst, e_main_v20, e_main_v19, e_main_v18, e_main_v17, e_main_v16]
  pointwise [ffnE]
  exact swap (fun f d => fin V main_arg2 (ix3 e d f)) (fun _ d => fin V main_v0 (ix2 n d)) (fun f => fin V main_arg3 (ix2 e f))
    (fun f => fin V main_arg4 (ix3 e f c)) (fin V main_arg5 (ix2 e c))

/-- A number below eight, as a word. -/
theorem toInt8 (k : Fin 8) : (BitVec.ofNat 32 k.val).toInt = k.val := by
  revert k
  decide

/-- A token's number, as a word. -/
theorem toInt2048 (n : Fin 2048) : (BitVec.ofNat 32 n.val).toInt = n.val := by
  have := n.isLt
  rw [BitVec.toInt_eq_toNat_of_lt (by rw [BitVec.toNat_ofNat, Nat.mod_eq_of_lt (by omega)]; omega), BitVec.toNat_ofNat, Nat.mod_eq_of_lt (by omega)]

/-- A word that is not negative is not wrapped. -/
theorem wrap (w a : BitVec 32) (h : 0 ≤ w.toInt) : Scalar.select (IntOp.cmpi CmpIPredicate.slt w 0#32) a w = w := by
  have e : BitVec.slt w 0#32 = false := by
    rw [BitVec.slt_eq_decide]
    simpa using h
  simp [Scalar.select, IntOp.cmpi, e]

/-- The gather of one entry of each row reads the row's entry at the lane given. -/
theorem lane_at (x : Vec Ideal S2048x8 .f32) (idx : Vec Ideal S2048x1x1 .i32) (n : Fin 2048) (k : Fin 8)
    (h : idx (ix3 n 0 0) = BitVec.ofNat 32 k.val) :
    Host.gather gather_S2048x8_S2048x1x1_S2048x1_n_1_0_0_1_2_11 x idx (ix2 n 0) = x (ix2 n k) := by
  unfold Host.gather
  refine congrArg x (funext fun a => Fin.ext ?_)
  match a with
  | ⟨0, _⟩ =>
    show GatherDims.start gather_S2048x8_S2048x1x1_S2048x1_n_1_0_0_1_2_11 (ix2 n 0) idx 0
      + GatherDims.batchCoord gather_S2048x8_S2048x1x1_S2048x1_n_1_0_0_1_2_11 (ix2 n 0) 0
      + GatherDims.offCoord gather_S2048x8_S2048x1x1_S2048x1_n_1_0_0_1_2_11 (ix2 n 0) 0 = n.val
    rw [show GatherDims.start gather_S2048x8_S2048x1x1_S2048x1_n_1_0_0_1_2_11 (ix2 n 0) idx 0 = 0 from rfl,
      show GatherDims.batchCoord gather_S2048x8_S2048x1x1_S2048x1_n_1_0_0_1_2_11 (ix2 n 0) 0 = n.val from rfl,
      show GatherDims.offCoord gather_S2048x8_S2048x1x1_S2048x1_n_1_0_0_1_2_11 (ix2 n 0) 0 = 0 from rfl]
    omega
  | ⟨1, _⟩ =>
    have hs : GatherDims.siIdx gather_S2048x8_S2048x1x1_S2048x1_n_1_0_0_1_2_11 (ix2 n 0) ⟨0, by decide⟩ = ix3 n 0 0 := by
      funext b
      match b with
      | ⟨0, _⟩ => rfl
      | ⟨1, _⟩ => rfl
      | ⟨2, _⟩ => rfl
    show GatherDims.start gather_S2048x8_S2048x1x1_S2048x1_n_1_0_0_1_2_11 (ix2 n 0) idx 1
      + GatherDims.batchCoord gather_S2048x8_S2048x1x1_S2048x1_n_1_0_0_1_2_11 (ix2 n 0) 1
      + GatherDims.offCoord gather_S2048x8_S2048x1x1_S2048x1_n_1_0_0_1_2_11 (ix2 n 0) 1 = k.val
    rw [show GatherDims.batchCoord gather_S2048x8_S2048x1x1_S2048x1_n_1_0_0_1_2_11 (ix2 n 0) 1 = 0 from rfl,
      show GatherDims.offCoord gather_S2048x8_S2048x1x1_S2048x1_n_1_0_0_1_2_11 (ix2 n 0) 1 = 0 from rfl,
      show GatherDims.start gather_S2048x8_S2048x1x1_S2048x1_n_1_0_0_1_2_11 (ix2 n 0) idx 1
        = min (idx (GatherDims.siIdx gather_S2048x8_S2048x1x1_S2048x1_n_1_0_0_1_2_11 (ix2 n 0) ⟨0, by decide⟩)).toInt.toNat 7 from rfl,
      hs, h, toInt8]
    have := k.isLt
    omega

/-- The gather of one row of each token's block reads the row of the expert and token given. -/
theorem row_at (x : Vec Ideal S8x2048x768 .f32) (idx : Vec Ideal S2048x2 .i32) (n : Fin 2048) (c : Fin 768) (k : Fin 8)
    (h : idx (ix2 n 0) = BitVec.ofNat 32 k.val) (h' : idx (ix2 n 1) = BitVec.ofNat 32 n.val) :
    Host.gather gather_S8x2048x768_S2048x2_S2048x768_1_01_n_n_01_1_11768 x idx (ix2 n c) = x (ix3 k n c) := by
  have hs : ∀ q : Fin 2, GatherDims.siIdx gather_S8x2048x768_S2048x2_S2048x768_1_01_n_n_01_1_11768 (ix2 n c) q = ix2 n q := by
    intro q
    funext b
    match b with
    | ⟨0, _⟩ => rfl
    | ⟨1, _⟩ => rfl
  unfold Host.gather
  refine congrArg x (funext fun a => Fin.ext ?_)
  match a with
  | ⟨0, _⟩ =>
    show min (idx (GatherDims.siIdx gather_S8x2048x768_S2048x2_S2048x768_1_01_n_n_01_1_11768 (ix2 n c) (0 : Fin 2))).toInt.toNat 7 + 0 + 0 = k.val
    rw [hs, h, toInt8]
    have := k.isLt
    omega
  | ⟨1, _⟩ =>
    show min (idx (GatherDims.siIdx gather_S8x2048x768_S2048x2_S2048x768_1_01_n_n_01_1_11768 (ix2 n c) (1 : Fin 2))).toInt.toNat 2047 + 0 + 0 = n.val
    rw [hs, h', toInt2048]
    have := n.isLt
    omega
  | ⟨2, _⟩ =>
    show 0 + 0 + c.val = c.val
    omega

/-- The lane a token's score is read at, once negatives are wrapped. -/
theorem idx_at (K : Fin 2048 → Fin 8) (hK : ∀ n, fin V main_v13 (ix1 n) = BitVec.ofNat 32 (K n).val) (n : Fin 2048) :
    fin V main_call1_v5 (ix3 n 0 0) = BitVec.ofNat 32 (K n).val := by
  rw [e_main_call1_v5, e_main_call1_v4, e_main_call1_v3, e_main_call1_v2, e_main_call1_c_0, e_main_call1_v1, e_main_call1_v0, e_main_call1_c,
    e_main_v14]
  pointwise [hK]
  exact wrap _ _ (by rw [toInt8]; omega)

/-- A number below eight is within a row's lanes. -/
theorem in8 (k : Fin 8) :
    (IntOp.andi (IntOp.cmpi CmpIPredicate.sge (BitVec.ofNat 32 k.val) 0#32) (IntOp.cmpi CmpIPredicate.sle (BitVec.ofNat 32 k.val) 7#32) : BitVec 1) = 1#1 := by
  revert k
  decide

/-- That lane is within the row. -/
theorem mask_at (K : Fin 2048 → Fin 8) (hK : ∀ n, fin V main_v13 (ix1 n) = BitVec.ofNat 32 (K n).val) (n : Fin 2048) :
    fin V main_call1_v12 (ix2 n 0) = 1#1 := by
  have h7 : ∀ m : Fin 2048, fin V main_call1_v11 (ix3 m 0 0) = 1#1 := by
    intro m
    rw [e_main_call1_v11, e_main_call1_v10, e_main_call1_v9, e_main_call1_v8, e_main_call1_c_1, e_main_call1_v7, e_main_call1_v6, e_main_call1_c_2]
    pointwise [idx_at V K hK]
    exact in8 (K m)
  rw [e_main_call1_v12]
  refine Host.reduce_andi_one _ _ _ _ _ (by rw [e_main_call1_c_3]; rfl) fun i => ?_
  rw [show i = ix3 (i 0) 0 0 from funext fun a => match a with
    | ⟨0, _⟩ => rfl
    | ⟨1, _⟩ => Subsingleton.elim (α := Fin 1) _ _
    | ⟨2, _⟩ => Subsingleton.elim (α := Fin 1) _ _]
  exact h7 (i 0)

/-- A token's score is its softmax row at its expert. -/
theorem v15_at (K : Fin 2048 → Fin 8) (hK : ∀ n, fin V main_v13 (ix1 n) = BitVec.ofNat 32 (K n).val) (n : Fin 2048) :
    fin V main_v15 (ix2 n 0) = sm (lg (fin V main_v0) (fin V main_arg1) n) (K n) := by
  rw [e_main_v15]
  show Scalar.select (fin V main_call1_v12 (ix2 n 0)) (fin V main_call1_v13 (ix2 n 0)) (fin V main_call1_v14 (ix2 n 0)) = _
  rw [mask_at V K hK n, e_main_call1_v13]
  exact (lane_at _ _ n (K n) (idx_at V K hK n)).trans (v12_at V n (K n))

/-- A token's expert's row for it. -/
theorem v40_at (K : Fin 2048 → Fin 8) (hK : ∀ n, fin V main_v13 (ix1 n) = BitVec.ofNat 32 (K n).val) (n : Fin 2048) (c : Fin 768) :
    fin V main_v40 (ix2 n c) = ffnE (fin V main_v0) (fin V main_arg2) (fin V main_arg3) (fin V main_arg4) (fin V main_arg5) (K n) n c := by
  have h0 : fin V main_v39 (ix2 n 0) = BitVec.ofNat 32 (K n).val := by
    rw [e_main_v39, e_main_v37, e_main_v31, e_main_v30, e_main_v29, e_main_c_2, e_main_v28, e_main_v27, e_main_c]
    pointwise [hK]
    exact wrap _ _ (by rw [toInt8]; omega)
  have h1 : fin V main_v39 (ix2 n 1) = BitVec.ofNat 32 n.val := by
    rw [e_main_v39, e_main_v38, e_main_v36, e_main_v35, e_main_v34, e_main_c_4, e_main_v33, e_main_v32, e_main_c_3, e_main_v26]
    pointwise
    exact wrap _ _ (by rw [toInt2048]; omega)
  rw [e_main_v40]
  exact (row_at _ _ n c (K n) h0 h1).trans (v25_at V (K n) n c)

/-- When the logits are real, the arg-max names each token's least expert of the greatest logit. -/
theorem v13_at (g : Fin 2048 → Fin 8 → ℝ) (hg : ∀ n k, lg (fin V main_v0) (fin V main_arg1) n k = g n k) (n : Fin 2048) :
    ∃ k, leastMax (lg (fin V main_v0) (fin V main_arg1) n) k ∧ fin V main_v13 (ix1 n) = BitVec.ofNat 32 k.val := by
  obtain ⟨k, hk, e⟩ := argmax_at (fin V main_v12) (fin V main_call0_v0) (fin V main_call0_cst) (fin V main_call0_c) n
    (by rw [e_main_call0_cst]; exact bot_word) (fun k => by rw [e_main_call0_v0]; rfl) _ (fun k => v12_at V n k)
    (fun k => Cert.Sort.sm_pos _ (g n) (hg n) k)
  exact ⟨k, Cert.Sort.leastMax_of_sm _ (g n) (hg n) k hk, by rw [e_main_v13]; exact e⟩

/-- The reference's result for token `n`, column `c`: the chosen expert's output times the score. -/
theorem ref_at (g : Fin 2048 → Fin 8 → ℝ) (hg : ∀ n k, lg (fin V main_v0) (fin V main_arg1) n k = g n k) (n : Fin 2048) (c : Fin 768) :
    ∃ k, leastMax (lg (fin V main_v0) (fin V main_arg1) n) k
      ∧ fin V main_v42 (ix2 n c) = ffnE (fin V main_v0) (fin V main_arg2) (fin V main_arg3) (fin V main_arg4) (fin V main_arg5) k n c
        * rs8 (lg (fin V main_v0) (fin V main_arg1) n) := by
  choose K hm hK using v13_at V g hg
  refine ⟨K n, hm n, ?_⟩
  have h15 := (v15_at V K hK n).trans (Cert.Sort.sm_at _ (g n) (hg n) (K n) (hm n))
  have h41 : fin V main_v41 (ix2 n c) = fin V main_v15 (ix2 n 0) := by
    rw [e_main_v41]
    pointwise
  rw [e_main_v42]
  exact congrArg₂ (fun a b : EReal => a * b) (v40_at V K hK n c) (h41.trans h15)

end Cert.Ref

end
-- ==== Proof.Finite.lean ====
/-
  The precondition: the tokens and the router's weights are real, so every logit is.
-/
module

public import Idealize.ShloMosaic.Lib.Pointwise
public import Idealize.ShloMosaic.Lib.ReduceAll
public import proofs.«01_k».proof.Defs
public import proofs.«01_k».proof.Proof.Softmax

@[expose] public section

set_option maxRecDepth 16384

noncomputable section

namespace Cert.Finite

open Cert.Pre_logits_finite
open Idealize.ShloMosaic
open Cert.Sort (lg coe_sum8)

/-- The precondition's shape relations. -/
instance facts : Cert.Pre_logits_finite.Facts where
  bcast_S_S1x2048x768 := by decide
  reducesTo_S1x2048x768_S_d0_1_2 := by decide
  h_S_ := by decide
  bcast_S_S768x8 := by decide
  reducesTo_S768x8_S_d0_1 := by decide

/-- The word of plus infinity. -/
theorem top_word : Ideal.ofBits .f32 0x7F800000#32 = (⊤ : EReal) := by
  simp [Ideal.ofBits, Ideal.ieee]

/-- An extended real whose absolute value is below plus infinity is real. -/
theorem real_of_abs (a : EReal) (h : Ideal.cmp .olt (max a (-a)) ⊤ = 1#1) : ∃ r : ℝ, a = r := by
  have h' : max a (-a) < ⊤ := by
    by_contra hn
    simp [Ideal.cmp, hn] at h
  induction a with
  | bot => simp at h'
  | top => simp at h'
  | coe r => exact ⟨r, rfl⟩

/-- The precondition makes the tokens' entries and the router's weights real. -/
theorem real_of_pre (x : FVec Ideal S1x2048x768 .f32) (wr : FVec Ideal S768x8 .f32) (a2 : FVec Ideal S8x768x3072 .f32)
    (a3 : FVec Ideal S8x3072 .f32) (a4 : FVec Ideal S8x3072x768 .f32) (a5 : FVec Ideal S8x768 .f32)
    (h : Cert.Pre_logits_finite.fn x wr a2 a3 a4 a5 = fun _ => 1#1) :
    (∀ i, ∃ r : ℝ, x i = (r : EReal)) ∧ ∀ i, ∃ r : ℝ, wr i = (r : EReal) := by
  have h0 := congrFun h (Shape.Idx.first Facts.h_S_)
  have hand : ∀ a b : BitVec 1, IntOp.andi a b = 1#1 → a = 1#1 ∧ b = 1#1 := by decide
  obtain ⟨hx, hw⟩ := hand _ _ h0
  haveI : Subsingleton S_.Idx := ⟨fun a b => funext fun i => i.elim0⟩
  refine ⟨fun i => ?_, fun i => ?_⟩
  · have e := Host.reduce_andi_all _ _ _ _ _ hx i
    refine real_of_abs _ ?_
    rw [← top_word]
    exact e
  · have e := Host.reduce_andi_all _ _ _ _ _ hw i
    refine real_of_abs _ ?_
    rw [← top_word]
    exact e

/-- Logits of real tokens and weights are real. -/
theorem lg_real (x : Vec Ideal Cert.KernelIdeal.S2048x768 .f32) (wr : Vec Ideal Cert.KernelIdeal.S768x8 .f32)
    (hx : ∀ i, ∃ r : ℝ, x i = (r : EReal)) (hw : ∀ i, ∃ r : ℝ, wr i = (r : EReal)) :
    ∃ g : Fin 2048 → Fin 8 → ℝ, ∀ n k, lg x wr n k = g n k := by
  choose p hp using hx
  choose q hq using hw
  refine ⟨fun n k => ∑ d : Fin 768, p (ix2 n d) * q (ix2 d k), fun n k => ?_⟩
  rw [lg, ← coe_sum8]
  refine Finset.sum_congr rfl fun d _ => ?_
  rw [hp, hq, EReal.coe_mul]

end Cert.Finite

end
-- ==== Proof.Value.lean ====
/-
  The kernel's result is the reference's, when the logits are real.
-/
module

public import proofs.«01_k».proof.Proof.KernelVal
public import proofs.«01_k».proof.Proof.RefVal
public import proofs.«01_k».proof.Proof.Finite

@[expose] public section

set_option maxRecDepth 16384

noncomputable section

namespace Cert.Value

open Cert.ReferenceIdeal Cert.ReferenceIdeal.Gen Cert.ReferenceIdeal.Facts
open Idealize.ShloMosaic Idealize.SL.Sem
open Cert.Ref (fin)
open Cert.Sort (lg xV yV outV leastMax_unique)

/-- The token rows of the two programs. -/
theorem rows (V : Valuation τ sig (Elt Ideal)) : fin V main_v0 = xV (fin V main_arg0) := by
  rw [Cert.Ref.e_main_v0]
  rfl

/-- The two programs' arrays of rows, entry by entry. -/
theorem rows_eq (V : Valuation τ sig (Elt Ideal)) (g : Fin 2048 → Fin 8 → ℝ)
    (hg : ∀ n k, lg (fin V main_v0) (fin V main_arg1) n k = g n k) :
    yV (fin V main_arg0) (fin V main_arg1) (fin V main_arg2) (fin V main_arg3) (fin V main_arg4) (fin V main_arg5) = fin V main_v42 := by
  funext j
  obtain ⟨n, c, rfl⟩ : ∃ (n : Fin 2048) (c : Fin 768), j = ix2 n c := ⟨j 0, j 1, funext fun a => match a with
    | ⟨0, _⟩ => rfl
    | ⟨1, _⟩ => rfl⟩
  obtain ⟨k, hk, e⟩ := Cert.Ref.ref_at V g hg n c
  rw [rows V] at hk e
  exact (Cert.Sort.kernel_at _ _ _ _ _ _ k n c hk).trans e.symm

/-- The kernel's result is the reference's last array, when the tokens and the router's weights are real. -/
theorem result_eq (V : Valuation τ sig (Elt Ideal))
    (hp : Cert.Pre_logits_finite.fn (F := Ideal) (fin V main_arg0) (fin V main_arg1) (fin V main_arg2) (fin V main_arg3) (fin V main_arg4) (fin V main_arg5)
      = fun _ => 1#1) :
    outV (fin V main_arg0) (fin V main_arg1) (fin V main_arg2) (fin V main_arg3) (fin V main_arg4) (fin V main_arg5) = fin V main_v43 := by
  obtain ⟨hx, hw⟩ := Cert.Finite.real_of_pre _ _ _ _ _ _ hp
  obtain ⟨g, hg⟩ := Cert.Finite.lg_real (xV (fin V main_arg0)) (fin V main_arg1) (fun i => hx _) hw
  rw [Cert.Ref.e_main_v43, outV, rows_eq V g fun n k => by rw [rows V]; exact hg n k]

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Run
public import proofs.«01_k».proof.Proof.RefRun
public import proofs.«01_k».proof.Proof.Move
public import proofs.«01_k».proof.Proof.Value
public import Idealize.ShloMosaic.Adequacy
public import Idealize.ShloMosaic.Init

@[expose] public section

noncomputable section

namespace Cert.Proof

open Idealize.ShloMosaic Idealize.SL.Sem Cert.Kernel

/-- Over any float values: the run ends, the arguments are as they were, every counter is zero. -/
theorem quiet {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    letI := Cert.KernelIdeal.Gen.facts
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run (Cert.KernelIdeal.defs (F := F)) _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Cert.Sort.run_main m ρ)

set_option maxHeartbeats 2000000 in
/-- The kernel runs, its arguments unchanged and every counter at zero, over words. -/
theorem frame_kernel : Cert.quiescent_Kernel (hKernel := Cert.Kernel.Gen.facts) := by
  intro m ρ _
  rw [Cert.Move.eq_defs (F := Bits) (hK := Cert.Kernel.Gen.facts) (hI := Cert.KernelIdeal.Gen.facts),
    Cert.Move.eq_threads (F := Bits) (hK := Cert.Kernel.Gen.facts) (hI := Cert.KernelIdeal.Gen.facts)]
  exact quiet (F := Bits) m ρ

/-- The same over the reals. -/
theorem frame_ideal : Cert.quiescent_KernelIdeal (hKernelIdeal := Cert.KernelIdeal.Gen.facts) :=
  fun m ρ _ => quiet (F := Ideal) m ρ

/-- From memories that agree on the arguments, the tokens and the router's weights real, the kernel's result is the reference's. -/
theorem same_values : Cert.algebraic_KernelIdeal_ReferenceIdeal_pre_logits_finite (hKernelIdeal := Cert.KernelIdeal.Gen.facts)
    (hReferenceIdeal := Cert.ReferenceIdeal.Gen.facts) (hPre_logits_finite := Cert.Finite.facts) := by
  intro m g m' g' hpre hagree
  refine ⟨fun c => Cert.Ref.fin (StableHlo.launchContents m' c) Cert.ReferenceIdeal.main_v43, ?_, ?_⟩
  · refine (θ_run (Cert.KernelIdeal.defs (F := Ideal)) _ _).mono (fun r h c => ?_) (Cert.Sort.run_main m g)
    obtain ⟨h0, h1, h2, h3, h4, h5, h6⟩ := h.1 c
    refine ⟨?_, h0, h1, h2, h3, h4, h5⟩
    obtain ⟨a0, a1, a2, a3, a4, a5⟩ := hagree c
    have e0 := (Cert.Ref.e_arg0 (StableHlo.launchContents m' c)).trans a0
    have e1 := (Cert.Ref.e_arg1 (StableHlo.launchContents m' c)).trans a1
    have e2 := (Cert.Ref.e_arg2 (StableHlo.launchContents m' c)).trans a2
    have e3 := (Cert.Ref.e_arg3 (StableHlo.launchContents m' c)).trans a3
    have e4 := (Cert.Ref.e_arg4 (StableHlo.launchContents m' c)).trans a4
    have e5 := (Cert.Ref.e_arg5 (StableHlo.launchContents m' c)).trans a5
    have hr := Cert.Value.result_eq (StableHlo.launchContents m' c) (by rw [e0, e1, e2, e3, e4, e5]; exact hpre c)
    rw [e0, e1, e2, e3, e4, e5] at hr
    exact h6.trans hr
  · exact (θ_run (Cert.ReferenceIdeal.defs (F := Ideal)) _ _).mono (fun r h c =>
      ⟨h c _, (h c _).trans (Cert.Ref.e_arg0 _), (h c _).trans (Cert.Ref.e_arg1 _), (h c _).trans (Cert.Ref.e_arg2 _), (h c _).trans (Cert.Ref.e_arg3 _),
        (h c _).trans (Cert.Ref.e_arg4 _), (h c _).trans (Cert.Ref.e_arg5 _)⟩) (Cert.Ref.run m' g')

/-- Everything claimed. -/
theorem claim : Cert.Claim := ⟨Cert.Kernel.Gen.facts, Cert.KernelIdeal.Gen.facts, Cert.ReferenceIdeal.Gen.facts, Cert.Finite.facts,
  frame_kernel, frame_ideal, fun m ρ _ => quiet (F := Ideal) m ρ, Cert.Ref.frame, fun m ρ _ => Cert.Ref.frame m ρ trivial, trivial, same_values⟩

end Cert.Proof

end
